-- ==== Defs.lean ====
def Pre_Kernel [hPre_in_cache : Cert.Pre_in_cache.Facts] (m : (ℓ : Loc Cert.Kernel.nD Cert.Kernel.τ Cert.Kernel.sig) → Buf (Elt Bits) ℓ) : Prop :=
  ∀ c : Dev Cert.Kernel.nD,
    (Cert.Pre_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_cache : Cert.Pre_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cache [hPre_in_cache : Cert.Pre_in_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_cache : Cert.Pre_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_cache [hReferenceIdeal : Cert.ReferenceIdeal.Facts] [hPre_in_cache : Cert.Pre_in_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_claimed [hKernelIdeal : Cert.KernelIdeal.Facts] [hReferenceIdeal : Cert.ReferenceIdeal.Facts] [hPre_in_cache : Cert.Pre_in_cache.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12, 5120]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v7_0) i = v0 c i)
          ∧ (∀ i : (⟨3, ![12, 40, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v7_1) i = v1 c i)
          ∧ (∀ i : (⟨2, ![96, 32]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v7_2) i = v2 c i)
          ∧ (∀ i : (⟨2, ![96, 1]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v7_3) i = v3 c i)
          ∧ (∀ i : (⟨2, ![96, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v7_4) i = v4 c i)
          ∧ (∀ i : (⟨2, ![96, 4]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v7_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12, 5120]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v368) i = v0 c i)
          ∧ (∀ i : (⟨3, ![12, 40, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v291) i = v1 c i)
          ∧ (∀ i : (⟨2, ![96, 32]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v369) i = v2 c i)
          ∧ (∀ i : (⟨2, ![96, 1]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v370) i = v3 c i)
          ∧ (∀ i : (⟨2, ![96, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v371) i = v4 c i)
          ∧ (∀ i : (⟨2, ![96, 4]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v372) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_cache : Cert.Pre_in_cache.Facts) (hOn_claimed : Cert.On_claimed.Facts),
    quiescent_Kernel (hKernel := hKernel) (hPre_in_cache := hPre_in_cache)
    ∧ quiescent_KernelIdeal (hKernelIdeal := hKernelIdeal) (hPre_in_cache := hPre_in_cache)
    ∧ quiescent_ReferenceIdeal (hReferenceIdeal := hReferenceIdeal)
    ∧ quiescent_ReferenceIdeal_pre_in_cache (hReferenceIdeal := hReferenceIdeal) (hPre_in_cache := hPre_in_cache)
    ∧ preserves_Kernel_KernelIdeal
    ∧ algebraic_KernelIdeal_ReferenceIdeal_on_claimed (hKernelIdeal := hKernelIdeal) (hReferenceIdeal := hReferenceIdeal) (hPre_in_cache := hPre_in_cache) (hOn_claimed := hOn_claimed)
-- ==== On_claimed.lean ====
abbrev S12x1x5120 : Shape := ⟨3, ![12, 1, 5120]⟩
abbrev S12x1x8x128 : Shape := ⟨4, ![12, 1, 8, 128]⟩
abbrev S128x256 : Shape := ⟨2, ![128, 256]⟩
abbrev S12x8192x8x32 : Shape := ⟨4, ![12, 8192, 8, 32]⟩
abbrev S12x8192x8 : Shape := ⟨3, ![12, 8192, 8]⟩
abbrev S12x8192x8x64 : Shape := ⟨4, ![12, 8192, 8, 64]⟩
abbrev S12x8192x8x4 : Shape := ⟨4, ![12, 8192, 8, 4]⟩
abbrev S12 : Shape := ⟨1, ![12]⟩
abbrev S12x40x128 : Shape := ⟨3, ![12, 40, 128]⟩
abbrev S_ : Shape := ⟨0, ![]⟩
abbrev S12x40 : Shape := ⟨2, ![12, 40]⟩
abbrev S12x5120 : Shape := ⟨2, ![12, 5120]⟩
abbrev S12x40x1 : Shape := ⟨3, ![12, 40, 1]⟩
abbrev S12x40x8192 : Shape := ⟨3, ![12, 40, 8192]⟩
abbrev S96x32 : Shape := ⟨2, ![96, 32]⟩
abbrev S96x1 : Shape := ⟨2, ![96, 1]⟩
abbrev S96x64 : Shape := ⟨2, ![96, 64]⟩
abbrev S96x4 : Shape := ⟨2, ![96, 4]⟩

class Facts : Prop where
  bitsLt_bf16_f32 : FTy.bits .bf16 < FTy.bits .f32
  shapeCasts_S12x1x5120_S12x40x128 : S12x1x5120.ShapeCasts S12x40x128
  bcast_S_S12x40x128 : S_.BroadcastsInDim S12x40x128 (![] : Fin 0 → Fin S12x40x128.rank)
  reducesTo_S12x40x128_S12x40_d2 : S12x40x128.ReducesTo [2] S12x40
  h_S_ : 0 < S_.numel
  bcast_S_S128x256 : S_.BroadcastsInDim S128x256 (![] : Fin 0 → Fin S128x256.rank)
  reducesTo_S128x256_S_d0_1 : S128x256.ReducesTo [0, 1] S_
  bcast_S_S12x40 : S_.BroadcastsInDim S12x40 (![] : Fin 0 → Fin S12x40.rank)
  bcast_S_S12x5120 : S_.BroadcastsInDim S12x5120 (![] : Fin 0 → Fin S12x5120.rank)
  bcast_S12x40_S12x40x1_0_1 : S12x40.BroadcastsInDim S12x40x1 (![0, 1] : Fin 2 → Fin S12x40x1.rank)
  bcast_S12x40x1_S12x40x8192_0_1_2 : S12x40x1.BroadcastsInDim S12x40x8192 (![0, 1, 2] : Fin 3 → Fin S12x40x8192.rank)
  bcast_S_S96x32 : S_.BroadcastsInDim S96x32 (![] : Fin 0 → Fin S96x32.rank)
  bcast_S_S96x1 : S_.BroadcastsInDim S96x1 (![] : Fin 0 → Fin S96x1.rank)
  bcast_S_S96x64 : S_.BroadcastsInDim S96x64 (![] : Fin 0 → Fin S96x64.rank)
  bcast_S_S96x4 : S_.BroadcastsInDim S96x4 (![] : Fin 0 → Fin S96x4.rank)

variable [Facts]

def fn_part1 {F : FTy → Type} [FloatOps F] (main_v13 : IVec S12x5120 1) (main_v15 : IVec S12x40x8192 1) (main_v16 : IVec S96x32 1) (main_c_4 : IVec S_ 1) : IVec S12x5120 1 × IVec S12x40x8192 1 × IVec S96x32 1 × IVec S96x1 1 × IVec S96x64 1 × IVec S96x4 1 :=
  let main_v17 : IVec S96x1 1 := broadcastInDim S96x1 ![] bcast_S_S96x1 main_c_4
  let main_c_5 : IVec S_ 1 := constantI S_ 1 1#1
  let main_v18 : IVec S96x64 1 := broadcastInDim S96x64 ![] bcast_S_S96x64 main_c_5
  let main_c_6 : IVec S_ 1 := constantI S_ 1 1#1
  let main_v19 : IVec S96x4 1 := broadcastInDim S96x4 ![] bcast_S_S96x4 main_c_6
  (main_v13, main_v15, main_v16, main_v17, main_v18, main_v19)

def fn {F : FTy → Type} [FloatOps F] (main_arg0 : FVec F S12x1x5120 .bf16) (main_arg1 : FVec F S12x1x8x128 .bf16) (main_arg2 : FVec F S12x1x8x128 .bf16) (main_arg3 : FVec F S128x256 .bf16) (main_arg4 : IVec S12x8192x8x32 8) (main_arg5 : FVec F S12x8192x8 .bf16) (main_arg6 : IVec S12x8192x8x64 8) (main_arg7 : FVec F S12x8192x8x4 .f32) (main_arg8 : IVec S12 32) : IVec S12x5120 1 × IVec S12x40x8192 1 × IVec S96x32 1 × IVec S96x1 1 × IVec S96x64 1 × IVec S96x4 1 :=
  let main_v0 : FVec F S12x1x5120 .f32 := (extf .f32 · bitsLt_bf16_f32) main_arg0
  let main_v1 : FVec F S12x40x128 .f32 := shapeCast S12x40x128 main_v0 shapeCasts_S12x1x5120_S12x40x128
  let main_v2 : FVec F S12x40x128 .f32 := Host.absf main_v1
  let main_cst : FVec F S_ .f32 := constant S_ .f32 0x7F800000#32
  let main_v3 : FVec F S12x40x128 .f32 := broadcastInDim S12x40x128 ![] bcast_S_S12x40x128 main_cst
  let main_v4 : IVec S12x40x128 1 := cmpf .olt main_v2 main_v3
  let main_c : IVec S_ 1 := constantI S_ 1 1#1
  let main_v5 : IVec S12x40 1 := (fun x v => Host.reduce IntOp.andi x v reducesTo_S12x40x128_S12x40_d2 h_S_) main_v4 main_c
  let main_v6 : FVec F S128x256 .f32 := (extf .f32 · bitsLt_bf16_f32) main_arg3
  let main_v7 : FVec F S128x256 .f32 := Host.absf main_v6
  let main_cst_0 : FVec F S_ .f32 := constant S_ .f32 0x7F800000#32
  let main_v8 : FVec F S128x256 .f32 := broadcastInDim S128x256 ![] bcast_S_S128x256 main_cst_0
  let main_v9 : IVec S128x256 1 := cmpf .olt main_v7 main_v8
  let main_c_1 : IVec S_ 1 := constantI S_ 1 1#1
  let main_v10 : IVec S_ 1 := (fun x v => Host.reduce IntOp.andi x v reducesTo_S128x256_S_d0_1 h_S_) main_v9 main_c_1
  let main_v11 : IVec S12x40 1 := broadcastInDim S12x40 ![] bcast_S_S12x40 main_v10
  let main_v12 : IVec S12x40 1 := andi main_v5 main_v11
  let main_c_2 : IVec S_ 1 := constantI S_ 1 0#1
  let main_v13 : IVec S12x5120 1 := broadcastInDim S12x5120 ![] bcast_S_S12x5120 main_c_2
  let main_v14 : IVec S12x40x1 1 := broadcastInDim S12x40x1 ![0, 1] bcast_S12x40_S12x40x1_0_1 main_v12
  let main_v15 : IVec S12x40x8192 1 := broadcastInDim S12x40x8192 ![0, 1, 2] bcast_S12x40x1_S12x40x8192_0_1_2 main_v14
  let main_c_3 : IVec S_ 1 := constantI S_ 1 1#1
  let main_v16 : IVec S96x32 1 := broadcastInDim S96x32 ![] bcast_S_S96x32 main_c_3
  let main_c_4 : IVec S_ 1 := constantI S_ 1 1#1
  fn_part1 (F := F) main_v13 main_v15 main_v16 main_c_4
-- ==== Pre_in_cache.lean ====
abbrev S12x1x5120 : Shape := ⟨3, ![12, 1, 5120]⟩
abbrev S12x1x8x128 : Shape := ⟨4, ![12, 1, 8, 128]⟩
abbrev S128x256 : Shape := ⟨2, ![128, 256]⟩
abbrev S12x8192x8x32 : Shape := ⟨4, ![12, 8192, 8, 32]⟩
abbrev S12x8192x8 : Shape := ⟨3, ![12, 8192, 8]⟩
abbrev S12x8192x8x64 : Shape := ⟨4, ![12, 8192, 8, 64]⟩
abbrev S12x8192x8x4 : Shape := ⟨4, ![12, 8192, 8, 4]⟩
abbrev S12 : Shape := ⟨1, ![12]⟩
abbrev S_ : Shape := ⟨0, ![]⟩

class Facts : Prop where
  bcast_S_S12 : S_.BroadcastsInDim S12 (![] : Fin 0 → Fin S12.rank)
  reducesTo_S12_S_d0 : S12.ReducesTo [0] S_
  h_S_ : 0 < S_.numel

variable [Facts]

def fn {F : FTy → Type} [FloatOps F] (main_arg0 : FVec F S12x1x5120 .bf16) (main_arg1 : FVec F S12x1x8x128 .bf16) (main_arg2 : FVec F S12x1x8x128 .bf16) (main_arg3 : FVec F S128x256 .bf16) (main_arg4 : IVec S12x8192x8x32 8) (main_arg5 : FVec F S12x8192x8 .bf16) (main_arg6 : IVec S12x8192x8x64 8) (main_arg7 : FVec F S12x8192x8x4 .f32) (main_arg8 : IVec S12 32) : IVec S_ 1 :=
  let main_c : IVec S_ 32 := constantI S_ 32 0#32
  let main_v0 : IVec S12 32 := broadcastInDim S12 ![] bcast_S_S12 main_c
  let main_v1 : IVec S12 1 := cmpi .sge main_arg8 main_v0
  let main_c_0 : IVec S_ 32 := constantI S_ 32 8192#32
  let main_v2 : IVec S12 32 := broadcastInDim S12 ![] bcast_S_S12 main_c_0
  let main_v3 : IVec S12 1 := cmpi .sle main_arg8 main_v2
  let main_v4 : IVec S12 1 := andi main_v1 main_v3
  let main_c_1 : IVec S_ 1 := constantI S_ 1 1#1
  let main_v5 : IVec S_ 1 := (fun x v => Host.reduce IntOp.andi x v reducesTo_S12_S_d0 h_S_) main_v4 main_c_1
  main_v5
-- ==== Kernel.lean ====
abbrev S12x1x5120 : Shape := ⟨3, ![12, 1, 5120]⟩
abbrev S12x1x8x128 : Shape := ⟨4, ![12, 1, 8, 128]⟩
abbrev S128x256 : Shape := ⟨2, ![128, 256]⟩
abbrev S12x8192x8x32 : Shape := ⟨4, ![12, 8192, 8, 32]⟩
abbrev S12x8192x8 : Shape := ⟨3, ![12, 8192, 8]⟩
abbrev S12x8192x8x64 : Shape := ⟨4, ![12, 8192, 8, 64]⟩
abbrev S12x8192x8x4 : Shape := ⟨4, ![12, 8192, 8, 4]⟩
abbrev S12 : Shape := ⟨1, ![12]⟩
abbrev S12x5120 : Shape := ⟨2, ![12, 5120]⟩
abbrev S96x128 : Shape := ⟨2, ![96, 128]⟩
abbrev S12x8x32x8192 : Shape := ⟨4, ![12, 8, 32, 8192]⟩
abbrev S12x8x8192 : Shape := ⟨3, ![12, 8, 8192]⟩
abbrev S12x8x64x8192 : Shape := ⟨4, ![12, 8, 64, 8192]⟩
abbrev S12x8x4x8192 : Shape := ⟨4, ![12, 8, 4, 8192]⟩
abbrev S12x40x8192 : Shape := ⟨3, ![12, 40, 8192]⟩
abbrev S96x32 : Shape := ⟨2, ![96, 32]⟩
abbrev S96x1 : Shape := ⟨2, ![96, 1]⟩
abbrev S96x64 : Shape := ⟨2, ![96, 64]⟩
abbrev S96x4 : Shape := ⟨2, ![96, 4]⟩
abbrev S1x8x32x8192 : Shape := ⟨4, ![1, 8, 32, 8192]⟩
abbrev S1x8x8192 : Shape := ⟨3, ![1, 8, 8192]⟩
abbrev S1x8x64x8192 : Shape := ⟨4, ![1, 8, 64, 8192]⟩
abbrev S1x8x4x8192 : Shape := ⟨4, ![1, 8, 4, 8192]⟩
abbrev S1x40x8192 : Shape := ⟨3, ![1, 40, 8192]⟩
abbrev S768x256 : Shape := ⟨2, ![768, 256]⟩
abbrev S768x128 : Shape := ⟨2, ![768, 128]⟩
abbrev S2x768x128 : Shape := ⟨3, ![2, 768, 128]⟩
abbrev S64x8192 : Shape := ⟨2, ![64, 8192]⟩
abbrev S64x128 : Shape := ⟨2, ![64, 128]⟩
abbrev S8x128x16 : Shape := ⟨3, ![8, 128, 16]⟩
abbrev S96x256 : Shape := ⟨2, ![96, 256]⟩
abbrev S256x32 : Shape := ⟨2, ![256, 32]⟩
abbrev S96 : Shape := ⟨1, ![96]⟩
abbrev S12x128 : Shape := ⟨2, ![12, 128]⟩
abbrev S768 : Shape := ⟨1, ![768]⟩
abbrev S768x1 : Shape := ⟨2, ![768, 1]⟩
abbrev S256x256 : Shape := ⟨2, ![256, 256]⟩
abbrev S1x768x128 : Shape := ⟨3, ![1, 768, 128]⟩
abbrev S96x1x256 : Shape := ⟨3, ![96, 1, 256]⟩
abbrev S96x8x256 : Shape := ⟨3, ![96, 8, 256]⟩
abbrev S96x1x128 : Shape := ⟨3, ![96, 1, 128]⟩
abbrev S96x8x128 : Shape := ⟨3, ![96, 8, 128]⟩
abbrev S1 : Shape := ⟨1, ![1]⟩
abbrev S8x512 : Shape := ⟨2, ![8, 512]⟩
abbrev S1x1x32x512 : Shape := ⟨4, ![1, 1, 32, 512]⟩
abbrev S32x512 : Shape := ⟨2, ![32, 512]⟩
abbrev S8x256 : Shape := ⟨2, ![8, 256]⟩
abbrev S16x512 : Shape := ⟨2, ![16, 512]⟩
abbrev S256x512 : Shape := ⟨2, ![256, 512]⟩
abbrev S1x1x512 : Shape := ⟨3, ![1, 1, 512]⟩
abbrev S1x512 : Shape := ⟨2, ![1, 512]⟩
abbrev S1x8x128 : Shape := ⟨3, ![1, 8, 128]⟩
abbrev S8x128 : Shape := ⟨2, ![8, 128]⟩
abbrev S5x512 : Shape := ⟨2, ![5, 512]⟩
abbrev S1x5x512 : Shape := ⟨3, ![1, 5, 512]⟩
abbrev S40x512 : Shape := ⟨2, ![40, 512]⟩
abbrev S1x40x512 : Shape := ⟨3, ![1, 40, 512]⟩
abbrev S64 : Shape := ⟨1, ![64]⟩
abbrev S64x1 : Shape := ⟨2, ![64, 1]⟩
abbrev S16x128 : Shape := ⟨2, ![16, 128]⟩
abbrev S1x1x64x512 : Shape := ⟨4, ![1, 1, 64, 512]⟩
abbrev S64x512 : Shape := ⟨2, ![64, 512]⟩
abbrev S1x1x4x512 : Shape := ⟨4, ![1, 1, 4, 512]⟩
abbrev S4x512 : Shape := ⟨2, ![4, 512]⟩
abbrev S128x512 : Shape := ⟨2, ![128, 512]⟩
abbrev S1x128x16 : Shape := ⟨3, ![1, 128, 16]⟩
abbrev S128x16 : Shape := ⟨2, ![128, 16]⟩
abbrev S1x64x16 : Shape := ⟨3, ![1, 64, 16]⟩
abbrev S64x16 : Shape := ⟨2, ![64, 16]⟩
abbrev S128x112 : Shape := ⟨2, ![128, 112]⟩
abbrev S128x128 : Shape := ⟨2, ![128, 128]⟩
abbrev S1x128 : Shape := ⟨2, ![1, 128]⟩

abbrev nBuf : Space → Nat
  | .hbm => 21
  | .vmem => 29
  | .smem => 1
  | _ => 0

abbrev bufTy : (tb : Table) → Fin (tcTables nBuf tb) → BufTy
  | .hbm, ⟨0, _⟩ => ⟨S12x1x5120, .bf16⟩
  | .hbm, ⟨1, _⟩ => ⟨S12x1x8x128, .bf16⟩
  | .hbm, ⟨2, _⟩ => ⟨S12x1x8x128, .bf16⟩
  | .hbm, ⟨3, _⟩ => ⟨S128x256, .bf16⟩
  | .hbm, ⟨4, _⟩ => ⟨S12x8192x8x32, .i8⟩
  | .hbm, ⟨5, _⟩ => ⟨S12x8192x8, .bf16⟩
  | .hbm, ⟨6, _⟩ => ⟨S12x8192x8x64, .i8⟩
  | .hbm, ⟨7, _⟩ => ⟨S12x8192x8x4, .f32⟩
  | .hbm, ⟨8, _⟩ => ⟨S12x5120, .bf16⟩
  | .hbm, ⟨9, _⟩ => ⟨S96x128, .bf16⟩
  | .hbm, ⟨10, _⟩ => ⟨S96x128, .bf16⟩
  | .hbm, ⟨11, _⟩ => ⟨S12x8x32x8192, .i8⟩
  | .hbm, ⟨12, _⟩ => ⟨S12x8x8192, .bf16⟩
  | .hbm, ⟨13, _⟩ => ⟨S12x8x64x8192, .i8⟩
  | .hbm, ⟨14, _⟩ => ⟨S12x8x4x8192, .f32⟩
  | .hbm, ⟨15, _⟩ => ⟨S12x5120, .bf16⟩
  | .hbm, ⟨16, _⟩ => ⟨S12x40x8192, .f32⟩
  | .hbm, ⟨17, _⟩ => ⟨S96x32, .i8⟩
  | .hbm, ⟨18, _⟩ => ⟨S96x1, .bf16⟩
  | .hbm, ⟨19, _⟩ => ⟨S96x64, .i8⟩
  | .hbm, ⟨20, _⟩ => ⟨S96x4, .f32⟩
  | .local _ .vmem, ⟨0, _⟩ => ⟨S12x5120, .bf16⟩
  | .local _ .vmem, ⟨1, _⟩ => ⟨S96x128, .bf16⟩
  | .local _ .vmem, ⟨2, _⟩ => ⟨S96x128, .bf16⟩
  | .local _ .vmem, ⟨3, _⟩ => ⟨S128x256, .bf16⟩
  | .local _ .vmem, ⟨4, _⟩ => ⟨S1x8x32x8192, .i8⟩
  | .local _ .vmem, ⟨5, _⟩ => ⟨S1x8x32x8192, .i8⟩
  | .local _ .vmem, ⟨6, _⟩ => ⟨S1x8x8192, .bf16⟩
  | .local _ .vmem, ⟨7, _⟩ => ⟨S1x8x8192, .bf16⟩
  | .local _ .vmem, ⟨8, _⟩ => ⟨S1x8x64x8192, .i8⟩
  | .local _ .vmem, ⟨9, _⟩ => ⟨S1x8x64x8192, .i8⟩
  | .local _ .vmem, ⟨10, _⟩ => ⟨S1x8x4x8192, .f32⟩
  | .local _ .vmem, ⟨11, _⟩ => ⟨S1x8x4x8192, .f32⟩
  | .local _ .vmem, ⟨12, _⟩ => ⟨S12x5120, .bf16⟩
  | .local _ .vmem, ⟨13, _⟩ => ⟨S1x40x8192, .f32⟩
  | .local _ .vmem, ⟨14, _⟩ => ⟨S1x40x8192, .f32⟩
  | .local _ .vmem, ⟨15, _⟩ => ⟨S96x32, .i8⟩
  | .local _ .vmem, ⟨16, _⟩ => ⟨S96x1, .bf16⟩
  | .local _ .vmem, ⟨17, _⟩ => ⟨S96x64, .i8⟩
  | .local _ .vmem, ⟨18, _⟩ => ⟨S96x4, .f32⟩
  | .local _ .vmem, ⟨19, _⟩ => ⟨S768x256, .bf16⟩
  | .local _ .vmem, ⟨20, _⟩ => ⟨S768x128, .f32⟩
  | .local _ .vmem, ⟨21, _⟩ => ⟨S2x768x128, .f32⟩
  | .local _ .vmem, ⟨22, _⟩ => ⟨S768x128, .f32⟩
  | .local _ .vmem, ⟨23, _⟩ => ⟨S96x128, .f32⟩
  | .local _ .vmem, ⟨24, _⟩ => ⟨S64x8192, .f32⟩
  | .local _ .vmem, ⟨25, _⟩ => ⟨S64x128, .f32⟩
  | .local _ .vmem, ⟨26, _⟩ => ⟨S64x128, .f32⟩
  | .local _ .vmem, ⟨27, _⟩ => ⟨S8x128x16, .f32⟩
  | .local _ .vmem, ⟨28, _⟩ => ⟨S768x128, .f32⟩
  | .local _ .smem, ⟨0, _⟩ => ⟨S12, .i32⟩
  | _, _ => ⟨S12x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_mult1 (i : grid0.Coords) : BitVec 32 :=
  let arg0 : BitVec 32 := BitVec.ofNat 32 (i 0).val
  let c64_i32 : BitVec 32 := 64#32
  let v25 : BitVec 32 := Scalar.muli arg0 c64_i32
  v25
def k0_off2 (i : grid0.Coords) : Fin 2 → Nat :=
  let arg0 : BitVec 32 := BitVec.ofNat 32 (i 0).val
  let c64_i32 : BitVec 32 := 64#32
  let v25 : BitVec 32 := Scalar.muli arg0 c64_i32
  let v26 : BitVec 32 := v25
  let v27 : Index := Scalar.indexCast v26
  let c0_9 : Index := 0#32
  ![v27.toNat, 0]
@[reducible] def k0_t1_loop (v5 : BitVec 32) : Scf.Loop 32 :=
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_19 : BitVec 32 := 1#32
  ⟨c0_i32_16, v45, c1_i32_19⟩

def k0_mult2 (v5 : BitVec 32) (k0_t1 : Fin (k0_t1_loop v5).trips) : BitVec 32 :=
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  v288
def k0_mult3 (i : grid0.Coords) : BitVec 32 :=
  let arg0 : BitVec 32 := BitVec.ofNat 32 (i 0).val
  let c64_i32_132 : BitVec 32 := 64#32
  let v295 : BitVec 32 := Scalar.muli arg0 c64_i32_132
  let c0_i32_133 : BitVec 32 := 0#32
  let v296 : BitVec 32 := Scalar.addi v295 c0_i32_133
  v296
def k0_off3 (v5 : BitVec 32) (k0_t1 : Fin (k0_t1_loop v5).trips) : Fin 4 → Nat :=
  let c0_134 : Index := 0#32
  let c0_135 : Index := 0#32
  let c0_136 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v298 : Index := Scalar.indexCast v289
  ![0, 0, 0, v298.toNat]
def k0_off4 (i : grid0.Coords) (c0_i32_133 : BitVec 32) : Fin 2 → Nat :=
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v302 : Index := Scalar.indexCast v297
  let c0_137 : Index := 0#32
  ![v302.toNat, 0]
def k0_off5 (v5 : BitVec 32) (k0_t1 : Fin (k0_t1_loop v5).trips) : Fin 3 → Nat :=
  let c0_149 : Index := 0#32
  let c0_150 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v358 : Index := Scalar.indexCast v289
  ![0, 0, v358.toNat]
def k0_off6 (i : grid0.Coords) (c0_i32_133 : BitVec 32) : Fin 3 → Nat :=
  let c0_152 : Index := 0#32
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v364 : Index := Scalar.indexCast v297
  let c0_153 : Index := 0#32
  ![0, v364.toNat, 0]
def k0_off7 (i : grid0.Coords) (c0_i32_133 : BitVec 32) : Fin 3 → Nat :=
  let c1_154 : Index := 1#32
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v368 : Index := Scalar.indexCast v297
  let c0_155 : Index := 0#32
  ![1, v368.toNat, 0]
def k0_off8 (v5 : BitVec 32) (k0_t1 : Fin (k0_t1_loop v5).trips) : Fin 3 → Nat :=
  let c0_157 : Index := 0#32
  let c0_158 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v379 : Index := Scalar.indexCast v289
  ![0, 0, v379.toNat]
def k0_off9 (v5 : BitVec 32) (k0_t1 : Fin (k0_t1_loop v5).trips) : Fin 2 → Nat :=
  let c0_160 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v385 : Index := Scalar.indexCast v289
  ![0, v385.toNat]
def k0_mult4 (i : grid0.Coords) : BitVec 32 :=
  let arg0 : BitVec 32 := BitVec.ofNat 32 (i 0).val
  let c64_i32_169 : BitVec 32 := 64#32
  let v424 : BitVec 32 := Scalar.muli arg0 c64_i32_169
  let c8_i32_170 : BitVec 32 := 8#32
  let v425 : BitVec 32 := Scalar.addi v424 c8_i32_170
  v425
def k0_off10 (v5 : BitVec 32) (k0_t1 : Fin (k0_t1_loop v5).trips) : Fin 4 → Nat :=
  let c0_171 : Index := 0#32
  let c1_172 : Index := 1#32
  let c0_173 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v427 : Index := Scalar.indexCast v289
  ![0, 1, 0, v427.toNat]
def k0_off11 (v5 : BitVec 32) (k0_t1 : Fin (k0_t1_loop v5).trips) : Fin 3 → Nat :=
  let c0_194 : Index := 0#32
  let c1_195 : Index := 1#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v487 : Index := Scalar.indexCast v289
  ![0, 1, v487.toNat]
def k0_off12 (v5 : BitVec 32) (k0_t1 : Fin (k0_t1_loop v5).trips) : Fin 3 → Nat :=
  let c0_202 : Index := 0#32
  let c5_203 : Index := 5#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v508 : Index := Scalar.indexCast v289
  ![0, 5, v508.toNat]
def k0_off13 (v5 : BitVec 32) (k0_t1 : Fin (k0_t1_loop v5).trips) : Fin 2 → Nat :=
  let c8 : Index := 8#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v514 : Index := Scalar.indexCast v289
  ![8, v514.toNat]
def k0_mult5 (i : grid0.Coords) : BitVec 32 :=
  let arg0 : BitVec 32 := BitVec.ofNat 32 (i 0).val
  let c64_i32_213 : BitVec 32 := 64#32
  let v553 : BitVec 32 := Scalar.muli arg0 c64_i32_213
  let c16_i32_214 : BitVec 32 := 16#32
  let v554 : BitVec 32 := Scalar.addi v553 c16_i32_214
  v554
def k0_off14 (v5 : BitVec 32) (k0_t1 : Fin (k0_t1_loop v5).trips) : Fin 4 → Nat :=
  let c0_215 : Index := 0#32
  let c2_216 : Index := 2#32
  let c0_217 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v556 : Index := Scalar.indexCast v289
  ![0, 2, 0, v556.toNat]
def k0_off15 (v5 : BitVec 32) (k0_t1 : Fin (k0_t1_loop v5).trips) : Fin 3 → Nat :=
  let c0_238 : Index := 0#32
  let c2_239 : Index := 2#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v616 : Index := Scalar.indexCast v289
  ![0, 2, v616.toNat]
def k0_off16 (v5 : BitVec 32) (k0_t1 : Fin (k0_t1_loop v5).trips) : Fin 3 → Nat :=
  let c0_246 : Index := 0#32
  let c10 : Index := 10#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v637 : Index := Scalar.indexCast v289
  ![0, 10, v637.toNat]
def k0_off17 (v5 : BitVec 32) (k0_t1 : Fin (k0_t1_loop v5).trips) : Fin 2 → Nat :=
  let c16 : Index := 16#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v643 : Index := Scalar.indexCast v289
  ![16, v643.toNat]
def k0_mult6 (i : grid0.Coords) : BitVec 32 :=
  let arg0 : BitVec 32 := BitVec.ofNat 32 (i 0).val
  let c64_i32_256 : BitVec 32 := 64#32
  let v682 : BitVec 32 := Scalar.muli arg0 c64_i32_256
  let c24_i32_257 : BitVec 32 := 24#32
  let v683 : BitVec 32 := Scalar.addi v682 c24_i32_257
  v683
def k0_off18 (v5 : BitVec 32) (k0_t1 : Fin (k0_t1_loop v5).trips) : Fin 4 → Nat :=
  let c0_258 : Index := 0#32
  let c3_259 : Index := 3#32
  let c0_260 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v685 : Index := Scalar.indexCast v289
  ![0, 3, 0, v685.toNat]
def k0_off19 (v5 : BitVec 32) (k0_t1 : Fin (k0_t1_loop v5).trips) : Fin 3 → Nat :=
  let c0_281 : Index := 0#32
  let c3_282 : Index := 3#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v745 : Index := Scalar.indexCast v289
  ![0, 3, v745.toNat]
def k0_off20 (v5 : BitVec 32) (k0_t1 : Fin (k0_t1_loop v5).trips) : Fin 3 → Nat :=
  let c0_289 : Index := 0#32
  let c15 : Index := 15#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v766 : Index := Scalar.indexCast v289
  ![0, 15, v766.toNat]
def k0_off21 (v5 : BitVec 32) (k0_t1 : Fin (k0_t1_loop v5).trips) : Fin 2 → Nat :=
  let c24 : Index := 24#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v772 : Index := Scalar.indexCast v289
  ![24, v772.toNat]
def k0_mult7 (i : grid0.Coords) : BitVec 32 :=
  let arg0 : BitVec 32 := BitVec.ofNat 32 (i 0).val
  let c64_i32_299 : BitVec 32 := 64#32
  let v811 : BitVec 32 := Scalar.muli arg0 c64_i32_299
  let c32_i32_300 : BitVec 32 := 32#32
  let v812 : BitVec 32 := Scalar.addi v811 c32_i32_300
  v812
def k0_off22 (v5 : BitVec 32) (k0_t1 : Fin (k0_t1_loop v5).trips) : Fin 4 → Nat :=
  let c0_301 : Index := 0#32
  let c4_302 : Index := 4#32
  let c0_303 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v814 : Index := Scalar.indexCast v289
  ![0, 4, 0, v814.toNat]
def k0_off23 (v5 : BitVec 32) (k0_t1 : Fin (k0_t1_loop v5).trips) : Fin 3 → Nat :=
  let c0_324 : Index := 0#32
  let c4_325 : Index := 4#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v874 : Index := Scalar.indexCast v289
  ![0, 4, v874.toNat]
def k0_off24 (v5 : BitVec 32) (k0_t1 : Fin (k0_t1_loop v5).trips) : Fin 3 → Nat :=
  let c0_332 : Index := 0#32
  let c20 : Index := 20#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v895 : Index := Scalar.indexCast v289
  ![0, 20, v895.toNat]
def k0_off25 (v5 : BitVec 32) (k0_t1 : Fin (k0_t1_loop v5).trips) : Fin 2 → Nat :=
  let c32 : Index := 32#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v901 : Index := Scalar.indexCast v289
  ![32, v901.toNat]
def k0_mult8 (i : grid0.Coords) : BitVec 32 :=
  let arg0 : BitVec 32 := BitVec.ofNat 32 (i 0).val
  let c64_i32_342 : BitVec 32 := 64#32
  let v940 : BitVec 32 := Scalar.muli arg0 c64_i32_342
  let c40_i32_343 : BitVec 32 := 40#32
  let v941 : BitVec 32 := Scalar.addi v940 c40_i32_343
  v941
def k0_off26 (v5 : BitVec 32) (k0_t1 : Fin (k0_t1_loop v5).trips) : Fin 4 → Nat :=
  let c0_344 : Index := 0#32
  let c5_345 : Index := 5#32
  let c0_346 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v943 : Index := Scalar.indexCast v289
  ![0, 5, 0, v943.toNat]
def k0_off27 (v5 : BitVec 32) (k0_t1 : Fin (k0_t1_loop v5).trips) : Fin 3 → Nat :=
  let c0_367 : Index := 0#32
  let c5_368 : Index := 5#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1003 : Index := Scalar.indexCast v289
  ![0, 5, v1003.toNat]
def k0_off28 (v5 : BitVec 32) (k0_t1 : Fin (k0_t1_loop v5).trips) : Fin 3 → Nat :=
  let c0_375 : Index := 0#32
  let c25 : Index := 25#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1024 : Index := Scalar.indexCast v289
  ![0, 25, v1024.toNat]
def k0_off29 (v5 : BitVec 32) (k0_t1 : Fin (k0_t1_loop v5).trips) : Fin 2 → Nat :=
  let c40 : Index := 40#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1030 : Index := Scalar.indexCast v289
  ![40, v1030.toNat]
def k0_mult9 (i : grid0.Coords) : BitVec 32 :=
  let arg0 : BitVec 32 := BitVec.ofNat 32 (i 0).val
  let c64_i32_385 : BitVec 32 := 64#32
  let v1069 : BitVec 32 := Scalar.muli arg0 c64_i32_385
  let c48_i32_386 : BitVec 32 := 48#32
  let v1070 : BitVec 32 := Scalar.addi v1069 c48_i32_386
  v1070
def k0_off30 (v5 : BitVec 32) (k0_t1 : Fin (k0_t1_loop v5).trips) : Fin 4 → Nat :=
  let c0_387 : Index := 0#32
  let c6_388 : Index := 6#32
  let c0_389 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1072 : Index := Scalar.indexCast v289
  ![0, 6, 0, v1072.toNat]
def k0_off31 (v5 : BitVec 32) (k0_t1 : Fin (k0_t1_loop v5).trips) : Fin 3 → Nat :=
  let c0_410 : Index := 0#32
  let c6_411 : Index := 6#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1132 : Index := Scalar.indexCast v289
  ![0, 6, v1132.toNat]
def k0_off32 (v5 : BitVec 32) (k0_t1 : Fin (k0_t1_loop v5).trips) : Fin 3 → Nat :=
  let c0_418 : Index := 0#32
  let c30 : Index := 30#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1153 : Index := Scalar.indexCast v289
  ![0, 30, v1153.toNat]
def k0_off33 (v5 : BitVec 32) (k0_t1 : Fin (k0_t1_loop v5).trips) : Fin 2 → Nat :=
  let c48 : Index := 48#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1159 : Index := Scalar.indexCast v289
  ![48, v1159.toNat]
def k0_mult10 (i : grid0.Coords) : BitVec 32 :=
  let arg0 : BitVec 32 := BitVec.ofNat 32 (i 0).val
  let c64_i32_428 : BitVec 32 := 64#32
  let v1198 : BitVec 32 := Scalar.muli arg0 c64_i32_428
  let c56_i32_429 : BitVec 32 := 56#32
  let v1199 : BitVec 32 := Scalar.addi v1198 c56_i32_429
  v1199
def k0_off34 (v5 : BitVec 32) (k0_t1 : Fin (k0_t1_loop v5).trips) : Fin 4 → Nat :=
  let c0_430 : Index := 0#32
  let c7_431 : Index := 7#32
  let c0_432 : Index := 0#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1201 : Index := Scalar.indexCast v289
  ![0, 7, 0, v1201.toNat]
def k0_off35 (v5 : BitVec 32) (k0_t1 : Fin (k0_t1_loop v5).trips) : Fin 3 → Nat :=
  let c0_453 : Index := 0#32
  let c7_454 : Index := 7#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1261 : Index := Scalar.indexCast v289
  ![0, 7, v1261.toNat]
def k0_off36 (v5 : BitVec 32) (k0_t1 : Fin (k0_t1_loop v5).trips) : Fin 3 → Nat :=
  let c0_461 : Index := 0#32
  let c35 : Index := 35#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1282 : Index := Scalar.indexCast v289
  ![0, 35, v1282.toNat]
def k0_off37 (v5 : BitVec 32) (k0_t1 : Fin (k0_t1_loop v5).trips) : Fin 2 → Nat :=
  let c56 : Index := 56#32
  let c0_i32_16 : BitVec 32 := 0#32
  let c1_i32_19 : BitVec 32 := 1#32
  let arg26 : BitVec 32 := Scf.iv c0_i32_16 c1_i32_19 k0_t1
  let c512_i32_131 : BitVec 32 := 512#32
  let v288 : BitVec 32 := Scalar.muli arg26 c512_i32_131
  let v289 : BitVec 32 := v288
  let v1288 : Index := Scalar.indexCast v289
  ![56, v1288.toNat]
@[reducible] def k0_t2_loop (v5 : BitVec 32) : Scf.Loop 32 :=
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let v42 : BitVec 32 := Scalar.addi c0_i32_16 v41
  let c1_i32_20 : BitVec 32 := 1#32
  ⟨v45, v42, c1_i32_20⟩
def k0_mult11 (v5 : BitVec 32) (k0_t2 : Fin (k0_t2_loop v5).trips) : BitVec 32 :=
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  v288
def k0_mult12 (i : grid0.Coords) : BitVec 32 :=
  let arg0 : BitVec 32 := BitVec.ofNat 32 (i 0).val
  let c64_i32_132 : BitVec 32 := 64#32
  let v295 : BitVec 32 := Scalar.muli arg0 c64_i32_132
  let c0_i32_133 : BitVec 32 := 0#32
  let v296 : BitVec 32 := Scalar.addi v295 c0_i32_133
  v296
def k0_off38 (v5 : BitVec 32) (k0_t2 : Fin (k0_t2_loop v5).trips) : Fin 4 → Nat :=
  let c0_134 : Index := 0#32
  let c0_135 : Index := 0#32
  let c0_136 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v298 : Index := Scalar.indexCast v289
  ![0, 0, 0, v298.toNat]
def k0_off39 (i : grid0.Coords) (c0_i32_133 : BitVec 32) : Fin 2 → Nat :=
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v302 : Index := Scalar.indexCast v297
  let c0_137 : Index := 0#32
  ![v302.toNat, 0]
def k0_off40 (v5 : BitVec 32) (k0_t2 : Fin (k0_t2_loop v5).trips) : Fin 3 → Nat :=
  let c0_149 : Index := 0#32
  let c0_150 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v358 : Index := Scalar.indexCast v289
  ![0, 0, v358.toNat]
def k0_off41 (i : grid0.Coords) (c0_i32_133 : BitVec 32) : Fin 3 → Nat :=
  let c0_152 : Index := 0#32
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v364 : Index := Scalar.indexCast v297
  let c0_153 : Index := 0#32
  ![0, v364.toNat, 0]
def k0_off42 (i : grid0.Coords) (c0_i32_133 : BitVec 32) : Fin 3 → Nat :=
  let c1_154 : Index := 1#32
  let arg0 : BitVec 32 := BitVec.ofNat 32 (i 0).val
  let c64_i32_132 : BitVec 32 := 64#32
  let v295 : BitVec 32 := Scalar.muli arg0 c64_i32_132
  let v296 : BitVec 32 := Scalar.addi v295 c0_i32_133
  let v297 : BitVec 32 := v296
  let v368 : Index := Scalar.indexCast v297
  let c0_155 : Index := 0#32
  ![1, v368.toNat, 0]
def k0_off43 (v5 : BitVec 32) (k0_t2 : Fin (k0_t2_loop v5).trips) : Fin 3 → Nat :=
  let c0_157 : Index := 0#32
  let c0_158 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v379 : Index := Scalar.indexCast v289
  ![0, 0, v379.toNat]
def k0_off44 (v5 : BitVec 32) (k0_t2 : Fin (k0_t2_loop v5).trips) : Fin 2 → Nat :=
  let c0_160 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v385 : Index := Scalar.indexCast v289
  ![0, v385.toNat]
def k0_mult13 (i : grid0.Coords) : BitVec 32 :=
  let arg0 : BitVec 32 := BitVec.ofNat 32 (i 0).val
  let c64_i32_169 : BitVec 32 := 64#32
  let v424 : BitVec 32 := Scalar.muli arg0 c64_i32_169
  let c8_i32_170 : BitVec 32 := 8#32
  let v425 : BitVec 32 := Scalar.addi v424 c8_i32_170
  v425
def k0_off45 (v5 : BitVec 32) (k0_t2 : Fin (k0_t2_loop v5).trips) : Fin 4 → Nat :=
  let c0_171 : Index := 0#32
  let c1_172 : Index := 1#32
  let c0_173 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v427 : Index := Scalar.indexCast v289
  ![0, 1, 0, v427.toNat]
def k0_off46 (v5 : BitVec 32) (k0_t2 : Fin (k0_t2_loop v5).trips) : Fin 3 → Nat :=
  let c0_194 : Index := 0#32
  let c1_195 : Index := 1#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v487 : Index := Scalar.indexCast v289
  ![0, 1, v487.toNat]
def k0_off47 (v5 : BitVec 32) (k0_t2 : Fin (k0_t2_loop v5).trips) : Fin 3 → Nat :=
  let c0_202 : Index := 0#32
  let c5_203 : Index := 5#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v508 : Index := Scalar.indexCast v289
  ![0, 5, v508.toNat]
def k0_off48 (v5 : BitVec 32) (k0_t2 : Fin (k0_t2_loop v5).trips) : Fin 2 → Nat :=
  let c8 : Index := 8#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v514 : Index := Scalar.indexCast v289
  ![8, v514.toNat]
def k0_mult14 (i : grid0.Coords) : BitVec 32 :=
  let arg0 : BitVec 32 := BitVec.ofNat 32 (i 0).val
  let c64_i32_213 : BitVec 32 := 64#32
  let v553 : BitVec 32 := Scalar.muli arg0 c64_i32_213
  let c16_i32_214 : BitVec 32 := 16#32
  let v554 : BitVec 32 := Scalar.addi v553 c16_i32_214
  v554
def k0_off49 (v5 : BitVec 32) (k0_t2 : Fin (k0_t2_loop v5).trips) : Fin 4 → Nat :=
  let c0_215 : Index := 0#32
  let c2_216 : Index := 2#32
  let c0_217 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v556 : Index := Scalar.indexCast v289
  ![0, 2, 0, v556.toNat]
def k0_off50 (v5 : BitVec 32) (k0_t2 : Fin (k0_t2_loop v5).trips) : Fin 3 → Nat :=
  let c0_238 : Index := 0#32
  let c2_239 : Index := 2#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v616 : Index := Scalar.indexCast v289
  ![0, 2, v616.toNat]
def k0_off51 (v5 : BitVec 32) (k0_t2 : Fin (k0_t2_loop v5).trips) : Fin 3 → Nat :=
  let c0_246 : Index := 0#32
  let c10 : Index := 10#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v637 : Index := Scalar.indexCast v289
  ![0, 10, v637.toNat]
def k0_off52 (v5 : BitVec 32) (k0_t2 : Fin (k0_t2_loop v5).trips) : Fin 2 → Nat :=
  let c16 : Index := 16#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v643 : Index := Scalar.indexCast v289
  ![16, v643.toNat]
def k0_mult15 (i : grid0.Coords) : BitVec 32 :=
  let arg0 : BitVec 32 := BitVec.ofNat 32 (i 0).val
  let c64_i32_256 : BitVec 32 := 64#32
  let v682 : BitVec 32 := Scalar.muli arg0 c64_i32_256
  let c24_i32_257 : BitVec 32 := 24#32
  let v683 : BitVec 32 := Scalar.addi v682 c24_i32_257
  v683
def k0_off53 (v5 : BitVec 32) (k0_t2 : Fin (k0_t2_loop v5).trips) : Fin 4 → Nat :=
  let c0_258 : Index := 0#32
  let c3_259 : Index := 3#32
  let c0_260 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v685 : Index := Scalar.indexCast v289
  ![0, 3, 0, v685.toNat]
def k0_off54 (v5 : BitVec 32) (k0_t2 : Fin (k0_t2_loop v5).trips) : Fin 3 → Nat :=
  let c0_281 : Index := 0#32
  let c3_282 : Index := 3#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v745 : Index := Scalar.indexCast v289
  ![0, 3, v745.toNat]
def k0_off55 (v5 : BitVec 32) (k0_t2 : Fin (k0_t2_loop v5).trips) : Fin 3 → Nat :=
  let c0_289 : Index := 0#32
  let c15 : Index := 15#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v766 : Index := Scalar.indexCast v289
  ![0, 15, v766.toNat]
def k0_off56 (v5 : BitVec 32) (k0_t2 : Fin (k0_t2_loop v5).trips) : Fin 2 → Nat :=
  let c24 : Index := 24#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v772 : Index := Scalar.indexCast v289
  ![24, v772.toNat]
def k0_mult16 (i : grid0.Coords) : BitVec 32 :=
  let arg0 : BitVec 32 := BitVec.ofNat 32 (i 0).val
  let c64_i32_299 : BitVec 32 := 64#32
  let v811 : BitVec 32 := Scalar.muli arg0 c64_i32_299
  let c32_i32_300 : BitVec 32 := 32#32
  let v812 : BitVec 32 := Scalar.addi v811 c32_i32_300
  v812
def k0_off57 (v5 : BitVec 32) (k0_t2 : Fin (k0_t2_loop v5).trips) : Fin 4 → Nat :=
  let c0_301 : Index := 0#32
  let c4_302 : Index := 4#32
  let c0_303 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v814 : Index := Scalar.indexCast v289
  ![0, 4, 0, v814.toNat]
def k0_off58 (v5 : BitVec 32) (k0_t2 : Fin (k0_t2_loop v5).trips) : Fin 3 → Nat :=
  let c0_324 : Index := 0#32
  let c4_325 : Index := 4#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v874 : Index := Scalar.indexCast v289
  ![0, 4, v874.toNat]
def k0_off59 (v5 : BitVec 32) (k0_t2 : Fin (k0_t2_loop v5).trips) : Fin 3 → Nat :=
  let c0_332 : Index := 0#32
  let c20 : Index := 20#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v895 : Index := Scalar.indexCast v289
  ![0, 20, v895.toNat]
def k0_off60 (v5 : BitVec 32) (k0_t2 : Fin (k0_t2_loop v5).trips) : Fin 2 → Nat :=
  let c32 : Index := 32#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v901 : Index := Scalar.indexCast v289
  ![32, v901.toNat]
def k0_mult17 (i : grid0.Coords) : BitVec 32 :=
  let arg0 : BitVec 32 := BitVec.ofNat 32 (i 0).val
  let c64_i32_342 : BitVec 32 := 64#32
  let v940 : BitVec 32 := Scalar.muli arg0 c64_i32_342
  let c40_i32_343 : BitVec 32 := 40#32
  let v941 : BitVec 32 := Scalar.addi v940 c40_i32_343
  v941
def k0_off61 (v5 : BitVec 32) (k0_t2 : Fin (k0_t2_loop v5).trips) : Fin 4 → Nat :=
  let c0_344 : Index := 0#32
  let c5_345 : Index := 5#32
  let c0_346 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v943 : Index := Scalar.indexCast v289
  ![0, 5, 0, v943.toNat]
def k0_off62 (v5 : BitVec 32) (k0_t2 : Fin (k0_t2_loop v5).trips) : Fin 3 → Nat :=
  let c0_367 : Index := 0#32
  let c5_368 : Index := 5#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1003 : Index := Scalar.indexCast v289
  ![0, 5, v1003.toNat]
def k0_off63 (v5 : BitVec 32) (k0_t2 : Fin (k0_t2_loop v5).trips) : Fin 3 → Nat :=
  let c0_375 : Index := 0#32
  let c25 : Index := 25#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1024 : Index := Scalar.indexCast v289
  ![0, 25, v1024.toNat]
def k0_off64 (v5 : BitVec 32) (k0_t2 : Fin (k0_t2_loop v5).trips) : Fin 2 → Nat :=
  let c40 : Index := 40#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1030 : Index := Scalar.indexCast v289
  ![40, v1030.toNat]
def k0_mult18 (i : grid0.Coords) : BitVec 32 :=
  let arg0 : BitVec 32 := BitVec.ofNat 32 (i 0).val
  let c64_i32_385 : BitVec 32 := 64#32
  let v1069 : BitVec 32 := Scalar.muli arg0 c64_i32_385
  let c48_i32_386 : BitVec 32 := 48#32
  let v1070 : BitVec 32 := Scalar.addi v1069 c48_i32_386
  v1070
def k0_off65 (v5 : BitVec 32) (k0_t2 : Fin (k0_t2_loop v5).trips) : Fin 4 → Nat :=
  let c0_387 : Index := 0#32
  let c6_388 : Index := 6#32
  let c0_389 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1072 : Index := Scalar.indexCast v289
  ![0, 6, 0, v1072.toNat]
def k0_off66 (v5 : BitVec 32) (k0_t2 : Fin (k0_t2_loop v5).trips) : Fin 3 → Nat :=
  let c0_410 : Index := 0#32
  let c6_411 : Index := 6#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1132 : Index := Scalar.indexCast v289
  ![0, 6, v1132.toNat]
def k0_off67 (v5 : BitVec 32) (k0_t2 : Fin (k0_t2_loop v5).trips) : Fin 3 → Nat :=
  let c0_418 : Index := 0#32
  let c30 : Index := 30#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1153 : Index := Scalar.indexCast v289
  ![0, 30, v1153.toNat]
def k0_off68 (v5 : BitVec 32) (k0_t2 : Fin (k0_t2_loop v5).trips) : Fin 2 → Nat :=
  let c48 : Index := 48#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1159 : Index := Scalar.indexCast v289
  ![48, v1159.toNat]
def k0_mult19 (i : grid0.Coords) : BitVec 32 :=
  let arg0 : BitVec 32 := BitVec.ofNat 32 (i 0).val
  let c64_i32_428 : BitVec 32 := 64#32
  let v1198 : BitVec 32 := Scalar.muli arg0 c64_i32_428
  let c56_i32_429 : BitVec 32 := 56#32
  let v1199 : BitVec 32 := Scalar.addi v1198 c56_i32_429
  v1199
def k0_off69 (v5 : BitVec 32) (k0_t2 : Fin (k0_t2_loop v5).trips) : Fin 4 → Nat :=
  let c0_430 : Index := 0#32
  let c7_431 : Index := 7#32
  let c0_432 : Index := 0#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1201 : Index := Scalar.indexCast v289
  ![0, 7, 0, v1201.toNat]
def k0_off70 (v5 : BitVec 32) (k0_t2 : Fin (k0_t2_loop v5).trips) : Fin 3 → Nat :=
  let c0_453 : Index := 0#32
  let c7_454 : Index := 7#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1261 : Index := Scalar.indexCast v289
  ![0, 7, v1261.toNat]
def k0_off71 (v5 : BitVec 32) (k0_t2 : Fin (k0_t2_loop v5).trips) : Fin 3 → Nat :=
  let c0_461 : Index := 0#32
  let c35 : Index := 35#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1282 : Index := Scalar.indexCast v289
  ![0, 35, v1282.toNat]
def k0_off72 (v5 : BitVec 32) (k0_t2 : Fin (k0_t2_loop v5).trips) : Fin 2 → Nat :=
  let c56 : Index := 56#32
  let c0_i32_16 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v41 : BitVec 32 := Scalar.subi v24 c0_i32_16
  let c1_i32_18 : BitVec 32 := 1#32
  let v43 : BitVec 32 := Scalar.divsi v41 c1_i32_18
  let v44 : BitVec 32 := Scalar.muli v43 c1_i32_18
  let v45 : BitVec 32 := Scalar.addi c0_i32_16 v44
  let c1_i32_20 : BitVec 32 := 1#32
  let arg26 : BitVec 32 := Scf.iv v45 c1_i32_20 k0_t2
  let c512_i32_131 : BitVec 32 := 512#32
  let v288 : BitVec 32 := Scalar.muli arg26 c512_i32_131
  let v289 : BitVec 32 := v288
  let v1288 : Index := Scalar.indexCast v289
  ![56, v1288.toNat]
@[reducible] def k0_t3_loop (v5 : BitVec 32) : Scf.Loop 32 :=
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c16_i32 : BitVec 32 := 16#32
  let v48 : BitVec 32 := Scalar.subi c16_i32 v24
  let c1_i32_22 : BitVec 32 := 1#32
  let v50 : BitVec 32 := Scalar.divsi v48 c1_i32_22
  let v51 : BitVec 32 := Scalar.muli v50 c1_i32_22
  let v52 : BitVec 32 := Scalar.addi v24 v51
  let c1_i32_23 : BitVec 32 := 1#32
  ⟨v24, v52, c1_i32_23⟩
def k0_mult20 (v5 : BitVec 32) (k0_t3 : Fin (k0_t3_loop v5).trips) : BitVec 32 :=
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c1_i32_23 : BitVec 32 := 1#32
  let arg26 : BitVec 32 := Scf.iv v24 c1_i32_23 k0_t3
  let c512_i32_131 : BitVec 32 := 512#32
  let v288 : BitVec 32 := Scalar.muli arg26 c512_i32_131
  v288
def k0_off73 (v5 : BitVec 32) (k0_t3 : Fin (k0_t3_loop v5).trips) : Fin 3 → Nat :=
  let c0_133 : Index := 0#32
  let c0_134 : Index := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c1_i32_23 : BitVec 32 := 1#32
  let arg26 : BitVec 32 := Scf.iv v24 c1_i32_23 k0_t3
  let c512_i32_131 : BitVec 32 := 512#32
  let v288 : BitVec 32 := Scalar.muli arg26 c512_i32_131
  let v289 : BitVec 32 := v288
  let v291 : Index := Scalar.indexCast v289
  ![0, 0, v291.toNat]
@[reducible] def k0_t4_loop (v5 : BitVec 32) : Scf.Loop 32 :=
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c16_i32 : BitVec 32 := 16#32
  let v48 : BitVec 32 := Scalar.subi c16_i32 v24
  let c1_i32_22 : BitVec 32 := 1#32
  let v50 : BitVec 32 := Scalar.divsi v48 c1_i32_22
  let v51 : BitVec 32 := Scalar.muli v50 c1_i32_22
  let v52 : BitVec 32 := Scalar.addi v24 v51
  let v49 : BitVec 32 := Scalar.addi v24 v48
  let c1_i32_24 : BitVec 32 := 1#32
  ⟨v52, v49, c1_i32_24⟩
def k0_mult21 (v5 : BitVec 32) (k0_t4 : Fin (k0_t4_loop v5).trips) : BitVec 32 :=
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c16_i32 : BitVec 32 := 16#32
  let v48 : BitVec 32 := Scalar.subi c16_i32 v24
  let c1_i32_22 : BitVec 32 := 1#32
  let v50 : BitVec 32 := Scalar.divsi v48 c1_i32_22
  let v51 : BitVec 32 := Scalar.muli v50 c1_i32_22
  let v52 : BitVec 32 := Scalar.addi v24 v51
  let c1_i32_24 : BitVec 32 := 1#32
  let arg26 : BitVec 32 := Scf.iv v52 c1_i32_24 k0_t4
  let c512_i32_131 : BitVec 32 := 512#32
  let v288 : BitVec 32 := Scalar.muli arg26 c512_i32_131
  v288
def k0_off74 (v5 : BitVec 32) (k0_t4 : Fin (k0_t4_loop v5).trips) : Fin 3 → Nat :=
  let c0_133 : Index := 0#32
  let c0_134 : Index := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let c16_i32 : BitVec 32 := 16#32
  let v48 : BitVec 32 := Scalar.subi c16_i32 v24
  let c1_i32_22 : BitVec 32 := 1#32
  let v50 : BitVec 32 := Scalar.divsi v48 c1_i32_22
  let v51 : BitVec 32 := Scalar.muli v50 c1_i32_22
  let v52 : BitVec 32 := Scalar.addi v24 v51
  let c1_i32_24 : BitVec 32 := 1#32
  let arg26 : BitVec 32 := Scf.iv v52 c1_i32_24 k0_t4
  let c512_i32_131 : BitVec 32 := 512#32
  let v288 : BitVec 32 := Scalar.muli arg26 c512_i32_131
  let v289 : BitVec 32 := v288
  let v291 : Index := Scalar.indexCast v289
  ![0, 0, v291.toNat]
@[reducible] def k0_t5_loop (v5 : BitVec 32) : Scf.Loop 32 :=
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_43 : BitVec 32 := 1#32
  ⟨c0_i32_40, v85, c1_i32_43⟩
def k0_mult22 (v5 : BitVec 32) (k0_t5 : Fin (k0_t5_loop v5).trips) : BitVec 32 :=
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  v288
def k0_off75 (v5 : BitVec 32) (k0_t5 : Fin (k0_t5_loop v5).trips) : Fin 2 → Nat :=
  let c0_136 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v294 : Index := Scalar.indexCast v289
  ![0, v294.toNat]
def k0_off76 (v5 : BitVec 32) (k0_t5 : Fin (k0_t5_loop v5).trips) : Fin 4 → Nat :=
  let c0_137 : Index := 0#32
  let c0_138 : Index := 0#32
  let c0_139 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v300 : Index := Scalar.indexCast v289
  ![0, 0, 0, v300.toNat]
def k0_off77 (v5 : BitVec 32) (k0_t5 : Fin (k0_t5_loop v5).trips) : Fin 4 → Nat :=
  let c0_140 : Index := 0#32
  let c0_141 : Index := 0#32
  let c0_142 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v303 : Index := Scalar.indexCast v289
  ![0, 0, 0, v303.toNat]
def k0_off78 (v5 : BitVec 32) (k0_t5 : Fin (k0_t5_loop v5).trips) : Fin 4 → Nat :=
  let c0_167 : Index := 0#32
  let c1_168 : Index := 1#32
  let c0_169 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v389 : Index := Scalar.indexCast v289
  ![0, 1, 0, v389.toNat]
def k0_off79 (v5 : BitVec 32) (k0_t5 : Fin (k0_t5_loop v5).trips) : Fin 4 → Nat :=
  let c0_170 : Index := 0#32
  let c1_171 : Index := 1#32
  let c0_172 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v392 : Index := Scalar.indexCast v289
  ![0, 1, 0, v392.toNat]
def k0_off80 (v5 : BitVec 32) (k0_t5 : Fin (k0_t5_loop v5).trips) : Fin 2 → Nat :=
  let c16_202 : Index := 16#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v482 : Index := Scalar.indexCast v289
  ![16, v482.toNat]
def k0_off81 (v5 : BitVec 32) (k0_t5 : Fin (k0_t5_loop v5).trips) : Fin 4 → Nat :=
  let c0_203 : Index := 0#32
  let c2_204 : Index := 2#32
  let c0_205 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v488 : Index := Scalar.indexCast v289
  ![0, 2, 0, v488.toNat]
def k0_off82 (v5 : BitVec 32) (k0_t5 : Fin (k0_t5_loop v5).trips) : Fin 4 → Nat :=
  let c0_206 : Index := 0#32
  let c2_207 : Index := 2#32
  let c0_208 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v491 : Index := Scalar.indexCast v289
  ![0, 2, 0, v491.toNat]
def k0_off83 (v5 : BitVec 32) (k0_t5 : Fin (k0_t5_loop v5).trips) : Fin 4 → Nat :=
  let c0_235 : Index := 0#32
  let c3_236 : Index := 3#32
  let c0_237 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v577 : Index := Scalar.indexCast v289
  ![0, 3, 0, v577.toNat]
def k0_off84 (v5 : BitVec 32) (k0_t5 : Fin (k0_t5_loop v5).trips) : Fin 4 → Nat :=
  let c0_238 : Index := 0#32
  let c3_239 : Index := 3#32
  let c0_240 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v580 : Index := Scalar.indexCast v289
  ![0, 3, 0, v580.toNat]
def k0_off85 (v5 : BitVec 32) (k0_t5 : Fin (k0_t5_loop v5).trips) : Fin 2 → Nat :=
  let c32_270 : Index := 32#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v670 : Index := Scalar.indexCast v289
  ![32, v670.toNat]
def k0_off86 (v5 : BitVec 32) (k0_t5 : Fin (k0_t5_loop v5).trips) : Fin 4 → Nat :=
  let c0_271 : Index := 0#32
  let c4_272 : Index := 4#32
  let c0_273 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v676 : Index := Scalar.indexCast v289
  ![0, 4, 0, v676.toNat]
def k0_off87 (v5 : BitVec 32) (k0_t5 : Fin (k0_t5_loop v5).trips) : Fin 4 → Nat :=
  let c0_274 : Index := 0#32
  let c4_275 : Index := 4#32
  let c0_276 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v679 : Index := Scalar.indexCast v289
  ![0, 4, 0, v679.toNat]
def k0_off88 (v5 : BitVec 32) (k0_t5 : Fin (k0_t5_loop v5).trips) : Fin 4 → Nat :=
  let c0_303 : Index := 0#32
  let c5_304 : Index := 5#32
  let c0_305 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v765 : Index := Scalar.indexCast v289
  ![0, 5, 0, v765.toNat]
def k0_off89 (v5 : BitVec 32) (k0_t5 : Fin (k0_t5_loop v5).trips) : Fin 4 → Nat :=
  let c0_306 : Index := 0#32
  let c5_307 : Index := 5#32
  let c0_308 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v768 : Index := Scalar.indexCast v289
  ![0, 5, 0, v768.toNat]
def k0_off90 (v5 : BitVec 32) (k0_t5 : Fin (k0_t5_loop v5).trips) : Fin 2 → Nat :=
  let c48_338 : Index := 48#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v858 : Index := Scalar.indexCast v289
  ![48, v858.toNat]
def k0_off91 (v5 : BitVec 32) (k0_t5 : Fin (k0_t5_loop v5).trips) : Fin 4 → Nat :=
  let c0_339 : Index := 0#32
  let c6_340 : Index := 6#32
  let c0_341 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v864 : Index := Scalar.indexCast v289
  ![0, 6, 0, v864.toNat]
def k0_off92 (v5 : BitVec 32) (k0_t5 : Fin (k0_t5_loop v5).trips) : Fin 4 → Nat :=
  let c0_342 : Index := 0#32
  let c6_343 : Index := 6#32
  let c0_344 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v867 : Index := Scalar.indexCast v289
  ![0, 6, 0, v867.toNat]
def k0_off93 (v5 : BitVec 32) (k0_t5 : Fin (k0_t5_loop v5).trips) : Fin 4 → Nat :=
  let c0_371 : Index := 0#32
  let c7_372 : Index := 7#32
  let c0_373 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v953 : Index := Scalar.indexCast v289
  ![0, 7, 0, v953.toNat]
def k0_off94 (v5 : BitVec 32) (k0_t5 : Fin (k0_t5_loop v5).trips) : Fin 4 → Nat :=
  let c0_374 : Index := 0#32
  let c7_375 : Index := 7#32
  let c0_376 : Index := 0#32
  let c0_i32_40 : BitVec 32 := 0#32
  let c1_i32_43 : BitVec 32 := 1#32
  let arg26 : BitVec 32 := Scf.iv c0_i32_40 c1_i32_43 k0_t5
  let c512_i32_131 : BitVec 32 := 512#32
  let v288 : BitVec 32 := Scalar.muli arg26 c512_i32_131
  let v289 : BitVec 32 := v288
  let v956 : Index := Scalar.indexCast v289
  ![0, 7, 0, v956.toNat]
@[reducible] def k0_t6_loop (v5 : BitVec 32) : Scf.Loop 32 :=
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let v82 : BitVec 32 := Scalar.addi c0_i32_40 v81
  let c1_i32_44 : BitVec 32 := 1#32
  ⟨v85, v82, c1_i32_44⟩
def k0_mult23 (v5 : BitVec 32) (k0_t6 : Fin (k0_t6_loop v5).trips) : BitVec 32 :=
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  v288
def k0_off95 (v5 : BitVec 32) (k0_t6 : Fin (k0_t6_loop v5).trips) : Fin 2 → Nat :=
  let c0_136 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v294 : Index := Scalar.indexCast v289
  ![0, v294.toNat]
def k0_off96 (v5 : BitVec 32) (k0_t6 : Fin (k0_t6_loop v5).trips) : Fin 4 → Nat :=
  let c0_137 : Index := 0#32
  let c0_138 : Index := 0#32
  let c0_139 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v300 : Index := Scalar.indexCast v289
  ![0, 0, 0, v300.toNat]
def k0_off97 (v5 : BitVec 32) (k0_t6 : Fin (k0_t6_loop v5).trips) : Fin 4 → Nat :=
  let c0_140 : Index := 0#32
  let c0_141 : Index := 0#32
  let c0_142 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v303 : Index := Scalar.indexCast v289
  ![0, 0, 0, v303.toNat]
def k0_off98 (v5 : BitVec 32) (k0_t6 : Fin (k0_t6_loop v5).trips) : Fin 4 → Nat :=
  let c0_167 : Index := 0#32
  let c1_168 : Index := 1#32
  let c0_169 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v389 : Index := Scalar.indexCast v289
  ![0, 1, 0, v389.toNat]
def k0_off99 (v5 : BitVec 32) (k0_t6 : Fin (k0_t6_loop v5).trips) : Fin 4 → Nat :=
  let c0_170 : Index := 0#32
  let c1_171 : Index := 1#32
  let c0_172 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v392 : Index := Scalar.indexCast v289
  ![0, 1, 0, v392.toNat]
def k0_off100 (v5 : BitVec 32) (k0_t6 : Fin (k0_t6_loop v5).trips) : Fin 2 → Nat :=
  let c16_202 : Index := 16#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v482 : Index := Scalar.indexCast v289
  ![16, v482.toNat]
def k0_off101 (v5 : BitVec 32) (k0_t6 : Fin (k0_t6_loop v5).trips) : Fin 4 → Nat :=
  let c0_203 : Index := 0#32
  let c2_204 : Index := 2#32
  let c0_205 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v488 : Index := Scalar.indexCast v289
  ![0, 2, 0, v488.toNat]
def k0_off102 (v5 : BitVec 32) (k0_t6 : Fin (k0_t6_loop v5).trips) : Fin 4 → Nat :=
  let c0_206 : Index := 0#32
  let c2_207 : Index := 2#32
  let c0_208 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v491 : Index := Scalar.indexCast v289
  ![0, 2, 0, v491.toNat]
def k0_off103 (v5 : BitVec 32) (k0_t6 : Fin (k0_t6_loop v5).trips) : Fin 4 → Nat :=
  let c0_235 : Index := 0#32
  let c3_236 : Index := 3#32
  let c0_237 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v577 : Index := Scalar.indexCast v289
  ![0, 3, 0, v577.toNat]
def k0_off104 (v5 : BitVec 32) (k0_t6 : Fin (k0_t6_loop v5).trips) : Fin 4 → Nat :=
  let c0_238 : Index := 0#32
  let c3_239 : Index := 3#32
  let c0_240 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v580 : Index := Scalar.indexCast v289
  ![0, 3, 0, v580.toNat]
def k0_off105 (v5 : BitVec 32) (k0_t6 : Fin (k0_t6_loop v5).trips) : Fin 2 → Nat :=
  let c32_270 : Index := 32#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v670 : Index := Scalar.indexCast v289
  ![32, v670.toNat]
def k0_off106 (v5 : BitVec 32) (k0_t6 : Fin (k0_t6_loop v5).trips) : Fin 4 → Nat :=
  let c0_271 : Index := 0#32
  let c4_272 : Index := 4#32
  let c0_273 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v676 : Index := Scalar.indexCast v289
  ![0, 4, 0, v676.toNat]
def k0_off107 (v5 : BitVec 32) (k0_t6 : Fin (k0_t6_loop v5).trips) : Fin 4 → Nat :=
  let c0_274 : Index := 0#32
  let c4_275 : Index := 4#32
  let c0_276 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v679 : Index := Scalar.indexCast v289
  ![0, 4, 0, v679.toNat]
def k0_off108 (v5 : BitVec 32) (k0_t6 : Fin (k0_t6_loop v5).trips) : Fin 4 → Nat :=
  let c0_303 : Index := 0#32
  let c5_304 : Index := 5#32
  let c0_305 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v765 : Index := Scalar.indexCast v289
  ![0, 5, 0, v765.toNat]
def k0_off109 (v5 : BitVec 32) (k0_t6 : Fin (k0_t6_loop v5).trips) : Fin 4 → Nat :=
  let c0_306 : Index := 0#32
  let c5_307 : Index := 5#32
  let c0_308 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v768 : Index := Scalar.indexCast v289
  ![0, 5, 0, v768.toNat]
def k0_off110 (v5 : BitVec 32) (k0_t6 : Fin (k0_t6_loop v5).trips) : Fin 2 → Nat :=
  let c48_338 : Index := 48#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v858 : Index := Scalar.indexCast v289
  ![48, v858.toNat]
def k0_off111 (v5 : BitVec 32) (k0_t6 : Fin (k0_t6_loop v5).trips) : Fin 4 → Nat :=
  let c0_339 : Index := 0#32
  let c6_340 : Index := 6#32
  let c0_341 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v864 : Index := Scalar.indexCast v289
  ![0, 6, 0, v864.toNat]
def k0_off112 (v5 : BitVec 32) (k0_t6 : Fin (k0_t6_loop v5).trips) : Fin 4 → Nat :=
  let c0_342 : Index := 0#32
  let c6_343 : Index := 6#32
  let c0_344 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v867 : Index := Scalar.indexCast v289
  ![0, 6, 0, v867.toNat]
def k0_off113 (v5 : BitVec 32) (k0_t6 : Fin (k0_t6_loop v5).trips) : Fin 4 → Nat :=
  let c0_371 : Index := 0#32
  let c7_372 : Index := 7#32
  let c0_373 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v953 : Index := Scalar.indexCast v289
  ![0, 7, 0, v953.toNat]
def k0_off114 (v5 : BitVec 32) (k0_t6 : Fin (k0_t6_loop v5).trips) : Fin 4 → Nat :=
  let c0_374 : Index := 0#32
  let c7_375 : Index := 7#32
  let c0_376 : Index := 0#32
  let c0_i32_40 : BitVec 32 := 0#32
  let c512_i32 : BitVec 32 := 512#32
  let v6 : BitVec 32 := Scalar.addi v5 c512_i32
  let c1_i32 : BitVec 32 := 1#32
  let v7 : BitVec 32 := Scalar.subi v6 c1_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c512_i32_2 : BitVec 32 := 512#32
  let c0_i32_5 : BitVec 32 := 0#32
  let v14 : BitVec 1 := Scalar.cmpi .sgt c512_i32_2 c0_i32_5
  let v15 : BitVec 32 := Scalar.extui v14
  let c0_i32_6 : BitVec 32 := 0#32
  let v16 : BitVec 1 := Scalar.cmpi .slt c512_i32_2 c0_i32_6
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_7 : BitVec 32 := 0#32
  let v21 : BitVec 1 := Scalar.cmpi .ne v20 c0_i32_7
  let v22 : BitVec 1 := Scalar.andi v19 v21
  let v8 : BitVec 32 := Scalar.divsi v7 c512_i32_2
  let c1_i32_8 : BitVec 32 := 1#32
  let v23 : BitVec 32 := Scalar.subi v8 c1_i32_8
  let v24 : BitVec 32 := Scalar.select v22 v23 v8
  let v81 : BitVec 32 := Scalar.subi v24 c0_i32_40
  let c1_i32_42 : BitVec 32 := 1#32
  let v83 : BitVec 32 := Scalar.divsi v81 c1_i32_42
  let v84 : BitVec 32 := Scalar.muli v83 c1_i32_42
  let v85 : BitVec 32 := Scalar.addi c0_i32_40 v84
  let c1_i32_44 : BitVec 32 := 1#32
  let arg26 : BitVec 32 := Scf.iv v85 c1_i32_44 k0_t6
  let c512_i32_131 : BitVec 32 := 512#32
  let v288 : BitVec 32 := Scalar.muli arg26 c512_i32_131
  let v289 : BitVec 32 := v288
  let v956 : Index := Scalar.indexCast v289
  ![0, 7, 0, v956.toNat]

def k0_chk1_0 (v5 : BitVec 32) : Prop :=
  ((k0_t1_loop v5).OK) ∧
  (∀ k0_t1 : Fin (k0_t1_loop v5).trips, 512 ∣ (k0_mult2 v5 k0_t1).toNat) ∧
  (∀ k0_t1 : Fin (k0_t1_loop v5).trips, ∀ a, (k0_off3 v5 k0_t1) a + S1x1x32x512.size a ≤ S1x8x32x8192.size a) ∧
  (∀ k0_t1 : Fin (k0_t1_loop v5).trips, ∀ a, (k0_off5 v5 k0_t1) a + S1x1x512.size a ≤ S1x8x8192.size a) ∧
  (∀ k0_t1 : Fin (k0_t1_loop v5).trips, ∀ a, (k0_off8 v5 k0_t1) a + S1x5x512.size a ≤ S1x40x8192.size a) ∧
  (∀ k0_t1 : Fin (k0_t1_loop v5).trips, ∀ a, (k0_off9 v5 k0_t1) a + S8x512.size a ≤ S64x8192.size a) ∧
  (∀ k0_t1 : Fin (k0_t1_loop v5).trips, ∀ a, (k0_off10 v5 k0_t1) a + S1x1x32x512.size a ≤ S1x8x32x8192.size a) ∧
  (∀ k0_t1 : Fin (k0_t1_loop v5).trips, ∀ a, (k0_off11 v5 k0_t1) a + S1x1x512.size a ≤ S1x8x8192.size a) ∧
  (∀ k0_t1 : Fin (k0_t1_loop v5).trips, ∀ a, (k0_off12 v5 k0_t1) a + S1x5x512.size a ≤ S1x40x8192.size a) ∧
  (∀ k0_t1 : Fin (k0_t1_loop v5).trips, ∀ a, (k0_off13 v5 k0_t1) a + S8x512.size a ≤ S64x8192.size a) ∧
  (∀ k0_t1 : Fin (k0_t1_loop v5).trips, ∀ a, (k0_off14 v5 k0_t1) a + S1x1x32x512.size a ≤ S1x8x32x8192.size a) ∧
  (∀ k0_t1 : Fin (k0_t1_loop v5).trips, ∀ a, (k0_off15 v5 k0_t1) a + S1x1x512.size a ≤ S1x8x8192.size a) ∧
  (∀ k0_t1 : Fin (k0_t1_loop v5).trips, ∀ a, (k0_off16 v5 k0_t1) a + S1x5x512.size a ≤ S1x40x8192.size a) ∧
  (∀ k0_t1 : Fin (k0_t1_loop v5).trips, ∀ a, (k0_off17 v5 k0_t1) a + S8x512.size a ≤ S64x8192.size a) ∧
  (∀ k0_t1 : Fin (k0_t1_loop v5).trips, ∀ a, (k0_off18 v5 k0_t1) a + S1x1x32x512.size a ≤ S1x8x32x8192.size a) ∧
  (∀ k0_t1 : Fin (k0_t1_loop v5).trips, ∀ a, (k0_off19 v5 k0_t1) a + S1x1x512.size a ≤ S1x8x8192.size a) ∧
  (∀ k0_t1 : Fin (k0_t1_loop v5).trips, ∀ a, (k0_off20 v5 k0_t1) a + S1x5x512.size a ≤ S1x40x8192.size a) ∧
  (∀ k0_t1 : Fin (k0_t1_loop v5).trips, ∀ a, (k0_off21 v5 k0_t1) a + S8x512.size a ≤ S64x8192.size a) ∧
  (∀ k0_t1 : Fin (k0_t1_loop v5).trips, ∀ a, (k0_off22 v5 k0_t1) a + S1x1x32x512.size a ≤ S1x8x32x8192.size a) ∧
  (∀ k0_t1 : Fin (k0_t1_loop v5).trips, ∀ a, (k0_off23 v5 k0_t1) a + S1x1x512.size a ≤ S1x8x8192.size a) ∧
  (∀ k0_t1 : Fin (k0_t1_loop v5).trips, ∀ a, (k0_off24 v5 k0_t1) a + S1x5x512.size a ≤ S1x40x8192.size a) ∧
  (∀ k0_t1 : Fin (k0_t1_loop v5).trips, ∀ a, (k0_off25 v5 k0_t1) a + S8x512.size a ≤ S64x8192.size a) ∧
  (∀ k0_t1 : Fin (k0_t1_loop v5).trips, ∀ a, (k0_off26 v5 k0_t1) a + S1x1x32x512.size a ≤ S1x8x32x8192.size a) ∧
  (∀ k0_t1 : Fin (k0_t1_loop v5).trips, ∀ a, (k0_off27 v5 k0_t1) a + S1x1x512.size a ≤ S1x8x8192.size a) ∧
  (∀ k0_t1 : Fin (k0_t1_loop v5).trips, ∀ a, (k0_off28 v5 k0_t1) a + S1x5x512.size a ≤ S1x40x8192.size a) ∧
  (∀ k0_t1 : Fin (k0_t1_loop v5).trips, ∀ a, (k0_off29 v5 k0_t1) a + S8x512.size a ≤ S64x8192.size a) ∧
  (∀ k0_t1 : Fin (k0_t1_loop v5).trips, ∀ a, (k0_off30 v5 k0_t1) a + S1x1x32x512.size a ≤ S1x8x32x8192.size a) ∧
  (∀ k0_t1 : Fin (k0_t1_loop v5).trips, ∀ a, (k0_off31 v5 k0_t1) a + S1x1x512.size a ≤ S1x8x8192.size a) ∧
  (∀ k0_t1 : Fin (k0_t1_loop v5).trips, ∀ a, (k0_off32 v5 k0_t1) a + S1x5x512.size a ≤ S1x40x8192.size a) ∧
  (∀ k0_t1 : Fin (k0_t1_loop v5).trips, ∀ a, (k0_off33 v5 k0_t1) a + S8x512.size a ≤ S64x8192.size a) ∧
  (∀ k0_t1 : Fin (k0_t1_loop v5).trips, ∀ a, (k0_off34 v5 k0_t1) a + S1x1x32x512.size a ≤ S1x8x32x8192.size a) ∧
  (∀ k0_t1 : Fin (k0_t1_loop v5).trips, ∀ a, (k0_off35 v5 k0_t1) a + S1x1x512.size a ≤ S1x8x8192.size a)
def k0_chk1_1 (v5 : BitVec 32) : Prop :=
  (∀ k0_t1 : Fin (k0_t1_loop v5).trips, ∀ a, (k0_off36 v5 k0_t1) a + S1x5x512.size a ≤ S1x40x8192.size a) ∧
  (∀ k0_t1 : Fin (k0_t1_loop v5).trips, ∀ a, (k0_off37 v5 k0_t1) a + S8x512.size a ≤ S64x8192.size a) ∧
  ((k0_t2_loop v5).OK) ∧
  (∀ k0_t2 : Fin (k0_t2_loop v5).trips, 512 ∣ (k0_mult11 v5 k0_t2).toNat) ∧
  (∀ k0_t2 : Fin (k0_t2_loop v5).trips, ∀ a, (k0_off38 v5 k0_t2) a + S1x1x32x512.size a ≤ S1x8x32x8192.size a) ∧
  (∀ k0_t2 : Fin (k0_t2_loop v5).trips, ∀ a, (k0_off40 v5 k0_t2) a + S1x1x512.size a ≤ S1x8x8192.size a) ∧
  (∀ k0_t2 : Fin (k0_t2_loop v5).trips, ∀ a, (k0_off43 v5 k0_t2) a + S1x5x512.size a ≤ S1x40x8192.size a) ∧
  (∀ k0_t2 : Fin (k0_t2_loop v5).trips, ∀ a, (k0_off44 v5 k0_t2) a + S8x512.size a ≤ S64x8192.size a) ∧
  (∀ k0_t2 : Fin (k0_t2_loop v5).trips, ∀ a, (k0_off45 v5 k0_t2) a + S1x1x32x512.size a ≤ S1x8x32x8192.size a) ∧
  (∀ k0_t2 : Fin (k0_t2_loop v5).trips, ∀ a, (k0_off46 v5 k0_t2) a + S1x1x512.size a ≤ S1x8x8192.size a) ∧
  (∀ k0_t2 : Fin (k0_t2_loop v5).trips, ∀ a, (k0_off47 v5 k0_t2) a + S1x5x512.size a ≤ S1x40x8192.size a) ∧
  (∀ k0_t2 : Fin (k0_t2_loop v5).trips, ∀ a, (k0_off48 v5 k0_t2) a + S8x512.size a ≤ S64x8192.size a) ∧
  (∀ k0_t2 : Fin (k0_t2_loop v5).trips, ∀ a, (k0_off49 v5 k0_t2) a + S1x1x32x512.size a ≤ S1x8x32x8192.size a) ∧
  (∀ k0_t2 : Fin (k0_t2_loop v5).trips, ∀ a, (k0_off50 v5 k0_t2) a + S1x1x512.size a ≤ S1x8x8192.size a) ∧
  (∀ k0_t2 : Fin (k0_t2_loop v5).trips, ∀ a, (k0_off51 v5 k0_t2) a + S1x5x512.size a ≤ S1x40x8192.size a) ∧
  (∀ k0_t2 : Fin (k0_t2_loop v5).trips, ∀ a, (k0_off52 v5 k0_t2) a + S8x512.size a ≤ S64x8192.size a) ∧
  (∀ k0_t2 : Fin (k0_t2_loop v5).trips, ∀ a, (k0_off53 v5 k0_t2) a + S1x1x32x512.size a ≤ S1x8x32x8192.size a) ∧
  (∀ k0_t2 : Fin (k0_t2_loop v5).trips, ∀ a, (k0_off54 v5 k0_t2) a + S1x1x512.size a ≤ S1x8x8192.size a) ∧
  (∀ k0_t2 : Fin (k0_t2_loop v5).trips, ∀ a, (k0_off55 v5 k0_t2) a + S1x5x512.size a ≤ S1x40x8192.size a) ∧
  (∀ k0_t2 : Fin (k0_t2_loop v5).trips, ∀ a, (k0_off56 v5 k0_t2) a + S8x512.size a ≤ S64x8192.size a) ∧
  (∀ k0_t2 : Fin (k0_t2_loop v5).trips, ∀ a, (k0_off57 v5 k0_t2) a + S1x1x32x512.size a ≤ S1x8x32x8192.size a) ∧
  (∀ k0_t2 : Fin (k0_t2_loop v5).trips, ∀ a, (k0_off58 v5 k0_t2) a + S1x1x512.size a ≤ S1x8x8192.size a) ∧
  (∀ k0_t2 : Fin (k0_t2_loop v5).trips, ∀ a, (k0_off59 v5 k0_t2) a + S1x5x512.size a ≤ S1x40x8192.size a) ∧
  (∀ k0_t2 : Fin (k0_t2_loop v5).trips, ∀ a, (k0_off60 v5 k0_t2) a + S8x512.size a ≤ S64x8192.size a) ∧
  (∀ k0_t2 : Fin (k0_t2_loop v5).trips, ∀ a, (k0_off61 v5 k0_t2) a + S1x1x32x512.size a ≤ S1x8x32x8192.size a) ∧
  (∀ k0_t2 : Fin (k0_t2_loop v5).trips, ∀ a, (k0_off62 v5 k0_t2) a + S1x1x512.size a ≤ S1x8x8192.size a) ∧
  (∀ k0_t2 : Fin (k0_t2_loop v5).trips, ∀ a, (k0_off63 v5 k0_t2) a + S1x5x512.size a ≤ S1x40x8192.size a) ∧
  (∀ k0_t2 : Fin (k0_t2_loop v5).trips, ∀ a, (k0_off64 v5 k0_t2) a + S8x512.size a ≤ S64x8192.size a) ∧
  (∀ k0_t2 : Fin (k0_t2_loop v5).trips, ∀ a, (k0_off65 v5 k0_t2) a + S1x1x32x512.size a ≤ S1x8x32x8192.size a) ∧
  (∀ k0_t2 : Fin (k0_t2_loop v5).trips, ∀ a, (k0_off66 v5 k0_t2) a + S1x1x512.size a ≤ S1x8x8192.size a) ∧
  (∀ k0_t2 : Fin (k0_t2_loop v5).trips, ∀ a, (k0_off67 v5 k0_t2) a + S1x5x512.size a ≤ S1x40x8192.size a) ∧
  (∀ k0_t2 : Fin (k0_t2_loop v5).trips, ∀ a, (k0_off68 v5 k0_t2) a + S8x512.size a ≤ S64x8192.size a)
def k0_chk1_2 (v5 : BitVec 32) : Prop :=
  (∀ k0_t2 : Fin (k0_t2_loop v5).trips, ∀ a, (k0_off69 v5 k0_t2) a + S1x1x32x512.size a ≤ S1x8x32x8192.size a) ∧
  (∀ k0_t2 : Fin (k0_t2_loop v5).trips, ∀ a, (k0_off70 v5 k0_t2) a + S1x1x512.size a ≤ S1x8x8192.size a) ∧
  (∀ k0_t2 : Fin (k0_t2_loop v5).trips, ∀ a, (k0_off71 v5 k0_t2) a + S1x5x512.size a ≤ S1x40x8192.size a) ∧
  (∀ k0_t2 : Fin (k0_t2_loop v5).trips, ∀ a, (k0_off72 v5 k0_t2) a + S8x512.size a ≤ S64x8192.size a) ∧
  ((k0_t3_loop v5).OK) ∧
  (∀ k0_t3 : Fin (k0_t3_loop v5).trips, 512 ∣ (k0_mult20 v5 k0_t3).toNat) ∧
  (∀ k0_t3 : Fin (k0_t3_loop v5).trips, ∀ a, (k0_off73 v5 k0_t3) a + S1x40x512.size a ≤ S1x40x8192.size a) ∧
  ((k0_t4_loop v5).OK) ∧
  (∀ k0_t4 : Fin (k0_t4_loop v5).trips, 512 ∣ (k0_mult21 v5 k0_t4).toNat) ∧
  (∀ k0_t4 : Fin (k0_t4_loop v5).trips, ∀ a, (k0_off74 v5 k0_t4) a + S1x40x512.size a ≤ S1x40x8192.size a) ∧
  ((k0_t5_loop v5).OK) ∧
  (∀ k0_t5 : Fin (k0_t5_loop v5).trips, 512 ∣ (k0_mult22 v5 k0_t5).toNat) ∧
  (∀ k0_t5 : Fin (k0_t5_loop v5).trips, ∀ a, (k0_off75 v5 k0_t5) a + S16x512.size a ≤ S64x8192.size a) ∧
  (∀ k0_t5 : Fin (k0_t5_loop v5).trips, ∀ a, (k0_off76 v5 k0_t5) a + S1x1x64x512.size a ≤ S1x8x64x8192.size a) ∧
  (∀ k0_t5 : Fin (k0_t5_loop v5).trips, ∀ a, (k0_off77 v5 k0_t5) a + S1x1x4x512.size a ≤ S1x8x4x8192.size a) ∧
  (∀ k0_t5 : Fin (k0_t5_loop v5).trips, ∀ a, (k0_off78 v5 k0_t5) a + S1x1x64x512.size a ≤ S1x8x64x8192.size a) ∧
  (∀ k0_t5 : Fin (k0_t5_loop v5).trips, ∀ a, (k0_off79 v5 k0_t5) a + S1x1x4x512.size a ≤ S1x8x4x8192.size a) ∧
  (∀ k0_t5 : Fin (k0_t5_loop v5).trips, ∀ a, (k0_off80 v5 k0_t5) a + S16x512.size a ≤ S64x8192.size a) ∧
  (∀ k0_t5 : Fin (k0_t5_loop v5).trips, ∀ a, (k0_off81 v5 k0_t5) a + S1x1x64x512.size a ≤ S1x8x64x8192.size a) ∧
  (∀ k0_t5 : Fin (k0_t5_loop v5).trips, ∀ a, (k0_off82 v5 k0_t5) a + S1x1x4x512.size a ≤ S1x8x4x8192.size a) ∧
  (∀ k0_t5 : Fin (k0_t5_loop v5).trips, ∀ a, (k0_off83 v5 k0_t5) a + S1x1x64x512.size a ≤ S1x8x64x8192.size a) ∧
  (∀ k0_t5 : Fin (k0_t5_loop v5).trips, ∀ a, (k0_off84 v5 k0_t5) a + S1x1x4x512.size a ≤ S1x8x4x8192.size a) ∧
  (∀ k0_t5 : Fin (k0_t5_loop v5).trips, ∀ a, (k0_off85 v5 k0_t5) a + S16x512.size a ≤ S64x8192.size a) ∧
  (∀ k0_t5 : Fin (k0_t5_loop v5).trips, ∀ a, (k0_off86 v5 k0_t5) a + S1x1x64x512.size a ≤ S1x8x64x8192.size a) ∧
  (∀ k0_t5 : Fin (k0_t5_loop v5).trips, ∀ a, (k0_off87 v5 k0_t5) a + S1x1x4x512.size a ≤ S1x8x4x8192.size a) ∧
  (∀ k0_t5 : Fin (k0_t5_loop v5).trips, ∀ a, (k0_off88 v5 k0_t5) a + S1x1x64x512.size a ≤ S1x8x64x8192.size a) ∧
  (∀ k0_t5 : Fin (k0_t5_loop v5).trips, ∀ a, (k0_off89 v5 k0_t5) a + S1x1x4x512.size a ≤ S1x8x4x8192.size a) ∧
  (∀ k0_t5 : Fin (k0_t5_loop v5).trips, ∀ a, (k0_off90 v5 k0_t5) a + S16x512.size a ≤ S64x8192.size a) ∧
  (∀ k0_t5 : Fin (k0_t5_loop v5).trips, ∀ a, (k0_off91 v5 k0_t5) a + S1x1x64x512.size a ≤ S1x8x64x8192.size a) ∧
  (∀ k0_t5 : Fin (k0_t5_loop v5).trips, ∀ a, (k0_off92 v5 k0_t5) a + S1x1x4x512.size a ≤ S1x8x4x8192.size a) ∧
  (∀ k0_t5 : Fin (k0_t5_loop v5).trips, ∀ a, (k0_off93 v5 k0_t5) a + S1x1x64x512.size a ≤ S1x8x64x8192.size a) ∧
  (∀ k0_t5 : Fin (k0_t5_loop v5).trips, ∀ a, (k0_off94 v5 k0_t5) a + S1x1x4x512.size a ≤ S1x8x4x8192.size a)
def k0_chk1_3 (v5 : BitVec 32) : Prop :=
  ((k0_t6_loop v5).OK) ∧
  (∀ k0_t6 : Fin (k0_t6_loop v5).trips, 512 ∣ (k0_mult23 v5 k0_t6).toNat) ∧
  (∀ k0_t6 : Fin (k0_t6_loop v5).trips, ∀ a, (k0_off95 v5 k0_t6) a + S16x512.size a ≤ S64x8192.size a) ∧
  (∀ k0_t6 : Fin (k0_t6_loop v5).trips, ∀ a, (k0_off96 v5 k0_t6) a + S1x1x64x512.size a ≤ S1x8x64x8192.size a) ∧
  (∀ k0_t6 : Fin (k0_t6_loop v5).trips, ∀ a, (k0_off97 v5 k0_t6) a + S1x1x4x512.size a ≤ S1x8x4x8192.size a) ∧
  (∀ k0_t6 : Fin (k0_t6_loop v5).trips, ∀ a, (k0_off98 v5 k0_t6) a + S1x1x64x512.size a ≤ S1x8x64x8192.size a) ∧
  (∀ k0_t6 : Fin (k0_t6_loop v5).trips, ∀ a, (k0_off99 v5 k0_t6) a + S1x1x4x512.size a ≤ S1x8x4x8192.size a) ∧
  (∀ k0_t6 : Fin (k0_t6_loop v5).trips, ∀ a, (k0_off100 v5 k0_t6) a + S16x512.size a ≤ S64x8192.size a) ∧
  (∀ k0_t6 : Fin (k0_t6_loop v5).trips, ∀ a, (k0_off101 v5 k0_t6) a + S1x1x64x512.size a ≤ S1x8x64x8192.size a) ∧
  (∀ k0_t6 : Fin (k0_t6_loop v5).trips, ∀ a, (k0_off102 v5 k0_t6) a + S1x1x4x512.size a ≤ S1x8x4x8192.size a) ∧
  (∀ k0_t6 : Fin (k0_t6_loop v5).trips, ∀ a, (k0_off103 v5 k0_t6) a + S1x1x64x512.size a ≤ S1x8x64x8192.size a) ∧
  (∀ k0_t6 : Fin (k0_t6_loop v5).trips, ∀ a, (k0_off104 v5 k0_t6) a + S1x1x4x512.size a ≤ S1x8x4x8192.size a) ∧
  (∀ k0_t6 : Fin (k0_t6_loop v5).trips, ∀ a, (k0_off105 v5 k0_t6) a + S16x512.size a ≤ S64x8192.size a) ∧
  (∀ k0_t6 : Fin (k0_t6_loop v5).trips, ∀ a, (k0_off106 v5 k0_t6) a + S1x1x64x512.size a ≤ S1x8x64x8192.size a) ∧
  (∀ k0_t6 : Fin (k0_t6_loop v5).trips, ∀ a, (k0_off107 v5 k0_t6) a + S1x1x4x512.size a ≤ S1x8x4x8192.size a) ∧
  (∀ k0_t6 : Fin (k0_t6_loop v5).trips, ∀ a, (k0_off108 v5 k0_t6) a + S1x1x64x512.size a ≤ S1x8x64x8192.size a) ∧
  (∀ k0_t6 : Fin (k0_t6_loop v5).trips, ∀ a, (k0_off109 v5 k0_t6) a + S1x1x4x512.size a ≤ S1x8x4x8192.size a) ∧
  (∀ k0_t6 : Fin (k0_t6_loop v5).trips, ∀ a, (k0_off110 v5 k0_t6) a + S16x512.size a ≤ S64x8192.size a) ∧
  (∀ k0_t6 : Fin (k0_t6_loop v5).trips, ∀ a, (k0_off111 v5 k0_t6) a + S1x1x64x512.size a ≤ S1x8x64x8192.size a) ∧
  (∀ k0_t6 : Fin (k0_t6_loop v5).trips, ∀ a, (k0_off112 v5 k0_t6) a + S1x1x4x512.size a ≤ S1x8x4x8192.size a) ∧
  (∀ k0_t6 : Fin (k0_t6_loop v5).trips, ∀ a, (k0_off113 v5 k0_t6) a + S1x1x64x512.size a ≤ S1x8x64x8192.size a) ∧
  (∀ k0_t6 : Fin (k0_t6_loop v5).trips, ∀ a, (k0_off114 v5 k0_t6) a + S1x1x4x512.size a ≤ S1x8x4x8192.size a)
def k0_chk1 (v5 : BitVec 32) : Prop :=
  k0_chk1_0 v5 ∧
  k0_chk1_1 v5 ∧
  k0_chk1_2 v5 ∧
  k0_chk1_3 v5
theorem k0_t1_ok : ∀ (v5 : BitVec 32) (k0_hw1 : k0_chk1 v5), (k0_t1_loop v5).OK := fun v5 k0_hw1 => k0_hw1.1.1
theorem k0_mult2_dvd : ∀ (v5 : BitVec 32) (k0_hw1 : k0_chk1 v5) (k0_t1 : Fin (k0_t1_loop v5).trips), 512 ∣ (k0_mult2 v5 k0_t1).toNat := fun v5 k0_hw1 k0_t1 => k0_hw1.1.2.1 k0_t1
theorem k0_off3_inb : ∀ (v5 : BitVec 32) (k0_hw1 : k0_chk1 v5) (k0_t1 : Fin (k0_t1_loop v5).trips), ∀ a, (k0_off3 v5 k0_t1) a + S1x1x32x512.size a ≤ S1x8x32x8192.size a := fun v5 k0_hw1 k0_t1 => k0_hw1.1.2.2.1 k0_t1
theorem k0_off5_inb : ∀ (v5 : BitVec 32) (k0_hw1 : k0_chk1 v5) (k0_t1 : Fin (k0_t1_loop v5).trips), ∀ a, (k0_off5 v5 k0_t1) a + S1x1x512.size a ≤ S1x8x8192.size a := fun v5 k0_hw1 k0_t1 => k0_hw1.1.2.2.2.1 k0_t1
theorem k0_off8_inb : ∀ (v5 : BitVec 32) (k0_hw1 : k0_chk1 v5) (k0_t1 : Fin (k0_t1_loop v5).trips), ∀ a, (k0_off8 v5 k0_t1) a + S1x5x512.size a ≤ S1x40x8192.size a := fun v5 k0_hw1 k0_t1 => k0_hw1.1.2.2.2.2.1 k0_t1
theorem k0_off9_inb : ∀ (v5 : BitVec 32) (k0_hw1 : k0_chk1 v5) (k0_t1 : Fin (k0_t1_loop v5).trips), ∀ a, (k0_off9 v5 k0_t1) a + S8x512.size a ≤ S64x8192.size a := fun v5 k0_hw1 k0_t1 => k0_hw1.1.2.2.2.2.2.1 k0_t1
theorem k0_off10_inb : ∀ (v5 : BitVec 32) (k0_hw1 : k0_chk1 v5) (k0_t1 : Fin (k0_t1_loop v5).trips), ∀ a, (k0_off10 v5 k0_t1) a + S1x1x32x512.size a ≤ S1x8x32x8192.size a := fun v5 k0_hw1 k0_t1 => k0_hw1.1.2.2.2.2.2.2.1 k0_t1
theorem k0_off11_inb : ∀ (v5 : BitVec 32) (k0_hw1 : k0_chk1 v5) (k0_t1 : Fin (k0_t1_loop v5).trips), ∀ a, (k0_off11 v5 k0_t1) a + S1x1x512.size a ≤ S1x8x8192.size a := fun v5 k0_hw1 k0_t1 => k0_hw1.1.2.2.2.2.2.2.2.1 k0_t1
theorem k0_off12_inb : ∀ (v5 : BitVec 32) (k0_hw1 : k0_chk1 v5) (k0_t1 : Fin (k0_t1_loop v5).trips), ∀ a, (k0_off12 v5 k0_t1) a + S1x5x512.size a ≤ S1x40x8192.size a := fun v5 k0_hw1 k0_t1 => k0_hw1.1.2.2.2.2.2.2.2.2.1 k0_t1
theorem k0_off13_inb : ∀ (v5 : BitVec 32) (k0_hw1 : k0_chk1 v5) (k0_t1 : Fin (k0_t1_loop v5).trips), ∀ a, (k0_off13 v5 k0_t1) a + S8x512.size a ≤ S64x8192.size a := fun v5 k0_hw1 k0_t1 => k0_hw1.1.2.2.2.2.2.2.2.2.2.1 k0_t1
theorem k0_off14_inb : ∀ (v5 : BitVec 32) (k0_hw1 : k0_chk1 v5) (k0_t1 : Fin (k0_t1_loop v5).trips), ∀ a, (k0_off14 v5 k0_t1) a + S1x1x32x512.size a ≤ S1x8x32x8192.size a := fun v5 k0_hw1 k0_t1 => k0_hw1.1.2.2.2.2.2.2.2.2.2.2.1 k0_t1
theorem k0_off15_inb : ∀ (v5 : BitVec 32) (k0_hw1 : k0_chk1 v5) (k0_t1 : Fin (k0_t1_loop v5).trips), ∀ a, (k0_off15 v5 k0_t1) a + S1x1x512.size a ≤ S1x8x8192.size a := fun v5 k0_hw1 k0_t1 => k0_hw1.1.2.2.2.2.2.2.2.2.2.2.2.1 k0_t1
theorem k0_off16_inb : ∀ (v5 : BitVec 32) (k0_hw1 : k0_chk1 v5) (k0_t1 : Fin (k0_t1_loop v5).trips), ∀ a, (k0_off16 v5 k0_t1) a + S1x5x512.size a ≤ S1x40x8192.size a := fun v5 k0_hw1 k0_t1 => k0_hw1.1.2.2.2.2.2.2.2.2.2.2.2.2.1 k0_t1
theorem k0_off17_inb : ∀ (v5 : BitVec 32) (k0_hw1 : k0_chk1 v5) (k0_t1 : Fin (k0_t1_loop v5).trips), ∀ a, (k0_off17 v5 k0_t1) a + S8x512.size a ≤ S64x8192.size a := fun v5 k0_hw1 k0_t1 => k0_hw1.1.2.2.2.2.2.2.2.2.2.2.2.2.2.1 k0_t1
theorem k0_off18_inb : ∀ (v5 : BitVec 32) (k0_hw1 : k0_chk1 v5) (k0_t1 : Fin (k0_t1_loop v5).trips), ∀ a, (k0_off18 v5 k0_t1) a + S1x1x32x512.size a ≤ S1x8x32x8192.size a := fun v5 k0_hw1 k0_t1 => k0_hw1.1.2.2.2.2.2.2.2.2.2.2.2.2.2.2.1 k0_t1
theorem k0_off19_inb : ∀ (v5 : BitVec 32) (k0_hw1 : k0_chk1 v5) (k0_t1 : Fin (k0_t1_loop v5).trips), ∀ a, (k0_off19 v5 k0_t1) a + S1x1x512.size a ≤ S1x8x8192.size a := fun v5 k0_hw1 k0_t1 => k0_hw1.1.2.2.2.2.2.2.2.2.2.2.2.2.2.2.2.1 k0_t1
theorem k0_off20_inb : ∀ (v5 : BitVec 32) (k0_hw1 : k0_chk1 v5) (k0_t1 : Fin (k0_t1_loop v5).trips), ∀ a, (k0_off20 v5 k0_t1) a + S1x5x512.size a ≤ S1x40x8192.size a := fun v5 k0_hw1 k0_t1 => k0_hw1.1.2.2.2.2.2.2.2.2.2.2.2.2.2.2.2.2.1 k0_t1
theorem k0_off21_inb : ∀ (v5 : BitVec 32) (k0_hw1 : k0_chk1 v5) (k0_t1 : Fin (k0_t1_loop v5).trips), ∀ a, (k0_off21 v5 k0_t1) a + S8x512.size a ≤ S64x8192.size a := fun v5 k0_hw1 k0_t1 => k0_hw1.1.2.2.2.2.2.2.2.2.2.2.2.2.2.2.2.2.2.1 k0_t1
theorem k0_off22_inb : ∀ (v5 : BitVec 32) (k0_hw1 : k0_chk1 v5) (k0_t1 : Fin (k0_t1_loop v5).trips), ∀ a, (k0_off22 v5 k0_t1) a + S1x1x32x512.size a ≤ S1x8x32x8192.size a := fun v5 k0_hw1 k0_t1 => k0_hw1.1.2.2.2.2.2.2.2.2.2.2.2.2.2.2.2.2.2.2.1 k0_t1
theorem k0_off23_inb : ∀ (v5 : BitVec 32) (k0_hw1 : k0_chk1 v5) (k0_t1 : Fin (k0_t1_loop v5).trips), ∀ a, (k0_off23 v5 k0_t1) a + S1x1x512.size a ≤ S1x8x8192.size a := fun v5 k0_hw1 k0_t1 => k0_hw1.1.2.2.2.2.2.2.2.2.2.2.2.2.2.2.2.2.2.2.2.1 k0_t1
theorem k0_off24_inb : ∀ (v5 : BitVec 32) (k0_hw1 : k0_chk1 v5) (k0_t1 : Fin (k0_t1_loop v5).trips), ∀ a, (k0_off24 v5 k0_t1) a + S1x5x512.size a ≤ S1x40x8192.size a := fun v5 k0_hw1 k0_t1 => k0_hw1.1.2.2.2.2.2.2.2.2.2.2.2.2.2.2.2.2.2.2.2.2.1 k0_t1
theorem k0_off25_inb : ∀ (v5 : BitVec 32) (k0_hw1 : k0_chk1 v5) (k0_t1 : Fin (k0_t1_loop v5).trips), ∀ a, (k0_off25 v5 k0_t1) a + S8x512.size a ≤ S64x8192.size a := fun v5 k0_hw1 k0_t1 => k0_hw1.1.2.2.2.2.2.2.2.2.2.2.2.2.2.2.2.2.2.2.2.2.2.1 k0_t1
theorem k0_off26_inb : ∀ (v5 : BitVec 32) (k0_hw1 : k0_chk1 v5) (k0_t1 : Fin (k0_t1_loop v5).trips), ∀ a, (k0_off26 v5 k0_t1) a + S1x1x32x512.size a ≤ S1x8x32x8192.size a := fun v5 k0_hw1 k0_t1 => k0_hw1.1.2.2.2.2.2.2.2.2.2.2.2.2.2.2.2.2.2.2.2.2.2.2.1 k0_t1
theorem k0_off27_inb : ∀ (v5 : BitVec 32) (k0_hw1 : k0_chk1 v5) (k0_t1 : Fin (k0_t1_loop v5).trips), ∀ a, (k0_off27 v5 k0_t1) a + S1x1x512.size a ≤ S1x8x8192.size a := fun v5 k0_hw1 k0_t1 => k0_hw1.1.2.2.2.2.2.2.2.2.2.2.2.2.2.2.2.2.2.2.2.2.2.2.2.1 k0_t1
theorem k0_off28_inb : ∀ (v5 : BitVec 32) (k0_hw1 : k0_chk1 v5) (k0_t1 : Fin (k0_t1_loop v5).trips), ∀ a, (k0_off28 v5 k0_t1) a + S1x5x512.size a ≤ S1x40x8192.size a := fun v5 k0_hw1 k0_t1 => k0_hw1.1.2.2.2.2.2.2.2.2.2.2.2.2.2.2.2.2.2.2.2.2.2.2.2.2.1 k0_t1
theorem k0_off29_inb : ∀ (v5 : BitVec 32) (k0_hw1 : k0_chk1 v5) (k0_t1 : Fin (k0_t1_loop v5).trips), ∀ a, (k0_off29 v5 k0_t1) a + S8x512.size a ≤ S64x8192.size a := fun v5 k0_hw1 k0_t1 => k0_hw1.1.2.2.2.2.2.2.2.2.2.2.2.2.2.2.2.2.2.2.2.2.2.2.2.2.2.1 k0_t1
theorem k0_off30_inb : ∀ (v5 : BitVec 32) (k0_hw1 : k0_chk1 v5) (k0_t1 : Fin (k0_t1_loop v5).trips), ∀ a, (k0_off30 v5 k0_t1) a + S1x1x32x512.size a ≤ S1x8x32x8192.size a := fun v5 k0_hw1 k0_t1 => k0_hw1.1.2.2.2.2.2.2.2.2.2.2.2.2.2.2.2.2.2.2.2.2.2.2.2.2.2.2.1 k0_t1
theorem k0_off31_inb : ∀ (v5 : BitVec 32) (k0_hw1 : k0_chk1 v5) (k0_t1 : Fin (k0_t1_loop v5).trips), ∀ a, (k0_off31 v5 k0_t1) a + S1x1x512.size a ≤ S1x8x8192.size a := fun v5 k0_hw1 k0_t1 => k0_hw1.1.2.2.2.2.2.2.2.2.2.2.2.2.2.2.2.2.2.2.2.2.2.2.2.2.2.2.2.1 k0_t1
theorem k0_off32_inb : ∀ (v5 : BitVec 32) (k0_hw1 : k0_chk1 v5) (k0_t1 : Fin (k0_t1_loop v5).trips), ∀ a, (k0_off32 v5 k0_t1) a + S1x5x512.size a ≤ S1x40x8192.size a := fun v5 k0_hw1 k0_t1 => k0_hw1.1.2.2.2.2.2.2.2.2.2.2.2.2.2.2.2.2.2.2.2.2.2.2.2.2.2.2.2.2.1 k0_t1
theorem k0_off33_inb : ∀ (v5 : BitVec 32) (k0_hw1 : k0_chk1 v5) (k0_t1 : Fin (k0_t1_loop v5).trips), ∀ a, (k0_off33 v5 k0_t1) a + S8x512.size a ≤ S64x8192.size a := fun v5 k0_hw1 k0_t1 => k0_hw1.1.2.2.2.2.2.2.2.2.2.2.2.2.2.2.2.2.2.2.2.2.2.2.2.2.2.2.2.2.2.1 k0_t1
theorem k0_off34_inb : ∀ (v5 : BitVec 32) (k0_hw1 : k0_chk1 v5) (k0_t1 : Fin (k0_t1_loop v5).trips), ∀ a, (k0_off34 v5 k0_t1) a + S1x1x32x512.size a ≤ S1x8x32x8192.size a := fun v5 k0_hw1 k0_t1 => k0_hw1.1.2.2.2.2.2.2.2.2.2.2.2.2.2.2.2.2.2.2.2.2.2.2.2.2.2.2.2.2.2.2.1 k0_t1
theorem k0_off35_inb : ∀ (v5 : BitVec 32) (k0_hw1 : k0_chk1 v5) (k0_t1 : Fin (k0_t1_loop v5).trips), ∀ a, (k0_off35 v5 k0_t1) a + S1x1x512.size a ≤ S1x8x8192.size a := fun v5 k0_hw1 k0_t1 => k0_hw1.1.2.2.2.2.2.2.2.2.2.2.2.2.2.2.2.2.2.2.2.2.2.2.2.2.2.2.2.2.2.2.2 k0_t1
theorem k0_off36_inb : ∀ (v5 : BitVec 32) (k0_hw1 : k0_chk1 v5) (k0_t1 : Fin (k0_t1_loop v5).trips), ∀ a, (k0_off36 v5 k0_t1) a + S1x5x512.size a ≤ S1x40x8192.size a := fun v5 k0_hw1 k0_t1 => k0_hw1.2.1.1 k0_t1
theorem k0_off37_inb : ∀ (v5 : BitVec 32) (k0_hw1 : k0_chk1 v5) (k0_t1 : Fin (k0_t1_loop v5).trips), ∀ a, (k0_off37 v5 k0_t1) a + S8x512.size a ≤ S64x8192.size a := fun v5 k0_hw1 k0_t1 => k0_hw1.2.1.2.1 k0_t1
theorem k0_t2_ok : ∀ (v5 : BitVec 32) (k0_hw1 : k0_chk1 v5), (k0_t2_loop v5).OK := fun v5 k0_hw1 => k0_hw1.2.1.2.2.1
theorem k0_mult11_dvd : ∀ (v5 : BitVec 32) (k0_hw1 : k0_chk1 v5) (k0_t2 : Fin (k0_t2_loop v5).trips), 512 ∣ (k0_mult11 v5 k0_t2).toNat := fun v5 k0_hw1 k0_t2 => k0_hw1.2.1.2.2.2.1 k0_t2
theorem k0_off38_inb : ∀ (v5 : BitVec 32) (k0_hw1 : k0_chk1 v5) (k0_t2 : Fin (k0_t2_loop v5).trips), ∀ a, (k0_off38 v5 k0_t2) a + S1x1x32x512.size a ≤ S1x8x32x8192.size a := fun v5 k0_hw1 k0_t2 => k0_hw1.2.1.2.2.2.2.1 k0_t2
theorem k0_off40_inb : ∀ (v5 : BitVec 32) (k0_hw1 : k0_chk1 v5) (k0_t2 : Fin (k0_t2_loop v5).trips), ∀ a, (k0_off40 v5 k0_t2) a + S1x1x512.size a ≤ S1x8x8192.size a := fun v5 k0_hw1 k0_t2 => k0_hw1.2.1.2.2.2.2.2.1 k0_t2
theorem k0_off43_inb : ∀ (v5 : BitVec 32) (k0_hw1 : k0_chk1 v5) (k0_t2 : Fin (k0_t2_loop v5).trips), ∀ a, (k0_off43 v5 k0_t2) a + S1x5x512.size a ≤ S1x40x8192.size a := fun v5 k0_hw1 k0_t2 => k0_hw1.2.1.2.2.2.2.2.2.1 k0_t2
theorem k0_off44_inb : ∀ (v5 : BitVec 32) (k0_hw1 : k0_chk1 v5) (k0_t2 : Fin (k0_t2_loop v5).trips), ∀ a, (k0_off44 v5 k0_t2) a + S8x512.size a ≤ S64x8192.size a := fun v5 k0_hw1 k0_t2 => k0_hw1.2.1.2.2.2.2.2.2.2.1 k0_t2
theorem k0_off45_inb : ∀ (v5 : BitVec 32) (k0_hw1 : k0_chk1 v5) (k0_t2 : Fin (k0_t2_loop v5).trips), ∀ a, (k0_off45 v5 k0_t2) a + S1x1x32x512.size a ≤ S1x8x32x8192.size a := fun v5 k0_hw1 k0_t2 => k0_hw1.2.1.2.2.2.2.2.2.2.2.1 k0_t2
theorem k0_off46_inb : ∀ (v5 : BitVec 32) (k0_hw1 : k0_chk1 v5) (k0_t2 : Fin (k0_t2_loop v5).trips), ∀ a, (k0_off46 v5 k0_t2) a + S1x1x512.size a ≤ S1x8x8192.size a := fun v5 k0_hw1 k0_t2 => k0_hw1.2.1.2.2.2.2.2.2.2.2.2.1 k0_t2
theorem k0_off47_inb : ∀ (v5 : BitVec 32) (k0_hw1 : k0_chk1 v5) (k0_t2 : Fin (k0_t2_loop v5).trips), ∀ a, (k0_off47 v5 k0_t2) a + S1x5x512.size a ≤ S1x40x8192.size a := fun v5 k0_hw1 k0_t2 => k0_hw1.2.1.2.2.2.2.2.2.2.2.2.2.1 k0_t2
theorem k0_off48_inb : ∀ (v5 : BitVec 32) (k0_hw1 : k0_chk1 v5) (k0_t2 : Fin (k0_t2_loop v5).trips), ∀ a, (k0_off48 v5 k0_t2) a + S8x512.size a ≤ S64x8192.size a := fun v5 k0_hw1 k0_t2 => k0_hw1.2.1.2.2.2.2.2.2.2.2.2.2.2.1 k0_t2
theorem k0_off49_inb : ∀ (v5 : BitVec 32) (k0_hw1 : k0_chk1 v5) (k0_t2 : Fin (k0_t2_loop v5).trips), ∀ a, (k0_off49 v5 k0_t2) a + S1x1x32x512.size a ≤ S1x8x32x8192.size a := fun v5 k0_hw1 k0_t2 => k0_hw1.2.1.2.2.2.2.2.2.2.2.2.2.2.2.1 k0_t2
theorem k0_off50_inb : ∀ (v5 : BitVec 32) (k0_hw1 : k0_chk1 v5) (k0_t2 : Fin (k0_t2_loop v5).trips), ∀ a, (k0_off50 v5 k0_t2) a + S1x1x512.size a ≤ S1x8x8192.size a := fun v5 k0_hw1 k0_t2 => k0_hw1.2.1.2.2.2.2.2.2.2.2.2.2.2.2.2.1 k0_t2
theorem k0_off51_inb : ∀ (v5 : BitVec 32) (k0_hw1 : k0_chk1 v5) (k0_t2 : Fin (k0_t2_loop v5).trips), ∀ a, (k0_off51 v5 k0_t2) a + S1x5x512.size a ≤ S1x40x8192.size a := fun v5 k0_hw1 k0_t2 => k0_hw1.2.1.2.2.2.2.2.2.2.2.2.2.2.2.2.2.1 k0_t2
theorem k0_off52_inb : ∀ (v5 : BitVec 32) (k0_hw1 : k0_chk1 v5) (k0_t2 : Fin (k0_t2_loop v5).trips), ∀ a, (k0_off52 v5 k0_t2) a + S8x512.size a ≤ S64x8192.size a := fun v5 k0_hw1 k0_t2 => k0_hw1.2.1.2.2.2.2.2.2.2.2.2.2.2.2.2.2.2.1 k0_t2
theorem k0_off53_inb : ∀ (v5 : BitVec 32) (k0_hw1 : k0_chk1 v5) (k0_t2 : Fin (k0_t2_loop v5).trips), ∀ a, (k0_off53 v5 k0_t2) a + S1x1x32x512.size a ≤ S1x8x32x8192.size a := fun v5 k0_hw1 k0_t2 => k0_hw1.2.1.2.2.2.2.2.2.2.2.2.2.2.2.2.2.2.2.1 k0_t2
theorem k0_off54_inb : ∀ (v5 : BitVec 32) (k0_hw1 : k0_chk1 v5) (k0_t2 : Fin (k0_t2_loop v5).trips), ∀ a, (k0_off54 v5 k0_t2) a + S1x1x512.size a ≤ S1x8x8192.size a := fun v5 k0_hw1 k0_t2 => k0_hw1.2.1.2.2.2.2.2.2.2.2.2.2.2.2.2.2.2.2.2.1 k0_t2
theorem k0_off55_inb : ∀ (v5 : BitVec 32) (k0_hw1 : k0_chk1 v5) (k0_t2 : Fin (k0_t2_loop v5).trips), ∀ a, (k0_off55 v5 k0_t2) a + S1x5x512.size a ≤ S1x40x8192.size a := fun v5 k0_hw1 k0_t2 => k0_hw1.2.1.2.2.2.2.2.2.2.2.2.2.2.2.2.2.2.2.2.2.1 k0_t2
theorem k0_off56_inb : ∀ (v5 : BitVec 32) (k0_hw1 : k0_chk1 v5) (k0_t2 : Fin (k0_t2_loop v5).trips), ∀ a, (k0_off56 v5 k0_t2) a + S8x512.size a ≤ S64x8192.size a := fun v5 k0_hw1 k0_t2 => k0_hw1.2.1.2.2.2.2.2.2.2.2.2.2.2.2.2.2.2.2.2.2.2.1 k0_t2
theorem k0_off57_inb : ∀ (v5 : BitVec 32) (k0_hw1 : k0_chk1 v5) (k0_t2 : Fin (k0_t2_loop v5).trips), ∀ a, (k0_off57 v5 k0_t2) a + S1x1x32x512.size a ≤ S1x8x32x8192.size a := fun v5 k0_hw1 k0_t2 => k0_hw1.2.1.2.2.2.2.2.2.2.2.2.2.2.2.2.2.2.2.2.2.2.2.1 k0_t2
theorem k0_off58_inb : ∀ (v5 : BitVec 32) (k0_hw1 : k0_chk1 v5) (k0_t2 : Fin (k0_t2_loop v5).trips), ∀ a, (k0_off58 v5 k0_t2) a + S1x1x512.size a ≤ S1x8x8192.size a := fun v5 k0_hw1 k0_t2 => k0_hw1.2.1.2.2.2.2.2.2.2.2.2.2.2.2.2.2.2.2.2.2.2.2.2.1 k0_t2
theorem k0_off59_inb : ∀ (v5 : BitVec 32) (k0_hw1 : k0_chk1 v5) (k0_t2 : Fin (k0_t2_loop v5).trips), ∀ a, (k0_off59 v5 k0_t2) a + S1x5x512.size a ≤ S1x40x8192.size a := fun v5 k0_hw1 k0_t2 => k0_hw1.2.1.2.2.2.2.2.2.2.2.2.2.2.2.2.2.2.2.2.2.2.2.2.2.1 k0_t2
theorem k0_off60_inb : ∀ (v5 : BitVec 32) (k0_hw1 : k0_chk1 v5) (k0_t2 : Fin (k0_t2_loop v5).trips), ∀ a, (k0_off60 v5 k0_t2) a + S8x512.size a ≤ S64x8192.size a := fun v5 k0_hw1 k0_t2 => k0_hw1.2.1.2.2.2.2.2.2.2.2.2.2.2.2.2.2.2.2.2.2.2.2.2.2.2.1 k0_t2
theorem k0_off61_inb : ∀ (v5 : BitVec 32) (k0_hw1 : k0_chk1 v5) (k0_t2 : Fin (k0_t2_loop v5).trips), ∀ a, (k0_off61 v5 k0_t2) a + S1x1x32x512.size a ≤ S1x8x32x8192.size a := fun v5 k0_hw1 k0_t2 => k0_hw1.2.1.2.2.2.2.2.2.2.2.2.2.2.2.2.2.2.2.2.2.2.2.2.2.2.2.1 k0_t2
theorem k0_off62_inb : ∀ (v5 : BitVec 32) (k0_hw1 : k0_chk1 v5) (k0_t2 : Fin (k0_t2_loop v5).trips), ∀ a, (k0_off62 v5 k0_t2) a + S1x1x512.size a ≤ S1x8x8192.size a := fun v5 k0_hw1 k0_t2 => k0_hw1.2.1.2.2.2.2.2.2.2.2.2.2.2.2.2.2.2.2.2.2.2.2.2.2.2.2.2.1 k0_t2
theorem k0_off63_inb : ∀ (v5 : BitVec 32) (k0_hw1 : k0_chk1 v5) (k0_t2 : Fin (k0_t2_loop v5).trips), ∀ a, (k0_off63 v5 k0_t2) a + S1x5x512.size a ≤ S1x40x8192.size a := fun v5 k0_hw1 k0_t2 => k0_hw1.2.1.2.2.2.2.2.2.2.2.2.2.2.2.2.2.2.2.2.2.2.2.2.2.2.2.2.2.1 k0_t2
theorem k0_off64_inb : ∀ (v5 : BitVec 32) (k0_hw1 : k0_chk1 v5) (k0_t2 : Fin (k0_t2_loop v5).trips), ∀ a, (k0_off64 v5 k0_t2) a + S8x512.size a ≤ S64x8192.size a := fun v5 k0_hw1 k0_t2 => k0_hw1.2.1.2.2.2.2.2.2.2.2.2.2.2.2.2.2.2.2.2.2.2.2.2.2.2.2.2.2.2.1 k0_t2
theorem k0_off65_inb : ∀ (v5 : BitVec 32) (k0_hw1 : k0_chk1 v5) (k0_t2 : Fin (k0_t2_loop v5).trips), ∀ a, (k0_off65 v5 k0_t2) a + S1x1x32x512.size a ≤ S1x8x32x8192.size a := fun v5 k0_hw1 k0_t2 => k0_hw1.2.1.2.2.2.2.2.2.2.2.2.2.2.2.2.2.2.2.2.2.2.2.2.2.2.2.2.2.2.2.1 k0_t2
theorem k0_off66_inb : ∀ (v5 : BitVec 32) (k0_hw1 : k0_chk1 v5) (k0_t2 : Fin (k0_t2_loop v5).trips), ∀ a, (k0_off66 v5 k0_t2) a + S1x1x512.size a ≤ S1x8x8192.size a := fun v5 k0_hw1 k0_t2 => k0_hw1.2.1.2.2.2.2.2.2.2.2.2.2.2.2.2.2.2.2.2.2.2.2.2.2.2.2.2.2.2.2.2.1 k0_t2
theorem k0_off67_inb : ∀ (v5 : BitVec 32) (k0_hw1 : k0_chk1 v5) (k0_t2 : Fin (k0_t2_loop v5).trips), ∀ a, (k0_off67 v5 k0_t2) a + S1x5x512.size a ≤ S1x40x8192.size a := fun v5 k0_hw1 k0_t2 => k0_hw1.2.1.2.2.2.2.2.2.2.2.2.2.2.2.2.2.2.2.2.2.2.2.2.2.2.2.2.2.2.2.2.2.1 k0_t2
theorem k0_off68_inb : ∀ (v5 : BitVec 32) (k0_hw1 : k0_chk1 v5) (k0_t2 : Fin (k0_t2_loop v5).trips), ∀ a, (k0_off68 v5 k0_t2) a + S8x512.size a ≤ S64x8192.size a := fun v5 k0_hw1 k0_t2 => k0_hw1.2.1.2.2.2.2.2.2.2.2.2.2.2.2.2.2.2.2.2.2.2.2.2.2.2.2.2.2.2.2.2.2.2 k0_t2
theorem k0_off69_inb : ∀ (v5 : BitVec 32) (k0_hw1 : k0_chk1 v5) (k0_t2 : Fin (k0_t2_loop v5).trips), ∀ a, (k0_off69 v5 k0_t2) a + S1x1x32x512.size a ≤ S1x8x32x8192.size a := fun v5 k0_hw1 k0_t2 => k0_hw1.2.2.1.1 k0_t2
theorem k0_off70_inb : ∀ (v5 : BitVec 32) (k0_hw1 : k0_chk1 v5) (k0_t2 : Fin (k0_t2_loop v5).trips), ∀ a, (k0_off70 v5 k0_t2) a + S1x1x512.size a ≤ S1x8x8192.size a := fun v5 k0_hw1 k0_t2 => k0_hw1.2.2.1.2.1 k0_t2
theorem k0_off71_inb : ∀ (v5 : BitVec 32) (k0_hw1 : k0_chk1 v5) (k0_t2 : Fin (k0_t2_loop v5).trips), ∀ a, (k0_off71 v5 k0_t2) a + S1x5x512.size a ≤ S1x40x8192.size a := fun v5 k0_hw1 k0_t2 => k0_hw1.2.2.1.2.2.1 k0_t2
theorem k0_off72_inb : ∀ (v5 : BitVec 32) (k0_hw1 : k0_chk1 v5) (k0_t2 : Fin (k0_t2_loop v5).trips), ∀ a, (k0_off72 v5 k0_t2) a + S8x512.size a ≤ S64x8192.size a := fun v5 k0_hw1 k0_t2 => k0_hw1.2.2.1.2.2.2.1 k0_t2
theorem k0_t3_ok : ∀ (v5 : BitVec 32) (k0_hw1 : k0_chk1 v5), (k0_t3_loop v5).OK := fun v5 k0_hw1 => k0_hw1.2.2.1.2.2.2.2.1
theorem k0_mult20_dvd : ∀ (v5 : BitVec 32) (k0_hw1 : k0_chk1 v5) (k0_t3 : Fin (k0_t3_loop v5).trips), 512 ∣ (k0_mult20 v5 k0_t3).toNat := fun v5 k0_hw1 k0_t3 => k0_hw1.2.2.1.2.2.2.2.2.1 k0_t3
theorem k0_off73_inb : ∀ (v5 : BitVec 32) (k0_hw1 : k0_chk1 v5) (k0_t3 : Fin (k0_t3_loop v5).trips), ∀ a, (k0_off73 v5 k0_t3) a + S1x40x512.size a ≤ S1x40x8192.size a := fun v5 k0_hw1 k0_t3 => k0_hw1.2.2.1.2.2.2.2.2.2.1 k0_t3
theorem k0_t4_ok : ∀ (v5 : BitVec 32) (k0_hw1 : k0_chk1 v5), (k0_t4_loop v5).OK := fun v5 k0_hw1 => k0_hw1.2.2.1.2.2.2.2.2.2.2.1
theorem k0_mult21_dvd : ∀ (v5 : BitVec 32) (k0_hw1 : k0_chk1 v5) (k0_t4 : Fin (k0_t4_loop v5).trips), 512 ∣ (k0_mult21 v5 k0_t4).toNat := fun v5 k0_hw1 k0_t4 => k0_hw1.2.2.1.2.2.2.2.2.2.2.2.1 k0_t4
theorem k0_off74_inb : ∀ (v5 : BitVec 32) (k0_hw1 : k0_chk1 v5) (k0_t4 : Fin (k0_t4_loop v5).trips), ∀ a, (k0_off74 v5 k0_t4) a + S1x40x512.size a ≤ S1x40x8192.size a := fun v5 k0_hw1 k0_t4 => k0_hw1.2.2.1.2.2.2.2.2.2.2.2.2.1 k0_t4
theorem k0_t5_ok : ∀ (v5 : BitVec 32) (k0_hw1 : k0_chk1 v5), (k0_t5_loop v5).OK := fun v5 k0_hw1 => k0_hw1.2.2.1.2.2.2.2.2.2.2.2.2.2.1
theorem k0_mult22_dvd : ∀ (v5 : BitVec 32) (k0_hw1 : k0_chk1 v5) (k0_t5 : Fin (k0_t5_loop v5).trips), 512 ∣ (k0_mult22 v5 k0_t5).toNat := fun v5 k0_hw1 k0_t5 => k0_hw1.2.2.1.2.2.2.2.2.2.2.2.2.2.2.1 k0_t5
theorem k0_off75_inb : ∀ (v5 : BitVec 32) (k0_hw1 : k0_chk1 v5) (k0_t5 : Fin (k0_t5_loop v5).trips), ∀ a, (k0_off75 v5 k0_t5) a + S16x512.size a ≤ S64x8192.size a := fun v5 k0_hw1 k0_t5 => k0_hw1.2.2.1.2.2.2.2.2.2.2.2.2.2.2.2.1 k0_t5
theorem k0_off76_inb : ∀ (v5 : BitVec 32) (k0_hw1 : k0_chk1 v5) (k0_t5 : Fin (k0_t5_loop v5).trips), ∀ a, (k0_off76 v5 k0_t5) a + S1x1x64x512.size a ≤ S1x8x64x8192.size a := fun v5 k0_hw1 k0_t5 => k0_hw1.2.2.1.2.2.2.2.2.2.2.2.2.2.2.2.2.1 k0_t5
theorem k0_off77_inb : ∀ (v5 : BitVec 32) (k0_hw1 : k0_chk1 v5) (k0_t5 : Fin (k0_t5_loop v5).trips), ∀ a, (k0_off77 v5 k0_t5) a + S1x1x4x512.size a ≤ S1x8x4x8192.size a := fun v5 k0_hw1 k0_t5 => k0_hw1.2.2.1.2.2.2.2.2.2.2.2.2.2.2.2.2.2.1 k0_t5
theorem k0_off78_inb : ∀ (v5 : BitVec 32) (k0_hw1 : k0_chk1 v5) (k0_t5 : Fin (k0_t5_loop v5).trips), ∀ a, (k0_off78 v5 k0_t5) a + S1x1x64x512.size a ≤ S1x8x64x8192.size a := fun v5 k0_hw1 k0_t5 => k0_hw1.2.2.1.2.2.2.2.2.2.2.2.2.2.2.2.2.2.2.1 k0_t5
theorem k0_off79_inb : ∀ (v5 : BitVec 32) (k0_hw1 : k0_chk1 v5) (k0_t5 : Fin (k0_t5_loop v5).trips), ∀ a, (k0_off79 v5 k0_t5) a + S1x1x4x512.size a ≤ S1x8x4x8192.size a := fun v5 k0_hw1 k0_t5 => k0_hw1.2.2.1.2.2.2.2.2.2.2.2.2.2.2.2.2.2.2.2.1 k0_t5
theorem k0_off80_inb : ∀ (v5 : BitVec 32) (k0_hw1 : k0_chk1 v5) (k0_t5 : Fin (k0_t5_loop v5).trips), ∀ a, (k0_off80 v5 k0_t5) a + S16x512.size a ≤ S64x8192.size a := fun v5 k0_hw1 k0_t5 => k0_hw1.2.2.1.2.2.2.2.2.2.2.2.2.2.2.2.2.2.2.2.2.1 k0_t5
theorem k0_off81_inb : ∀ (v5 : BitVec 32) (k0_hw1 : k0_chk1 v5) (k0_t5 : Fin (k0_t5_loop v5).trips), ∀ a, (k0_off81 v5 k0_t5) a + S1x1x64x512.size a ≤ S1x8x64x8192.size a := fun v5 k0_hw1 k0_t5 => k0_hw1.2.2.1.2.2.2.2.2.2.2.2.2.2.2.2.2.2.2.2.2.2.1 k0_t5
theorem k0_off82_inb : ∀ (v5 : BitVec 32) (k0_hw1 : k0_chk1 v5) (k0_t5 : Fin (k0_t5_loop v5).trips), ∀ a, (k0_off82 v5 k0_t5) a + S1x1x4x512.size a ≤ S1x8x4x8192.size a := fun v5 k0_hw1 k0_t5 => k0_hw1.2.2.1.2.2.2.2.2.2.2.2.2.2.2.2.2.2.2.2.2.2.2.1 k0_t5
theorem k0_off83_inb : ∀ (v5 : BitVec 32) (k0_hw1 : k0_chk1 v5) (k0_t5 : Fin (k0_t5_loop v5).trips), ∀ a, (k0_off83 v5 k0_t5) a + S1x1x64x512.size a ≤ S1x8x64x8192.size a := fun v5 k0_hw1 k0_t5 => k0_hw1.2.2.1.2.2.2.2.2.2.2.2.2.2.2.2.2.2.2.2.2.2.2.2.1 k0_t5
theorem k0_off84_inb : ∀ (v5 : BitVec 32) (k0_hw1 : k0_chk1 v5) (k0_t5 : Fin (k0_t5_loop v5).trips), ∀ a, (k0_off84 v5 k0_t5) a + S1x1x4x512.size a ≤ S1x8x4x8192.size a := fun v5 k0_hw1 k0_t5 => k0_hw1.2.2.1.2.2.2.2.2.2.2.2.2.2.2.2.2.2.2.2.2.2.2.2.2.1 k0_t5
theorem k0_off85_inb : ∀ (v5 : BitVec 32) (k0_hw1 : k0_chk1 v5) (k0_t5 : Fin (k0_t5_loop v5).trips), ∀ a, (k0_off85 v5 k0_t5) a + S16x512.size a ≤ S64x8192.size a := fun v5 k0_hw1 k0_t5 => k0_hw1.2.2.1.2.2.2.2.2.2.2.2.2.2.2.2.2.2.2.2.2.2.2.2.2.2.1 k0_t5
theorem k0_off86_inb : ∀ (v5 : BitVec 32) (k0_hw1 : k0_chk1 v5) (k0_t5 : Fin (k0_t5_loop v5).trips), ∀ a, (k0_off86 v5 k0_t5) a + S1x1x64x512.size a ≤ S1x8x64x8192.size a := fun v5 k0_hw1 k0_t5 => k0_hw1.2.2.1.2.2.2.2.2.2.2.2.2.2.2.2.2.2.2.2.2.2.2.2.2.2.2.1 k0_t5
theorem k0_off87_inb : ∀ (v5 : BitVec 32) (k0_hw1 : k0_chk1 v5) (k0_t5 : Fin (k0_t5_loop v5).trips), ∀ a, (k0_off87 v5 k0_t5) a + S1x1x4x512.size a ≤ S1x8x4x8192.size a := fun v5 k0_hw1 k0_t5 => k0_hw1.2.2.1.2.2.2.2.2.2.2.2.2.2.2.2.2.2.2.2.2.2.2.2.2.2.2.2.1 k0_t5
theorem k0_off88_inb : ∀ (v5 : BitVec 32) (k0_hw1 : k0_chk1 v5) (k0_t5 : Fin (k0_t5_loop v5).trips), ∀ a, (k0_off88 v5 k0_t5) a + S1x1x64x512.size a ≤ S1x8x64x8192.size a := fun v5 k0_hw1 k0_t5 => k0_hw1.2.2.1.2.2.2.2.2.2.2.2.2.2.2.2.2.2.2.2.2.2.2.2.2.2.2.2.2.1 k0_t5
theorem k0_off89_inb : ∀ (v5 : BitVec 32) (k0_hw1 : k0_chk1 v5) (k0_t5 : Fin (k0_t5_loop v5).trips), ∀ a, (k0_off89 v5 k0_t5) a + S1x1x4x512.size a ≤ S1x8x4x8192.size a := fun v5 k0_hw1 k0_t5 => k0_hw1.2.2.1.2.2.2.2.2.2.2.2.2.2.2.2.2.2.2.2.2.2.2.2.2.2.2.2.2.2.1 k0_t5
theorem k0_off90_inb : ∀ (v5 : BitVec 32) (k0_hw1 : k0_chk1 v5) (k0_t5 : Fin (k0_t5_loop v5).trips), ∀ a, (k0_off90 v5 k0_t5) a + S16x512.size a ≤ S64x8192.size a := fun v5 k0_hw1 k0_t5 => k0_hw1.2.2.1.2.2.2.2.2.2.2.2.2.2.2.2.2.2.2.2.2.2.2.2.2.2.2.2.2.2.2.1 k0_t5
theorem k0_off91_inb : ∀ (v5 : BitVec 32) (k0_hw1 : k0_chk1 v5) (k0_t5 : Fin (k0_t5_loop v5).trips), ∀ a, (k0_off91 v5 k0_t5) a + S1x1x64x512.size a ≤ S1x8x64x8192.size a := fun v5 k0_hw1 k0_t5 => k0_hw1.2.2.1.2.2.2.2.2.2.2.2.2.2.2.2.2.2.2.2.2.2.2.2.2.2.2.2.2.2.2.2.1 k0_t5
theorem k0_off92_inb : ∀ (v5 : BitVec 32) (k0_hw1 : k0_chk1 v5) (k0_t5 : Fin (k0_t5_loop v5).trips), ∀ a, (k0_off92 v5 k0_t5) a + S1x1x4x512.size a ≤ S1x8x4x8192.size a := fun v5 k0_hw1 k0_t5 => k0_hw1.2.2.1.2.2.2.2.2.2.2.2.2.2.2.2.2.2.2.2.2.2.2.2.2.2.2.2.2.2.2.2.2.1 k0_t5
theorem k0_off93_inb : ∀ (v5 : BitVec 32) (k0_hw1 : k0_chk1 v5) (k0_t5 : Fin (k0_t5_loop v5).trips), ∀ a, (k0_off93 v5 k0_t5) a + S1x1x64x512.size a ≤ S1x8x64x8192.size a := fun v5 k0_hw1 k0_t5 => k0_hw1.2.2.1.2.2.2.2.2.2.2.2.2.2.2.2.2.2.2.2.2.2.2.2.2.2.2.2.2.2.2.2.2.2.1 k0_t5
theorem k0_off94_inb : ∀ (v5 : BitVec 32) (k0_hw1 : k0_chk1 v5) (k0_t5 : Fin (k0_t5_loop v5).trips), ∀ a, (k0_off94 v5 k0_t5) a + S1x1x4x512.size a ≤ S1x8x4x8192.size a := fun v5 k0_hw1 k0_t5 => k0_hw1.2.2.1.2.2.2.2.2.2.2.2.2.2.2.2.2.2.2.2.2.2.2.2.2.2.2.2.2.2.2.2.2.2.2 k0_t5
theorem k0_t6_ok : ∀ (v5 : BitVec 32) (k0_hw1 : k0_chk1 v5), (k0_t6_loop v5).OK := fun v5 k0_hw1 => k0_hw1.2.2.2.1
theorem k0_mult23_dvd : ∀ (v5 : BitVec 32) (k0_hw1 : k0_chk1 v5) (k0_t6 : Fin (k0_t6_loop v5).trips), 512 ∣ (k0_mult23 v5 k0_t6).toNat := fun v5 k0_hw1 k0_t6 => k0_hw1.2.2.2.2.1 k0_t6
theorem k0_off95_inb : ∀ (v5 : BitVec 32) (k0_hw1 : k0_chk1 v5) (k0_t6 : Fin (k0_t6_loop v5).trips), ∀ a, (k0_off95 v5 k0_t6) a + S16x512.size a ≤ S64x8192.size a := fun v5 k0_hw1 k0_t6 => k0_hw1.2.2.2.2.2.1 k0_t6
theorem k0_off96_inb : ∀ (v5 : BitVec 32) (k0_hw1 : k0_chk1 v5) (k0_t6 : Fin (k0_t6_loop v5).trips), ∀ a, (k0_off96 v5 k0_t6) a + S1x1x64x512.size a ≤ S1x8x64x8192.size a := fun v5 k0_hw1 k0_t6 => k0_hw1.2.2.2.2.2.2.1 k0_t6
theorem k0_off97_inb : ∀ (v5 : BitVec 32) (k0_hw1 : k0_chk1 v5) (k0_t6 : Fin (k0_t6_loop v5).trips), ∀ a, (k0_off97 v5 k0_t6) a + S1x1x4x512.size a ≤ S1x8x4x8192.size a := fun v5 k0_hw1 k0_t6 => k0_hw1.2.2.2.2.2.2.2.1 k0_t6
theorem k0_off98_inb : ∀ (v5 : BitVec 32) (k0_hw1 : k0_chk1 v5) (k0_t6 : Fin (k0_t6_loop v5).trips), ∀ a, (k0_off98 v5 k0_t6) a + S1x1x64x512.size a ≤ S1x8x64x8192.size a := fun v5 k0_hw1 k0_t6 => k0_hw1.2.2.2.2.2.2.2.2.1 k0_t6
theorem k0_off99_inb : ∀ (v5 : BitVec 32) (k0_hw1 : k0_chk1 v5) (k0_t6 : Fin (k0_t6_loop v5).trips), ∀ a, (k0_off99 v5 k0_t6) a + S1x1x4x512.size a ≤ S1x8x4x8192.size a := fun v5 k0_hw1 k0_t6 => k0_hw1.2.2.2.2.2.2.2.2.2.1 k0_t6
theorem k0_off100_inb : ∀ (v5 : BitVec 32) (k0_hw1 : k0_chk1 v5) (k0_t6 : Fin (k0_t6_loop v5).trips), ∀ a, (k0_off100 v5 k0_t6) a + S16x512.size a ≤ S64x8192.size a := fun v5 k0_hw1 k0_t6 => k0_hw1.2.2.2.2.2.2.2.2.2.2.1 k0_t6
theorem k0_off101_inb : ∀ (v5 : BitVec 32) (k0_hw1 : k0_chk1 v5) (k0_t6 : Fin (k0_t6_loop v5).trips), ∀ a, (k0_off101 v5 k0_t6) a + S1x1x64x512.size a ≤ S1x8x64x8192.size a := fun v5 k0_hw1 k0_t6 => k0_hw1.2.2.2.2.2.2.2.2.2.2.2.1 k0_t6
theorem k0_off102_inb : ∀ (v5 : BitVec 32) (k0_hw1 : k0_chk1 v5) (k0_t6 : Fin (k0_t6_loop v5).trips), ∀ a, (k0_off102 v5 k0_t6) a + S1x1x4x512.size a ≤ S1x8x4x8192.size a := fun v5 k0_hw1 k0_t6 => k0_hw1.2.2.2.2.2.2.2.2.2.2.2.2.1 k0_t6
theorem k0_off103_inb : ∀ (v5 : BitVec 32) (k0_hw1 : k0_chk1 v5) (k0_t6 : Fin (k0_t6_loop v5).trips), ∀ a, (k0_off103 v5 k0_t6) a + S1x1x64x512.size a ≤ S1x8x64x8192.size a := fun v5 k0_hw1 k0_t6 => k0_hw1.2.2.2.2.2.2.2.2.2.2.2.2.2.1 k0_t6
theorem k0_off104_inb : ∀ (v5 : BitVec 32) (k0_hw1 : k0_chk1 v5) (k0_t6 : Fin (k0_t6_loop v5).trips), ∀ a, (k0_off104 v5 k0_t6) a + S1x1x4x512.size a ≤ S1x8x4x8192.size a := fun v5 k0_hw1 k0_t6 => k0_hw1.2.2.2.2.2.2.2.2.2.2.2.2.2.2.1 k0_t6
theorem k0_off105_inb : ∀ (v5 : BitVec 32) (k0_hw1 : k0_chk1 v5) (k0_t6 : Fin (k0_t6_loop v5).trips), ∀ a, (k0_off105 v5 k0_t6) a + S16x512.size a ≤ S64x8192.size a := fun v5 k0_hw1 k0_t6 => k0_hw1.2.2.2.2.2.2.2.2.2.2.2.2.2.2.2.1 k0_t6
theorem k0_off106_inb : ∀ (v5 : BitVec 32) (k0_hw1 : k0_chk1 v5) (k0_t6 : Fin (k0_t6_loop v5).trips), ∀ a, (k0_off106 v5 k0_t6) a + S1x1x64x512.size a ≤ S1x8x64x8192.size a := fun v5 k0_hw1 k0_t6 => k0_hw1.2.2.2.2.2.2.2.2.2.2.2.2.2.2.2.2.1 k0_t6
theorem k0_off107_inb : ∀ (v5 : BitVec 32) (k0_hw1 : k0_chk1 v5) (k0_t6 : Fin (k0_t6_loop v5).trips), ∀ a, (k0_off107 v5 k0_t6) a + S1x1x4x512.size a ≤ S1x8x4x8192.size a := fun v5 k0_hw1 k0_t6 => k0_hw1.2.2.2.2.2.2.2.2.2.2.2.2.2.2.2.2.2.1 k0_t6
theorem k0_off108_inb : ∀ (v5 : BitVec 32) (k0_hw1 : k0_chk1 v5) (k0_t6 : Fin (k0_t6_loop v5).trips), ∀ a, (k0_off108 v5 k0_t6) a + S1x1x64x512.size a ≤ S1x8x64x8192.size a := fun v5 k0_hw1 k0_t6 => k0_hw1.2.2.2.2.2.2.2.2.2.2.2.2.2.2.2.2.2.2.1 k0_t6
theorem k0_off109_inb : ∀ (v5 : BitVec 32) (k0_hw1 : k0_chk1 v5) (k0_t6 : Fin (k0_t6_loop v5).trips), ∀ a, (k0_off109 v5 k0_t6) a + S1x1x4x512.size a ≤ S1x8x4x8192.size a := fun v5 k0_hw1 k0_t6 => k0_hw1.2.2.2.2.2.2.2.2.2.2.2.2.2.2.2.2.2.2.2.1 k0_t6
theorem k0_off110_inb : ∀ (v5 : BitVec 32) (k0_hw1 : k0_chk1 v5) (k0_t6 : Fin (k0_t6_loop v5).trips), ∀ a, (k0_off110 v5 k0_t6) a + S16x512.size a ≤ S64x8192.size a := fun v5 k0_hw1 k0_t6 => k0_hw1.2.2.2.2.2.2.2.2.2.2.2.2.2.2.2.2.2.2.2.2.1 k0_t6
theorem k0_off111_inb : ∀ (v5 : BitVec 32) (k0_hw1 : k0_chk1 v5) (k0_t6 : Fin (k0_t6_loop v5).trips), ∀ a, (k0_off111 v5 k0_t6) a + S1x1x64x512.size a ≤ S1x8x64x8192.size a := fun v5 k0_hw1 k0_t6 => k0_hw1.2.2.2.2.2.2.2.2.2.2.2.2.2.2.2.2.2.2.2.2.2.1 k0_t6
theorem k0_off112_inb : ∀ (v5 : BitVec 32) (k0_hw1 : k0_chk1 v5) (k0_t6 : Fin (k0_t6_loop v5).trips), ∀ a, (k0_off112 v5 k0_t6) a + S1x1x4x512.size a ≤ S1x8x4x8192.size a := fun v5 k0_hw1 k0_t6 => k0_hw1.2.2.2.2.2.2.2.2.2.2.2.2.2.2.2.2.2.2.2.2.2.2.1 k0_t6
theorem k0_off113_inb : ∀ (v5 : BitVec 32) (k0_hw1 : k0_chk1 v5) (k0_t6 : Fin (k0_t6_loop v5).trips), ∀ a, (k0_off113 v5 k0_t6) a + S1x1x64x512.size a ≤ S1x8x64x8192.size a := fun v5 k0_hw1 k0_t6 => k0_hw1.2.2.2.2.2.2.2.2.2.2.2.2.2.2.2.2.2.2.2.2.2.2.2.1 k0_t6
theorem k0_off114_inb : ∀ (v5 : BitVec 32) (k0_hw1 : k0_chk1 v5) (k0_t6 : Fin (k0_t6_loop v5).trips), ∀ a, (k0_off114 v5 k0_t6) a + S1x1x4x512.size a ≤ S1x8x4x8192.size a := fun v5 k0_hw1 k0_t6 => k0_hw1.2.2.2.2.2.2.2.2.2.2.2.2.2.2.2.2.2.2.2.2.2.2.2.2 k0_t6

def k0_off115 (i : grid0.Coords) (c0_i32_51 : BitVec 32) : Fin 2 → Nat :=
  let arg0 : BitVec 32 := BitVec.ofNat 32 (i 0).val
  let c8_i32 : BitVec 32 := 8#32
  let v102 : BitVec 32 := Scalar.muli arg0 c8_i32
  let v103 : BitVec 32 := Scalar.addi v102 c0_i32_51
  let v104 : Index := Scalar.indexCast v103
  let c0_52 : Index := 0#32
  ![v104.toNat, 0]
def k0_mult24 (i : grid0.Coords) : BitVec 32 :=
  let arg0 : BitVec 32 := BitVec.ofNat 32 (i 0).val
  let c64_i32_53 : BitVec 32 := 64#32
  let v110 : BitVec 32 := Scalar.muli arg0 c64_i32_53
  let c0_i32_54 : BitVec 32 := 0#32
  let v111 : BitVec 32 := Scalar.addi v110 c0_i32_54
  v111
def k0_off116 (i : grid0.Coords) (c0_i32_54 : BitVec 32) : Fin 2 → Nat :=
  let arg0 : BitVec 32 := BitVec.ofNat 32 (i 0).val
  let c64_i32_53 : BitVec 32 := 64#32
  let v110 : BitVec 32 := Scalar.muli arg0 c64_i32_53
  let v111 : BitVec 32 := Scalar.addi v110 c0_i32_54
  let v112 : BitVec 32 := v111
  let v113 : Index := Scalar.indexCast v112
  let c0_55 : Index := 0#32
  ![v113.toNat, 0]
def k0_mult25 (i : grid0.Coords) : BitVec 32 :=
  let arg0 : BitVec 32 := BitVec.ofNat 32 (i 0).val
  let c64_i32_66 : BitVec 32 := 64#32
  let v134 : BitVec 32 := Scalar.muli arg0 c64_i32_66
  let c8_i32_67 : BitVec 32 := 8#32
  let v135 : BitVec 32 := Scalar.addi v134 c8_i32_67
  v135
def k0_mult26 (i : grid0.Coords) : BitVec 32 :=
  let arg0 : BitVec 32 := BitVec.ofNat 32 (i 0).val
  let c64_i32_77 : BitVec 32 := 64#32
  let v158 : BitVec 32 := Scalar.muli arg0 c64_i32_77
  let c16_i32_78 : BitVec 32 := 16#32
  let v159 : BitVec 32 := Scalar.addi v158 c16_i32_78
  v159
def k0_mult27 (i : grid0.Coords) : BitVec 32 :=
  let arg0 : BitVec 32 := BitVec.ofNat 32 (i 0).val
  let c64_i32_88 : BitVec 32 := 64#32
  let v182 : BitVec 32 := Scalar.muli arg0 c64_i32_88
  let c24_i32 : BitVec 32 := 24#32
  let v183 : BitVec 32 := Scalar.addi v182 c24_i32
  v183
def k0_mult28 (i : grid0.Coords) : BitVec 32 :=
  let arg0 : BitVec 32 := BitVec.ofNat 32 (i 0).val
  let c64_i32_98 : BitVec 32 := 64#32
  let v206 : BitVec 32 := Scalar.muli arg0 c64_i32_98
  let c32_i32 : BitVec 32 := 32#32
  let v207 : BitVec 32 := Scalar.addi v206 c32_i32
  v207
def k0_mult29 (i : grid0.Coords) : BitVec 32 :=
  let arg0 : BitVec 32 := BitVec.ofNat 32 (i 0).val
  let c64_i32_108 : BitVec 32 := 64#32
  let v230 : BitVec 32 := Scalar.muli arg0 c64_i32_108
  let c40_i32 : BitVec 32 := 40#32
  let v231 : BitVec 32 := Scalar.addi v230 c40_i32
  v231
def k0_mult30 (i : grid0.Coords) : BitVec 32 :=
  let arg0 : BitVec 32 := BitVec.ofNat 32 (i 0).val
  let c64_i32_118 : BitVec 32 := 64#32
  let v254 : BitVec 32 := Scalar.muli arg0 c64_i32_118
  let c48_i32 : BitVec 32 := 48#32
  let v255 : BitVec 32 := Scalar.addi v254 c48_i32
  v255
def k0_mult31 (i : grid0.Coords) : BitVec 32 :=
  let arg0 : BitVec 32 := BitVec.ofNat 32 (i 0).val
  let c64_i32_128 : BitVec 32 := 64#32
  let v278 : BitVec 32 := Scalar.muli arg0 c64_i32_128
  let c56_i32 : BitVec 32 := 56#32
  let v279 : BitVec 32 := Scalar.addi v278 c56_i32
  v279
def k0_cond2 (i : grid0.Coords) : BitVec 1 :=
  let arg0 : BitVec 32 := BitVec.ofNat 32 (i 0).val
  let c11_i32 : BitVec 32 := 11#32
  let v285 : BitVec 1 := Scalar.cmpi .eq arg0 c11_i32
  let v286 : BitVec 32 := Scalar.extui v285
  let c0_i32_130 : BitVec 32 := 0#32
  let v287 : BitVec 1 := Scalar.cmpi .ne v286 c0_i32_130
  v287

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x32x8192 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x8192 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x4x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x40x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S96x32 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S96x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x64 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S96x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S12x1x5120 : Shape := ⟨3, ![12, 1, 5120]⟩
abbrev S12x1x8x128 : Shape := ⟨4, ![12, 1, 8, 128]⟩
abbrev S128x256 : Shape := ⟨2, ![128, 256]⟩
abbrev S12x8192x8x32 : Shape := ⟨4, ![12, 8192, 8, 32]⟩
abbrev S12x8192x8 : Shape := ⟨3, ![12, 8192, 8]⟩
abbrev S12x8192x8x64 : Shape := ⟨4, ![12, 8192, 8, 64]⟩
abbrev S12x8192x8x4 : Shape := ⟨4, ![12, 8192, 8, 4]⟩
abbrev S12 : Shape := ⟨1, ![12]⟩
abbrev S12x1x8x256 : Shape := ⟨4, ![12, 1, 8, 256]⟩
abbrev S_ : Shape := ⟨0, ![]⟩
abbrev S12x1x8x8x32 : Shape := ⟨5, ![12, 1, 8, 8, 32]⟩
abbrev S12x1x8x1x32 : Shape := ⟨5, ![12, 1, 8, 1, 32]⟩
abbrev S12x1x8x32 : Shape := ⟨4, ![12, 1, 8, 32]⟩
abbrev S12x1x8 : Shape := ⟨3, ![12, 1, 8]⟩
abbrev S12x1x8x4x32 : Shape := ⟨5, ![12, 1, 8, 4, 32]⟩
abbrev S12x1x8x4 : Shape := ⟨4, ![12, 1, 8, 4]⟩
abbrev S12x1x8x4x1 : Shape := ⟨5, ![12, 1, 8, 4, 1]⟩
abbrev S12x1x8x64 : Shape := ⟨4, ![12, 1, 8, 64]⟩
abbrev S12x40x128 : Shape := ⟨3, ![12, 40, 128]⟩
abbrev S12x40x256 : Shape := ⟨3, ![12, 40, 256]⟩
abbrev S12x8x5x256 : Shape := ⟨4, ![12, 8, 5, 256]⟩
abbrev S12x8x5x32 : Shape := ⟨4, ![12, 8, 5, 32]⟩
abbrev S12x8x5x8192 : Shape := ⟨4, ![12, 8, 5, 8192]⟩
abbrev S12x8x8192 : Shape := ⟨3, ![12, 8, 8192]⟩
abbrev S12x8x1x8192 : Shape := ⟨4, ![12, 8, 1, 8192]⟩
abbrev S12x8x5x1 : Shape := ⟨4, ![12, 8, 5, 1]⟩
abbrev S12x8x1 : Shape := ⟨3, ![12, 8, 1]⟩
abbrev S12x8x1x1 : Shape := ⟨4, ![12, 8, 1, 1]⟩
abbrev S8192 : Shape := ⟨1, ![8192]⟩
abbrev S1x8192 : Shape := ⟨2, ![1, 8192]⟩
abbrev S12x1 : Shape := ⟨2, ![12, 1]⟩
abbrev S12x8192 : Shape := ⟨2, ![12, 8192]⟩
abbrev S12x1x1x8192 : Shape := ⟨4, ![12, 1, 1, 8192]⟩
abbrev S12x40x8192 : Shape := ⟨3, ![12, 40, 8192]⟩
abbrev S12x8x5 : Shape := ⟨3, ![12, 8, 5]⟩
abbrev S12x8192x8x4x32 : Shape := ⟨5, ![12, 8192, 8, 4, 32]⟩
abbrev S12x8192x8x128 : Shape := ⟨4, ![12, 8192, 8, 128]⟩
abbrev S12x8x5x64 : Shape := ⟨4, ![12, 8, 5, 64]⟩
abbrev S12x8x5x128 : Shape := ⟨4, ![12, 8, 5, 128]⟩
abbrev S12x5120 : Shape := ⟨2, ![12, 5120]⟩
abbrev S96x32 : Shape := ⟨2, ![96, 32]⟩
abbrev S96x1 : Shape := ⟨2, ![96, 1]⟩
abbrev S96x64 : Shape := ⟨2, ![96, 64]⟩
abbrev S96x4 : Shape := ⟨2, ![96, 4]⟩

abbrev nBuf : Space → Nat
  | .hbm => 543
  | .vmem => 0
  | .smem => 0
  | _ => 0

abbrev hbmTy0_0 (i : Nat) : BufTy := match i % 128 with
  | 0 => ⟨S12x1x5120, .bf16⟩
  | 1 => ⟨S12x1x8x128, .bf16⟩
  | 2 => ⟨S12x1x8x128, .bf16⟩
  | 3 => ⟨S128x256, .bf16⟩
  | 4 => ⟨S12x8192x8x32, .i8⟩
  | 5 => ⟨S12x8192x8, .bf16⟩
  | 6 => ⟨S12x8192x8x64, .i8⟩
  | 7 => ⟨S12x8192x8x4, .f32⟩
  | 8 => ⟨S12, .i32⟩
  | 9 => ⟨S12x1x8x256, .f32⟩
  | 10 => ⟨S_, .f32⟩
  | 11 => ⟨S12x1x8x256, .f32⟩
  | 12 => ⟨S12x1x8x256, .i1⟩
  | 13 => ⟨S12x1x8x256, .i32⟩
  | 14 => ⟨S12x1x8x8x32, .i32⟩
  | 15 => ⟨S12x1x8x1x32, .i32⟩
  | 16 => ⟨S12x1x8x32, .i32⟩
  | 17 => ⟨S12x1x8x1x32, .i32⟩
  | 18 => ⟨S12x1x8x32, .i32⟩
  | 19 => ⟨S_, .i32⟩
  | 20 => ⟨S12x1x8x32, .i32⟩
  | 21 => ⟨S12x1x8x32, .i32⟩
  | 22 => ⟨S12x1x8x32, .i32⟩
  | 23 => ⟨S12x1x8x1x32, .i32⟩
  | 24 => ⟨S12x1x8x32, .i32⟩
  | 25 => ⟨S_, .i32⟩
  | 26 => ⟨S12x1x8x32, .i32⟩
  | 27 => ⟨S12x1x8x32, .i32⟩
  | 28 => ⟨S12x1x8x32, .i32⟩
  | 29 => ⟨S12x1x8x1x32, .i32⟩
  | 30 => ⟨S12x1x8x32, .i32⟩
  | 31 => ⟨S_, .i32⟩
  | 32 => ⟨S12x1x8x32, .i32⟩
  | 33 => ⟨S12x1x8x32, .i32⟩
  | 34 => ⟨S12x1x8x32, .i32⟩
  | 35 => ⟨S12x1x8x1x32, .i32⟩
  | 36 => ⟨S12x1x8x32, .i32⟩
  | 37 => ⟨S_, .i32⟩
  | 38 => ⟨S12x1x8x32, .i32⟩
  | 39 => ⟨S12x1x8x32, .i32⟩
  | 40 => ⟨S12x1x8x32, .i32⟩
  | 41 => ⟨S12x1x8x1x32, .i32⟩
  | 42 => ⟨S12x1x8x32, .i32⟩
  | 43 => ⟨S_, .i32⟩
  | 44 => ⟨S12x1x8x32, .i32⟩
  | 45 => ⟨S12x1x8x32, .i32⟩
  | 46 => ⟨S12x1x8x32, .i32⟩
  | 47 => ⟨S12x1x8x1x32, .i32⟩
  | 48 => ⟨S12x1x8x32, .i32⟩
  | 49 => ⟨S_, .i32⟩
  | 50 => ⟨S12x1x8x32, .i32⟩
  | 51 => ⟨S12x1x8x32, .i32⟩
  | 52 => ⟨S12x1x8x32, .i32⟩
  | 53 => ⟨S12x1x8x1x32, .i32⟩
  | 54 => ⟨S12x1x8x32, .i32⟩
  | 55 => ⟨S_, .i32⟩
  | 56 => ⟨S12x1x8x32, .i32⟩
  | 57 => ⟨S12x1x8x32, .i32⟩
  | 58 => ⟨S12x1x8x32, .i32⟩
  | 59 => ⟨S12x1x8x32, .i8⟩
  | 60 => ⟨S12x1x8x128, .f32⟩
  | 61 => ⟨S12x1x8x128, .f32⟩
  | 62 => ⟨S_, .f32⟩
  | 63 => ⟨S12x1x8, .f32⟩
  | 64 => ⟨S12x1x8, .f32⟩
  | 65 => ⟨S12x1x8, .bf16⟩
  | 66 => ⟨S12x1x8x128, .f32⟩
  | 67 => ⟨S12x1x8x4x32, .f32⟩
  | 68 => ⟨S12x1x8x4x32, .f32⟩
  | 69 => ⟨S_, .f32⟩
  | 70 => ⟨S12x1x8x4, .f32⟩
  | 71 => ⟨S_, .f32⟩
  | 72 => ⟨S12x1x8x4, .f32⟩
  | 73 => ⟨S12x1x8x4, .i1⟩
  | 74 => ⟨S_, .f32⟩
  | 75 => ⟨S12x1x8x4, .f32⟩
  | 76 => ⟨S12x1x8x4, .f32⟩
  | 77 => ⟨S_, .f32⟩
  | 78 => ⟨S_, .f32⟩
  | 79 => ⟨S12x1x8x4, .f32⟩
  | 80 => ⟨S12x1x8x4, .f32⟩
  | 81 => ⟨S12x1x8x4x1, .f32⟩
  | 82 => ⟨S12x1x8x4x32, .f32⟩
  | 83 => ⟨S12x1x8x4x32, .f32⟩
  | 84 => ⟨S12x1x8x4x32, .f32⟩
  | 85 => ⟨S_, .f32⟩
  | 86 => ⟨S_, .f32⟩
  | 87 => ⟨S_, .f32⟩
  | 88 => ⟨S12x1x8x4x32, .f32⟩
  | 89 => ⟨S12x1x8x4x32, .f32⟩
  | 90 => ⟨S_, .f32⟩
  | 91 => ⟨S12x1x8x4x32, .f32⟩
  | 92 => ⟨S12x1x8x4x32, .f32⟩
  | 93 => ⟨S12x1x8x4x32, .i32⟩
  | 94 => ⟨S12x1x8x128, .i32⟩
  | 95 => ⟨S12x1x8x64, .i32⟩
  | 96 => ⟨S_, .i32⟩
  | 97 => ⟨S12x1x8x64, .i32⟩
  | 98 => ⟨S12x1x8x64, .i32⟩
  | 99 => ⟨S12x1x8x64, .i32⟩
  | 100 => ⟨S_, .i32⟩
  | 101 => ⟨S12x1x8x64, .i32⟩
  | 102 => ⟨S12x1x8x64, .i32⟩
  | 103 => ⟨S_, .i32⟩
  | 104 => ⟨S12x1x8x64, .i32⟩
  | 105 => ⟨S12x1x8x64, .i32⟩
  | 106 => ⟨S12x1x8x64, .i32⟩
  | 107 => ⟨S12x1x8x64, .i8⟩
  | 108 => ⟨S12x40x128, .bf16⟩
  | 109 => ⟨S12x40x256, .f32⟩
  | 110 => ⟨S12x40x256, .bf16⟩
  | 111 => ⟨S12x8x5x256, .bf16⟩
  | 112 => ⟨S12x8x5x32, .bf16⟩
  | 113 => ⟨S12x8192x8x32, .i32⟩
  | 114 => ⟨S_, .i32⟩
  | 115 => ⟨S12x8192x8x32, .i32⟩
  | 116 => ⟨S12x8192x8x32, .i32⟩
  | 117 => ⟨S_, .i32⟩
  | 118 => ⟨S12x8192x8x32, .i32⟩
  | 119 => ⟨S12x8192x8x32, .i32⟩
  | 120 => ⟨S_, .i32⟩
  | 121 => ⟨S12x8192x8x32, .i32⟩
  | 122 => ⟨S12x8192x8x32, .i1⟩
  | 123 => ⟨S_, .f32⟩
  | 124 => ⟨S_, .f32⟩
  | 125 => ⟨S12x8192x8x32, .f32⟩
  | 126 => ⟨S12x8192x8x32, .f32⟩
  | 127 => ⟨S12x8192x8x32, .f32⟩
  | _ => ⟨S12x1x5120, .bf16⟩

abbrev hbmTy0_1 (i : Nat) : BufTy := match i % 128 with
  | 0 => ⟨S12x8192x8x32, .bf16⟩
  | 1 => ⟨S12x8x5x8192, .f32⟩
  | 2 => ⟨S12x8x5x32, .bf16⟩
  | 3 => ⟨S12x8192x8x32, .i32⟩
  | 4 => ⟨S_, .i32⟩
  | 5 => ⟨S12x8192x8x32, .i32⟩
  | 6 => ⟨S12x8192x8x32, .i32⟩
  | 7 => ⟨S_, .i32⟩
  | 8 => ⟨S12x8192x8x32, .i32⟩
  | 9 => ⟨S12x8192x8x32, .i32⟩
  | 10 => ⟨S_, .i32⟩
  | 11 => ⟨S12x8192x8x32, .i32⟩
  | 12 => ⟨S12x8192x8x32, .i1⟩
  | 13 => ⟨S_, .f32⟩
  | 14 => ⟨S_, .f32⟩
  | 15 => ⟨S12x8192x8x32, .f32⟩
  | 16 => ⟨S12x8192x8x32, .f32⟩
  | 17 => ⟨S12x8192x8x32, .f32⟩
  | 18 => ⟨S12x8192x8x32, .bf16⟩
  | 19 => ⟨S12x8x5x8192, .f32⟩
  | 20 => ⟨S12x8x5x8192, .f32⟩
  | 21 => ⟨S12x8x5x32, .bf16⟩
  | 22 => ⟨S12x8192x8x32, .i32⟩
  | 23 => ⟨S_, .i32⟩
  | 24 => ⟨S12x8192x8x32, .i32⟩
  | 25 => ⟨S12x8192x8x32, .i32⟩
  | 26 => ⟨S_, .i32⟩
  | 27 => ⟨S12x8192x8x32, .i32⟩
  | 28 => ⟨S12x8192x8x32, .i32⟩
  | 29 => ⟨S_, .i32⟩
  | 30 => ⟨S12x8192x8x32, .i32⟩
  | 31 => ⟨S12x8192x8x32, .i1⟩
  | 32 => ⟨S_, .f32⟩
  | 33 => ⟨S_, .f32⟩
  | 34 => ⟨S12x8192x8x32, .f32⟩
  | 35 => ⟨S12x8192x8x32, .f32⟩
  | 36 => ⟨S12x8192x8x32, .f32⟩
  | 37 => ⟨S12x8192x8x32, .bf16⟩
  | 38 => ⟨S12x8x5x8192, .f32⟩
  | 39 => ⟨S12x8x5x8192, .f32⟩
  | 40 => ⟨S12x8x5x32, .bf16⟩
  | 41 => ⟨S12x8192x8x32, .i32⟩
  | 42 => ⟨S_, .i32⟩
  | 43 => ⟨S12x8192x8x32, .i32⟩
  | 44 => ⟨S12x8192x8x32, .i32⟩
  | 45 => ⟨S_, .i32⟩
  | 46 => ⟨S12x8192x8x32, .i32⟩
  | 47 => ⟨S12x8192x8x32, .i32⟩
  | 48 => ⟨S_, .i32⟩
  | 49 => ⟨S12x8192x8x32, .i32⟩
  | 50 => ⟨S12x8192x8x32, .i1⟩
  | 51 => ⟨S_, .f32⟩
  | 52 => ⟨S_, .f32⟩
  | 53 => ⟨S12x8192x8x32, .f32⟩
  | 54 => ⟨S12x8192x8x32, .f32⟩
  | 55 => ⟨S12x8192x8x32, .f32⟩
  | 56 => ⟨S12x8192x8x32, .bf16⟩
  | 57 => ⟨S12x8x5x8192, .f32⟩
  | 58 => ⟨S12x8x5x8192, .f32⟩
  | 59 => ⟨S12x8x5x32, .bf16⟩
  | 60 => ⟨S12x8192x8x32, .i32⟩
  | 61 => ⟨S_, .i32⟩
  | 62 => ⟨S12x8192x8x32, .i32⟩
  | 63 => ⟨S12x8192x8x32, .i32⟩
  | 64 => ⟨S_, .i32⟩
  | 65 => ⟨S12x8192x8x32, .i32⟩
  | 66 => ⟨S12x8192x8x32, .i32⟩
  | 67 => ⟨S_, .i32⟩
  | 68 => ⟨S12x8192x8x32, .i32⟩
  | 69 => ⟨S12x8192x8x32, .i1⟩
  | 70 => ⟨S_, .f32⟩
  | 71 => ⟨S_, .f32⟩
  | 72 => ⟨S12x8192x8x32, .f32⟩
  | 73 => ⟨S12x8192x8x32, .f32⟩
  | 74 => ⟨S12x8192x8x32, .f32⟩
  | 75 => ⟨S12x8192x8x32, .bf16⟩
  | 76 => ⟨S12x8x5x8192, .f32⟩
  | 77 => ⟨S12x8x5x8192, .f32⟩
  | 78 => ⟨S12x8x5x32, .bf16⟩
  | 79 => ⟨S12x8192x8x32, .i32⟩
  | 80 => ⟨S_, .i32⟩
  | 81 => ⟨S12x8192x8x32, .i32⟩
  | 82 => ⟨S12x8192x8x32, .i32⟩
  | 83 => ⟨S_, .i32⟩
  | 84 => ⟨S12x8192x8x32, .i32⟩
  | 85 => ⟨S12x8192x8x32, .i32⟩
  | 86 => ⟨S_, .i32⟩
  | 87 => ⟨S12x8192x8x32, .i32⟩
  | 88 => ⟨S12x8192x8x32, .i1⟩
  | 89 => ⟨S_, .f32⟩
  | 90 => ⟨S_, .f32⟩
  | 91 => ⟨S12x8192x8x32, .f32⟩
  | 92 => ⟨S12x8192x8x32, .f32⟩
  | 93 => ⟨S12x8192x8x32, .f32⟩
  | 94 => ⟨S12x8192x8x32, .bf16⟩
  | 95 => ⟨S12x8x5x8192, .f32⟩
  | 96 => ⟨S12x8x5x8192, .f32⟩
  | 97 => ⟨S12x8x5x32, .bf16⟩
  | 98 => ⟨S12x8192x8x32, .i32⟩
  | 99 => ⟨S_, .i32⟩
  | 100 => ⟨S12x8192x8x32, .i32⟩
  | 101 => ⟨S12x8192x8x32, .i32⟩
  | 102 => ⟨S_, .i32⟩
  | 103 => ⟨S12x8192x8x32, .i32⟩
  | 104 => ⟨S12x8192x8x32, .i32⟩
  | 105 => ⟨S_, .i32⟩
  | 106 => ⟨S12x8192x8x32, .i32⟩
  | 107 => ⟨S12x8192x8x32, .i1⟩
  | 108 => ⟨S_, .f32⟩
  | 109 => ⟨S_, .f32⟩
  | 110 => ⟨S12x8192x8x32, .f32⟩
  | 111 => ⟨S12x8192x8x32, .f32⟩
  | 112 => ⟨S12x8192x8x32, .f32⟩
  | 113 => ⟨S12x8192x8x32, .bf16⟩
  | 114 => ⟨S12x8x5x8192, .f32⟩
  | 115 => ⟨S12x8x5x8192, .f32⟩
  | 116 => ⟨S12x8x5x32, .bf16⟩
  | 117 => ⟨S12x8192x8x32, .i32⟩
  | 118 => ⟨S_, .i32⟩
  | 119 => ⟨S12x8192x8x32, .i32⟩
  | 120 => ⟨S12x8192x8x32, .i32⟩
  | 121 => ⟨S_, .i32⟩
  | 122 => ⟨S12x8192x8x32, .i32⟩
  | 123 => ⟨S12x8192x8x32, .i32⟩
  | 124 => ⟨S_, .i32⟩
  | 125 => ⟨S12x8192x8x32, .i32⟩
  | 126 => ⟨S12x8192x8x32, .i1⟩
  | 127 => ⟨S_, .f32⟩
  | _ => ⟨S12x1x5120, .bf16⟩

abbrev hbmTy0_2 (i : Nat) : BufTy := match i % 128 with
  | 0 => ⟨S_, .f32⟩
  | 1 => ⟨S12x8192x8x32, .f32⟩
  | 2 => ⟨S12x8192x8x32, .f32⟩
  | 3 => ⟨S12x8192x8x32, .f32⟩
  | 4 => ⟨S12x8192x8x32, .bf16⟩
  | 5 => ⟨S12x8x5x8192, .f32⟩
  | 6 => ⟨S12x8x5x8192, .f32⟩
  | 7 => ⟨S12x8192x8, .f32⟩
  | 8 => ⟨S_, .f32⟩
  | 9 => ⟨S12x8192x8, .f32⟩
  | 10 => ⟨S12x8192x8, .f32⟩
  | 11 => ⟨S12x8x8192, .f32⟩
  | 12 => ⟨S12x8x1x8192, .f32⟩
  | 13 => ⟨S12x8x5x8192, .f32⟩
  | 14 => ⟨S12x8x5x8192, .f32⟩
  | 15 => ⟨S12x8x5x32, .bf16⟩
  | 16 => ⟨S12x1x8x32, .i32⟩
  | 17 => ⟨S_, .i32⟩
  | 18 => ⟨S12x1x8x32, .i32⟩
  | 19 => ⟨S12x1x8x32, .i32⟩
  | 20 => ⟨S_, .i32⟩
  | 21 => ⟨S12x1x8x32, .i32⟩
  | 22 => ⟨S12x1x8x32, .i32⟩
  | 23 => ⟨S_, .i32⟩
  | 24 => ⟨S12x1x8x32, .i32⟩
  | 25 => ⟨S12x1x8x32, .i1⟩
  | 26 => ⟨S_, .f32⟩
  | 27 => ⟨S_, .f32⟩
  | 28 => ⟨S12x1x8x32, .f32⟩
  | 29 => ⟨S12x1x8x32, .f32⟩
  | 30 => ⟨S12x1x8x32, .f32⟩
  | 31 => ⟨S12x1x8x32, .bf16⟩
  | 32 => ⟨S12x8x5x1, .f32⟩
  | 33 => ⟨S12x8x5x32, .bf16⟩
  | 34 => ⟨S12x1x8x32, .i32⟩
  | 35 => ⟨S_, .i32⟩
  | 36 => ⟨S12x1x8x32, .i32⟩
  | 37 => ⟨S12x1x8x32, .i32⟩
  | 38 => ⟨S_, .i32⟩
  | 39 => ⟨S12x1x8x32, .i32⟩
  | 40 => ⟨S12x1x8x32, .i32⟩
  | 41 => ⟨S_, .i32⟩
  | 42 => ⟨S12x1x8x32, .i32⟩
  | 43 => ⟨S12x1x8x32, .i1⟩
  | 44 => ⟨S_, .f32⟩
  | 45 => ⟨S_, .f32⟩
  | 46 => ⟨S12x1x8x32, .f32⟩
  | 47 => ⟨S12x1x8x32, .f32⟩
  | 48 => ⟨S12x1x8x32, .f32⟩
  | 49 => ⟨S12x1x8x32, .bf16⟩
  | 50 => ⟨S12x8x5x1, .f32⟩
  | 51 => ⟨S12x8x5x1, .f32⟩
  | 52 => ⟨S12x8x5x32, .bf16⟩
  | 53 => ⟨S12x1x8x32, .i32⟩
  | 54 => ⟨S_, .i32⟩
  | 55 => ⟨S12x1x8x32, .i32⟩
  | 56 => ⟨S12x1x8x32, .i32⟩
  | 57 => ⟨S_, .i32⟩
  | 58 => ⟨S12x1x8x32, .i32⟩
  | 59 => ⟨S12x1x8x32, .i32⟩
  | 60 => ⟨S_, .i32⟩
  | 61 => ⟨S12x1x8x32, .i32⟩
  | 62 => ⟨S12x1x8x32, .i1⟩
  | 63 => ⟨S_, .f32⟩
  | 64 => ⟨S_, .f32⟩
  | 65 => ⟨S12x1x8x32, .f32⟩
  | 66 => ⟨S12x1x8x32, .f32⟩
  | 67 => ⟨S12x1x8x32, .f32⟩
  | 68 => ⟨S12x1x8x32, .bf16⟩
  | 69 => ⟨S12x8x5x1, .f32⟩
  | 70 => ⟨S12x8x5x1, .f32⟩
  | 71 => ⟨S12x8x5x32, .bf16⟩
  | 72 => ⟨S12x1x8x32, .i32⟩
  | 73 => ⟨S_, .i32⟩
  | 74 => ⟨S12x1x8x32, .i32⟩
  | 75 => ⟨S12x1x8x32, .i32⟩
  | 76 => ⟨S_, .i32⟩
  | 77 => ⟨S12x1x8x32, .i32⟩
  | 78 => ⟨S12x1x8x32, .i32⟩
  | 79 => ⟨S_, .i32⟩
  | 80 => ⟨S12x1x8x32, .i32⟩
  | 81 => ⟨S12x1x8x32, .i1⟩
  | 82 => ⟨S_, .f32⟩
  | 83 => ⟨S_, .f32⟩
  | 84 => ⟨S12x1x8x32, .f32⟩
  | 85 => ⟨S12x1x8x32, .f32⟩
  | 86 => ⟨S12x1x8x32, .f32⟩
  | 87 => ⟨S12x1x8x32, .bf16⟩
  | 88 => ⟨S12x8x5x1, .f32⟩
  | 89 => ⟨S12x8x5x1, .f32⟩
  | 90 => ⟨S12x8x5x32, .bf16⟩
  | 91 => ⟨S12x1x8x32, .i32⟩
  | 92 => ⟨S_, .i32⟩
  | 93 => ⟨S12x1x8x32, .i32⟩
  | 94 => ⟨S12x1x8x32, .i32⟩
  | 95 => ⟨S_, .i32⟩
  | 96 => ⟨S12x1x8x32, .i32⟩
  | 97 => ⟨S12x1x8x32, .i32⟩
  | 98 => ⟨S_, .i32⟩
  | 99 => ⟨S12x1x8x32, .i32⟩
  | 100 => ⟨S12x1x8x32, .i1⟩
  | 101 => ⟨S_, .f32⟩
  | 102 => ⟨S_, .f32⟩
  | 103 => ⟨S12x1x8x32, .f32⟩
  | 104 => ⟨S12x1x8x32, .f32⟩
  | 105 => ⟨S12x1x8x32, .f32⟩
  | 106 => ⟨S12x1x8x32, .bf16⟩
  | 107 => ⟨S12x8x5x1, .f32⟩
  | 108 => ⟨S12x8x5x1, .f32⟩
  | 109 => ⟨S12x8x5x32, .bf16⟩
  | 110 => ⟨S12x1x8x32, .i32⟩
  | 111 => ⟨S_, .i32⟩
  | 112 => ⟨S12x1x8x32, .i32⟩
  | 113 => ⟨S12x1x8x32, .i32⟩
  | 114 => ⟨S_, .i32⟩
  | 115 => ⟨S12x1x8x32, .i32⟩
  | 116 => ⟨S12x1x8x32, .i32⟩
  | 117 => ⟨S_, .i32⟩
  | 118 => ⟨S12x1x8x32, .i32⟩
  | 119 => ⟨S12x1x8x32, .i1⟩
  | 120 => ⟨S_, .f32⟩
  | 121 => ⟨S_, .f32⟩
  | 122 => ⟨S12x1x8x32, .f32⟩
  | 123 => ⟨S12x1x8x32, .f32⟩
  | 124 => ⟨S12x1x8x32, .f32⟩
  | 125 => ⟨S12x1x8x32, .bf16⟩
  | 126 => ⟨S12x8x5x1, .f32⟩
  | 127 => ⟨S12x8x5x1, .f32⟩
  | _ => ⟨S12x1x5120, .bf16⟩

abbrev hbmTy0_3 (i : Nat) : BufTy := match i % 128 with
  | 0 => ⟨S12x8x5x32, .bf16⟩
  | 1 => ⟨S12x1x8x32, .i32⟩
  | 2 => ⟨S_, .i32⟩
  | 3 => ⟨S12x1x8x32, .i32⟩
  | 4 => ⟨S12x1x8x32, .i32⟩
  | 5 => ⟨S_, .i32⟩
  | 6 => ⟨S12x1x8x32, .i32⟩
  | 7 => ⟨S12x1x8x32, .i32⟩
  | 8 => ⟨S_, .i32⟩
  | 9 => ⟨S12x1x8x32, .i32⟩
  | 10 => ⟨S12x1x8x32, .i1⟩
  | 11 => ⟨S_, .f32⟩
  | 12 => ⟨S_, .f32⟩
  | 13 => ⟨S12x1x8x32, .f32⟩
  | 14 => ⟨S12x1x8x32, .f32⟩
  | 15 => ⟨S12x1x8x32, .f32⟩
  | 16 => ⟨S12x1x8x32, .bf16⟩
  | 17 => ⟨S12x8x5x1, .f32⟩
  | 18 => ⟨S12x8x5x1, .f32⟩
  | 19 => ⟨S12x8x5x32, .bf16⟩
  | 20 => ⟨S12x1x8x32, .i32⟩
  | 21 => ⟨S_, .i32⟩
  | 22 => ⟨S12x1x8x32, .i32⟩
  | 23 => ⟨S12x1x8x32, .i32⟩
  | 24 => ⟨S_, .i32⟩
  | 25 => ⟨S12x1x8x32, .i32⟩
  | 26 => ⟨S12x1x8x32, .i32⟩
  | 27 => ⟨S_, .i32⟩
  | 28 => ⟨S12x1x8x32, .i32⟩
  | 29 => ⟨S12x1x8x32, .i1⟩
  | 30 => ⟨S_, .f32⟩
  | 31 => ⟨S_, .f32⟩
  | 32 => ⟨S12x1x8x32, .f32⟩
  | 33 => ⟨S12x1x8x32, .f32⟩
  | 34 => ⟨S12x1x8x32, .f32⟩
  | 35 => ⟨S12x1x8x32, .bf16⟩
  | 36 => ⟨S12x8x5x1, .f32⟩
  | 37 => ⟨S12x8x5x1, .f32⟩
  | 38 => ⟨S12x1x8, .f32⟩
  | 39 => ⟨S_, .f32⟩
  | 40 => ⟨S12x1x8, .f32⟩
  | 41 => ⟨S12x1x8, .f32⟩
  | 42 => ⟨S12x8x1, .f32⟩
  | 43 => ⟨S12x8x1x1, .f32⟩
  | 44 => ⟨S12x8x5x1, .f32⟩
  | 45 => ⟨S12x8x5x1, .f32⟩
  | 46 => ⟨S8192, .i32⟩
  | 47 => ⟨S1x8192, .i32⟩
  | 48 => ⟨S12x1, .i32⟩
  | 49 => ⟨S12x8192, .i32⟩
  | 50 => ⟨S12x8192, .i32⟩
  | 51 => ⟨S12x8192, .i1⟩
  | 52 => ⟨S12x1x1x8192, .i1⟩
  | 53 => ⟨S_, .f32⟩
  | 54 => ⟨S_, .f32⟩
  | 55 => ⟨S12x8x5x8192, .i1⟩
  | 56 => ⟨S12x8x5x8192, .f32⟩
  | 57 => ⟨S12x8x5x8192, .f32⟩
  | 58 => ⟨S_, .f32⟩
  | 59 => ⟨S_, .f32⟩
  | 60 => ⟨S12x8x5x8192, .i1⟩
  | 61 => ⟨S12x8x5x8192, .f32⟩
  | 62 => ⟨S12x8x5x8192, .f32⟩
  | 63 => ⟨S12x40x8192, .f32⟩
  | 64 => ⟨S_, .f32⟩
  | 65 => ⟨S12x8x5, .f32⟩
  | 66 => ⟨S12x8x5x1, .f32⟩
  | 67 => ⟨S12x8x5x1, .f32⟩
  | 68 => ⟨S12x8x5x8192, .f32⟩
  | 69 => ⟨S12x8x5x8192, .f32⟩
  | 70 => ⟨S12x8x5x8192, .f32⟩
  | 71 => ⟨S12x8x5x1, .f32⟩
  | 72 => ⟨S12x8x5x1, .f32⟩
  | 73 => ⟨S_, .f32⟩
  | 74 => ⟨S12x8x5, .f32⟩
  | 75 => ⟨S12x8x5x1, .f32⟩
  | 76 => ⟨S12x8x5x1, .f32⟩
  | 77 => ⟨S12x8x5x8192, .f32⟩
  | 78 => ⟨S12x8x5x8192, .f32⟩
  | 79 => ⟨S12x8x5x8192, .bf16⟩
  | 80 => ⟨S12x8x5x1, .f32⟩
  | 81 => ⟨S12x8x5x1, .bf16⟩
  | 82 => ⟨S12x8192x8x4, .bf16⟩
  | 83 => ⟨S12x8192x8x4x32, .bf16⟩
  | 84 => ⟨S12x8192x8x128, .bf16⟩
  | 85 => ⟨S12x8192x8x64, .i32⟩
  | 86 => ⟨S_, .i32⟩
  | 87 => ⟨S12x8192x8x64, .i32⟩
  | 88 => ⟨S12x8192x8x64, .i32⟩
  | 89 => ⟨S_, .i32⟩
  | 90 => ⟨S12x8192x8x64, .i32⟩
  | 91 => ⟨S12x8192x8x64, .i1⟩
  | 92 => ⟨S_, .i32⟩
  | 93 => ⟨S12x8192x8x64, .i32⟩
  | 94 => ⟨S12x8192x8x64, .i32⟩
  | 95 => ⟨S12x8192x8x64, .i32⟩
  | 96 => ⟨S12x8192x8x64, .f32⟩
  | 97 => ⟨S12x8192x8x64, .bf16⟩
  | 98 => ⟨S12x8192x8x64, .bf16⟩
  | 99 => ⟨S12x8192x8x64, .bf16⟩
  | 100 => ⟨S_, .i32⟩
  | 101 => ⟨S12x8192x8x64, .i32⟩
  | 102 => ⟨S12x8192x8x64, .i32⟩
  | 103 => ⟨S_, .i32⟩
  | 104 => ⟨S12x8192x8x64, .i32⟩
  | 105 => ⟨S12x8192x8x64, .i1⟩
  | 106 => ⟨S_, .i32⟩
  | 107 => ⟨S12x8192x8x64, .i32⟩
  | 108 => ⟨S12x8192x8x64, .i32⟩
  | 109 => ⟨S12x8192x8x64, .i32⟩
  | 110 => ⟨S12x8192x8x64, .f32⟩
  | 111 => ⟨S12x8192x8x64, .bf16⟩
  | 112 => ⟨S12x8192x8x64, .bf16⟩
  | 113 => ⟨S12x8192x8x64, .bf16⟩
  | 114 => ⟨S12x1x8x4, .bf16⟩
  | 115 => ⟨S12x1x8x4x32, .bf16⟩
  | 116 => ⟨S12x1x8x128, .bf16⟩
  | 117 => ⟨S12x1x8x64, .i32⟩
  | 118 => ⟨S_, .i32⟩
  | 119 => ⟨S12x1x8x64, .i32⟩
  | 120 => ⟨S12x1x8x64, .i32⟩
  | 121 => ⟨S_, .i32⟩
  | 122 => ⟨S12x1x8x64, .i32⟩
  | 123 => ⟨S12x1x8x64, .i1⟩
  | 124 => ⟨S_, .i32⟩
  | 125 => ⟨S12x1x8x64, .i32⟩
  | 126 => ⟨S12x1x8x64, .i32⟩
  | 127 => ⟨S12x1x8x64, .i32⟩
  | _ => ⟨S12x1x5120, .bf16⟩

abbrev hbmTy0_4 (i : Nat) : BufTy := match i % 128 with
  | 0 => ⟨S12x1x8x64, .f32⟩
  | 1 => ⟨S12x1x8x64, .bf16⟩
  | 2 => ⟨S12x1x8x64, .bf16⟩
  | 3 => ⟨S12x1x8x64, .bf16⟩
  | 4 => ⟨S_, .i32⟩
  | 5 => ⟨S12x1x8x64, .i32⟩
  | 6 => ⟨S12x1x8x64, .i32⟩
  | 7 => ⟨S_, .i32⟩
  | 8 => ⟨S12x1x8x64, .i32⟩
  | 9 => ⟨S12x1x8x64, .i1⟩
  | 10 => ⟨S_, .i32⟩
  | 11 => ⟨S12x1x8x64, .i32⟩
  | 12 => ⟨S12x1x8x64, .i32⟩
  | 13 => ⟨S12x1x8x64, .i32⟩
  | 14 => ⟨S12x1x8x64, .f32⟩
  | 15 => ⟨S12x1x8x64, .bf16⟩
  | 16 => ⟨S12x1x8x64, .bf16⟩
  | 17 => ⟨S12x1x8x64, .bf16⟩
  | 18 => ⟨S12x8x5x64, .f32⟩
  | 19 => ⟨S12x8x5x64, .f32⟩
  | 20 => ⟨S12x8x5x64, .f32⟩
  | 21 => ⟨S12x8x5x64, .f32⟩
  | 22 => ⟨S12x8x5x64, .f32⟩
  | 23 => ⟨S12x8x5x64, .f32⟩
  | 24 => ⟨S12x8x5x128, .f32⟩
  | 25 => ⟨S12x5120, .f32⟩
  | 26 => ⟨S12x5120, .bf16⟩
  | 27 => ⟨S96x32, .i8⟩
  | 28 => ⟨S96x1, .bf16⟩
  | 29 => ⟨S96x64, .i8⟩
  | 30 => ⟨S96x4, .f32⟩
  | _ => ⟨S12x1x5120, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S12x1x5120, .bf16⟩

abbrev bufTy : (tb : Table) → Fin (tcTables nBuf tb) → BufTy
  | .hbm, ⟨i, _⟩ => hbmTy i
  | _, _ => ⟨S12x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_call0_v0 : Ref sig .tc := ⟨.hbm, 78, rfl⟩
abbrev main_call0_v1 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_16 : Ref sig .tc := ⟨.hbm, 114, rfl⟩
abbrev main_v80 : Ref sig .tc := ⟨.hbm, 115, rfl⟩
abbrev main_v81 : Ref sig .tc := ⟨.hbm, 116, rfl⟩
abbrev main_c_17 : Ref sig .tc := ⟨.hbm, 117, rfl⟩
abbrev main_v82 : Ref sig .tc := ⟨.hbm, 118, rfl⟩
abbrev main_v83 : Ref sig .tc := ⟨.hbm, 119, rfl⟩
abbrev main_c_18 : Ref sig .tc := ⟨.hbm, 120, rfl⟩
abbrev main_v84 : Ref sig .tc := ⟨.hbm, 121, rfl⟩
abbrev main_v85 : Ref sig .tc := ⟨.hbm, 122, rfl⟩
abbrev main_cst_19 : Ref sig .tc := ⟨.hbm, 123, rfl⟩
abbrev main_cst_20 : Ref sig .tc := ⟨.hbm, 124, rfl⟩
abbrev main_call3_v0 : Ref sig .tc := ⟨.hbm, 125, rfl⟩
abbrev main_call3_v1 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_c_22 : Ref sig .tc := ⟨.hbm, 135, rfl⟩
abbrev main_v93 : Ref sig .tc := ⟨.hbm, 136, rfl⟩
abbrev main_v94 : Ref sig .tc := ⟨.hbm, 137, rfl⟩
abbrev main_c_23 : Ref sig .tc := ⟨.hbm, 138, rfl⟩
abbrev main_v95 : Ref sig .tc := ⟨.hbm, 139, rfl⟩
abbrev main_v96 : Ref sig .tc := ⟨.hbm, 140, rfl⟩
abbrev main_cst_24 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_26 : Ref sig .tc := ⟨.hbm, 151, rfl⟩
abbrev main_v103 : Ref sig .tc := ⟨.hbm, 152, rfl⟩
abbrev main_v104 : Ref sig .tc := ⟨.hbm, 153, rfl⟩
abbrev main_c_27 : Ref sig .tc := ⟨.hbm, 154, rfl⟩
abbrev main_v105 : Ref sig .tc := ⟨.hbm, 155, rfl⟩
abbrev main_v106 : Ref sig .tc := ⟨.hbm, 156, rfl⟩
abbrev main_c_28 : Ref sig .tc := ⟨.hbm, 157, rfl⟩
abbrev main_v107 : Ref sig .tc := ⟨.hbm, 158, rfl⟩
abbrev main_v108 : Ref sig .tc := ⟨.hbm, 159, rfl⟩
abbrev main_cst_29 : Ref sig .tc := ⟨.hbm, 160, rfl⟩
abbrev main_cst_30 : Ref sig .tc := ⟨.hbm, 161, rfl⟩
abbrev main_call5_v0 : Ref sig .tc := ⟨.hbm, 162, rfl⟩
abbrev main_call5_v1 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_31 : Ref sig .tc := ⟨.hbm, 170, rfl⟩
abbrev main_v115 : Ref sig .tc := ⟨.hbm, 171, rfl⟩
abbrev main_v116 : Ref sig .tc := ⟨.hbm, 172, rfl⟩
abbrev main_c_32 : Ref sig .tc := ⟨.hbm, 173, rfl⟩
abbrev main_v117 : Ref sig .tc := ⟨.hbm, 174, rfl⟩
abbrev main_v118 : Ref sig .tc := ⟨.hbm, 175, rfl⟩
abbrev main_c_33 : Ref sig .tc := ⟨.hbm, 176, rfl⟩
abbrev main_v119 : Ref sig .tc := ⟨.hbm, 177, rfl⟩
abbrev main_v120 : Ref sig .tc := ⟨.hbm, 178, rfl⟩
abbrev main_cst_34 : Ref sig .tc := ⟨.hbm, 179, rfl⟩
abbrev main_cst_35 : Ref sig .tc := ⟨.hbm, 180, rfl⟩
abbrev main_call6_v0 : Ref sig .tc := ⟨.hbm, 181, rfl⟩
abbrev main_call6_v1 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_36 : Ref sig .tc := ⟨.hbm, 189, rfl⟩
abbrev main_v127 : Ref sig .tc := ⟨.hbm, 190, rfl⟩
abbrev main_v128 : Ref sig .tc := ⟨.hbm, 191, rfl⟩
abbrev main_c_37 : Ref sig .tc := ⟨.hbm, 192, rfl⟩
abbrev main_v129 : Ref sig .tc := ⟨.hbm, 193, rfl⟩
abbrev main_v130 : Ref sig .tc := ⟨.hbm, 194, rfl⟩
abbrev main_c_38 : Ref sig .tc := ⟨.hbm, 195, rfl⟩
abbrev main_v131 : Ref sig .tc := ⟨.hbm, 196, rfl⟩
abbrev main_v132 : Ref sig .tc := ⟨.hbm, 197, rfl⟩
abbrev main_cst_39 : Ref sig .tc := ⟨.hbm, 198, rfl⟩
abbrev main_cst_40 : Ref sig .tc := ⟨.hbm, 199, rfl⟩
abbrev main_call7_v0 : Ref sig .tc := ⟨.hbm, 200, rfl⟩
abbrev main_call7_v1 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_c_41 : Ref sig .tc := ⟨.hbm, 208, rfl⟩
abbrev main_v139 : Ref sig .tc := ⟨.hbm, 209, rfl⟩
abbrev main_v140 : Ref sig .tc := ⟨.hbm, 210, rfl⟩
abbrev main_c_42 : Ref sig .tc := ⟨.hbm, 211, rfl⟩
abbrev main_v141 : Ref sig .tc := ⟨.hbm, 212, rfl⟩
abbrev main_v142 : Ref sig .tc := ⟨.hbm, 213, rfl⟩
abbrev main_c_43 : Ref sig .tc := ⟨.hbm, 214, rfl⟩
abbrev main_v143 : Ref sig .tc := ⟨.hbm, 215, rfl⟩
abbrev main_v144 : Ref sig .tc := ⟨.hbm, 216, rfl⟩
abbrev main_cst_44 : Ref sig .tc := ⟨.hbm, 217, rfl⟩
abbrev main_cst_45 : Ref sig .tc := ⟨.hbm, 218, rfl⟩
abbrev main_call8_v0 : Ref sig .tc := ⟨.hbm, 219, rfl⟩
abbrev main_call8_v1 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_c_46 : Ref sig .tc := ⟨.hbm, 227, rfl⟩
abbrev main_v151 : Ref sig .tc := ⟨.hbm, 228, rfl⟩
abbrev main_v152 : Ref sig .tc := ⟨.hbm, 229, rfl⟩
abbrev main_c_47 : Ref sig .tc := ⟨.hbm, 230, rfl⟩
abbrev main_v153 : Ref sig .tc := ⟨.hbm, 231, rfl⟩
abbrev main_v154 : Ref sig .tc := ⟨.hbm, 232, rfl⟩
abbrev main_c_48 : Ref sig .tc := ⟨.hbm, 233, rfl⟩
abbrev main_v155 : Ref sig .tc := ⟨.hbm, 234, rfl⟩
abbrev main_v156 : Ref sig .tc := ⟨.hbm, 235, rfl⟩
abbrev main_cst_49 : Ref sig .tc := ⟨.hbm, 236, rfl⟩
abbrev main_cst_50 : Ref sig .tc := ⟨.hbm, 237, rfl⟩
abbrev main_call9_v0 : Ref sig .tc := ⟨.hbm, 238, rfl⟩
abbrev main_call9_v1 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_c_51 : Ref sig .tc := ⟨.hbm, 246, rfl⟩
abbrev main_v163 : Ref sig .tc := ⟨.hbm, 247, rfl⟩
abbrev main_v164 : Ref sig .tc := ⟨.hbm, 248, rfl⟩
abbrev main_c_52 : Ref sig .tc := ⟨.hbm, 249, rfl⟩
abbrev main_v165 : Ref sig .tc := ⟨.hbm, 250, rfl⟩
abbrev main_v166 : Ref sig .tc := ⟨.hbm, 251, rfl⟩
abbrev main_c_53 : Ref sig .tc := ⟨.hbm, 252, rfl⟩
abbrev main_v167 : Ref sig .tc := ⟨.hbm, 253, rfl⟩
abbrev main_v168 : Ref sig .tc := ⟨.hbm, 254, rfl⟩
abbrev main_cst_54 : Ref sig .tc := ⟨.hbm, 255, rfl⟩
abbrev main_cst_55 : Ref sig .tc := ⟨.hbm, 256, rfl⟩
abbrev main_call10_v0 : Ref sig .tc := ⟨.hbm, 257, rfl⟩
abbrev main_call10_v1 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_cst_56 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_c_57 : Ref sig .tc := ⟨.hbm, 273, rfl⟩
abbrev main_v182 : Ref sig .tc := ⟨.hbm, 274, rfl⟩
abbrev main_v183 : Ref sig .tc := ⟨.hbm, 275, rfl⟩
abbrev main_c_58 : Ref sig .tc := ⟨.hbm, 276, rfl⟩
abbrev main_v184 : Ref sig .tc := ⟨.hbm, 277, rfl⟩
abbrev main_v185 : Ref sig .tc := ⟨.hbm, 278, rfl⟩
abbrev main_c_59 : Ref sig .tc := ⟨.hbm, 279, rfl⟩
abbrev main_v186 : Ref sig .tc := ⟨.hbm, 280, rfl⟩
abbrev main_v187 : Ref sig .tc := ⟨.hbm, 281, rfl⟩
abbrev main_cst_60 : Ref sig .tc := ⟨.hbm, 282, rfl⟩
abbrev main_cst_61 : Ref sig .tc := ⟨.hbm, 283, rfl⟩
abbrev main_call11_v0 : Ref sig .tc := ⟨.hbm, 284, rfl⟩
abbrev main_call11_v1 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_c_62 : Ref sig .tc := ⟨.hbm, 291, rfl⟩
abbrev main_v193 : Ref sig .tc := ⟨.hbm, 292, rfl⟩
abbrev main_v194 : Ref sig .tc := ⟨.hbm, 293, rfl⟩
abbrev main_c_63 : Ref sig .tc := ⟨.hbm, 294, rfl⟩
abbrev main_v195 : Ref sig .tc := ⟨.hbm, 295, rfl⟩
abbrev main_v196 : Ref sig .tc := ⟨.hbm, 296, rfl⟩
abbrev main_c_64 : Ref sig .tc := ⟨.hbm, 297, rfl⟩
abbrev main_v197 : Ref sig .tc := ⟨.hbm, 298, rfl⟩
abbrev main_v198 : Ref sig .tc := ⟨.hbm, 299, rfl⟩
abbrev main_cst_65 : Ref sig .tc := ⟨.hbm, 300, rfl⟩
abbrev main_cst_66 : Ref sig .tc := ⟨.hbm, 301, rfl⟩
abbrev main_call12_v0 : Ref sig .tc := ⟨.hbm, 302, rfl⟩
abbrev main_call12_v1 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_c_67 : Ref sig .tc := ⟨.hbm, 310, rfl⟩
abbrev main_v205 : Ref sig .tc := ⟨.hbm, 311, rfl⟩
abbrev main_v206 : Ref sig .tc := ⟨.hbm, 312, rfl⟩
abbrev main_c_68 : Ref sig .tc := ⟨.hbm, 313, rfl⟩
abbrev main_v207 : Ref sig .tc := ⟨.hbm, 314, rfl⟩
abbrev main_v208 : Ref sig .tc := ⟨.hbm, 315, rfl⟩
abbrev main_c_69 : Ref sig .tc := ⟨.hbm, 316, rfl⟩
abbrev main_v209 : Ref sig .tc := ⟨.hbm, 317, rfl⟩
abbrev main_v210 : Ref sig .tc := ⟨.hbm, 318, rfl⟩
abbrev main_cst_70 : Ref sig .tc := ⟨.hbm, 319, rfl⟩
abbrev main_cst_71 : Ref sig .tc := ⟨.hbm, 320, rfl⟩
abbrev main_call13_v0 : Ref sig .tc := ⟨.hbm, 321, rfl⟩
abbrev main_call13_v1 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_c_72 : Ref sig .tc := ⟨.hbm, 329, rfl⟩
abbrev main_v217 : Ref sig .tc := ⟨.hbm, 330, rfl⟩
abbrev main_v218 : Ref sig .tc := ⟨.hbm, 331, rfl⟩
abbrev main_c_73 : Ref sig .tc := ⟨.hbm, 332, rfl⟩
abbrev main_v219 : Ref sig .tc := ⟨.hbm, 333, rfl⟩
abbrev main_v220 : Ref sig .tc := ⟨.hbm, 334, rfl⟩
abbrev main_c_74 : Ref sig .tc := ⟨.hbm, 335, rfl⟩
abbrev main_v221 : Ref sig .tc := ⟨.hbm, 336, rfl⟩
abbrev main_v222 : Ref sig .tc := ⟨.hbm, 337, rfl⟩
abbrev main_cst_75 : Ref sig .tc := ⟨.hbm, 338, rfl⟩
abbrev main_cst_76 : Ref sig .tc := ⟨.hbm, 339, rfl⟩
abbrev main_call14_v0 : Ref sig .tc := ⟨.hbm, 340, rfl⟩
abbrev main_call14_v1 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_c_77 : Ref sig .tc := ⟨.hbm, 348, rfl⟩
abbrev main_v229 : Ref sig .tc := ⟨.hbm, 349, rfl⟩
abbrev main_v230 : Ref sig .tc := ⟨.hbm, 350, rfl⟩
abbrev main_c_78 : Ref sig .tc := ⟨.hbm, 351, rfl⟩
abbrev main_v231 : Ref sig .tc := ⟨.hbm, 352, rfl⟩
abbrev main_v232 : Ref sig .tc := ⟨.hbm, 353, rfl⟩
abbrev main_c_79 : Ref sig .tc := ⟨.hbm, 354, rfl⟩
abbrev main_v233 : Ref sig .tc := ⟨.hbm, 355, rfl⟩
abbrev main_v234 : Ref sig .tc := ⟨.hbm, 356, rfl⟩
abbrev main_cst_80 : Ref sig .tc := ⟨.hbm, 357, rfl⟩
abbrev main_cst_81 : Ref sig .tc := ⟨.hbm, 358, rfl⟩
abbrev main_call15_v0 : Ref sig .tc := ⟨.hbm, 359, rfl⟩
abbrev main_call15_v1 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_c_82 : Ref sig .tc := ⟨.hbm, 367, rfl⟩
abbrev main_v241 : Ref sig .tc := ⟨.hbm, 368, rfl⟩
abbrev main_v242 : Ref sig .tc := ⟨.hbm, 369, rfl⟩
abbrev main_c_83 : Ref sig .tc := ⟨.hbm, 370, rfl⟩
abbrev main_v243 : Ref sig .tc := ⟨.hbm, 371, rfl⟩
abbrev main_v244 : Ref sig .tc := ⟨.hbm, 372, rfl⟩
abbrev main_c_84 : Ref sig .tc := ⟨.hbm, 373, rfl⟩
abbrev main_v245 : Ref sig .tc := ⟨.hbm, 374, rfl⟩
abbrev main_v246 : Ref sig .tc := ⟨.hbm, 375, rfl⟩
abbrev main_cst_85 : Ref sig .tc := ⟨.hbm, 376, rfl⟩
abbrev main_cst_86 : Ref sig .tc := ⟨.hbm, 377, rfl⟩
abbrev main_call16_v0 : Ref sig .tc := ⟨.hbm, 378, rfl⟩
abbrev main_call16_v1 : Ref sig .tc := ⟨.hbm, 379, rfl⟩
abbrev main_v247 : Ref sig .tc := ⟨.hbm, 380, rfl⟩
abbrev main_v248 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_c_87 : Ref sig .tc := ⟨.hbm, 386, rfl⟩
abbrev main_v253 : Ref sig .tc := ⟨.hbm, 387, rfl⟩
abbrev main_v254 : Ref sig .tc := ⟨.hbm, 388, rfl⟩
abbrev main_c_88 : Ref sig .tc := ⟨.hbm, 389, rfl⟩
abbrev main_v255 : Ref sig .tc := ⟨.hbm, 390, rfl⟩
abbrev main_v256 : Ref sig .tc := ⟨.hbm, 391, rfl⟩
abbrev main_c_89 : Ref sig .tc := ⟨.hbm, 392, rfl⟩
abbrev main_v257 : Ref sig .tc := ⟨.hbm, 393, rfl⟩
abbrev main_v258 : Ref sig .tc := ⟨.hbm, 394, rfl⟩
abbrev main_cst_90 : Ref sig .tc := ⟨.hbm, 395, rfl⟩
abbrev main_cst_91 : Ref sig .tc := ⟨.hbm, 396, rfl⟩
abbrev main_call17_v0 : Ref sig .tc := ⟨.hbm, 397, rfl⟩
abbrev main_call17_v1 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_c_92 : Ref sig .tc := ⟨.hbm, 405, rfl⟩
abbrev main_v265 : Ref sig .tc := ⟨.hbm, 406, rfl⟩
abbrev main_v266 : Ref sig .tc := ⟨.hbm, 407, rfl⟩
abbrev main_c_93 : Ref sig .tc := ⟨.hbm, 408, rfl⟩
abbrev main_v267 : Ref sig .tc := ⟨.hbm, 409, rfl⟩
abbrev main_v268 : Ref sig .tc := ⟨.hbm, 410, rfl⟩
abbrev main_c_94 : Ref sig .tc := ⟨.hbm, 411, rfl⟩
abbrev main_v269 : Ref sig .tc := ⟨.hbm, 412, rfl⟩
abbrev main_v270 : Ref sig .tc := ⟨.hbm, 413, rfl⟩
abbrev main_cst_95 : Ref sig .tc := ⟨.hbm, 414, rfl⟩
abbrev main_cst_96 : Ref sig .tc := ⟨.hbm, 415, rfl⟩
abbrev main_call18_v0 : Ref sig .tc := ⟨.hbm, 416, rfl⟩
abbrev main_call18_v1 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_cst_97 : Ref sig .tc := ⟨.hbm, 423, rfl⟩
abbrev main_v276 : Ref sig .tc := ⟨.hbm, 424, rfl⟩
abbrev main_v277 : Ref sig .tc := ⟨.hbm, 425, rfl⟩
abbrev main_v278 : Ref sig .tc := ⟨.hbm, 426, rfl⟩
abbrev main_v279 : Ref sig .tc := ⟨.hbm, 427, rfl⟩
abbrev main_v280 : Ref sig .tc := ⟨.hbm, 428, rfl⟩
abbrev main_v281 : Ref sig .tc := ⟨.hbm, 429, rfl⟩
abbrev main_v282 : Ref sig .tc := ⟨.hbm, 430, rfl⟩
abbrev main_v283 : Ref sig .tc := ⟨.hbm, 431, rfl⟩
abbrev main_v284 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_v288 : Ref sig .tc := ⟨.hbm, 436, rfl⟩
abbrev main_cst_98 : Ref sig .tc := ⟨.hbm, 437, rfl⟩
abbrev main_call19_v0 : Ref sig .tc := ⟨.hbm, 438, rfl⟩
abbrev main_call19_v1 : Ref sig .tc := ⟨.hbm, 439, rfl⟩
abbrev main_call19_v2 : Ref sig .tc := ⟨.hbm, 440, rfl⟩
abbrev main_v289 : Ref sig .tc := ⟨.hbm, 441, rfl⟩
abbrev main_cst_99 : Ref sig .tc := ⟨.hbm, 442, rfl⟩
abbrev main_call20_v0 : Ref sig .tc := ⟨.hbm, 443, rfl⟩
abbrev main_call20_v1 : Ref sig .tc := ⟨.hbm, 444, rfl⟩
abbrev main_call20_v2 : Ref sig .tc := ⟨.hbm, 445, rfl⟩
abbrev main_v290 : Ref sig .tc := ⟨.hbm, 446, rfl⟩
abbrev main_v291 : Ref sig .tc := ⟨.hbm, 447, rfl⟩
abbrev main_cst_100 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_v295 : Ref sig .tc := ⟨.hbm, 452, rfl⟩
abbrev main_v296 : Ref sig .tc := ⟨.hbm, 453, rfl⟩
abbrev main_v297 : Ref sig .tc := ⟨.hbm, 454, rfl⟩
abbrev main_v298 : Ref sig .tc := ⟨.hbm, 455, rfl⟩
abbrev main_v299 : Ref sig .tc := ⟨.hbm, 456, rfl⟩
abbrev main_cst_101 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_v308 : Ref sig .tc := ⟨.hbm, 466, rfl⟩
abbrev main_v309 : Ref sig .tc := ⟨.hbm, 467, rfl⟩
abbrev main_v310 : Ref sig .tc := ⟨.hbm, 468, rfl⟩
abbrev main_v311 : Ref sig .tc := ⟨.hbm, 469, rfl⟩
abbrev main_c_102 : Ref sig .tc := ⟨.hbm, 470, rfl⟩
abbrev main_v312 : Ref sig .tc := ⟨.hbm, 471, rfl⟩
abbrev main_v313 : Ref sig .tc := ⟨.hbm, 472, rfl⟩
abbrev main_c_103 : Ref sig .tc := ⟨.hbm, 473, rfl⟩
abbrev main_v314 : Ref sig .tc := ⟨.hbm, 474, rfl⟩
abbrev main_v315 : Ref sig .tc := ⟨.hbm, 475, rfl⟩
abbrev main_c_104 : Ref sig .tc := ⟨.hbm, 476, rfl⟩
abbrev main_v316 : Ref sig .tc := ⟨.hbm, 477, rfl⟩
abbrev main_v317 : Ref sig .tc := ⟨.hbm, 478, rfl⟩
abbrev main_v318 : Ref sig .tc := ⟨.hbm, 479, rfl⟩
abbrev main_v319 : Ref sig .tc := ⟨.hbm, 480, rfl⟩
abbrev main_v320 : Ref sig .tc := ⟨.hbm, 481, rfl⟩
abbrev main_v321 : Ref sig .tc := ⟨.hbm, 482, rfl⟩
abbrev main_v322 : Ref sig .tc := ⟨.hbm, 483, rfl⟩
abbrev main_c_105 : Ref sig .tc := ⟨.hbm, 484, rfl⟩
abbrev main_v323 : Ref sig .tc := ⟨.hbm, 485, rfl⟩
abbrev main_v324 : Ref sig .tc := ⟨.hbm, 486, rfl⟩
abbrev main_c_106 : Ref sig .tc := ⟨.hbm, 487, rfl⟩
abbrev main_v325 : Ref sig .tc := ⟨.hbm, 488, rfl⟩
abbrev main_v326 : Ref sig .tc := ⟨.hbm, 489, rfl⟩
abbrev main_c_107 : Ref sig .tc := ⟨.hbm, 490, rfl⟩
abbrev main_v327 : Ref sig .tc := ⟨.hbm, 491, rfl⟩
abbrev main_v328 : Ref sig .tc := ⟨.hbm, 492, rfl⟩
abbrev main_v329 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_c_108 : Ref sig .tc := ⟨.hbm, 502, rfl⟩
abbrev main_v338 : Ref sig .tc := ⟨.hbm, 503, rfl⟩
abbrev main_v339 : Ref sig .tc := ⟨.hbm, 504, rfl⟩
abbrev main_c_109 : Ref sig .tc := ⟨.hbm, 505, rfl⟩
abbrev main_v340 : Ref sig .tc := ⟨.hbm, 506, rfl⟩
abbrev main_v341 : Ref sig .tc := ⟨.hbm, 507, rfl⟩
abbrev main_c_110 : Ref sig .tc := ⟨.hbm, 508, rfl⟩
abbrev main_v342 : Ref sig .tc := ⟨.hbm, 509, rfl⟩
abbrev main_v343 : Ref sig .tc := ⟨.hbm, 510, rfl⟩
abbrev main_v344 : Ref sig .tc := ⟨.hbm, 511, rfl⟩
abbrev main_v345 : Ref sig .tc := ⟨.hbm, 512, rfl⟩
abbrev main_v346 : Ref sig .tc := ⟨.hbm, 513, rfl⟩
abbrev main_v347 : Ref sig .tc := ⟨.hbm, 514, rfl⟩
abbrev main_v348 : Ref sig .tc := ⟨.hbm, 515, rfl⟩
abbrev main_c_111 : Ref sig .tc := ⟨.hbm, 516, rfl⟩
abbrev main_v349 : Ref sig .tc := ⟨.hbm, 517, rfl⟩
abbrev main_v350 : Ref sig .tc := ⟨.hbm, 518, rfl⟩
abbrev main_c_112 : Ref sig .tc := ⟨.hbm, 519, rfl⟩
abbrev main_v351 : Ref sig .tc := ⟨.hbm, 520, rfl⟩
abbrev main_v352 : Ref sig .tc := ⟨.hbm, 521, rfl⟩
abbrev main_c_113 : Ref sig .tc := ⟨.hbm, 522, rfl⟩
abbrev main_v353 : Ref sig .tc := ⟨.hbm, 523, rfl⟩
abbrev main_v354 : Ref sig .tc := ⟨.hbm, 524, rfl⟩
abbrev main_v355 : Ref sig .tc := ⟨.hbm, 525, rfl⟩
abbrev main_v356 : Ref sig .tc := ⟨.hbm, 526, rfl⟩
abbrev main_v357 : Ref sig .tc := ⟨.hbm, 527, rfl⟩
abbrev main_v358 : Ref sig .tc := ⟨.hbm, 528, rfl⟩
abbrev main_v359 : Ref sig .tc := ⟨.hbm, 529, rfl⟩
abbrev main_v360 : Ref sig .tc := ⟨.hbm, 530, rfl⟩
abbrev main_v361 : Ref sig .tc := ⟨.hbm, 531, rfl⟩
abbrev main_v362 : Ref sig .tc := ⟨.hbm, 532, rfl⟩
abbrev main_v363 : Ref sig .tc := ⟨.hbm, 533, rfl⟩
abbrev main_v364 : Ref sig .tc := ⟨.hbm, 534, rfl⟩
abbrev main_v365 : Ref sig .tc := ⟨.hbm, 535, rfl⟩
abbrev main_v366 : Ref sig .tc := ⟨.hbm, 536, rfl⟩
abbrev main_v367 : Ref sig .tc := ⟨.hbm, 537, rfl⟩
abbrev main_v368 : Ref sig .tc := ⟨.hbm, 538, rfl⟩
abbrev main_v369 : Ref sig .tc := ⟨.hbm, 539, rfl⟩
abbrev main_v370 : Ref sig .tc := ⟨.hbm, 540, rfl⟩
abbrev main_v371 : Ref sig .tc := ⟨.hbm, 541, rfl⟩
abbrev main_v372 : Ref sig .tc := ⟨.hbm, 542, rfl⟩

abbrev nD : Nat := 1
abbrev τ : Topo := Topo.v7x

variable {F : FTy → Type} [FloatOps F]
-- ==== Proof.BodyPt.lean ====
/-
  How the kernel body's buffers are held while it runs.
-/
module

public import proofs.«01_k».proof.Proof.Gen.KernelIdeal.Loops
public import proofs.«01_k».proof.Proof.Gen.KernelIdeal.Launch
public import Idealize.ShloMosaic.Lib.Tactic
public import Idealize.ShloMosaic.Lib.Pipeline.FrameBody

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What memref `M`'s buffer holds, and that buffer's elements held whole on core `c` at `f`. -/
abbrev Ct {sp : Space} {S : Shape} {e : EltTy} (M : Memref sig .tc sp S e) : Type := BufTy.Contents (Elt F) M.view.ty
abbrev pt (c : Dev nD) {sp : Space} {S : Shape} {e : EltTy} (M : Memref sig .tc sp S e) (f : Ct (F := F) M) : sProp 𝕄 :=
  M.view.loc (c : Thread nD τ) ↦[M.view.set]{fullShare} f

/-- The same at half the full share: how the table of lengths is held. -/
abbrev pr (c : Dev nD) {sp : Space} {S : Shape} {e : EltTy} (M : Memref sig .tc sp S e) (f : Ct (F := F) M) : sProp 𝕄 :=
  M.view.loc (c : Thread nD τ) ↦[M.view.set]{fullShare.right} f

end Cert.KernelIdeal.Own
-- ==== Proof.BodyFirst.lean ====
/-
  The kernel body at the first grid point, run once: it leaves the operands as they were and the four
  results about the new token, the block of scores, the query scratch and the coefficient scratch at contents the
  run names.
-/
module

public import proofs.«01_k».proof.Proof.BodyPt

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run at a point where the first conditional is taken. -/
def bodyFirst (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) :
    { W : Ct (F := F) arg12 × Ct (F := F) arg13 × Ct (F := F) arg14 × Ct (F := F) arg15 × Ct (F := F) arg11 × Ct (F := F) arg16 × Ct (F := F) arg18 //
      ∀ (Q : PUnit → sProp 𝕄),
        iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25
          ∗ (iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ pt c arg11 W.2.2.2.2.1 ∗ pt c arg12 W.1 ∗ pt c arg13 W.2.1 ∗ pt c arg14 W.2.2.1 ∗ pt c arg15 W.2.2.2.1 ∗ pt c arg16 W.2.2.2.2.2.1 ∗ (∃ f, pt c arg17 f) ∗ pt c arg18 W.2.2.2.2.2.2 ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f)) -∗ Q ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q } := by
  refine ⟨⟨?_, ?_, ?_, ?_, ?_, ?_, ?_⟩, fun Q => ?run⟩
  case run =>
    iintro ⟨H1, H2, H3, H4, H5, H6, H7, H8, H9, H10, H11, H12, H13, H14, H15, H16, H17, H18, H19, H20, H21, H22, H23, H24, H25, Hk⟩
    sl_exec_parts! (disch := first | exact h1 | exact hchk _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.KernelIdeal.Own
-- ==== Proof.BodyLater.lean ====
/-
  The kernel body at a grid point after the first, run once: it leaves the operands, the four results
  about the new token, the query scratch and the coefficient scratch as they were, and the block of scores at contents
  the run names.
-/
module

public import proofs.«01_k».proof.Proof.BodyPt

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run at a point where the first conditional is not taken. -/
def bodyLater (c : Dev nD) (i : grid0.Coords) (h1 : ¬ k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x))
    :
    { W : Ct (F := F) arg11 × Unit // ∀ (Q : PUnit → sProp 𝕄),
        iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25
          ∗ (iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ pt c arg11 W.1 ∗ pt c arg12 f12 ∗ pt c arg13 f13 ∗ pt c arg14 f14 ∗ pt c arg15 f15 ∗ pt c arg16 f16 ∗ (∃ f, pt c arg17 f) ∗ pt c arg18 f18 ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f)) -∗ Q ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q } := by
  refine ⟨⟨?_, ()⟩, fun Q => ?run⟩
  case run =>
    iintro ⟨H1, H2, H3, H4, H5, H6, H7, H8, H9, H10, H11, H12, H13, H14, H15, H16, H17, H18, H19, H20, H21, H22, H23, H24, H25, Hk⟩
    sl_exec_parts! (disch := first | exact h1 | exact hchk _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.KernelIdeal.Own
-- ==== Proof.Chunks.lean ====
/-
  The side condition the kernel assumes of the length it reads: with a length of at most 8192 every
  chunk loop is well formed, its chunk offsets are multiples of 512, and every load and store of a
  chunk lies inside its block. The trip counts depend on the length through the number of 512-wide
  chunks alone.
-/
module

public import proofs.«01_k».proof.KernelIdeal

@[expose] public section

namespace Cert.KernelIdeal.Own

open Cert.KernelIdeal
open Idealize.ShloMosaic

/-- The number of chunks, as the kernel computes it from the length: a rounding-up division by 512. -/
abbrev chunks (v5 : BitVec 32) : BitVec 32 :=
  let v7 : BitVec 32 := Scalar.subi (Scalar.addi v5 512#32) 1#32
  let v13 : BitVec 32 := Scalar.subi (Scalar.extui (Scalar.cmpi .sgt v7 0#32)) (Scalar.extui (Scalar.cmpi .slt v7 0#32))
  let v18 : BitVec 32 := Scalar.subi (Scalar.extui (Scalar.cmpi .sgt 512#32 0#32)) (Scalar.extui (Scalar.cmpi .slt 512#32 0#32))
  let v22 : BitVec 1 := Scalar.andi (Scalar.cmpi .ne v13 v18) (Scalar.cmpi .ne (Scalar.remsi v7 512#32) 0#32)
  let v8 : BitVec 32 := Scalar.divsi v7 512#32
  Scalar.select v22 (Scalar.subi v8 1#32) v8

set_option maxRecDepth 100000 in
theorem chunks_eq_all : ∀ q : Fin 17, ∀ r : Fin 512, chunks (BitVec.ofNat 32 (512 * q.val + r.val)) = BitVec.ofNat 32 ((512 * q.val + r.val + 511) / 512) := by
  decide +kernel

/-- At a length of at most 8192 the kernel counts `⌈length / 512⌉` chunks. -/
theorem chunks_eq (v5 : BitVec 32) (h : v5.toNat ≤ 8192) : chunks v5 = BitVec.ofNat 32 ((v5.toNat + 511) / 512) := by
  have h1 := chunks_eq_all ⟨v5.toNat / 512, by omega⟩ ⟨v5.toNat % 512, by omega⟩
  have h2 : 512 * (v5.toNat / 512) + v5.toNat % 512 = v5.toNat := by omega
  simp only [h2, BitVec.ofNat_toNat, BitVec.setWidth_eq] at h1
  exact h1

/-- The loop over the chunks before `w`, -/
abbrev L1 (w : BitVec 32) : Scf.Loop 32 := ⟨0#32, Scalar.addi 0#32 (Scalar.muli (Scalar.divsi (Scalar.subi w 0#32) 1#32) 1#32), 1#32⟩
/-- its remainder loop, -/
abbrev L2 (w : BitVec 32) : Scf.Loop 32 := ⟨Scalar.addi 0#32 (Scalar.muli (Scalar.divsi (Scalar.subi w 0#32) 1#32) 1#32), Scalar.addi 0#32 (Scalar.subi w 0#32), 1#32⟩
/-- the loop over the chunks from `w` on, -/
abbrev L3 (w : BitVec 32) : Scf.Loop 32 := ⟨w, Scalar.addi w (Scalar.muli (Scalar.divsi (Scalar.subi 16#32 w) 1#32) 1#32), 1#32⟩
/-- and its remainder loop. -/
abbrev L4 (w : BitVec 32) : Scf.Loop 32 := ⟨Scalar.addi w (Scalar.muli (Scalar.divsi (Scalar.subi 16#32 w) 1#32) 1#32), Scalar.addi w (Scalar.subi 16#32 w), 1#32⟩

theorem loops_all : ∀ n : Fin 17, (L1 (BitVec.ofNat 32 n.val)).OK ∧ (L1 (BitVec.ofNat 32 n.val)).trips = n.val
    ∧ (L2 (BitVec.ofNat 32 n.val)).OK ∧ (L2 (BitVec.ofNat 32 n.val)).trips = 0
    ∧ (L3 (BitVec.ofNat 32 n.val)).OK ∧ (L3 (BitVec.ofNat 32 n.val)).trips = 16 - n.val
    ∧ (L4 (BitVec.ofNat 32 n.val)).OK ∧ (L4 (BitVec.ofNat 32 n.val)).trips = 0 := by
  decide +kernel

/-- The same of the loops the kernel runs at a length of at most 8192. -/
theorem loops (v5 : BitVec 32) (h : v5.toNat ≤ 8192) : (L1 (chunks v5)).OK ∧ (L1 (chunks v5)).trips = (v5.toNat + 511) / 512
    ∧ (L2 (chunks v5)).OK ∧ (L2 (chunks v5)).trips = 0
    ∧ (L3 (chunks v5)).OK ∧ (L3 (chunks v5)).trips = 16 - (v5.toNat + 511) / 512
    ∧ (L4 (chunks v5)).OK ∧ (L4 (chunks v5)).trips = 0 := by
  rw [chunks_eq v5 h]
  exact loops_all ⟨(v5.toNat + 511) / 512, by omega⟩

/-- The first column of a chunk. -/
theorem word_all : ∀ n : Fin 17, ∀ k : Fin 17, (Scalar.muli (Scf.iv (BitVec.ofNat 32 n.val) 1#32 k.val) 512#32).toNat = 512 * (n.val + k.val) := by
  decide +kernel

theorem word1 (k : Nat) (hk : k < 16) : (Scalar.muli (Scf.iv 0#32 1#32 k) 512#32).toNat = 512 * k := by
  have := word_all ⟨0, by omega⟩ ⟨k, by omega⟩
  simpa using this

theorem word3 (v5 : BitVec 32) (h : v5.toNat ≤ 8192) (k : Nat) (hk : k < 16 - (v5.toNat + 511) / 512) :
    (Scalar.muli (Scf.iv (chunks v5) 1#32 k) 512#32).toNat = 512 * ((v5.toNat + 511) / 512 + k) := by
  rw [chunks_eq v5 h]
  exact word_all ⟨(v5.toNat + 511) / 512, by omega⟩ ⟨k, by omega⟩

section Inside

/-- A chunk inside its block, by the rank of the block. -/
theorem in2 {b A B w : Nat} {c : Nat} (hc : c + b ≤ A) (hw : w + 512 ≤ B) :
    ∀ a, (![c, w] : Fin 2 → Nat) a + (![b, 512] : Fin 2 → Nat) a ≤ (![A, B] : Fin 2 → Nat) a := by
  intro a; match a with
  | 0 => exact hc
  | 1 => exact hw

theorem in3 {b b' A A' B w : Nat} {c c' : Nat} (hc : c + b ≤ A) (hc' : c' + b' ≤ A') (hw : w + 512 ≤ B) :
    ∀ a, (![c, c', w] : Fin 3 → Nat) a + (![b, b', 512] : Fin 3 → Nat) a ≤ (![A, A', B] : Fin 3 → Nat) a := by
  intro a; match a with
  | 0 => exact hc
  | 1 => exact hc'
  | 2 => exact hw

theorem in4 {b b' b'' A A' A'' B w : Nat} {c c' c'' : Nat} (hc : c + b ≤ A) (hc' : c' + b' ≤ A') (hc'' : c'' + b'' ≤ A'') (hw : w + 512 ≤ B) :
    ∀ a, (![c, c', c'', w] : Fin 4 → Nat) a + (![b, b', b'', 512] : Fin 4 → Nat) a ≤ (![A, A', A'', B] : Fin 4 → Nat) a := by
  intro a; match a with
  | 0 => exact hc
  | 1 => exact hc'
  | 2 => exact hc''
  | 3 => exact hw

end Inside

variable (v5 : BitVec 32) (h : v5.toNat ≤ 8192)
include h

theorem trips1 (k : Fin (L1 (chunks v5)).trips) : (Scalar.muli (Scf.iv 0#32 1#32 k.val) 512#32).toNat + 512 ≤ 8192 := by
  have := (loops v5 h).2.1
  have hk := k.isLt
  rw [word1 k.val (by omega)]; omega

theorem trips3 (k : Fin (L3 (chunks v5)).trips) : (Scalar.muli (Scf.iv (chunks v5) 1#32 k.val) 512#32).toNat + 512 ≤ 8192 := by
  have := (loops v5 h).2.2.2.2.2.1
  have hk := k.isLt
  rw [word3 v5 h k.val (by omega)]; omega

theorem dvd1 (k : Fin (L1 (chunks v5)).trips) : 512 ∣ (Scalar.muli (Scf.iv 0#32 1#32 k.val) 512#32).toNat := by
  have := (loops v5 h).2.1
  have hk := k.isLt
  rw [word1 k.val (by omega)]; exact ⟨_, rfl⟩

theorem dvd3 (k : Fin (L3 (chunks v5)).trips) : 512 ∣ (Scalar.muli (Scf.iv (chunks v5) 1#32 k.val) 512#32).toNat := by
  have := (loops v5 h).2.2.2.2.2.1
  have hk := k.isLt
  rw [word3 v5 h k.val (by omega)]; exact ⟨_, rfl⟩

theorem none2 (k : Fin (L2 (chunks v5)).trips) : False := by
  have := (loops v5 h).2.2.2.1
  have hk := k.isLt
  omega

theorem none4 (k : Fin (L4 (chunks v5)).trips) : False := by
  have := (loops v5 h).2.2.2.2.2.2.2
  have hk := k.isLt
  omega

theorem chk1_0 : k0_chk1_0 v5 :=
  ⟨(loops v5 h).1,
   dvd1 v5 h,
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k)⟩

theorem chk1_1 : k0_chk1_1 v5 :=
  ⟨fun k => in3 (by decide) (by decide) (trips1 v5 h k),
   fun k => in2 (by decide) (trips1 v5 h k),
   (loops v5 h).2.2.1,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim⟩

theorem chk1_2 : k0_chk1_2 v5 :=
  ⟨fun k => (none2 v5 h k).elim,
   fun k => (none2 v5 h k).elim,
   fun k => (none2 v5 h k).elim,
   fun k => (none2 v5 h k).elim,
   (loops v5 h).2.2.2.2.1,
   dvd3 v5 h,
   fun k => in3 (by decide) (by decide) (trips3 v5 h k),
   (loops v5 h).2.2.2.2.2.2.1,
   fun k => (none4 v5 h k).elim,
   fun k => (none4 v5 h k).elim,
   (loops v5 h).1,
   dvd1 v5 h,
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k)⟩

theorem chk1_3 : k0_chk1_3 v5 :=
  ⟨(loops v5 h).2.2.1,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim⟩

/-- The whole side condition, at any length of at most 8192. -/
theorem chk1 : k0_chk1 v5 := ⟨chk1_0 v5 h, chk1_1 v5 h, chk1_2 v5 h, chk1_3 v5 h⟩

end Cert.KernelIdeal.Own
-- ==== Proof.Trip.lean ====
/-
  One chunk of scores: what a step of the loop over the chunks stores in the block of scores, head by head, as a function
  of the rows it reads.
-/
module

public import proofs.«01_k».proof.Proof.Gen.KernelIdeal
public import proofs.«01_k».proof.Proof.Gen.KernelIdeal.Skeleton
public import proofs.«01_k».proof.Proof.Gen.KernelIdeal.Loops

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic

variable {F : FTy → Type} [FloatOps F]

/-- The sketch of 512 positions, four bytes to a word, -/
def words (kb : Vec F S1x1x32x512 .i8) : IVec S8x512 32 := bitcast S8x512 32 (shapeCast S32x512 kb shapeCasts_S1x1x32x512_S32x512) bitcasts_S32x512_w8_S8x512_w32

/-- the words whose even bytes are taken, -/
def evenWords (kb : Vec F S1x1x32x512 .i8) : IVec S8x512 32 := shli (words kb) (broadcast S8x512 7#32)

/-- and the words whose odd bytes are taken. -/
def oddWords (kb : Vec F S1x1x32x512 .i8) : IVec S8x512 32 := shrui (words kb) (broadcast S8x512 1#32)

/-- One plane of bits, each bit alone in the exponent of a 16-bit float. -/
def plane (w : IVec S8x512 32) (mask : BitVec 32) : FVec F S16x512 .bf16 :=
  bitcastToFloat .bf16 (bitcast S16x512 16 (andi w (broadcast S8x512 mask)) bitcasts_S8x512_w32_S16x512_w16)

/-- All the planes. -/
def signTile (kb : Vec F S1x1x32x512 .i8) : FVec F S256x512 .bf16 :=
  concatenate S256x512 0 [⟨S16x512, plane (evenWords kb) 8388736#32⟩, ⟨S16x512, plane (oddWords kb) 8388736#32⟩, ⟨S16x512, plane (evenWords kb) 16777472#32⟩, ⟨S16x512, plane (oddWords kb) 16777472#32⟩, ⟨S16x512, plane (evenWords kb) 33554944#32⟩, ⟨S16x512, plane (oddWords kb) 33554944#32⟩, ⟨S16x512, plane (evenWords kb) 67109888#32⟩, ⟨S16x512, plane (oddWords kb) 67109888#32⟩, ⟨S16x512, plane (evenWords kb) 134219776#32⟩, ⟨S16x512, plane (oddWords kb) 134219776#32⟩, ⟨S16x512, plane (evenWords kb) 268439552#32⟩, ⟨S16x512, plane (oddWords kb) 268439552#32⟩, ⟨S16x512, plane (evenWords kb) 536879104#32⟩, ⟨S16x512, plane (oddWords kb) 536879104#32⟩, ⟨S16x512, plane (evenWords kb) 1073758208#32⟩, ⟨S16x512, plane (oddWords kb) 1073758208#32⟩] concatenates_S16x512_S16x512_S16x512_S16x512_S16x512_S16x512_S16x512_S16x512_S16x512_S16x512_S16x512_S16x512_S16x512_S16x512_S16x512_S16x512_S256x512_d0

/-- The scores of eight rows of queries against 512 positions, -/
def rawScore (q : Vec F S8x256 .bf16) (kb : Vec F S1x1x32x512 .i8) (nm : Vec F S1x1x512 .bf16) (up qs : Vec F S1x8x128 .f32) : FVec F S8x512 .f32 :=
  mulf (subf (mulf (matmul dot_S8x256_S256x512_S8x512_1_0_0_1_n_n none q (signTile kb) (constant S8x512 .f32 0x00000000#32))
      (concatenate S8x512 1 [⟨S8x128, shapeCast S8x128 up shapeCasts_S1x8x128_S8x128⟩, ⟨S8x128, shapeCast S8x128 up shapeCasts_S1x8x128_S8x128⟩, ⟨S8x128, shapeCast S8x128 up shapeCasts_S1x8x128_S8x128⟩, ⟨S8x128, shapeCast S8x128 up shapeCasts_S1x8x128_S8x128⟩] concatenates_S8x128_S8x128_S8x128_S8x128_S8x512_d1))
      (concatenate S8x512 1 [⟨S8x128, shapeCast S8x128 qs shapeCasts_S1x8x128_S8x128⟩, ⟨S8x128, shapeCast S8x128 qs shapeCasts_S1x8x128_S8x128⟩, ⟨S8x128, shapeCast S8x128 qs shapeCasts_S1x8x128_S8x128⟩, ⟨S8x128, shapeCast S8x128 qs shapeCasts_S1x8x128_S8x128⟩] concatenates_S8x128_S8x128_S8x128_S8x128_S8x512_d1))
    (broadcastTo S8x512 (mulf (extf .f32 (shapeCast S1x512 nm shapeCasts_S1x1x512_S1x512) bitsLt_bf16_f32) (broadcast S1x512 (Scalar.ofBits .f32 0x39E2DFC5#32 : F .f32))) broadcasts_S1x512_S8x512)

/-- and what is stored of them: five rows, zero from the length on. -/
def tileScore (v5 : BitVec 32) (k : Nat) (q : Vec F S8x256 .bf16) (kb : Vec F S1x1x32x512 .i8) (nm : Vec F S1x1x512 .bf16) (up qs : Vec F S1x8x128 .f32) : FVec F S1x5x512 .f32 :=
  shapeCast S1x5x512 (extractStridedSlice S5x512 ![0, 0]
    (select (cmpi .slt (addi (iota .tc S8x512 32 [1] iota_S8x512_d1_w32) (broadcast S8x512 (Scalar.muli (Scf.iv 0#32 1#32 k) 512#32))) (broadcast S8x512 v5))
      (rawScore q kb nm up qs) (broadcast S8x512 (Scalar.ofBits .f32 0x00000000#32 : F .f32)))
    slices_S8x512_o0_0_S5x512) shapeCasts_S5x512_S1x5x512

/-- One step's stores in the block of scores, the last head first. -/
theorem trip1_pieces (𝒱 : Variants) (c : Dev nD) (bd : Option 𝒱.V) (i : grid0.Coords) (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole) (arg0 : BitVec 32) (v5 : Elt F .i32) (k0_hw1 : k0_chk1 v5) (v24 : BitVec 32) (v34 : IVec S64x128 1) (cst_13 : F .f32) (v35 : FVec F S64x128 .f32) (X_arg6 : BufTy.Contents (Elt F) arg6.view.ty) (X_arg7 : BufTy.Contents (Elt F) arg7.view.ty) (X_arg16 : BufTy.Contents (Elt F) arg16.view.ty) (X_arg18 : BufTy.Contents (Elt F) arg18.view.ty) (k : Fin (k0_t1_loop v5).trips) (acc : BitVec 32) (f11 : BufTy.Contents (Elt F) arg11.view.ty) (f21 : BufTy.Contents (Elt F) arg21.view.ty) (f22 : BufTy.Contents (Elt F) arg22.view.ty) (f23 : BufTy.Contents (Elt F) arg23.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 k).2.1 acc f11 f21 f22 f23 = [
    ⟨Rect.unit (s := S1x40x8192) (k0_off36 v5 k) S1x5x512.size (k0_off36_inb v5 k0_hw1 k),
      tileScore v5 k.val (View.readAt (Elt F) arg16.view (Rect.unit (s := S768x256) (k0_off4 i 56#32) S8x256.size (k0_off4_inb i 7)).toLoadRect X_arg16)
        (View.readAt (Elt F) arg6.view (Rect.unit (s := S1x8x32x8192) (k0_off34 v5 k) S1x1x32x512.size (k0_off34_inb v5 k0_hw1 k)).toLoadRect X_arg6)
        (View.readAt (Elt F) arg7.view (Rect.unit (s := S1x8x8192) (k0_off35 v5 k) S1x1x512.size (k0_off35_inb v5 k0_hw1 k)).toLoadRect X_arg7)
        (View.readAt (Elt F) arg18.view (Rect.unit (s := S2x768x128) (k0_off6 i 56#32) S1x8x128.size (k0_off6_inb i 7)).toLoadRect X_arg18)
        (View.readAt (Elt F) arg18.view (Rect.unit (s := S2x768x128) (k0_off7 i 56#32) S1x8x128.size (k0_off7_inb i 7)).toLoadRect X_arg18)⟩,
    ⟨Rect.unit (s := S1x40x8192) (k0_off32 v5 k) S1x5x512.size (k0_off32_inb v5 k0_hw1 k),
      tileScore v5 k.val (View.readAt (Elt F) arg16.view (Rect.unit (s := S768x256) (k0_off4 i 48#32) S8x256.size (k0_off4_inb i 6)).toLoadRect X_arg16)
        (View.readAt (Elt F) arg6.view (Rect.unit (s := S1x8x32x8192) (k0_off30 v5 k) S1x1x32x512.size (k0_off30_inb v5 k0_hw1 k)).toLoadRect X_arg6)
        (View.readAt (Elt F) arg7.view (Rect.unit (s := S1x8x8192) (k0_off31 v5 k) S1x1x512.size (k0_off31_inb v5 k0_hw1 k)).toLoadRect X_arg7)
        (View.readAt (Elt F) arg18.view (Rect.unit (s := S2x768x128) (k0_off6 i 48#32) S1x8x128.size (k0_off6_inb i 6)).toLoadRect X_arg18)
        (View.readAt (Elt F) arg18.view (Rect.unit (s := S2x768x128) (k0_off7 i 48#32) S1x8x128.size (k0_off7_inb i 6)).toLoadRect X_arg18)⟩,
    ⟨Rect.unit (s := S1x40x8192) (k0_off28 v5 k) S1x5x512.size (k0_off28_inb v5 k0_hw1 k),
      tileScore v5 k.val (View.readAt (Elt F) arg16.view (Rect.unit (s := S768x256) (k0_off4 i 40#32) S8x256.size (k0_off4_inb i 5)).toLoadRect X_arg16)
        (View.readAt (Elt F) arg6.view (Rect.unit (s := S1x8x32x8192) (k0_off26 v5 k) S1x1x32x512.size (k0_off26_inb v5 k0_hw1 k)).toLoadRect X_arg6)
        (View.readAt (Elt F) arg7.view (Rect.unit (s := S1x8x8192) (k0_off27 v5 k) S1x1x512.size (k0_off27_inb v5 k0_hw1 k)).toLoadRect X_arg7)
        (View.readAt (Elt F) arg18.view (Rect.unit (s := S2x768x128) (k0_off6 i 40#32) S1x8x128.size (k0_off6_inb i 5)).toLoadRect X_arg18)
        (View.readAt (Elt F) arg18.view (Rect.unit (s := S2x768x128) (k0_off7 i 40#32) S1x8x128.size (k0_off7_inb i 5)).toLoadRect X_arg18)⟩,
    ⟨Rect.unit (s := S1x40x8192) (k0_off24 v5 k) S1x5x512.size (k0_off24_inb v5 k0_hw1 k),
      tileScore v5 k.val (View.readAt (Elt F) arg16.view (Rect.unit (s := S768x256) (k0_off4 i 32#32) S8x256.size (k0_off4_inb i 4)).toLoadRect X_arg16)
        (View.readAt (Elt F) arg6.view (Rect.unit (s := S1x8x32x8192) (k0_off22 v5 k) S1x1x32x512.size (k0_off22_inb v5 k0_hw1 k)).toLoadRect X_arg6)
        (View.readAt (Elt F) arg7.view (Rect.unit (s := S1x8x8192) (k0_off23 v5 k) S1x1x512.size (k0_off23_inb v5 k0_hw1 k)).toLoadRect X_arg7)
        (View.readAt (Elt F) arg18.view (Rect.unit (s := S2x768x128) (k0_off6 i 32#32) S1x8x128.size (k0_off6_inb i 4)).toLoadRect X_arg18)
        (View.readAt (Elt F) arg18.view (Rect.unit (s := S2x768x128) (k0_off7 i 32#32) S1x8x128.size (k0_off7_inb i 4)).toLoadRect X_arg18)⟩,
    ⟨Rect.unit (s := S1x40x8192) (k0_off20 v5 k) S1x5x512.size (k0_off20_inb v5 k0_hw1 k),
      tileScore v5 k.val (View.readAt (Elt F) arg16.view (Rect.unit (s := S768x256) (k0_off4 i 24#32) S8x256.size (k0_off4_inb i 3)).toLoadRect X_arg16)
        (View.readAt (Elt F) arg6.view (Rect.unit (s := S1x8x32x8192) (k0_off18 v5 k) S1x1x32x512.size (k0_off18_inb v5 k0_hw1 k)).toLoadRect X_arg6)
        (View.readAt (Elt F) arg7.view (Rect.unit (s := S1x8x8192) (k0_off19 v5 k) S1x1x512.size (k0_off19_inb v5 k0_hw1 k)).toLoadRect X_arg7)
        (View.readAt (Elt F) arg18.view (Rect.unit (s := S2x768x128) (k0_off6 i 24#32) S1x8x128.size (k0_off6_inb i 3)).toLoadRect X_arg18)
        (View.readAt (Elt F) arg18.view (Rect.unit (s := S2x768x128) (k0_off7 i 24#32) S1x8x128.size (k0_off7_inb i 3)).toLoadRect X_arg18)⟩,
    ⟨Rect.unit (s := S1x40x8192) (k0_off16 v5 k) S1x5x512.size (k0_off16_inb v5 k0_hw1 k),
      tileScore v5 k.val (View.readAt (Elt F) arg16.view (Rect.unit (s := S768x256) (k0_off4 i 16#32) S8x256.size (k0_off4_inb i 2)).toLoadRect X_arg16)
        (View.readAt (Elt F) arg6.view (Rect.unit (s := S1x8x32x8192) (k0_off14 v5 k) S1x1x32x512.size (k0_off14_inb v5 k0_hw1 k)).toLoadRect X_arg6)
        (View.readAt (Elt F) arg7.view (Rect.unit (s := S1x8x8192) (k0_off15 v5 k) S1x1x512.size (k0_off15_inb v5 k0_hw1 k)).toLoadRect X_arg7)
        (View.readAt (Elt F) arg18.view (Rect.unit (s := S2x768x128) (k0_off6 i 16#32) S1x8x128.size (k0_off6_inb i 2)).toLoadRect X_arg18)
        (View.readAt (Elt F) arg18.view (Rect.unit (s := S2x768x128) (k0_off7 i 16#32) S1x8x128.size (k0_off7_inb i 2)).toLoadRect X_arg18)⟩,
    ⟨Rect.unit (s := S1x40x8192) (k0_off12 v5 k) S1x5x512.size (k0_off12_inb v5 k0_hw1 k),
      tileScore v5 k.val (View.readAt (Elt F) arg16.view (Rect.unit (s := S768x256) (k0_off4 i 8#32) S8x256.size (k0_off4_inb i 1)).toLoadRect X_arg16)
        (View.readAt (Elt F) arg6.view (Rect.unit (s := S1x8x32x8192) (k0_off10 v5 k) S1x1x32x512.size (k0_off10_inb v5 k0_hw1 k)).toLoadRect X_arg6)
        (View.readAt (Elt F) arg7.view (Rect.unit (s := S1x8x8192) (k0_off11 v5 k) S1x1x512.size (k0_off11_inb v5 k0_hw1 k)).toLoadRect X_arg7)
        (View.readAt (Elt F) arg18.view (Rect.unit (s := S2x768x128) (k0_off6 i 8#32) S1x8x128.size (k0_off6_inb i 1)).toLoadRect X_arg18)
        (View.readAt (Elt F) arg18.view (Rect.unit (s := S2x768x128) (k0_off7 i 8#32) S1x8x128.size (k0_off7_inb i 1)).toLoadRect X_arg18)⟩,
    ⟨Rect.unit (s := S1x40x8192) (k0_off8 v5 k) S1x5x512.size (k0_off8_inb v5 k0_hw1 k),
      tileScore v5 k.val (View.readAt (Elt F) arg16.view (Rect.unit (s := S768x256) (k0_off4 i 0#32) S8x256.size (k0_off4_inb i 0)).toLoadRect X_arg16)
        (View.readAt (Elt F) arg6.view (Rect.unit (s := S1x8x32x8192) (k0_off3 v5 k) S1x1x32x512.size (k0_off3_inb v5 k0_hw1 k)).toLoadRect X_arg6)
        (View.readAt (Elt F) arg7.view (Rect.unit (s := S1x8x8192) (k0_off5 v5 k) S1x1x512.size (k0_off5_inb v5 k0_hw1 k)).toLoadRect X_arg7)
        (View.readAt (Elt F) arg18.view (Rect.unit (s := S2x768x128) (k0_off6 i 0#32) S1x8x128.size (k0_off6_inb i 0)).toLoadRect X_arg18)
        (View.readAt (Elt F) arg18.view (Rect.unit (s := S2x768x128) (k0_off7 i 0#32) S1x8x128.size (k0_off7_inb i 0)).toLoadRect X_arg18)⟩] := by
  unfold trip_k0_t1
  rfl

/-- One step's store of zeros. -/
theorem trip3_pieces (𝒱 : Variants) (c : Dev nD) (bd : Option 𝒱.V) (i : grid0.Coords) (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole) (arg0 : BitVec 32) (v5 : Elt F .i32) (k0_hw1 : k0_chk1 v5) (v24 : BitVec 32) (v34 : IVec S64x128 1) (cst_13 : F .f32) (v35 : FVec F S64x128 .f32) (k : Fin (k0_t3_loop v5).trips) (acc : BitVec 32) :
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 k).2.1 acc = [⟨Rect.unit (s := S1x40x8192) (k0_off73 v5 k) S1x40x512.size (k0_off73_inb v5 k0_hw1 k), shapeCast S1x40x512 (broadcast S40x512 (Scalar.ofBits .f32 0x00000000#32 : F .f32)) shapeCasts_S40x512_S1x40x512⟩] := by
  unfold trip_k0_t3
  rfl

end Cert.KernelIdeal.Own

end
-- ==== Proof.ScoreBlock.lean ====
/-
  The block of scores as a whole: a cell before the last chunk of a sequence holds the score of its chunk, a later one zero.
-/
module

public import proofs.«01_k».proof.Proof.Chunks
public import proofs.«01_k».proof.Proof.Trip
public import Idealize.ShloMosaic.Lib.Pointwise

@[expose] public section

set_option maxRecDepth 16384
set_option maxHeartbeats 4000000

noncomputable section

namespace Cert.KernelIdeal.Own

open Cert.KernelIdeal Cert.KernelIdeal.Gen
open Idealize.ShloMosaic Idealize.ShloMosaic.TcCoe

variable {F : FTy → Type} [FloatOps F]

/-- The step of the grid. -/
theorem step_lt (i : grid0.Coords) : (i 0).val < 12 := (i 0).isLt

/-- The chunk of scores of head `h` and chunk `j`, of the sketch, the norms, the queries and the coefficients. -/
def scoreAt (i : grid0.Coords) (v5 : BitVec 32) (KB : S1x8x32x8192.Idx → Elt F .i8) (NM : S1x8x8192.Idx → Elt F .bf16) (Q : S768x256.Idx → Elt F .bf16) (C : S2x768x128.Idx → Elt F .f32)
    (h : Fin 8) (j : Fin 16) : FVec F S1x5x512 .f32 :=
  tileScore v5 j.val
    (fun x : S8x256.Idx => Q (ix2 ⟨64 * (i 0).val + 8 * h.val + (x 0).val, by have := step_lt i; have h0 : (x 0).val < 8 := (x 0).isLt; omega⟩ (x 1)))
    (fun x : S1x1x32x512.Idx => KB (ix4 0 h (x 2) ⟨512 * j.val + (x 3).val, by have h0 : (x 3).val < 512 := (x 3).isLt; omega⟩))
    (fun x : S1x1x512.Idx => NM (ix3 0 h ⟨512 * j.val + (x 2).val, by have h0 : (x 2).val < 512 := (x 2).isLt; omega⟩))
    (fun x : S1x8x128.Idx => C (ix3 0 ⟨64 * (i 0).val + 8 * h.val + (x 1).val, by have := step_lt i; have h0 : (x 1).val < 8 := (x 1).isLt; omega⟩ (x 2)))
    (fun x : S1x8x128.Idx => C (ix3 1 ⟨64 * (i 0).val + 8 * h.val + (x 1).val, by have := step_lt i; have h0 : (x 1).val < 8 := (x 1).isLt; omega⟩ (x 2)))

theorem tile_congr (v5 : BitVec 32) (k : Nat) {q q' : Vec F S8x256 .bf16} {kb kb' : Vec F S1x1x32x512 .i8} {nm nm' : Vec F S1x1x512 .bf16} {up up' qs qs' : Vec F S1x8x128 .f32}
    (h1 : q = q') (h2 : kb = kb') (h3 : nm = nm') (h4 : up = up') (h5 : qs = qs') : tileScore v5 k q kb nm up qs = tileScore v5 k q' kb' nm' up' qs' := by
  subst h1 h2 h3 h4 h5; rfl

/-- The whole block. -/
def scoreBlk (i : grid0.Coords) (v5 : BitVec 32) (KB : S1x8x32x8192.Idx → Elt F .i8) (NM : S1x8x8192.Idx → Elt F .bf16) (Q : S768x256.Idx → Elt F .bf16) (C : S2x768x128.Idx → Elt F .f32) :
    S1x40x8192.Idx → Elt F .f32 := fun y =>
  if (y 2).val / 512 < (v5.toNat + 511) / 512 then
    scoreAt i v5 KB NM Q C ⟨(y 1).val / 5, by have h0 : (y 1).val < 40 := (y 1).isLt; omega⟩ ⟨(y 2).val / 512, by have h0 : (y 2).val < 8192 := (y 2).isLt; omega⟩
      (ix3 0 ⟨(y 1).val % 5, Nat.mod_lt _ (by omega)⟩ ⟨(y 2).val % 512, Nat.mod_lt _ (by omega)⟩)
  else (Scalar.ofBits .f32 0x00000000#32 : F .f32)

/-- A loaded chunk, cell by cell. -/
theorem rd4 {m : Memref sig .tc .vmem S1x8x32x8192 .i8} (X : BufTy.Contents (Elt F) m.view.ty) (off : Fin 4 → Nat) (inb) (h : Fin 8) (j : Fin 16) (ho : off = ![0, h.val, 0, 512 * j.val]) :
    View.readAt (Elt F) m.view (Rect.unit (s := S1x8x32x8192) off S1x1x32x512.size inb).toLoadRect X
      = fun x : S1x1x32x512.Idx => m.view.read (Elt F) X (ix4 0 h (x 2) ⟨512 * j.val + (x 3).val, by have h0 : (x 3).val < 512 := (x 3).isLt; omega⟩) := by
  subst ho
  funext x
  refine congrArg (m.view.read (Elt F) X) (funext fun a => Fin.ext ?_)
  have h0 : (x 0).val < 1 := (x 0).isLt
  have h1 : (x 1).val < 1 := (x 1).isLt
  match a with
  | 0 => show 0 + 1 * (x 0).val = 0; omega
  | 1 => show h.val + 1 * (x 1).val = h.val; omega
  | 2 => show 0 + 1 * (x 2).val = (x 2).val; omega
  | 3 => show 512 * j.val + 1 * (x 3).val = 512 * j.val + (x 3).val; omega

theorem rd3 {m : Memref sig .tc .vmem S1x8x8192 .bf16} (X : BufTy.Contents (Elt F) m.view.ty) (off : Fin 3 → Nat) (inb) (h : Fin 8) (j : Fin 16) (ho : off = ![0, h.val, 512 * j.val]) :
    View.readAt (Elt F) m.view (Rect.unit (s := S1x8x8192) off S1x1x512.size inb).toLoadRect X
      = fun x : S1x1x512.Idx => m.view.read (Elt F) X (ix3 0 h ⟨512 * j.val + (x 2).val, by have h0 : (x 2).val < 512 := (x 2).isLt; omega⟩) := by
  subst ho
  funext x
  refine congrArg (m.view.read (Elt F) X) (funext fun a => Fin.ext ?_)
  have h0 : (x 0).val < 1 := (x 0).isLt
  have h1 : (x 1).val < 1 := (x 1).isLt
  match a with
  | 0 => show 0 + 1 * (x 0).val = 0; omega
  | 1 => show h.val + 1 * (x 1).val = h.val; omega
  | 2 => show 512 * j.val + 1 * (x 2).val = 512 * j.val + (x 2).val; omega

theorem rd2 {m : Memref sig .tc .vmem S768x256 .bf16} (X : BufTy.Contents (Elt F) m.view.ty) (off : Fin 2 → Nat) (inb) (r : Nat) (hr : r + 8 ≤ 768) (ho : off = ![r, 0]) :
    View.readAt (Elt F) m.view (Rect.unit (s := S768x256) off S8x256.size inb).toLoadRect X
      = fun x : S8x256.Idx => m.view.read (Elt F) X (ix2 ⟨r + (x 0).val, by have h0 : (x 0).val < 8 := (x 0).isLt; omega⟩ (x 1)) := by
  subst ho
  funext x
  refine congrArg (m.view.read (Elt F) X) (funext fun a => Fin.ext ?_)
  match a with
  | 0 => show r + 1 * (x 0).val = r + (x 0).val; omega
  | 1 => show 0 + 1 * (x 1).val = (x 1).val; omega

theorem rdC {m : Memref sig .tc .vmem S2x768x128 .f32} (X : BufTy.Contents (Elt F) m.view.ty) (off : Fin 3 → Nat) (inb) (p : Fin 2) (r : Nat) (hr : r + 8 ≤ 768) (ho : off = ![p.val, r, 0]) :
    View.readAt (Elt F) m.view (Rect.unit (s := S2x768x128) off S1x8x128.size inb).toLoadRect X
      = fun x : S1x8x128.Idx => m.view.read (Elt F) X (ix3 p ⟨r + (x 1).val, by have h0 : (x 1).val < 8 := (x 1).isLt; omega⟩ (x 2)) := by
  subst ho
  funext x
  refine congrArg (m.view.read (Elt F) X) (funext fun a => Fin.ext ?_)
  have h0 : (x 0).val < 1 := (x 0).isLt
  match a with
  | 0 => show p.val + 1 * (x 0).val = p.val; omega
  | 1 => show r + 1 * (x 1).val = r + (x 1).val; omega
  | 2 => show 0 + 1 * (x 2).val = (x 2).val; omega

theorem piece_good (i : grid0.Coords) (v5 : BitVec 32) (KB : S1x8x32x8192.Idx → Elt F .i8) (NM : S1x8x8192.Idx → Elt F .bf16) (Q : S768x256.Idx → Elt F .bf16) (C : S2x768x128.Idx → Elt F .f32)
    (h : Fin 8) (j : Fin 16) (hj : j.val < (v5.toNat + 511) / 512) (off : Fin 3 → Nat) (inb) (w : FVec F S1x5x512 .f32) (ho : off = ![0, 5 * h.val, 512 * j.val])
    (hw : w = scoreAt i v5 KB NM Q C h j) (x : S1x5x512.Idx) :
    w x = scoreBlk i v5 KB NM Q C ((Rect.unit (s := S1x40x8192) off S1x5x512.size inb).emb x) := by
  subst ho hw
  have h0 : (x 0).val < 1 := (x 0).isLt
  have h1 : (x 1).val < 5 := (x 1).isLt
  have h2 : (x 2).val < 512 := (x 2).isLt
  have e1 : ((Rect.unit (s := S1x40x8192) ![0, 5 * h.val, 512 * j.val] S1x5x512.size inb).emb x 1).val = 5 * h.val + 1 * (x 1).val := rfl
  have e2 : ((Rect.unit (s := S1x40x8192) ![0, 5 * h.val, 512 * j.val] S1x5x512.size inb).emb x 2).val = 512 * j.val + 1 * (x 2).val := rfl
  generalize (Rect.unit (s := S1x40x8192) ![0, 5 * h.val, 512 * j.val] S1x5x512.size inb).emb x = y at e1 e2
  unfold scoreBlk
  rw [if_pos (by omega)]
  have a1 : (⟨(y 1).val / 5, by have h0 : (y 1).val < 40 := (y 1).isLt; omega⟩ : Fin 8) = h := Fin.ext (by show (y 1).val / 5 = h.val; omega)
  have a2 : (⟨(y 2).val / 512, by have h0 : (y 2).val < 8192 := (y 2).isLt; omega⟩ : Fin 16) = j := Fin.ext (by show (y 2).val / 512 = j.val; omega)
  rw [a1, a2]
  refine congrArg (scoreAt i v5 KB NM Q C h j) (funext fun a => Fin.ext ?_)
  match a with
  | 0 => show (x 0).val = 0; omega
  | 1 => show (x 1).val = (y 1).val % 5; omega
  | 2 => show (x 2).val = (y 2).val % 512; omega

theorem zero_good (i : grid0.Coords) (v5 : BitVec 32) (KB : S1x8x32x8192.Idx → Elt F .i8) (NM : S1x8x8192.Idx → Elt F .bf16) (Q : S768x256.Idx → Elt F .bf16) (C : S2x768x128.Idx → Elt F .f32)
    (j : Nat) (hj : (v5.toNat + 511) / 512 ≤ j) (off : Fin 3 → Nat) (inb) (ho : off = ![0, 0, 512 * j]) (x : S1x40x512.Idx) :
    (Scalar.ofBits .f32 0x00000000#32 : F .f32) = scoreBlk i v5 KB NM Q C ((Rect.unit (s := S1x40x8192) off S1x40x512.size inb).emb x) := by
  subst ho
  have e2 : ((Rect.unit (s := S1x40x8192) ![0, 0, 512 * j] S1x40x512.size inb).emb x 2).val = 512 * j + 1 * (x 2).val := rfl
  unfold scoreBlk
  rw [if_neg (by rw [e2]; omega)]

/-- The chunks stored before step `n`: each agrees with the block, and each cell of those chunks is stored. -/
theorem list1 (𝒱 : Variants) (c : Dev nD) (bd : Option 𝒱.V) (i : grid0.Coords) (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole) (arg0 : BitVec 32) (v5 : Elt F .i32) (k0_hw1 : k0_chk1 v5) (v24 : BitVec 32) (v34 : IVec S64x128 1) (cst_13 : F .f32) (v35 : FVec F S64x128 .f32) (X_arg6 : BufTy.Contents (Elt F) arg6.view.ty) (X_arg7 : BufTy.Contents (Elt F) arg7.view.ty) (X_arg16 : BufTy.Contents (Elt F) arg16.view.ty) (X_arg18 : BufTy.Contents (Elt F) arg18.view.ty) (G_arg11 : BufTy.Contents (Elt F) arg11.view.ty) (G_arg21 : BufTy.Contents (Elt F) arg21.view.ty) (G_arg22 : BufTy.Contents (Elt F) arg22.view.ty) (G_arg23 : BufTy.Contents (Elt F) arg23.view.ty) (init : BitVec 32) (hv : v5.toNat ≤ 8192) (n : Nat) (hn : n ≤ (v5.toNat + 511) / 512) :
    (∀ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init n).2.1, ∀ x : p.1.shape.Idx, p.2 x = scoreBlk i v5 (arg6.view.read (Elt F) X_arg6) (arg7.view.read (Elt F) X_arg7) (arg16.view.read (Elt F) X_arg16) (arg18.view.read (Elt F) X_arg18) (p.1.emb x))
    ∧ (∀ y : S1x40x8192.Idx, (y 2).val < 512 * n → ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init n).2.1, y ∈ p.1.set) := by
  induction n with
  | zero => exact ⟨fun p hp => absurd hp List.not_mem_nil, fun y hy => absurd hy (by omega)⟩
  | succ n ih =>
    obtain ⟨ih1, ih2⟩ := ih (by omega)
    have ht : (k0_t1_loop v5).trips = (v5.toNat + 511) / 512 := (loops v5 hv).2.1
    have hs := congrArg (fun s => s.2.1) (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init ⟨n, by omega⟩)
    simp only [trip1_pieces] at hs
    have hw : (Scalar.muli (Scf.iv 0#32 1#32 n) 512#32).toNat = 512 * n := word1 n (by omega)
    have hn16 : n < 16 := by omega
    constructor
    · intro p hp
      rw [hs] at hp
      rcases List.mem_append.1 hp with hp | hp
      · simp only [List.mem_cons, List.not_mem_nil, or_false] at hp
        rcases hp with rfl | rfl | rfl | rfl | rfl | rfl | rfl | rfl
        · intro x
          refine piece_good i v5 _ _ _ _ 7 ⟨n, hn16⟩ (by show n < _; omega) _ (k0_off36_inb v5 k0_hw1 ⟨n, by omega⟩) _ ((show k0_off36 v5 ⟨n, by omega⟩ = ![0, 35, (Scalar.muli (Scf.iv 0#32 1#32 n) 512#32).toNat] from rfl).trans (by rw [hw]; rfl)) ?_ x
          exact tile_congr v5 n (rd2 X_arg16 _ _ (64 * (i 0).val + 8 * 7) (by have := step_lt i; omega) (k0_off4_eq i 7)) (rd4 X_arg6 _ _ 7 ⟨n, hn16⟩ ((show k0_off34 v5 ⟨n, by omega⟩ = ![0, 7, 0, (Scalar.muli (Scf.iv 0#32 1#32 n) 512#32).toNat] from rfl).trans (by rw [hw]; rfl))) (rd3 X_arg7 _ _ 7 ⟨n, hn16⟩ ((show k0_off35 v5 ⟨n, by omega⟩ = ![0, 7, (Scalar.muli (Scf.iv 0#32 1#32 n) 512#32).toNat] from rfl).trans (by rw [hw]; rfl)))
            (rdC X_arg18 _ _ 0 (64 * (i 0).val + 8 * 7) (by have := step_lt i; omega) (k0_off6_eq i 7)) (rdC X_arg18 _ _ 1 (64 * (i 0).val + 8 * 7) (by have := step_lt i; omega) (k0_off7_eq i 7))
        · intro x
          refine piece_good i v5 _ _ _ _ 6 ⟨n, hn16⟩ (by show n < _; omega) _ (k0_off32_inb v5 k0_hw1 ⟨n, by omega⟩) _ ((show k0_off32 v5 ⟨n, by omega⟩ = ![0, 30, (Scalar.muli (Scf.iv 0#32 1#32 n) 512#32).toNat] from rfl).trans (by rw [hw]; rfl)) ?_ x
          exact tile_congr v5 n (rd2 X_arg16 _ _ (64 * (i 0).val + 8 * 6) (by have := step_lt i; omega) (k0_off4_eq i 6)) (rd4 X_arg6 _ _ 6 ⟨n, hn16⟩ ((show k0_off30 v5 ⟨n, by omega⟩ = ![0, 6, 0, (Scalar.muli (Scf.iv 0#32 1#32 n) 512#32).toNat] from rfl).trans (by rw [hw]; rfl))) (rd3 X_arg7 _ _ 6 ⟨n, hn16⟩ ((show k0_off31 v5 ⟨n, by omega⟩ = ![0, 6, (Scalar.muli (Scf.iv 0#32 1#32 n) 512#32).toNat] from rfl).trans (by rw [hw]; rfl)))
            (rdC X_arg18 _ _ 0 (64 * (i 0).val + 8 * 6) (by have := step_lt i; omega) (k0_off6_eq i 6)) (rdC X_arg18 _ _ 1 (64 * (i 0).val + 8 * 6) (by have := step_lt i; omega) (k0_off7_eq i 6))
        · intro x
          refine piece_good i v5 _ _ _ _ 5 ⟨n, hn16⟩ (by show n < _; omega) _ (k0_off28_inb v5 k0_hw1 ⟨n, by omega⟩) _ ((show k0_off28 v5 ⟨n, by omega⟩ = ![0, 25, (Scalar.muli (Scf.iv 0#32 1#32 n) 512#32).toNat] from rfl).trans (by rw [hw]; rfl)) ?_ x
          exact tile_congr v5 n (rd2 X_arg16 _ _ (64 * (i 0).val + 8 * 5) (by have := step_lt i; omega) (k0_off4_eq i 5)) (rd4 X_arg6 _ _ 5 ⟨n, hn16⟩ ((show k0_off26 v5 ⟨n, by omega⟩ = ![0, 5, 0, (Scalar.muli (Scf.iv 0#32 1#32 n) 512#32).toNat] from rfl).trans (by rw [hw]; rfl))) (rd3 X_arg7 _ _ 5 ⟨n, hn16⟩ ((show k0_off27 v5 ⟨n, by omega⟩ = ![0, 5, (Scalar.muli (Scf.iv 0#32 1#32 n) 512#32).toNat] from rfl).trans (by rw [hw]; rfl)))
            (rdC X_arg18 _ _ 0 (64 * (i 0).val + 8 * 5) (by have := step_lt i; omega) (k0_off6_eq i 5)) (rdC X_arg18 _ _ 1 (64 * (i 0).val + 8 * 5) (by have := step_lt i; omega) (k0_off7_eq i 5))
        · intro x
          refine piece_good i v5 _ _ _ _ 4 ⟨n, hn16⟩ (by show n < _; omega) _ (k0_off24_inb v5 k0_hw1 ⟨n, by omega⟩) _ ((show k0_off24 v5 ⟨n, by omega⟩ = ![0, 20, (Scalar.muli (Scf.iv 0#32 1#32 n) 512#32).toNat] from rfl).trans (by rw [hw]; rfl)) ?_ x
          exact tile_congr v5 n (rd2 X_arg16 _ _ (64 * (i 0).val + 8 * 4) (by have := step_lt i; omega) (k0_off4_eq i 4)) (rd4 X_arg6 _ _ 4 ⟨n, hn16⟩ ((show k0_off22 v5 ⟨n, by omega⟩ = ![0, 4, 0, (Scalar.muli (Scf.iv 0#32 1#32 n) 512#32).toNat] from rfl).trans (by rw [hw]; rfl))) (rd3 X_arg7 _ _ 4 ⟨n, hn16⟩ ((show k0_off23 v5 ⟨n, by omega⟩ = ![0, 4, (Scalar.muli (Scf.iv 0#32 1#32 n) 512#32).toNat] from rfl).trans (by rw [hw]; rfl)))
            (rdC X_arg18 _ _ 0 (64 * (i 0).val + 8 * 4) (by have := step_lt i; omega) (k0_off6_eq i 4)) (rdC X_arg18 _ _ 1 (64 * (i 0).val + 8 * 4) (by have := step_lt i; omega) (k0_off7_eq i 4))
        · intro x
          refine piece_good i v5 _ _ _ _ 3 ⟨n, hn16⟩ (by show n < _; omega) _ (k0_off20_inb v5 k0_hw1 ⟨n, by omega⟩) _ ((show k0_off20 v5 ⟨n, by omega⟩ = ![0, 15, (Scalar.muli (Scf.iv 0#32 1#32 n) 512#32).toNat] from rfl).trans (by rw [hw]; rfl)) ?_ x
          exact tile_congr v5 n (rd2 X_arg16 _ _ (64 * (i 0).val + 8 * 3) (by have := step_lt i; omega) (k0_off4_eq i 3)) (rd4 X_arg6 _ _ 3 ⟨n, hn16⟩ ((show k0_off18 v5 ⟨n, by omega⟩ = ![0, 3, 0, (Scalar.muli (Scf.iv 0#32 1#32 n) 512#32).toNat] from rfl).trans (by rw [hw]; rfl))) (rd3 X_arg7 _ _ 3 ⟨n, hn16⟩ ((show k0_off19 v5 ⟨n, by omega⟩ = ![0, 3, (Scalar.muli (Scf.iv 0#32 1#32 n) 512#32).toNat] from rfl).trans (by rw [hw]; rfl)))
            (rdC X_arg18 _ _ 0 (64 * (i 0).val + 8 * 3) (by have := step_lt i; omega) (k0_off6_eq i 3)) (rdC X_arg18 _ _ 1 (64 * (i 0).val + 8 * 3) (by have := step_lt i; omega) (k0_off7_eq i 3))
        · intro x
          refine piece_good i v5 _ _ _ _ 2 ⟨n, hn16⟩ (by show n < _; omega) _ (k0_off16_inb v5 k0_hw1 ⟨n, by omega⟩) _ ((show k0_off16 v5 ⟨n, by omega⟩ = ![0, 10, (Scalar.muli (Scf.iv 0#32 1#32 n) 512#32).toNat] from rfl).trans (by rw [hw]; rfl)) ?_ x
          exact tile_congr v5 n (rd2 X_arg16 _ _ (64 * (i 0).val + 8 * 2) (by have := step_lt i; omega) (k0_off4_eq i 2)) (rd4 X_arg6 _ _ 2 ⟨n, hn16⟩ ((show k0_off14 v5 ⟨n, by omega⟩ = ![0, 2, 0, (Scalar.muli (Scf.iv 0#32 1#32 n) 512#32).toNat] from rfl).trans (by rw [hw]; rfl))) (rd3 X_arg7 _ _ 2 ⟨n, hn16⟩ ((show k0_off15 v5 ⟨n, by omega⟩ = ![0, 2, (Scalar.muli (Scf.iv 0#32 1#32 n) 512#32).toNat] from rfl).trans (by rw [hw]; rfl)))
            (rdC X_arg18 _ _ 0 (64 * (i 0).val + 8 * 2) (by have := step_lt i; omega) (k0_off6_eq i 2)) (rdC X_arg18 _ _ 1 (64 * (i 0).val + 8 * 2) (by have := step_lt i; omega) (k0_off7_eq i 2))
        · intro x
          refine piece_good i v5 _ _ _ _ 1 ⟨n, hn16⟩ (by show n < _; omega) _ (k0_off12_inb v5 k0_hw1 ⟨n, by omega⟩) _ ((show k0_off12 v5 ⟨n, by omega⟩ = ![0, 5, (Scalar.muli (Scf.iv 0#32 1#32 n) 512#32).toNat] from rfl).trans (by rw [hw]; rfl)) ?_ x
          exact tile_congr v5 n (rd2 X_arg16 _ _ (64 * (i 0).val + 8 * 1) (by have := step_lt i; omega) (k0_off4_eq i 1)) (rd4 X_arg6 _ _ 1 ⟨n, hn16⟩ ((show k0_off10 v5 ⟨n, by omega⟩ = ![0, 1, 0, (Scalar.muli (Scf.iv 0#32 1#32 n) 512#32).toNat] from rfl).trans (by rw [hw]; rfl))) (rd3 X_arg7 _ _ 1 ⟨n, hn16⟩ ((show k0_off11 v5 ⟨n, by omega⟩ = ![0, 1, (Scalar.muli (Scf.iv 0#32 1#32 n) 512#32).toNat] from rfl).trans (by rw [hw]; rfl)))
            (rdC X_arg18 _ _ 0 (64 * (i 0).val + 8 * 1) (by have := step_lt i; omega) (k0_off6_eq i 1)) (rdC X_arg18 _ _ 1 (64 * (i 0).val + 8 * 1) (by have := step_lt i; omega) (k0_off7_eq i 1))
        · intro x
          refine piece_good i v5 _ _ _ _ 0 ⟨n, hn16⟩ (by show n < _; omega) _ (k0_off8_inb v5 k0_hw1 ⟨n, by omega⟩) _ ((show k0_off8 v5 ⟨n, by omega⟩ = ![0, 0, (Scalar.muli (Scf.iv 0#32 1#32 n) 512#32).toNat] from rfl).trans (by rw [hw]; rfl)) ?_ x
          exact tile_congr v5 n (rd2 X_arg16 _ _ (64 * (i 0).val + 8 * 0) (by have := step_lt i; omega) (k0_off4_eq i 0)) (rd4 X_arg6 _ _ 0 ⟨n, hn16⟩ ((show k0_off3 v5 ⟨n, by omega⟩ = ![0, 0, 0, (Scalar.muli (Scf.iv 0#32 1#32 n) 512#32).toNat] from rfl).trans (by rw [hw]; rfl))) (rd3 X_arg7 _ _ 0 ⟨n, hn16⟩ ((show k0_off5 v5 ⟨n, by omega⟩ = ![0, 0, (Scalar.muli (Scf.iv 0#32 1#32 n) 512#32).toNat] from rfl).trans (by rw [hw]; rfl)))
            (rdC X_arg18 _ _ 0 (64 * (i 0).val + 8 * 0) (by have := step_lt i; omega) (k0_off6_eq i 0)) (rdC X_arg18 _ _ 1 (64 * (i 0).val + 8 * 0) (by have := step_lt i; omega) (k0_off7_eq i 0))
      · exact ih1 p hp
    · intro y hy
      rw [hs]
      by_cases h : (y 2).val < 512 * n
      · obtain ⟨p, hp, hy'⟩ := ih2 y h
        exact ⟨p, List.mem_append_right _ hp, hy'⟩
      · have h40 : (y 1).val < 40 := (y 1).isLt
        have h1 : (y 0).val < 1 := (y 0).isLt
        have hc : (y 1).val / 5 = 7 ∨ (y 1).val / 5 = 6 ∨ (y 1).val / 5 = 5 ∨ (y 1).val / 5 = 4 ∨ (y 1).val / 5 = 3 ∨ (y 1).val / 5 = 2 ∨ (y 1).val / 5 = 1 ∨ (y 1).val / 5 = 0 := by omega
        rcases hc with hc | hc | hc | hc | hc | hc | hc | hc
        · refine ⟨_, List.mem_append_left _ (List.mem_cons_self), (Rect.mem_set_unit (inb := k0_off36_inb v5 k0_hw1 ⟨n, by omega⟩)).2 fun a => ?_⟩
          rw [show k0_off36 v5 ⟨n, by omega⟩ = ![0, 35, 512 * n] from ((show k0_off36 v5 ⟨n, by omega⟩ = ![0, 35, (Scalar.muli (Scf.iv 0#32 1#32 n) 512#32).toNat] from rfl).trans (by rw [hw]))]
          match a with
          | 0 => exact ⟨Nat.zero_le _, by show (y 0).val < 0 + 1; omega⟩
          | 1 => exact ⟨by show 35 ≤ (y 1).val; omega, by show (y 1).val < 35 + 5; omega⟩
          | 2 => exact ⟨by show 512 * n ≤ (y 2).val; omega, by show (y 2).val < 512 * n + 512; omega⟩
        · refine ⟨_, List.mem_append_left _ (List.mem_cons_of_mem _ (List.mem_cons_self)), (Rect.mem_set_unit (inb := k0_off32_inb v5 k0_hw1 ⟨n, by omega⟩)).2 fun a => ?_⟩
          rw [show k0_off32 v5 ⟨n, by omega⟩ = ![0, 30, 512 * n] from ((show k0_off32 v5 ⟨n, by omega⟩ = ![0, 30, (Scalar.muli (Scf.iv 0#32 1#32 n) 512#32).toNat] from rfl).trans (by rw [hw]))]
          match a with
          | 0 => exact ⟨Nat.zero_le _, by show (y 0).val < 0 + 1; omega⟩
          | 1 => exact ⟨by show 30 ≤ (y 1).val; omega, by show (y 1).val < 30 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_self))), (Rect.mem_set_unit (inb := k0_off28_inb v5 k0_hw1 ⟨n, by omega⟩)).2 fun a => ?_⟩
          rw [show k0_off28 v5 ⟨n, by omega⟩ = ![0, 25, 512 * n] from ((show k0_off28 v5 ⟨n, by omega⟩ = ![0, 25, (Scalar.muli (Scf.iv 0#32 1#32 n) 512#32).toNat] from rfl).trans (by rw [hw]))]
          match a with
          | 0 => exact ⟨Nat.zero_le _, by show (y 0).val < 0 + 1; omega⟩
          | 1 => exact ⟨by show 25 ≤ (y 1).val; omega, by show (y 1).val < 25 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_of_mem _ (List.mem_cons_self)))), (Rect.mem_set_unit (inb := k0_off24_inb v5 k0_hw1 ⟨n, by omega⟩)).2 fun a => ?_⟩
          rw [show k0_off24 v5 ⟨n, by omega⟩ = ![0, 20, 512 * n] from ((show k0_off24 v5 ⟨n, by omega⟩ = ![0, 20, (Scalar.muli (Scf.iv 0#32 1#32 n) 512#32).toNat] from rfl).trans (by rw [hw]))]
          match a with
          | 0 => exact ⟨Nat.zero_le _, by show (y 0).val < 0 + 1; omega⟩
          | 1 => exact ⟨by show 20 ≤ (y 1).val; omega, by show (y 1).val < 20 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_of_mem _ (List.mem_cons_of_mem _ (List.mem_cons_self))))), (Rect.mem_set_unit (inb := k0_off20_inb v5 k0_hw1 ⟨n, by omega⟩)).2 fun a => ?_⟩
          rw [show k0_off20 v5 ⟨n, by omega⟩ = ![0, 15, 512 * n] from ((show k0_off20 v5 ⟨n, by omega⟩ = ![0, 15, (Scalar.muli (Scf.iv 0#32 1#32 n) 512#32).toNat] from rfl).trans (by rw [hw]))]
          match a with
          | 0 => exact ⟨Nat.zero_le _, by show (y 0).val < 0 + 1; omega⟩
          | 1 => exact ⟨by show 15 ≤ (y 1).val; omega, by show (y 1).val < 15 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_of_mem _ (List.mem_cons_of_mem _ (List.mem_cons_of_mem _ (List.mem_cons_self)))))), (Rect.mem_set_unit (inb := k0_off16_inb v5 k0_hw1 ⟨n, by omega⟩)).2 fun a => ?_⟩
          rw [show k0_off16 v5 ⟨n, by omega⟩ = ![0, 10, 512 * n] from ((show k0_off16 v5 ⟨n, by omega⟩ = ![0, 10, (Scalar.muli (Scf.iv 0#32 1#32 n) 512#32).toNat] from rfl).trans (by rw [hw]))]
          match a with
          | 0 => exact ⟨Nat.zero_le _, by show (y 0).val < 0 + 1; omega⟩
          | 1 => exact ⟨by show 10 ≤ (y 1).val; omega, by show (y 1).val < 10 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_of_mem _ (List.mem_cons_of_mem _ (List.mem_cons_of_mem _ (List.mem_cons_of_mem _ (List.mem_cons_self))))))), (Rect.mem_set_unit (inb := k0_off12_inb v5 k0_hw1 ⟨n, by omega⟩)).2 fun a => ?_⟩
          rw [show k0_off12 v5 ⟨n, by omega⟩ = ![0, 5, 512 * n] from ((show k0_off12 v5 ⟨n, by omega⟩ = ![0, 5, (Scalar.muli (Scf.iv 0#32 1#32 n) 512#32).toNat] from rfl).trans (by rw [hw]))]
          match a with
          | 0 => exact ⟨Nat.zero_le _, by show (y 0).val < 0 + 1; omega⟩
          | 1 => exact ⟨by show 5 ≤ (y 1).val; omega, by show (y 1).val < 5 + 5; omega⟩
          | 2 => exact ⟨by show 512 * n ≤ (y 2).val; omega, by show (y 2).val < 512 * n + 512; omega⟩
        · refine ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_self)))))))), (Rect.mem_set_unit (inb := k0_off8_inb v5 k0_hw1 ⟨n, by omega⟩)).2 fun a => ?_⟩
          rw [show k0_off8 v5 ⟨n, by omega⟩ = ![0, 0, 512 * n] from ((show k0_off8 v5 ⟨n, by omega⟩ = ![0, 0, (Scalar.muli (Scf.iv 0#32 1#32 n) 512#32).toNat] from rfl).trans (by rw [hw]))]
          match a with
          | 0 => exact ⟨Nat.zero_le _, by show (y 0).val < 0 + 1; omega⟩
          | 1 => exact ⟨by show 0 ≤ (y 1).val; omega, by show (y 1).val < 0 + 5; omega⟩
          | 2 => exact ⟨by show 512 * n ≤ (y 2).val; omega, by show (y 2).val < 512 * n + 512; omega⟩

/-- The chunks of zeros. -/
theorem list3 (𝒱 : Variants) (c : Dev nD) (bd : Option 𝒱.V) (i : grid0.Coords) (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole) (arg0 : BitVec 32) (v5 : Elt F .i32) (k0_hw1 : k0_chk1 v5) (v24 : BitVec 32) (v34 : IVec S64x128 1) (cst_13 : F .f32) (v35 : FVec F S64x128 .f32) (X_arg6 : BufTy.Contents (Elt F) arg6.view.ty) (X_arg7 : BufTy.Contents (Elt F) arg7.view.ty) (X_arg16 : BufTy.Contents (Elt F) arg16.view.ty) (X_arg18 : BufTy.Contents (Elt F) arg18.view.ty) (G_arg11 : BufTy.Contents (Elt F) arg11.view.ty) (G_arg21 : BufTy.Contents (Elt F) arg21.view.ty) (G_arg22 : BufTy.Contents (Elt F) arg22.view.ty) (G_arg23 : BufTy.Contents (Elt F) arg23.view.ty) (init : BitVec 32) (hv : v5.toNat ≤ 8192) (n : Nat) (hn : n ≤ 16 - (v5.toNat + 511) / 512) :
    (∀ p ∈ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 init n).2, ∀ x : p.1.shape.Idx, p.2 x = scoreBlk i v5 (arg6.view.read (Elt F) X_arg6) (arg7.view.read (Elt F) X_arg7) (arg16.view.read (Elt F) X_arg16) (arg18.view.read (Elt F) X_arg18) (p.1.emb x))
    ∧ (∀ y : S1x40x8192.Idx, (v5.toNat + 511) / 512 ≤ (y 2).val / 512 → (y 2).val < 512 * ((v5.toNat + 511) / 512 + n) → ∃ p ∈ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 init n).2, y ∈ p.1.set) := by
  induction n with
  | zero => exact ⟨fun p hp => absurd hp List.not_mem_nil, fun y hy hy' => absurd hy' (by omega)⟩
  | succ n ih =>
    obtain ⟨ih1, ih2⟩ := ih (by omega)
    have ht : (k0_t3_loop v5).trips = 16 - (v5.toNat + 511) / 512 := (loops v5 hv).2.2.2.2.2.1
    have hs := congrArg (fun s => s.2) (st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 init ⟨n, by omega⟩)
    simp only [trip3_pieces] at hs
    have hw : (Scalar.muli (Scf.iv (chunks v5) 1#32 n) 512#32).toNat = 512 * ((v5.toNat + 511) / 512 + n) := word3 v5 hv n (by omega)
    have ho : k0_off73 v5 ⟨n, by omega⟩ = ![0, 0, 512 * ((v5.toNat + 511) / 512 + n)] := (show k0_off73 v5 ⟨n, by omega⟩ = ![0, 0, (Scalar.muli (Scf.iv (chunks v5) 1#32 n) 512#32).toNat] from rfl).trans (by rw [hw])
    constructor
    · intro p hp
      rw [hs] at hp
      rcases List.mem_append.1 hp with hp | hp
      · simp only [List.mem_cons, List.not_mem_nil, or_false] at hp
        subst hp
        intro x
        exact zero_good i v5 _ _ _ _ _ (by omega) _ (k0_off73_inb v5 k0_hw1 ⟨n, by omega⟩) ho x
      · exact ih1 p hp
    · intro y hb hy
      rw [hs]
      by_cases h : (y 2).val < 512 * ((v5.toNat + 511) / 512 + n)
      · obtain ⟨p, hp, hy'⟩ := ih2 y hb h
        exact ⟨p, List.mem_append_right _ hp, hy'⟩
      · refine ⟨_, List.mem_append_left _ (List.mem_singleton.2 rfl), (Rect.mem_set_unit (inb := k0_off73_inb v5 k0_hw1 ⟨n, by omega⟩)).2 fun a => ?_⟩
        have h40 : (y 1).val < 40 := (y 1).isLt
        have h1 : (y 0).val < 1 := (y 0).isLt
        rw [ho]
        match a with
        | 0 => exact ⟨Nat.zero_le _, by show (y 0).val < 0 + 1; omega⟩
        | 1 => exact ⟨Nat.zero_le _, by show (y 1).val < 0 + 40; omega⟩
        | 2 => exact ⟨by show 512 * ((v5.toNat + 511) / 512 + n) ≤ (y 2).val; omega, by show (y 2).val < 512 * ((v5.toNat + 511) / 512 + n) + 512; omega⟩

/-- What the loops leave in the block of scores, whatever it held. -/
theorem blk_read (𝒱 : Variants) (c : Dev nD) (bd : Option 𝒱.V) (i : grid0.Coords) (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole) (arg0 : BitVec 32) (v5 : Elt F .i32) (k0_hw1 : k0_chk1 v5) (v24 : BitVec 32) (v34 : IVec S64x128 1) (cst_13 : F .f32) (v35 : FVec F S64x128 .f32) (X_arg6 : BufTy.Contents (Elt F) arg6.view.ty) (X_arg7 : BufTy.Contents (Elt F) arg7.view.ty) (X_arg16 : BufTy.Contents (Elt F) arg16.view.ty) (X_arg18 : BufTy.Contents (Elt F) arg18.view.ty) (G_arg11 : BufTy.Contents (Elt F) arg11.view.ty) (G_arg21 : BufTy.Contents (Elt F) arg21.view.ty) (G_arg22 : BufTy.Contents (Elt F) arg22.view.ty) (G_arg23 : BufTy.Contents (Elt F) arg23.view.ty) (v45 : BitVec 32) (hv : v5.toNat ≤ 8192) (n1 n2 n3 n4 : Nat) (e1 : n1 = (v5.toNat + 511) / 512) (e2 : n2 = 0) (e3 : n3 = 16 - (v5.toNat + 511) / 512) (e4 : n4 = 0)
    (init1 init2 init3 init4 : BitVec 32) (f11 : BufTy.Contents (Elt F) arg11.view.ty) (H_arg11 : BufTy.Contents (Elt F) arg11.view.ty) (H_arg21 : BufTy.Contents (Elt F) arg21.view.ty) (H_arg22 : BufTy.Contents (Elt F) arg22.view.ty) (H_arg23 : BufTy.Contents (Elt F) arg23.view.ty)  :
    arg11.view.read (Elt F) (arg11.view.writes (Elt F) f11 (
        (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 init4 n4).2 ++ ((st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 init3 n3).2
      ++ ((st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 v45 X_arg6 X_arg7 X_arg16 X_arg18 H_arg11 H_arg21 H_arg22 H_arg23 init2 n2).2.1
      ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init1 n1).2.1))))
    = scoreBlk i v5 (arg6.view.read (Elt F) X_arg6) (arg7.view.read (Elt F) X_arg7) (arg16.view.read (Elt F) X_arg16) (arg18.view.read (Elt F) X_arg18) := by
  subst e1 e2 e3 e4
  show arg11.view.read (Elt F) (arg11.view.writes (Elt F) f11 ([] ++ (_ ++ ([] ++ _)))) = _
  rw [List.nil_append, List.nil_append]
  obtain ⟨a1, a2⟩ := list1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init1 hv _ le_rfl
  obtain ⟨b1, b2⟩ := list3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v5 k0_hw1 v24 v34 cst_13 v35 X_arg6 X_arg7 X_arg16 X_arg18 G_arg11 G_arg21 G_arg22 G_arg23 init3 hv _ le_rfl
  funext y
  refine View.read_writes_apply_of_pieces _ _ (scoreBlk i v5 (arg6.view.read (Elt F) X_arg6) (arg7.view.read (Elt F) X_arg7) (arg16.view.read (Elt F) X_arg16) (arg18.view.read (Elt F) X_arg18)) _ (fun p hp => (List.mem_append.1 hp).elim (b1 p) (a1 p)) y ?_
  have h2 : (y 2).val < 8192 := (y 2).isLt
  by_cases h : (y 2).val < 512 * ((v5.toNat + 511) / 512)
  · obtain ⟨p, hp, hy⟩ := a2 y h
    exact ⟨p, List.mem_append_right _ hp, hy⟩
  · obtain ⟨p, hp, hy⟩ := b2 y (by omega) (by omega)
    exact ⟨p, List.mem_append_left _ hp, hy⟩

end Cert.KernelIdeal.Own

end
-- ==== Proof.Query.lean ====
/-
  What the first grid point leaves in the two scratch buffers that the scores are computed from: the scaled
  projected queries with their sketch coordinates permuted, and each row's scale and sum; and the block of
  scores that a grid point leaves, as a function of what it reads.
-/
module

public import proofs.«01_k».proof.Proof.BodyFirst
public import proofs.«01_k».proof.Proof.BodyLater
public import proofs.«01_k».proof.Proof.ScoreBlock
public import Idealize.ShloMosaic.Lib.WritesUnit
public import Idealize.ShloMosaic.Lib.Pipeline.CanonAppend

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic

variable {F : FTy → Type} [FloatOps F]

theorem readAt_full {sig : RefSig} {κ : Kind} {sp : Space} {s : Shape} {e : EltTy} {Val : EltTy → Type} (v : View sig κ sp s e)
    (off : Fin s.rank → Nat) (h0 : ∀ a, off a = 0) (inb : ∀ a, off a + s.size a ≤ s.size a) (f : v.ty.Contents Val) :
    v.readAt Val (Rect.unit off s.size inb).toLoadRect f = v.read Val f := by
  funext x
  show v.read Val f ((Rect.unit off s.size inb).emb x) = v.read Val f x
  congr 1
  funext a; apply Fin.ext
  show off a + 1 * (x a).val = (x a).val
  rw [h0 a]; omega

theorem read_full {sig : RefSig} {κ : Kind} {sp : Space} {s : Shape} {e : EltTy} {Val : EltTy → Type} (v : View sig κ sp s e)
    (off : Fin s.rank → Nat) (h0 : ∀ a, off a = 0) (inb : ∀ a, off a + s.size a ≤ s.size a) (f : v.ty.Contents Val)
    (w : s.Idx → Val e) :
    v.read Val (v.writes Val f [(⟨Rect.unit off s.size inb, w⟩ : View.Piece Val s e)]) = w := by
  funext y
  exact View.read_writes_cons_unit_of_mem v f inb w [] y y rfl (fun a => by rw [h0 a]; omega)

theorem zeros2 : ∀ a : Fin 2, (![0, 0] : Fin 2 → Nat) a = 0 := by decide

/-- The queries spread to eight rows a head group: five rows of queries and three of zeros. -/
def valX (X : S12x5120.Idx → Elt F .bf16) : S768x128.Idx → Elt F .f32 := fun y =>
  if h : (y 0).val % 8 < 5 then
    (extf .f32 (X : Vec F S12x5120 .bf16) bitsLt_bf16_f32 : FVec F S12x5120 .f32)
      (ix2 ⟨(y 0).val / 64, by have h0 : (y 0).val < 768 := (y 0).isLt; omega⟩
        ⟨((y 0).val % 64 / 8 * 5 + (y 0).val % 8) * 128 + (y 1).val, by have h0 : (y 1).val < 128 := (y 1).isLt; omega⟩)
  else (Scalar.ofBits .f32 0x00000000#32 : F .f32)

theorem x_good (M : Memref sig .tc .vmem S12x5120 .bf16) (f : Ct (F := F) M) (h : Fin 40) (off : Fin 2 → Nat)
    (ho : off = ![h.val / 5 * 8 + h.val % 5, 0]) (inb) (sp) (off2 : Fin 2 → Nat) (ho2 : off2 = ![0, 128 * h.val]) (inb2) :
    ∀ x : S12x128.Idx, (shapeCast S12x128 (extf .f32 (shapeCast S12x128 (View.readAt (Elt F) M.view (Rect.unit (s := S12x5120) off2 S12x128.size inb2).toLoadRect f : Vec F S12x128 .bf16) shapeCasts_S12x128_S12x128) bitsLt_bf16_f32) shapeCasts_S12x128_S12x128 : FVec F S12x128 .f32) x
      = valX (M.view.read (Elt F) f) (({ off := off, size := S12x128.size, stride := ![64, 1], inb := inb, stride_pos := sp } : Rect S768x128).emb x) := by
  subst ho ho2
  intro x
  rw [show (shapeCast S12x128 (View.readAt (Elt F) M.view (Rect.unit (s := S12x5120) ![0, 128 * h.val] S12x128.size inb2).toLoadRect f : Vec F S12x128 .bf16) shapeCasts_S12x128_S12x128) = (View.readAt (Elt F) M.view (Rect.unit (s := S12x5120) ![0, 128 * h.val] S12x128.size inb2).toLoadRect f : Vec F S12x128 .bf16) from shapeCast_self _ _]
  refine (congrFun (shapeCast_self _ _) x).trans ?_
  have h0 : (x 0).val < 12 := (x 0).isLt
  have h1 : (x 1).val < 128 := (x 1).isLt
  have hh := h.isLt
  have e1 : (({ off := ![h.val / 5 * 8 + h.val % 5, 0], size := S12x128.size, stride := ![64, 1], inb := inb, stride_pos := sp } : Rect S768x128).emb x 0).val = h.val / 5 * 8 + h.val % 5 + 64 * (x 0).val := rfl
  have e2 : (({ off := ![h.val / 5 * 8 + h.val % 5, 0], size := S12x128.size, stride := ![64, 1], inb := inb, stride_pos := sp } : Rect S768x128).emb x 1).val = 0 + 1 * (x 1).val := rfl
  generalize ({ off := ![h.val / 5 * 8 + h.val % 5, 0], size := S12x128.size, stride := ![64, 1], inb := inb, stride_pos := sp } : Rect S768x128).emb x = y at e1 e2
  unfold valX
  rw [dif_pos (by omega)]
  refine congrArg (extf .f32 (M.view.read (Elt F) f : Vec F S12x5120 .bf16) bitsLt_bf16_f32) (funext fun a => Fin.ext ?_)
  match a with
  | 0 => show 0 + 1 * (x 0).val = (y 0).val / 64; omega
  | 1 => show 128 * h.val + 1 * (x 1).val = ((y 0).val % 64 / 8 * 5 + (y 0).val % 8) * 128 + (y 1).val; omega

theorem x_cover (off : Fin 2 → Nat) (r : Nat) (ho : off = ![r, 0]) (inb) (sp) (y : S768x128.Idx) (hy : (y 0).val % 64 = r) :
    y ∈ ({ off := off, size := S12x128.size, stride := ![64, 1], inb := inb, stride_pos := sp } : Rect S768x128).set := by
  subst ho
  have h0 : (y 0).val < 768 := (y 0).isLt
  have h1 : (y 1).val < 128 := (y 1).isLt
  have e : y = ({ off := ![r, 0], size := S12x128.size, stride := ![64, 1], inb := inb, stride_pos := sp } : Rect S768x128).emb (ix2 (n0 := 12) (n1 := 128) ⟨(y 0).val / 64, by omega⟩ (y 1)) := by
    funext a; apply Fin.ext
    match a with
    | 0 => show (y 0).val = r + 64 * ((y 0).val / 64); omega
    | 1 => show (y 1).val = 0 + 1 * (y 1).val; omega
  rw [e]
  exact LoadRect.idx_mem _ _

theorem x_rows (r : Nat) (hr : r % 8 < 5) (off : Fin 2 → Nat) (ho : off = ![r, 0]) (inb) (sp) (x : S12x128.Idx) :
    (({ off := off, size := S12x128.size, stride := ![64, 1], inb := inb, stride_pos := sp } : Rect S768x128).emb x 0).val % 8 < 5 := by
  subst ho
  show (r + 64 * (x 0).val) % 8 < 5
  omega

/-- The forty stores of queries, the last first. -/
def xPieces (M : Memref sig .tc .vmem S12x5120 .bf16) (f : Ct (F := F) M) : List (View.Piece (Elt F) S768x128 .f32) := [
    ⟨{ off := ![60, 0], size := S12x128.size, stride := ![64, 1], inb := inb_S768x128_S12x128_60_0_s_64_1, stride_pos := spos_64_1 },
      shapeCast S12x128 (extf .f32 (shapeCast S12x128 (View.readAt (Elt F) M.view (Rect.unit (s := S12x5120) ![0, 4992] S12x128.size inb_S12x5120_S12x128_0_4992).toLoadRect f : Vec F S12x128 .bf16) shapeCasts_S12x128_S12x128) bitsLt_bf16_f32) shapeCasts_S12x128_S12x128⟩,
    ⟨{ off := ![59, 0], size := S12x128.size, stride := ![64, 1], inb := inb_S768x128_S12x128_59_0_s_64_1, stride_pos := spos_64_1 },
      shapeCast S12x128 (extf .f32 (shapeCast S12x128 (View.readAt (Elt F) M.view (Rect.unit (s := S12x5120) ![0, 4864] S12x128.size inb_S12x5120_S12x128_0_4864).toLoadRect f : Vec F S12x128 .bf16) shapeCasts_S12x128_S12x128) bitsLt_bf16_f32) shapeCasts_S12x128_S12x128⟩,
    ⟨{ off := ![58, 0], size := S12x128.size, stride := ![64, 1], inb := inb_S768x128_S12x128_58_0_s_64_1, stride_pos := spos_64_1 },
      shapeCast S12x128 (extf .f32 (shapeCast S12x128 (View.readAt (Elt F) M.view (Rect.unit (s := S12x5120) ![0, 4736] S12x128.size inb_S12x5120_S12x128_0_4736).toLoadRect f : Vec F S12x128 .bf16) shapeCasts_S12x128_S12x128) bitsLt_bf16_f32) shapeCasts_S12x128_S12x128⟩,
    ⟨{ off := ![57, 0], size := S12x128.size, stride := ![64, 1], inb := inb_S768x128_S12x128_57_0_s_64_1, stride_pos := spos_64_1 },
      shapeCast S12x128 (extf .f32 (shapeCast S12x128 (View.readAt (Elt F) M.view (Rect.unit (s := S12x5120) ![0, 4608] S12x128.size inb_S12x5120_S12x128_0_4608).toLoadRect f : Vec F S12x128 .bf16) shapeCasts_S12x128_S12x128) bitsLt_bf16_f32) shapeCasts_S12x128_S12x128⟩,
    ⟨{ off := ![56, 0], size := S12x128.size, stride := ![64, 1], inb := inb_S768x128_S12x128_56_0_s_64_1, stride_pos := spos_64_1 },
      shapeCast S12x128 (extf .f32 (shapeCast S12x128 (View.readAt (Elt F) M.view (Rect.unit (s := S12x5120) ![0, 4480] S12x128.size inb_S12x5120_S12x128_0_4480).toLoadRect f : Vec F S12x128 .bf16) shapeCasts_S12x128_S12x128) bitsLt_bf16_f32) shapeCasts_S12x128_S12x128⟩,
    ⟨{ off := ![52, 0], size := S12x128.size, stride := ![64, 1], inb := inb_S768x128_S12x128_52_0_s_64_1, stride_pos := spos_64_1 },
      shapeCast S12x128 (extf .f32 (shapeCast S12x128 (View.readAt (Elt F) M.view (Rect.unit (s := S12x5120) ![0, 4352] S12x128.size inb_S12x5120_S12x128_0_4352).toLoadRect f : Vec F S12x128 .bf16) shapeCasts_S12x128_S12x128) bitsLt_bf16_f32) shapeCasts_S12x128_S12x128⟩,
    ⟨{ off := ![51, 0], size := S12x128.size, stride := ![64, 1], inb := inb_S768x128_S12x128_51_0_s_64_1, stride_pos := spos_64_1 },
      shapeCast S12x128 (extf .f32 (shapeCast S12x128 (View.readAt (Elt F) M.view (Rect.unit (s := S12x5120) ![0, 4224] S12x128.size inb_S12x5120_S12x128_0_4224).toLoadRect f : Vec F S12x128 .bf16) shapeCasts_S12x128_S12x128) bitsLt_bf16_f32) shapeCasts_S12x128_S12x128⟩,
    ⟨{ off := ![50, 0], size := S12x128.size, stride := ![64, 1], inb := inb_S768x128_S12x128_50_0_s_64_1, stride_pos := spos_64_1 },
      shapeCast S12x128 (extf .f32 (shapeCast S12x128 (View.readAt (Elt F) M.view (Rect.unit (s := S12x5120) ![0, 4096] S12x128.size inb_S12x5120_S12x128_0_4096).toLoadRect f : Vec F S12x128 .bf16) shapeCasts_S12x128_S12x128) bitsLt_bf16_f32) shapeCasts_S12x128_S12x128⟩,
    ⟨{ off := ![49, 0], size := S12x128.size, stride := ![64, 1], inb := inb_S768x128_S12x128_49_0_s_64_1, stride_pos := spos_64_1 },
      shapeCast S12x128 (extf .f32 (shapeCast S12x128 (View.readAt (Elt F) M.view (Rect.unit (s := S12x5120) ![0, 3968] S12x128.size inb_S12x5120_S12x128_0_3968).toLoadRect f : Vec F S12x128 .bf16) shapeCasts_S12x128_S12x128) bitsLt_bf16_f32) shapeCasts_S12x128_S12x128⟩,
    ⟨{ off := ![48, 0], size := S12x128.size, stride := ![64, 1], inb := inb_S768x128_S12x128_48_0_s_64_1, stride_pos := spos_64_1 },
      shapeCast S12x128 (extf .f32 (shapeCast S12x128 (View.readAt (Elt F) M.view (Rect.unit (s := S12x5120) ![0, 3840] S12x128.size inb_S12x5120_S12x128_0_3840).toLoadRect f : Vec F S12x128 .bf16) shapeCasts_S12x128_S12x128) bitsLt_bf16_f32) shapeCasts_S12x128_S12x128⟩,
    ⟨{ off := ![44, 0], size := S12x128.size, stride := ![64, 1], inb := inb_S768x128_S12x128_44_0_s_64_1, stride_pos := spos_64_1 },
      shapeCast S12x128 (extf .f32 (shapeCast S12x128 (View.readAt (Elt F) M.view (Rect.unit (s := S12x5120) ![0, 3712] S12x128.size inb_S12x5120_S12x128_0_3712).toLoadRect f : Vec F S12x128 .bf16) shapeCasts_S12x128_S12x128) bitsLt_bf16_f32) shapeCasts_S12x128_S12x128⟩,
    ⟨{ off := ![43, 0], size := S12x128.size, stride := ![64, 1], inb := inb_S768x128_S12x128_43_0_s_64_1, stride_pos := spos_64_1 },
      shapeCast S12x128 (extf .f32 (shapeCast S12x128 (View.readAt (Elt F) M.view (Rect.unit (s := S12x5120) ![0, 3584] S12x128.size inb_S12x5120_S12x128_0_3584).toLoadRect f : Vec F S12x128 .bf16) shapeCasts_S12x128_S12x128) bitsLt_bf16_f32) shapeCasts_S12x128_S12x128⟩,
    ⟨{ off := ![42, 0], size := S12x128.size, stride := ![64, 1], inb := inb_S768x128_S12x128_42_0_s_64_1, stride_pos := spos_64_1 },
      shapeCast S12x128 (extf .f32 (shapeCast S12x128 (View.readAt (Elt F) M.view (Rect.unit (s := S12x5120) ![0, 3456] S12x128.size inb_S12x5120_S12x128_0_3456).toLoadRect f : Vec F S12x128 .bf16) shapeCasts_S12x128_S12x128) bitsLt_bf16_f32) shapeCasts_S12x128_S12x128⟩,
    ⟨{ off := ![41, 0], size := S12x128.size, stride := ![64, 1], inb := inb_S768x128_S12x128_41_0_s_64_1, stride_pos := spos_64_1 },
      shapeCast S12x128 (extf .f32 (shapeCast S12x128 (View.readAt (Elt F) M.view (Rect.unit (s := S12x5120) ![0, 3328] S12x128.size inb_S12x5120_S12x128_0_3328).toLoadRect f : Vec F S12x128 .bf16) shapeCasts_S12x128_S12x128) bitsLt_bf16_f32) shapeCasts_S12x128_S12x128⟩,
    ⟨{ off := ![40, 0], size := S12x128.size, stride := ![64, 1], inb := inb_S768x128_S12x128_40_0_s_64_1, stride_pos := spos_64_1 },
      shapeCast S12x128 (extf .f32 (shapeCast S12x128 (View.readAt (Elt F) M.view (Rect.unit (s := S12x5120) ![0, 3200] S12x128.size inb_S12x5120_S12x128_0_3200).toLoadRect f : Vec F S12x128 .bf16) shapeCasts_S12x128_S12x128) bitsLt_bf16_f32) shapeCasts_S12x128_S12x128⟩,
    ⟨{ off := ![36, 0], size := S12x128.size, stride := ![64, 1], inb := inb_S768x128_S12x128_36_0_s_64_1, stride_pos := spos_64_1 },
      shapeCast S12x128 (extf .f32 (shapeCast S12x128 (View.readAt (Elt F) M.view (Rect.unit (s := S12x5120) ![0, 3072] S12x128.size inb_S12x5120_S12x128_0_3072).toLoadRect f : Vec F S12x128 .bf16) shapeCasts_S12x128_S12x128) bitsLt_bf16_f32) shapeCasts_S12x128_S12x128⟩,
    ⟨{ off := ![35, 0], size := S12x128.size, stride := ![64, 1], inb := inb_S768x128_S12x128_35_0_s_64_1, stride_pos := spos_64_1 },
      shapeCast S12x128 (extf .f32 (shapeCast S12x128 (View.readAt (Elt F) M.view (Rect.unit (s := S12x5120) ![0, 2944] S12x128.size inb_S12x5120_S12x128_0_2944).toLoadRect f : Vec F S12x128 .bf16) shapeCasts_S12x128_S12x128) bitsLt_bf16_f32) shapeCasts_S12x128_S12x128⟩,
    ⟨{ off := ![34, 0], size := S12x128.size, stride := ![64, 1], inb := inb_S768x128_S12x128_34_0_s_64_1, stride_pos := spos_64_1 },
      shapeCast S12x128 (extf .f32 (shapeCast S12x128 (View.readAt (Elt F) M.view (Rect.unit (s := S12x5120) ![0, 2816] S12x128.size inb_S12x5120_S12x128_0_2816).toLoadRect f : Vec F S12x128 .bf16) shapeCasts_S12x128_S12x128) bitsLt_bf16_f32) shapeCasts_S12x128_S12x128⟩,
    ⟨{ off := ![33, 0], size := S12x128.size, stride := ![64, 1], inb := inb_S768x128_S12x128_33_0_s_64_1, stride_pos := spos_64_1 },
      shapeCast S12x128 (extf .f32 (shapeCast S12x128 (View.readAt (Elt F) M.view (Rect.unit (s := S12x5120) ![0, 2688] S12x128.size inb_S12x5120_S12x128_0_2688).toLoadRect f : Vec F S12x128 .bf16) shapeCasts_S12x128_S12x128) bitsLt_bf16_f32) shapeCasts_S12x128_S12x128⟩,
    ⟨{ off := ![32, 0], size := S12x128.size, stride := ![64, 1], inb := inb_S768x128_S12x128_32_0_s_64_1, stride_pos := spos_64_1 },
      shapeCast S12x128 (extf .f32 (shapeCast S12x128 (View.readAt (Elt F) M.view (Rect.unit (s := S12x5120) ![0, 2560] S12x128.size inb_S12x5120_S12x128_0_2560).toLoadRect f : Vec F S12x128 .bf16) shapeCasts_S12x128_S12x128) bitsLt_bf16_f32) shapeCasts_S12x128_S12x128⟩,
    ⟨{ off := ![28, 0], size := S12x128.size, stride := ![64, 1], inb := inb_S768x128_S12x128_28_0_s_64_1, stride_pos := spos_64_1 },
      shapeCast S12x128 (extf .f32 (shapeCast S12x128 (View.readAt (Elt F) M.view (Rect.unit (s := S12x5120) ![0, 2432] S12x128.size inb_S12x5120_S12x128_0_2432).toLoadRect f : Vec F S12x128 .bf16) shapeCasts_S12x128_S12x128) bitsLt_bf16_f32) shapeCasts_S12x128_S12x128⟩,
    ⟨{ off := ![27, 0], size := S12x128.size, stride := ![64, 1], inb := inb_S768x128_S12x128_27_0_s_64_1, stride_pos := spos_64_1 },
      shapeCast S12x128 (extf .f32 (shapeCast S12x128 (View.readAt (Elt F) M.view (Rect.unit (s := S12x5120) ![0, 2304] S12x128.size inb_S12x5120_S12x128_0_2304).toLoadRect f : Vec F S12x128 .bf16) shapeCasts_S12x128_S12x128) bitsLt_bf16_f32) shapeCasts_S12x128_S12x128⟩,
    ⟨{ off := ![26, 0], size := S12x128.size, stride := ![64, 1], inb := inb_S768x128_S12x128_26_0_s_64_1, stride_pos := spos_64_1 },
      shapeCast S12x128 (extf .f32 (shapeCast S12x128 (View.readAt (Elt F) M.view (Rect.unit (s := S12x5120) ![0, 2176] S12x128.size inb_S12x5120_S12x128_0_2176).toLoadRect f : Vec F S12x128 .bf16) shapeCasts_S12x128_S12x128) bitsLt_bf16_f32) shapeCasts_S12x128_S12x128⟩,
    ⟨{ off := ![25, 0], size := S12x128.size, stride := ![64, 1], inb := inb_S768x128_S12x128_25_0_s_64_1, stride_pos := spos_64_1 },
      shapeCast S12x128 (extf .f32 (shapeCast S12x128 (View.readAt (Elt F) M.view (Rect.unit (s := S12x5120) ![0, 2048] S12x128.size inb_S12x5120_S12x128_0_2048).toLoadRect f : Vec F S12x128 .bf16) shapeCasts_S12x128_S12x128) bitsLt_bf16_f32) shapeCasts_S12x128_S12x128⟩,
    ⟨{ off := ![24, 0], size := S12x128.size, stride := ![64, 1], inb := inb_S768x128_S12x128_24_0_s_64_1, stride_pos := spos_64_1 },
      shapeCast S12x128 (extf .f32 (shapeCast S12x128 (View.readAt (Elt F) M.view (Rect.unit (s := S12x5120) ![0, 1920] S12x128.size inb_S12x5120_S12x128_0_1920).toLoadRect f : Vec F S12x128 .bf16) shapeCasts_S12x128_S12x128) bitsLt_bf16_f32) shapeCasts_S12x128_S12x128⟩,
    ⟨{ off := ![20, 0], size := S12x128.size, stride := ![64, 1], inb := inb_S768x128_S12x128_20_0_s_64_1, stride_pos := spos_64_1 },
      shapeCast S12x128 (extf .f32 (shapeCast S12x128 (View.readAt (Elt F) M.view (Rect.unit (s := S12x5120) ![0, 1792] S12x128.size inb_S12x5120_S12x128_0_1792).toLoadRect f : Vec F S12x128 .bf16) shapeCasts_S12x128_S12x128) bitsLt_bf16_f32) shapeCasts_S12x128_S12x128⟩,
    ⟨{ off := ![19, 0], size := S12x128.size, stride := ![64, 1], inb := inb_S768x128_S12x128_19_0_s_64_1, stride_pos := spos_64_1 },
      shapeCast S12x128 (extf .f32 (shapeCast S12x128 (View.readAt (Elt F) M.view (Rect.unit (s := S12x5120) ![0, 1664] S12x128.size inb_S12x5120_S12x128_0_1664).toLoadRect f : Vec F S12x128 .bf16) shapeCasts_S12x128_S12x128) bitsLt_bf16_f32) shapeCasts_S12x128_S12x128⟩,
    ⟨{ off := ![18, 0], size := S12x128.size, stride := ![64, 1], inb := inb_S768x128_S12x128_18_0_s_64_1, stride_pos := spos_64_1 },
      shapeCast S12x128 (extf .f32 (shapeCast S12x128 (View.readAt (Elt F) M.view (Rect.unit (s := S12x5120) ![0, 1536] S12x128.size inb_S12x5120_S12x128_0_1536).toLoadRect f : Vec F S12x128 .bf16) shapeCasts_S12x128_S12x128) bitsLt_bf16_f32) shapeCasts_S12x128_S12x128⟩,
    ⟨{ off := ![17, 0], size := S12x128.size, stride := ![64, 1], inb := inb_S768x128_S12x128_17_0_s_64_1, stride_pos := spos_64_1 },
      shapeCast S12x128 (extf .f32 (shapeCast S12x128 (View.readAt (Elt F) M.view (Rect.unit (s := S12x5120) ![0, 1408] S12x128.size inb_S12x5120_S12x128_0_1408).toLoadRect f : Vec F S12x128 .bf16) shapeCasts_S12x128_S12x128) bitsLt_bf16_f32) shapeCasts_S12x128_S12x128⟩,
    ⟨{ off := ![16, 0], size := S12x128.size, stride := ![64, 1], inb := inb_S768x128_S12x128_16_0_s_64_1, stride_pos := spos_64_1 },
      shapeCast S12x128 (extf .f32 (shapeCast S12x128 (View.readAt (Elt F) M.view (Rect.unit (s := S12x5120) ![0, 1280] S12x128.size inb_S12x5120_S12x128_0_1280).toLoadRect f : Vec F S12x128 .bf16) shapeCasts_S12x128_S12x128) bitsLt_bf16_f32) shapeCasts_S12x128_S12x128⟩,
    ⟨{ off := ![12, 0], size := S12x128.size, stride := ![64, 1], inb := inb_S768x128_S12x128_12_0_s_64_1, stride_pos := spos_64_1 },
      shapeCast S12x128 (extf .f32 (shapeCast S12x128 (View.readAt (Elt F) M.view (Rect.unit (s := S12x5120) ![0, 1152] S12x128.size inb_S12x5120_S12x128_0_1152).toLoadRect f : Vec F S12x128 .bf16) shapeCasts_S12x128_S12x128) bitsLt_bf16_f32) shapeCasts_S12x128_S12x128⟩,
    ⟨{ off := ![11, 0], size := S12x128.size, stride := ![64, 1], inb := inb_S768x128_S12x128_11_0_s_64_1, stride_pos := spos_64_1 },
      shapeCast S12x128 (extf .f32 (shapeCast S12x128 (View.readAt (Elt F) M.view (Rect.unit (s := S12x5120) ![0, 1024] S12x128.size inb_S12x5120_S12x128_0_1024).toLoadRect f : Vec F S12x128 .bf16) shapeCasts_S12x128_S12x128) bitsLt_bf16_f32) shapeCasts_S12x128_S12x128⟩,
    ⟨{ off := ![10, 0], size := S12x128.size, stride := ![64, 1], inb := inb_S768x128_S12x128_10_0_s_64_1, stride_pos := spos_64_1 },
      shapeCast S12x128 (extf .f32 (shapeCast S12x128 (View.readAt (Elt F) M.view (Rect.unit (s := S12x5120) ![0, 896] S12x128.size inb_S12x5120_S12x128_0_896).toLoadRect f : Vec F S12x128 .bf16) shapeCasts_S12x128_S12x128) bitsLt_bf16_f32) shapeCasts_S12x128_S12x128⟩,
    ⟨{ off := ![9, 0], size := S12x128.size, stride := ![64, 1], inb := inb_S768x128_S12x128_9_0_s_64_1, stride_pos := spos_64_1 },
      shapeCast S12x128 (extf .f32 (shapeCast S12x128 (View.readAt (Elt F) M.view (Rect.unit (s := S12x5120) ![0, 768] S12x128.size inb_S12x5120_S12x128_0_768).toLoadRect f : Vec F S12x128 .bf16) shapeCasts_S12x128_S12x128) bitsLt_bf16_f32) shapeCasts_S12x128_S12x128⟩,
    ⟨{ off := ![8, 0], size := S12x128.size, stride := ![64, 1], inb := inb_S768x128_S12x128_8_0_s_64_1, stride_pos := spos_64_1 },
      shapeCast S12x128 (extf .f32 (shapeCast S12x128 (View.readAt (Elt F) M.view (Rect.unit (s := S12x5120) ![0, 640] S12x128.size inb_S12x5120_S12x128_0_640).toLoadRect f : Vec F S12x128 .bf16) shapeCasts_S12x128_S12x128) bitsLt_bf16_f32) shapeCasts_S12x128_S12x128⟩,
    ⟨{ off := ![4, 0], size := S12x128.size, stride := ![64, 1], inb := inb_S768x128_S12x128_4_0_s_64_1, stride_pos := spos_64_1 },
      shapeCast S12x128 (extf .f32 (shapeCast S12x128 (View.readAt (Elt F) M.view (Rect.unit (s := S12x5120) ![0, 512] S12x128.size inb_S12x5120_S12x128_0_512).toLoadRect f : Vec F S12x128 .bf16) shapeCasts_S12x128_S12x128) bitsLt_bf16_f32) shapeCasts_S12x128_S12x128⟩,
    ⟨{ off := ![3, 0], size := S12x128.size, stride := ![64, 1], inb := inb_S768x128_S12x128_3_0_s_64_1, stride_pos := spos_64_1 },
      shapeCast S12x128 (extf .f32 (shapeCast S12x128 (View.readAt (Elt F) M.view (Rect.unit (s := S12x5120) ![0, 384] S12x128.size inb_S12x5120_S12x128_0_384).toLoadRect f : Vec F S12x128 .bf16) shapeCasts_S12x128_S12x128) bitsLt_bf16_f32) shapeCasts_S12x128_S12x128⟩,
    ⟨{ off := ![2, 0], size := S12x128.size, stride := ![64, 1], inb := inb_S768x128_S12x128_2_0_s_64_1, stride_pos := spos_64_1 },
      shapeCast S12x128 (extf .f32 (shapeCast S12x128 (View.readAt (Elt F) M.view (Rect.unit (s := S12x5120) ![0, 256] S12x128.size inb_S12x5120_S12x128_0_256).toLoadRect f : Vec F S12x128 .bf16) shapeCasts_S12x128_S12x128) bitsLt_bf16_f32) shapeCasts_S12x128_S12x128⟩,
    ⟨{ off := ![1, 0], size := S12x128.size, stride := ![64, 1], inb := inb_S768x128_S12x128_1_0_s_64_1, stride_pos := spos_64_1 },
      shapeCast S12x128 (extf .f32 (shapeCast S12x128 (View.readAt (Elt F) M.view (Rect.unit (s := S12x5120) ![0, 128] S12x128.size inb_S12x5120_S12x128_0_128).toLoadRect f : Vec F S12x128 .bf16) shapeCasts_S12x128_S12x128) bitsLt_bf16_f32) shapeCasts_S12x128_S12x128⟩,
    ⟨{ off := ![0, 0], size := S12x128.size, stride := ![64, 1], inb := inb_S768x128_S12x128_0_0_s_64_1, stride_pos := spos_64_1 },
      shapeCast S12x128 (extf .f32 (shapeCast S12x128 (View.readAt (Elt F) M.view (Rect.unit (s := S12x5120) ![0, 0] S12x128.size inb_S12x5120_S12x128_0_0).toLoadRect f : Vec F S12x128 .bf16) shapeCasts_S12x128_S12x128) bitsLt_bf16_f32) shapeCasts_S12x128_S12x128⟩]

theorem xPieces_good (M : Memref sig .tc .vmem S12x5120 .bf16) (f : Ct (F := F) M) :
    ∀ p ∈ xPieces M f, ∀ x : p.1.shape.Idx, p.2 x = valX (M.view.read (Elt F) f) (p.1.emb x) :=
  List.forall_mem_cons.2 ⟨x_good M f 39 _ rfl _ _ _ rfl _, List.forall_mem_cons.2 ⟨x_good M f 38 _ rfl _ _ _ rfl _, List.forall_mem_cons.2 ⟨x_good M f 37 _ rfl _ _ _ rfl _, List.forall_mem_cons.2 ⟨x_good M f 36 _ rfl _ _ _ rfl _, List.forall_mem_cons.2 ⟨x_good M f 35 _ rfl _ _ _ rfl _, List.forall_mem_cons.2 ⟨x_good M f 34 _ rfl _ _ _ rfl _, List.forall_mem_cons.2 ⟨x_good M f 33 _ rfl _ _ _ rfl _, List.forall_mem_cons.2 ⟨x_good M f 32 _ rfl _ _ _ rfl _, List.forall_mem_cons.2 ⟨x_good M f 31 _ rfl _ _ _ rfl _, List.forall_mem_cons.2 ⟨x_good M f 30 _ rfl _ _ _ rfl _, List.forall_mem_cons.2 ⟨x_good M f 29 _ rfl _ _ _ rfl _, List.forall_mem_cons.2 ⟨x_good M f 28 _ rfl _ _ _ rfl _, List.forall_mem_cons.2 ⟨x_good M f 27 _ rfl _ _ _ rfl _, List.forall_mem_cons.2 ⟨x_good M f 26 _ rfl _ _ _ rfl _, List.forall_mem_cons.2 ⟨x_good M f 25 _ rfl _ _ _ rfl _, List.forall_mem_cons.2 ⟨x_good M f 24 _ rfl _ _ _ rfl _, List.forall_mem_cons.2 ⟨x_good M f 23 _ rfl _ _ _ rfl _, List.forall_mem_cons.2 ⟨x_good M f 22 _ rfl _ _ _ rfl _, List.forall_mem_cons.2 ⟨x_good M f 21 _ rfl _ _ _ rfl _, List.forall_mem_cons.2 ⟨x_good M f 20 _ rfl _ _ _ rfl _, List.forall_mem_cons.2 ⟨x_good M f 19 _ rfl _ _ _ rfl _, List.forall_mem_cons.2 ⟨x_good M f 18 _ rfl _ _ _ rfl _, List.forall_mem_cons.2 ⟨x_good M f 17 _ rfl _ _ _ rfl _, List.forall_mem_cons.2 ⟨x_good M f 16 _ rfl _ _ _ rfl _, List.forall_mem_cons.2 ⟨x_good M f 15 _ rfl _ _ _ rfl _, List.forall_mem_cons.2 ⟨x_good M f 14 _ rfl _ _ _ rfl _, List.forall_mem_cons.2 ⟨x_good M f 13 _ rfl _ _ _ rfl _, List.forall_mem_cons.2 ⟨x_good M f 12 _ rfl _ _ _ rfl _, List.forall_mem_cons.2 ⟨x_good M f 11 _ rfl _ _ _ rfl _, List.forall_mem_cons.2 ⟨x_good M f 10 _ rfl _ _ _ rfl _, List.forall_mem_cons.2 ⟨x_good M f 9 _ rfl _ _ _ rfl _, List.forall_mem_cons.2 ⟨x_good M f 8 _ rfl _ _ _ rfl _, List.forall_mem_cons.2 ⟨x_good M f 7 _ rfl _ _ _ rfl _, List.forall_mem_cons.2 ⟨x_good M f 6 _ rfl _ _ _ rfl _, List.forall_mem_cons.2 ⟨x_good M f 5 _ rfl _ _ _ rfl _, List.forall_mem_cons.2 ⟨x_good M f 4 _ rfl _ _ _ rfl _, List.forall_mem_cons.2 ⟨x_good M f 3 _ rfl _ _ _ rfl _, List.forall_mem_cons.2 ⟨x_good M f 2 _ rfl _ _ _ rfl _, List.forall_mem_cons.2 ⟨x_good M f 1 _ rfl _ _ _ rfl _, List.forall_mem_cons.2 ⟨x_good M f 0 _ rfl _ _ _ rfl _, List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩

theorem xPieces_row (M : Memref sig .tc .vmem S12x5120 .bf16) (f : Ct (F := F) M) :
    ∀ r, r < 64 → r % 8 < 5 → ∃ p ∈ xPieces M f, ∀ y : S768x128.Idx, (y 0).val % 64 = r → y ∈ p.1.set
  | 0, _, _ => ⟨_, @List.getElem_mem _ (xPieces M f) 39 (show 39 < 40 by decide), fun y hy => x_cover _ 0 rfl _ _ y hy⟩
  | 1, _, _ => ⟨_, @List.getElem_mem _ (xPieces M f) 38 (show 38 < 40 by decide), fun y hy => x_cover _ 1 rfl _ _ y hy⟩
  | 2, _, _ => ⟨_, @List.getElem_mem _ (xPieces M f) 37 (show 37 < 40 by decide), fun y hy => x_cover _ 2 rfl _ _ y hy⟩
  | 3, _, _ => ⟨_, @List.getElem_mem _ (xPieces M f) 36 (show 36 < 40 by decide), fun y hy => x_cover _ 3 rfl _ _ y hy⟩
  | 4, _, _ => ⟨_, @List.getElem_mem _ (xPieces M f) 35 (show 35 < 40 by decide), fun y hy => x_cover _ 4 rfl _ _ y hy⟩
  | 5, _, h => absurd h (by decide)
  | 6, _, h => absurd h (by decide)
  | 7, _, h => absurd h (by decide)
  | 8, _, _ => ⟨_, @List.getElem_mem _ (xPieces M f) 34 (show 34 < 40 by decide), fun y hy => x_cover _ 8 rfl _ _ y hy⟩
  | 9, _, _ => ⟨_, @List.getElem_mem _ (xPieces M f) 33 (show 33 < 40 by decide), fun y hy => x_cover _ 9 rfl _ _ y hy⟩
  | 10, _, _ => ⟨_, @List.getElem_mem _ (xPieces M f) 32 (show 32 < 40 by decide), fun y hy => x_cover _ 10 rfl _ _ y hy⟩
  | 11, _, _ => ⟨_, @List.getElem_mem _ (xPieces M f) 31 (show 31 < 40 by decide), fun y hy => x_cover _ 11 rfl _ _ y hy⟩
  | 12, _, _ => ⟨_, @List.getElem_mem _ (xPieces M f) 30 (show 30 < 40 by decide), fun y hy => x_cover _ 12 rfl _ _ y hy⟩
  | 13, _, h => absurd h (by decide)
  | 14, _, h => absurd h (by decide)
  | 15, _, h => absurd h (by decide)
  | 16, _, _ => ⟨_, @List.getElem_mem _ (xPieces M f) 29 (show 29 < 40 by decide), fun y hy => x_cover _ 16 rfl _ _ y hy⟩
  | 17, _, _ => ⟨_, @List.getElem_mem _ (xPieces M f) 28 (show 28 < 40 by decide), fun y hy => x_cover _ 17 rfl _ _ y hy⟩
  | 18, _, _ => ⟨_, @List.getElem_mem _ (xPieces M f) 27 (show 27 < 40 by decide), fun y hy => x_cover _ 18 rfl _ _ y hy⟩
  | 19, _, _ => ⟨_, @List.getElem_mem _ (xPieces M f) 26 (show 26 < 40 by decide), fun y hy => x_cover _ 19 rfl _ _ y hy⟩
  | 20, _, _ => ⟨_, @List.getElem_mem _ (xPieces M f) 25 (show 25 < 40 by decide), fun y hy => x_cover _ 20 rfl _ _ y hy⟩
  | 21, _, h => absurd h (by decide)
  | 22, _, h => absurd h (by decide)
  | 23, _, h => absurd h (by decide)
  | 24, _, _ => ⟨_, @List.getElem_mem _ (xPieces M f) 24 (show 24 < 40 by decide), fun y hy => x_cover _ 24 rfl _ _ y hy⟩
  | 25, _, _ => ⟨_, @List.getElem_mem _ (xPieces M f) 23 (show 23 < 40 by decide), fun y hy => x_cover _ 25 rfl _ _ y hy⟩
  | 26, _, _ => ⟨_, @List.getElem_mem _ (xPieces M f) 22 (show 22 < 40 by decide), fun y hy => x_cover _ 26 rfl _ _ y hy⟩
  | 27, _, _ => ⟨_, @List.getElem_mem _ (xPieces M f) 21 (show 21 < 40 by decide), fun y hy => x_cover _ 27 rfl _ _ y hy⟩
  | 28, _, _ => ⟨_, @List.getElem_mem _ (xPieces M f) 20 (show 20 < 40 by decide), fun y hy => x_cover _ 28 rfl _ _ y hy⟩
  | 29, _, h => absurd h (by decide)
  | 30, _, h => absurd h (by decide)
  | 31, _, h => absurd h (by decide)
  | 32, _, _ => ⟨_, @List.getElem_mem _ (xPieces M f) 19 (show 19 < 40 by decide), fun y hy => x_cover _ 32 rfl _ _ y hy⟩
  | 33, _, _ => ⟨_, @List.getElem_mem _ (xPieces M f) 18 (show 18 < 40 by decide), fun y hy => x_cover _ 33 rfl _ _ y hy⟩
  | 34, _, _ => ⟨_, @List.getElem_mem _ (xPieces M f) 17 (show 17 < 40 by decide), fun y hy => x_cover _ 34 rfl _ _ y hy⟩
  | 35, _, _ => ⟨_, @List.getElem_mem _ (xPieces M f) 16 (show 16 < 40 by decide), fun y hy => x_cover _ 35 rfl _ _ y hy⟩
  | 36, _, _ => ⟨_, @List.getElem_mem _ (xPieces M f) 15 (show 15 < 40 by decide), fun y hy => x_cover _ 36 rfl _ _ y hy⟩
  | 37, _, h => absurd h (by decide)
  | 38, _, h => absurd h (by decide)
  | 39, _, h => absurd h (by decide)
  | 40, _, _ => ⟨_, @List.getElem_mem _ (xPieces M f) 14 (show 14 < 40 by decide), fun y hy => x_cover _ 40 rfl _ _ y hy⟩
  | 41, _, _ => ⟨_, @List.getElem_mem _ (xPieces M f) 13 (show 13 < 40 by decide), fun y hy => x_cover _ 41 rfl _ _ y hy⟩
  | 42, _, _ => ⟨_, @List.getElem_mem _ (xPieces M f) 12 (show 12 < 40 by decide), fun y hy => x_cover _ 42 rfl _ _ y hy⟩
  | 43, _, _ => ⟨_, @List.getElem_mem _ (xPieces M f) 11 (show 11 < 40 by decide), fun y hy => x_cover _ 43 rfl _ _ y hy⟩
  | 44, _, _ => ⟨_, @List.getElem_mem _ (xPieces M f) 10 (show 10 < 40 by decide), fun y hy => x_cover _ 44 rfl _ _ y hy⟩
  | 45, _, h => absurd h (by decide)
  | 46, _, h => absurd h (by decide)
  | 47, _, h => absurd h (by decide)
  | 48, _, _ => ⟨_, @List.getElem_mem _ (xPieces M f) 9 (show 9 < 40 by decide), fun y hy => x_cover _ 48 rfl _ _ y hy⟩
  | 49, _, _ => ⟨_, @List.getElem_mem _ (xPieces M f) 8 (show 8 < 40 by decide), fun y hy => x_cover _ 49 rfl _ _ y hy⟩
  | 50, _, _ => ⟨_, @List.getElem_mem _ (xPieces M f) 7 (show 7 < 40 by decide), fun y hy => x_cover _ 50 rfl _ _ y hy⟩
  | 51, _, _ => ⟨_, @List.getElem_mem _ (xPieces M f) 6 (show 6 < 40 by decide), fun y hy => x_cover _ 51 rfl _ _ y hy⟩
  | 52, _, _ => ⟨_, @List.getElem_mem _ (xPieces M f) 5 (show 5 < 40 by decide), fun y hy => x_cover _ 52 rfl _ _ y hy⟩
  | 53, _, h => absurd h (by decide)
  | 54, _, h => absurd h (by decide)
  | 55, _, h => absurd h (by decide)
  | 56, _, _ => ⟨_, @List.getElem_mem _ (xPieces M f) 4 (show 4 < 40 by decide), fun y hy => x_cover _ 56 rfl _ _ y hy⟩
  | 57, _, _ => ⟨_, @List.getElem_mem _ (xPieces M f) 3 (show 3 < 40 by decide), fun y hy => x_cover _ 57 rfl _ _ y hy⟩
  | 58, _, _ => ⟨_, @List.getElem_mem _ (xPieces M f) 2 (show 2 < 40 by decide), fun y hy => x_cover _ 58 rfl _ _ y hy⟩
  | 59, _, _ => ⟨_, @List.getElem_mem _ (xPieces M f) 1 (show 1 < 40 by decide), fun y hy => x_cover _ 59 rfl _ _ y hy⟩
  | 60, _, _ => ⟨_, @List.getElem_mem _ (xPieces M f) 0 (show 0 < 40 by decide), fun y hy => x_cover _ 60 rfl _ _ y hy⟩
  | 61, _, h => absurd h (by decide)
  | 62, _, h => absurd h (by decide)
  | 63, _, h => absurd h (by decide)
  | n + 64, h, _ => absurd h (by omega)

/-- Off all of some stores, those below decide. -/
theorem canon_append_of_not_mem {Val : EltTy → Type} [∀ e, Nonempty (Val e)] {S : Shape} {e : EltTy} (L' : List (View.Piece Val S e)) (y : S.Idx) :
    ∀ (L : List (View.Piece Val S e)) (_ : ∀ p ∈ L, y ∉ p.1.set), View.canon (L ++ L') y = View.canon L' y
  | [], _ => rfl
  | p :: L, h => by
    rw [List.cons_append, View.canon_cons_of_not_mem _ _ (h p (by simp))]
    exact canon_append_of_not_mem L' y L fun q hq => h q (by simp [hq])

theorem xPieces_rows (M : Memref sig .tc .vmem S12x5120 .bf16) (f : Ct (F := F) M) :
    ∀ p ∈ xPieces M f, ∀ x : p.1.shape.Idx, (p.1.emb x 0).val % 8 < 5 :=
  List.forall_mem_cons.2 ⟨fun x => x_rows 60 (by decide) _ rfl _ _ x, List.forall_mem_cons.2 ⟨fun x => x_rows 59 (by decide) _ rfl _ _ x, List.forall_mem_cons.2 ⟨fun x => x_rows 58 (by decide) _ rfl _ _ x, List.forall_mem_cons.2 ⟨fun x => x_rows 57 (by decide) _ rfl _ _ x, List.forall_mem_cons.2 ⟨fun x => x_rows 56 (by decide) _ rfl _ _ x, List.forall_mem_cons.2 ⟨fun x => x_rows 52 (by decide) _ rfl _ _ x, List.forall_mem_cons.2 ⟨fun x => x_rows 51 (by decide) _ rfl _ _ x, List.forall_mem_cons.2 ⟨fun x => x_rows 50 (by decide) _ rfl _ _ x, List.forall_mem_cons.2 ⟨fun x => x_rows 49 (by decide) _ rfl _ _ x, List.forall_mem_cons.2 ⟨fun x => x_rows 48 (by decide) _ rfl _ _ x, List.forall_mem_cons.2 ⟨fun x => x_rows 44 (by decide) _ rfl _ _ x, List.forall_mem_cons.2 ⟨fun x => x_rows 43 (by decide) _ rfl _ _ x, List.forall_mem_cons.2 ⟨fun x => x_rows 42 (by decide) _ rfl _ _ x, List.forall_mem_cons.2 ⟨fun x => x_rows 41 (by decide) _ rfl _ _ x, List.forall_mem_cons.2 ⟨fun x => x_rows 40 (by decide) _ rfl _ _ x, List.forall_mem_cons.2 ⟨fun x => x_rows 36 (by decide) _ rfl _ _ x, List.forall_mem_cons.2 ⟨fun x => x_rows 35 (by decide) _ rfl _ _ x, List.forall_mem_cons.2 ⟨fun x => x_rows 34 (by decide) _ rfl _ _ x, List.forall_mem_cons.2 ⟨fun x => x_rows 33 (by decide) _ rfl _ _ x, List.forall_mem_cons.2 ⟨fun x => x_rows 32 (by decide) _ rfl _ _ x, List.forall_mem_cons.2 ⟨fun x => x_rows 28 (by decide) _ rfl _ _ x, List.forall_mem_cons.2 ⟨fun x => x_rows 27 (by decide) _ rfl _ _ x, List.forall_mem_cons.2 ⟨fun x => x_rows 26 (by decide) _ rfl _ _ x, List.forall_mem_cons.2 ⟨fun x => x_rows 25 (by decide) _ rfl _ _ x, List.forall_mem_cons.2 ⟨fun x => x_rows 24 (by decide) _ rfl _ _ x, List.forall_mem_cons.2 ⟨fun x => x_rows 20 (by decide) _ rfl _ _ x, List.forall_mem_cons.2 ⟨fun x => x_rows 19 (by decide) _ rfl _ _ x, List.forall_mem_cons.2 ⟨fun x => x_rows 18 (by decide) _ rfl _ _ x, List.forall_mem_cons.2 ⟨fun x => x_rows 17 (by decide) _ rfl _ _ x, List.forall_mem_cons.2 ⟨fun x => x_rows 16 (by decide) _ rfl _ _ x, List.forall_mem_cons.2 ⟨fun x => x_rows 12 (by decide) _ rfl _ _ x, List.forall_mem_cons.2 ⟨fun x => x_rows 11 (by decide) _ rfl _ _ x, List.forall_mem_cons.2 ⟨fun x => x_rows 10 (by decide) _ rfl _ _ x, List.forall_mem_cons.2 ⟨fun x => x_rows 9 (by decide) _ rfl _ _ x, List.forall_mem_cons.2 ⟨fun x => x_rows 8 (by decide) _ rfl _ _ x, List.forall_mem_cons.2 ⟨fun x => x_rows 4 (by decide) _ rfl _ _ x, List.forall_mem_cons.2 ⟨fun x => x_rows 3 (by decide) _ rfl _ _ x, List.forall_mem_cons.2 ⟨fun x => x_rows 2 (by decide) _ rfl _ _ x, List.forall_mem_cons.2 ⟨fun x => x_rows 1 (by decide) _ rfl _ _ x, List.forall_mem_cons.2 ⟨fun x => x_rows 0 (by decide) _ rfl _ _ x, List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩

theorem pieces_eq (M : Memref sig .tc .vmem S12x5120 .bf16) (f : Ct (F := F) M) :
    bodyFirst.sl.H17_41 M f = xPieces M f ++ [⟨Rect.unit ![0, 0] S768x128.size inb_S768x128_S768x128_0_0, k0_pay28⟩] := rfl

/-- The spread queries, as the first point reads them back. -/
theorem x_read (arg2 : Memref sig .tc .vmem S12x5120 .bf16) (arg17 : Memref sig .tc .vmem S768x128 .f32) (f2 : Ct (F := F) arg2) :
    bodyFirst.sl.v729 arg2 arg17 f2 = valX (arg2.view.read (Elt F) f2) := by
  have hz : ∀ y : S768x128.Idx, y ∈ (Rect.unit (s := S768x128) ![0, 0] S768x128.size inb_S768x128_S768x128_0_0).set := fun y => by
    have e : y = (Rect.unit (s := S768x128) ![0, 0] S768x128.size inb_S768x128_S768x128_0_0).emb y := by
      funext a; apply Fin.ext
      match a with
      | 0 => show (y 0).val = 0 + 1 * (y 0).val; omega
      | 1 => show (y 1).val = 0 + 1 * (y 1).val; omega
    rw [e]
    exact LoadRect.idx_mem _ _
  have h : ∀ y : S768x128.Idx, ∃ p ∈ bodyFirst.sl.H17_41 arg2 f2, y ∈ p.1.set := fun y => by
    rw [pieces_eq]
    exact ⟨_, List.mem_append_right _ (List.mem_singleton.2 rfl), hz y⟩
  have key : ∀ y : S768x128.Idx, View.canon (bodyFirst.sl.H17_41 arg2 f2) y = valX (arg2.view.read (Elt F) f2) y := fun y => by
    rw [pieces_eq]
    by_cases hy : (y 0).val % 8 < 5
    · obtain ⟨p, hp, hm⟩ := xPieces_row arg2 f2 ((y 0).val % 64) (Nat.mod_lt _ (by omega)) (by omega)
      exact View.canon_append_of_pieces _ _ _ (xPieces_good arg2 f2) y ⟨p, hp, hm y rfl⟩
    · rw [canon_append_of_not_mem _ y _ (fun p hp hm => by
        obtain ⟨x, hx⟩ := p.1.exists_idx_of_mem hm
        have := xPieces_rows arg2 f2 p hp x
        rw [show p.1.emb x = y from hx] at this
        exact hy this)]
      obtain ⟨x, hx⟩ := (Rect.unit (s := S768x128) ![0, 0] S768x128.size inb_S768x128_S768x128_0_0).exists_idx_of_mem (hz y)
      rw [← show (Rect.unit (s := S768x128) ![0, 0] S768x128.size inb_S768x128_S768x128_0_0).emb x = y from hx, View.canon_cons_emb]
      unfold valX
      rw [dif_neg (by rw [show (Rect.unit (s := S768x128) ![0, 0] S768x128.size inb_S768x128_S768x128_0_0).emb x = y from hx]; exact hy)]
      exact congrFun (shapeCast_self (broadcast S768x128 (Scalar.ofBits .f32 0x00000000#32 : F .f32)) shapeCasts_S768x128_S768x128) x
  refine (View.readCov_eq_canon arg17.view _ _ (fun j => h _)).trans (funext fun j => ?_)
  refine (key _).trans (congrArg _ ?_)
  funext a; apply Fin.ext
  match a with
  | 0 => show 0 + 1 * (j 0).val = (j 0).val; omega
  | 1 => show 0 + 1 * (j 1).val = (j 1).val; omega

/-- The projected queries, -/
def valP (P : Vec F S128x256 .bf16) (X : S12x5120.Idx → Elt F .bf16) : FVec F S768x256 .f32 := k0_pay74 P (valX X)

/-- the scaling's running value, whether it is below the step's bound, the scale and its inverse, halfway; -/
def mid22 (P : Vec F S128x256 .bf16) (X : S12x5120.Idx → Elt F .bf16) : FVec F S768x1 .f32 := k0_pay89 (k0_pay79 P (valX X)) (k0_pay82 P (valX X)) bodyFirst.sl.cst_310
def mid23 (P : Vec F S128x256 .bf16) (X : S12x5120.Idx → Elt F .bf16) : FVec F S768x1 .f32 := k0_pay90 (k0_pay79 P (valX X)) (k0_pay80 P (valX X)) (k0_pay82 P (valX X)) bodyFirst.sl.cst_310
def mid24 (P : Vec F S128x256 .bf16) (X : S12x5120.Idx → Elt F .bf16) : FVec F S768x1 .f32 := k0_pay91 (k0_pay79 P (valX X)) (k0_pay81 P (valX X)) (k0_pay82 P (valX X)) bodyFirst.sl.cst_310
def mid25 (P : Vec F S128x256 .bf16) (X : S12x5120.Idx → Elt F .bf16) : IVec S768x1 1 := k0_pay92 (k0_pay79 P (valX X)) (k0_pay82 P (valX X)) bodyFirst.sl.cst_310
def mid26 (P : Vec F S128x256 .bf16) (X : S12x5120.Idx → Elt F .bf16) : FVec F S768x1 .f32 := k0_pay99 (mid22 P X) (mid25 P X) bodyFirst.sl.cst_326
def mid29 (P : Vec F S128x256 .bf16) (X : S12x5120.Idx → Elt F .bf16) : IVec S768x1 1 := k0_pay102 (mid22 P X) (mid25 P X) bodyFirst.sl.cst_326

/-- the scale of each row, -/
def valUp (P : Vec F S128x256 .bf16) (X : S12x5120.Idx → Elt F .bf16) : FVec F S768x1 .f32 :=
  k0_pay108 (mid26 P X) (k0_pay100 (mid22 P X) (mid23 P X) (mid25 P X) bodyFirst.sl.cst_326) (mid29 P X) bodyFirst.sl.cst_342

/-- the projected queries over their scale, -/
def valN (P : Vec F S128x256 .bf16) (X : S12x5120.Idx → Elt F .bf16) : FVec F S768x256 .bf16 :=
  k0_pay109 (valP P X) (mid26 P X) (k0_pay101 (mid22 P X) (mid24 P X) (mid25 P X) bodyFirst.sl.cst_326) (mid29 P X) bodyFirst.sl.cst_342

/-- the same with their coordinates permuted, -/
def valQ (P : Vec F S128x256 .bf16) (X : S12x5120.Idx → Elt F .bf16) : S768x256.Idx → Elt F .bf16 :=
  k0_pay124 (valN P X) bodyFirst.sl.v1032 (shli bodyFirst.sl.v1031 bodyFirst.sl.v1033) bodyFirst.sl.v901

/-- and each row's scale and sum. -/
def valC (P : Vec F S128x256 .bf16) (X : S12x5120.Idx → Elt F .bf16) : S2x768x128.Idx → Elt F .f32 := fun y =>
  if (y 0).val = 0 then k0_pay125 (valUp P X) (ix3 0 (y 1) (y 2)) else k0_pay126 (valP P X) (ix3 0 (y 1) (y 2))

theorem slab_good (G : S2x768x128.Idx → Elt F .f32) (w : FVec F S1x768x128 .f32) (k : Nat) (hk : k < 2) (off : Fin 3 → Nat) (ho : off = ![k, 0, 0]) (inb)
    (hw : ∀ (a : Fin 768) (b : Fin 128), w (ix3 0 a b) = G (ix3 ⟨k, hk⟩ a b)) (x : S1x768x128.Idx) :
    w x = G ((Rect.unit (s := S2x768x128) off S1x768x128.size inb).emb x) := by
  subst ho
  have h0 : (x 0).val < 1 := (x 0).isLt
  have e : x = ix3 (n0 := 1) (n1 := 768) (n2 := 128) 0 (x 1) (x 2) := by
    funext a; match a with
    | 0 => exact Fin.ext (by show (x 0).val = 0; omega)
    | 1 => rfl
    | 2 => rfl
  refine (congrArg w e).trans ((hw _ _).trans (congrArg G ?_))
  funext a; apply Fin.ext
  match a with
  | 0 => show k = k + 1 * (x 0).val; omega
  | 1 => show (x 1).val = 0 + 1 * (x 1).val; omega
  | 2 => show (x 2).val = 0 + 1 * (x 2).val; omega

theorem slab_cover (k : Nat) (off : Fin 3 → Nat) (ho : off = ![k, 0, 0]) (inb) (y : S2x768x128.Idx) (hy : (y 0).val = k) :
    y ∈ (Rect.unit (s := S2x768x128) off S1x768x128.size inb).set := by
  subst ho
  have e : y = (Rect.unit (s := S2x768x128) ![k, 0, 0] S1x768x128.size inb).emb (ix3 (n0 := 1) (n1 := 768) (n2 := 128) 0 (y 1) (y 2)) := by
    funext a; apply Fin.ext
    match a with
    | 0 => show (y 0).val = k + 1 * 0; omega
    | 1 => show (y 1).val = 0 + 1 * (y 1).val; omega
    | 2 => show (y 2).val = 0 + 1 * (y 2).val; omega
  rw [e]
  exact LoadRect.idx_mem _ _

theorem first_query (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) :
    arg16.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.2.2.1 = valQ (arg5.view.read (Elt F) f5) (arg2.view.read (Elt F) f2)
    ∧ arg18.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.2.2.2 = valC (arg5.view.read (Elt F) f5) (arg2.view.read (Elt F) f2) := by
  have e5 := readAt_full (Val := Elt F) arg5.view ![0, 0] zeros2 inb_S128x256_S128x256_0_0 f5
  have e2 := x_read arg2 arg17 f2
  constructor
  · refine (read_full arg16.view ![0, 0] zeros2 inb_S768x256_S768x256_0_0 _ _).trans ?_
    unfold valQ valN valP mid29 mid26 mid25 mid24 mid22
    rw [← e5, ← e2]
    rfl
  · have hL : ∀ y : S2x768x128.Idx, ∃ p ∈ bodyFirst.sl.H18_2 arg2 arg5 arg17 f2 f5, y ∈ p.1.set := fun y => by
      have h0 : (y 0).val < 2 := (y 0).isLt
      by_cases hy : (y 0).val = 0
      · exact ⟨_, List.mem_cons_of_mem _ (List.mem_singleton.2 rfl), slab_cover 0 _ rfl inb_S2x768x128_S1x768x128_0_0_0 y hy⟩
      · exact ⟨_, List.mem_cons_self, slab_cover 1 _ rfl inb_S2x768x128_S1x768x128_1_0_0 y (by omega)⟩
    refine (View.read_writes_eq_canon arg18.view _ (bodyFirst.sl.H18_2 arg2 arg5 arg17 f2 f5) hL).trans (funext fun y => ?_)
    refine View.canon_apply_of_pieces _ _ ?_ y (hL y)
    refine List.forall_mem_cons.2 ⟨slab_good _ _ 1 (by decide) _ rfl inb_S2x768x128_S1x768x128_1_0_0 fun a b => ?_, List.forall_mem_cons.2 ⟨slab_good _ _ 0 (by decide) _ rfl inb_S2x768x128_S1x768x128_0_0_0 fun a b => ?_, List.forall_mem_nil _⟩⟩
    · unfold valC valP
      rw [← e5, ← e2]
      rfl
    · unfold valC valUp mid29 mid26 mid25 mid23 mid22
      rw [← e5, ← e2]
      rfl

/-- The word that a grid point takes as its sequence's length. -/
theorem word_read (i : grid0.Coords) (arg1 : Memref sig .tc .smem S12 .i32) (f1 : BufTy.Contents (Elt F) arg1.view.ty) :
    bodyLater.sl.r (F := F) i arg1 f1 = arg1.view.read (Elt F) f1 (ix1 ⟨(i 0).val, step_lt i⟩) := by
  refine congrArg (arg1.view.read (Elt F) f1) (funext fun a => Fin.ext ?_)
  match a with
  | 0 => show k0_off1 i 0 + 1 * 0 = (i 0).val; rw [k0_off1_eq]; rfl

/-- The block of scores of a later point, -/
theorem later_scores (c : Dev nD) (i : grid0.Coords) (h1 : ¬ k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) (hv : (bodyLater.sl.r (F := F) i arg1 f1 : BitVec 32).toNat ≤ 8192) :
    arg11.view.read (Elt F) (bodyLater c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.1 = scoreBlk i (bodyLater.sl.r (F := F) i arg1 f1) (arg6.view.read (Elt F) f6) (arg7.view.read (Elt F) f7) (arg16.view.read (Elt F) f16) (arg18.view.read (Elt F) f18) :=
  blk_read (hv := hv) (e1 := (loops _ hv).2.1) (e2 := (loops _ hv).2.2.2.1) (e3 := (loops _ hv).2.2.2.2.2.1) (e4 := (loops _ hv).2.2.2.2.2.2.2) ..

/-- and of the first. -/
theorem first_scores (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) (hv : (bodyLater.sl.r (F := F) i arg1 f1 : BitVec 32).toNat ≤ 8192) :
    arg11.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.2.1 = scoreBlk i (bodyLater.sl.r (F := F) i arg1 f1) (arg6.view.read (Elt F) f6) (arg7.view.read (Elt F) f7) (arg16.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.2.2.1) (arg18.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.2.2.2) :=
  blk_read (hv := hv) (e1 := (loops _ hv).2.1) (e2 := (loops _ hv).2.2.2.1) (e3 := (loops _ hv).2.2.2.2.2.1) (e4 := (loops _ hv).2.2.2.2.2.2.2) ..

end Cert.KernelIdeal.Own

end
-- ==== Proof.Vals.lean ====
/-
  What the first grid point leaves in the four results about the new token, as functions of the blocks it
  reads; and the two body runs, with the block of scores that each leaves, stated over what the blocks hold.
-/
module

public import proofs.«01_k».proof.Proof.BodyFirst
public import proofs.«01_k».proof.Proof.BodyLater
public import proofs.«01_k».proof.Proof.Chunks
public import proofs.«01_k».proof.Proof.Query
public import Idealize.ShloMosaic.Lib.WritesUnit
public import Idealize.ShloMosaic.Lib.Pipeline.TableIdle

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The packed sketch bits of the new keys, from the keys and the projection; -/
def valKb (K : Vec F S96x128 .bf16) (Pj : Vec F S128x256 .bf16) : Vec F S96x32 .i8 :=
  k0_pay12 (k0_pay6 Pj K) k0_pay7 k0_pay8 (iota Kind.tc S256x32 32 [0] iota_S256x32_d0_w32) 32#32 k0_pay9 k0_pay10 k0_pay11
/-- the new keys' norms; -/
def valKn (K : Vec F S96x128 .bf16) : Vec F S96x1 .bf16 := k0_pay13 (k0_pay4 K)
/-- the packed value codes; -/
def valVc (V : Vec F S96x128 .bf16) : Vec F S96x64 .i8 :=
  k0_pay26 (k0_pay14 V) (k0_pay23 (k0_pay14 V) (k0_pay17 (iota Kind.tc S96x128 32 [1] iota_S96x128_d1_w32) 32#32 k0_pay15 k0_pay16 1#32 0#32)
    (k0_pay19 (k0_pay14 V) (iota Kind.tc S96x128 32 [1] iota_S96x128_d1_w32) 32#32 k0_pay15 k0_pay16 1#32 0#32)
    (k0_pay20 (k0_pay14 V) (iota Kind.tc S96x128 32 [1] iota_S96x128_d1_w32) 32#32 k0_pay15 k0_pay16 1#32 0#32) 1#32)
/-- the value scales. -/
def valVs (V : Vec F S96x128 .bf16) : Vec F S96x4 .f32 :=
  k0_pay24 (k0_pay14 V) (k0_pay17 (iota Kind.tc S96x128 32 [1] iota_S96x128_d1_w32) 32#32 k0_pay15 k0_pay16 1#32 0#32)
    (k0_pay18 (k0_pay14 V) (iota Kind.tc S96x128 32 [1] iota_S96x128_d1_w32) 32#32 k0_pay15 k0_pay16 1#32 0#32)
    (k0_pay20 (k0_pay14 V) (iota Kind.tc S96x128 32 [1] iota_S96x128_d1_w32) 32#32 k0_pay15 k0_pay16 1#32 0#32)

theorem bodyFirst_reads (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) :
    arg12.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.1 = valKb (arg3.view.read (Elt F) f3) (arg5.view.read (Elt F) f5)
    ∧ arg13.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.1 = valKn (arg3.view.read (Elt F) f3)
    ∧ arg14.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.1 = valVc (arg4.view.read (Elt F) f4)
    ∧ arg15.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2.1 = valVs (arg4.view.read (Elt F) f4) := by
  have e3 := readAt_full (Val := Elt F) arg3.view ![0, 0] zeros2 inb_S96x128_S96x128_0_0 f3
  have e4 := readAt_full (Val := Elt F) arg4.view ![0, 0] zeros2 inb_S96x128_S96x128_0_0 f4
  have e5 := readAt_full (Val := Elt F) arg5.view ![0, 0] zeros2 inb_S128x256_S128x256_0_0 f5
  rw [← e3, ← e4, ← e5]
  refine ⟨?_, ?_, ?_, ?_⟩
  · exact read_full arg12.view ![0, 0] zeros2 inb_S96x32_S96x32_0_0 _ _
  · exact read_full arg13.view ![0, 0] zeros2 inb_S96x1_S96x1_0_0 _ _
  · exact read_full arg14.view ![0, 0] zeros2 inb_S96x64_S96x64_0_0 _ _
  · exact read_full arg15.view ![0, 0] zeros2 inb_S96x4_S96x4_0_0 _ _

/-- A memref held on core `c` with contents that read as `X`. -/
abbrev ow (c : Dev nD) {sp : Space} {S : Shape} {e : EltTy} (M : Memref sig .tc sp S e) (X : S.Idx → Elt F e) : sProp 𝕄 :=
  owns (c : Thread nD τ) M fullShare X

theorem ow_pt (c : Dev nD) {sp : Space} {S : Shape} {e : EltTy} (M : Memref sig .tc sp S e) (X : S.Idx → Elt F e) :
    ow (F := F) c M X = pt c M (M.view.rep X) := owns_eq_rep _ _ _ _

/-- The same at half the full share. -/
abbrev owr (c : Dev nD) {sp : Space} {S : Shape} {e : EltTy} (M : Memref sig .tc sp S e) (X : S.Idx → Elt F e) : sProp 𝕄 :=
  owns (c : Thread nD τ) M fullShare.right X

theorem owr_pr (c : Dev nD) {sp : Space} {S : Shape} {e : EltTy} (M : Memref sig .tc sp S e) (X : S.Idx → Elt F e) :
    owr (F := F) c M X = pr c M (M.view.rep X) := owns_eq_rep _ _ _ _

theorem pt_ow (c : Dev nD) {sp : Space} {S : Shape} {e : EltTy} (M : Memref sig .tc sp S e) (f : Ct (F := F) M) (X : S.Idx → Elt F e)
    (h : M.view.read (Elt F) f = X) : pt c M f ⊢ ow (F := F) c M X := by
  subst h; exact owns_intro _ _ _ _

theorem chk_rep {M : Memref sig .tc .smem S12 .i32} (Y : S12.Idx → Elt F .i32) (h : ∀ x, (Y x : BitVec 32).toNat ≤ 8192)
    (r : LoadRect S12) (x : r.shape.Idx) : k0_chk1 (View.readAt (Elt F) M.view r (M.view.rep Y) x) := by
  rw [View.readAt_apply, View.read_rep]; exact chk1 _ (h _)

theorem firstOwns (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (Y1 : S12.Idx → Elt F .i32) (Y2 : S12x5120.Idx → Elt F .bf16) (Y3 : S96x128.Idx → Elt F .bf16) (Y4 : S96x128.Idx → Elt F .bf16) (Y5 : S128x256.Idx → Elt F .bf16) (Y6 : S1x8x32x8192.Idx → Elt F .i8) (Y7 : S1x8x8192.Idx → Elt F .bf16) (Y8 : S1x8x64x8192.Idx → Elt F .i8) (Y9 : S1x8x4x8192.Idx → Elt F .f32) (Y10 : S12x5120.Idx → Elt F .bf16) (Y11 : S1x40x8192.Idx → Elt F .f32) (Y12 : S96x32.Idx → Elt F .i8) (Y13 : S96x1.Idx → Elt F .bf16) (Y14 : S96x64.Idx → Elt F .i8) (Y15 : S96x4.Idx → Elt F .f32) (Y16 : S768x256.Idx → Elt F .bf16) (Y17 : S768x128.Idx → Elt F .f32) (Y18 : S2x768x128.Idx → Elt F .f32) (Y19 : S768x128.Idx → Elt F .f32) (Y20 : S96x128.Idx → Elt F .f32) (Y21 : S64x8192.Idx → Elt F .f32) (Y22 : S64x128.Idx → Elt F .f32) (Y23 : S64x128.Idx → Elt F .f32) (Y24 : S8x128x16.Idx → Elt F .f32) (Y25 : S768x128.Idx → Elt F .f32)
    (hY : ∀ x, (Y1 x : BitVec 32).toNat ≤ 8192) (R : sProp 𝕄) :
        iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ ow c arg10 Y10 ∗ ow c arg11 Y11 ∗ ow c arg12 Y12 ∗ ow c arg13 Y13 ∗ ow c arg14 Y14 ∗ ow c arg15 Y15 ∗ ow c arg16 Y16 ∗ ow c arg17 Y17 ∗ ow c arg18 Y18 ∗ ow c arg19 Y19 ∗ ow c arg20 Y20 ∗ ow c arg21 Y21 ∗ ow c arg22 Y22 ∗ ow c arg23 Y23 ∗ ow c arg24 Y24 ∗ ow c arg25 Y25)
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ ow c arg11 (scoreBlk i (Y1 (ix1 ⟨(i 0).val, step_lt i⟩)) Y6 Y7 (valQ Y5 Y2) (valC Y5 Y2)) ∗ ow c arg12 (valKb Y3 Y5) ∗ ow c arg13 (valKn Y3) ∗ ow c arg14 (valVc Y4) ∗ ow c arg15 (valVs Y4) ∗ ow c arg16 (valQ Y5 Y2) ∗ (∃ X, ow c arg17 X) ∗ ow c arg18 (valC Y5 Y2) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X))) := by
    have hr := bodyFirst_reads c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)
    simp only [View.read_rep] at hr
    have hw : bodyLater.sl.r (F := F) i arg1 (arg1.view.rep Y1) = Y1 (ix1 ⟨(i 0).val, step_lt i⟩) := by rw [word_read, View.read_rep]
    have hq := first_query c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)
    have hs := first_scores c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY) (by rw [hw]; exact hY _)
    rw [hq.1, hq.2, hw] at hs
    simp only [View.read_rep] at hs hq
    have hb := (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)).2 (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ ow c arg11 (scoreBlk i (Y1 (ix1 ⟨(i 0).val, step_lt i⟩)) Y6 Y7 (valQ Y5 Y2) (valC Y5 Y2)) ∗ ow c arg12 (valKb Y3 Y5) ∗ ow c arg13 (valKn Y3) ∗ ow c arg14 (valVc Y4) ∗ ow c arg15 (valVs Y4) ∗ ow c arg16 (valQ Y5 Y2) ∗ (∃ X, ow c arg17 X) ∗ ow c arg18 (valC Y5 Y2) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X)))
    refine (show (_ : sProp 𝕄) ⊢ _ from ?_).trans hb
    iintro ⟨HR, H1, H2, H3, H4, H5, H6, H7, H8, H9, H10, H11, H12, H13, H14, H15, H16, H17, H18, H19, H20, H21, H22, H23, H24, H25⟩
    isplitl [H1]; · (iapply (Entails.of_eq (owr_pr c arg1 Y1)); iexact H1)
    isplitl [H2]; · (iapply (Entails.of_eq (ow_pt c arg2 Y2)); iexact H2)
    isplitl [H3]; · (iapply (Entails.of_eq (ow_pt c arg3 Y3)); iexact H3)
    isplitl [H4]; · (iapply (Entails.of_eq (ow_pt c arg4 Y4)); iexact H4)
    isplitl [H5]; · (iapply (Entails.of_eq (ow_pt c arg5 Y5)); iexact H5)
    isplitl [H6]; · (iapply (Entails.of_eq (ow_pt c arg6 Y6)); iexact H6)
    isplitl [H7]; · (iapply (Entails.of_eq (ow_pt c arg7 Y7)); iexact H7)
    isplitl [H8]; · (iapply (Entails.of_eq (ow_pt c arg8 Y8)); iexact H8)
    isplitl [H9]; · (iapply (Entails.of_eq (ow_pt c arg9 Y9)); iexact H9)
    isplitl [H10]; · (iapply (Entails.of_eq (ow_pt c arg10 Y10)); iexact H10)
    isplitl [H11]; · (iapply (Entails.of_eq (ow_pt c arg11 Y11)); iexact H11)
    isplitl [H12]; · (iapply (Entails.of_eq (ow_pt c arg12 Y12)); iexact H12)
    isplitl [H13]; · (iapply (Entails.of_eq (ow_pt c arg13 Y13)); iexact H13)
    isplitl [H14]; · (iapply (Entails.of_eq (ow_pt c arg14 Y14)); iexact H14)
    isplitl [H15]; · (iapply (Entails.of_eq (ow_pt c arg15 Y15)); iexact H15)
    isplitl [H16]; · (iapply (Entails.of_eq (ow_pt c arg16 Y16)); iexact H16)
    isplitl [H17]; · (iapply (Entails.of_eq (ow_pt c arg17 Y17)); iexact H17)
    isplitl [H18]; · (iapply (Entails.of_eq (ow_pt c arg18 Y18)); iexact H18)
    isplitl [H19]; · (iapply (Entails.of_eq (ow_pt c arg19 Y19)); iexact H19)
    isplitl [H20]; · (iapply (Entails.of_eq (ow_pt c arg20 Y20)); iexact H20)
    isplitl [H21]; · (iapply (Entails.of_eq (ow_pt c arg21 Y21)); iexact H21)
    isplitl [H22]; · (iapply (Entails.of_eq (ow_pt c arg22 Y22)); iexact H22)
    isplitl [H23]; · (iapply (Entails.of_eq (ow_pt c arg23 Y23)); iexact H23)
    isplitl [H24]; · (iapply (Entails.of_eq (ow_pt c arg24 Y24)); iexact H24)
    isplitl [H25]; · (iapply (Entails.of_eq (ow_pt c arg25 Y25)); iexact H25)
    iintro ⟨H1, H2, H3, H4, H5, H6, H7, H8, H9, ⟨%g10, H10⟩, H11, H12, H13, H14, H15, H16, ⟨%g17, H17⟩, H18, ⟨%g19, H19⟩, ⟨%g20, H20⟩, ⟨%g21, H21⟩, ⟨%g22, H22⟩, ⟨%g23, H23⟩, ⟨%g24, H24⟩, ⟨%g25, H25⟩⟩
    isplitl [HR]; · iexact HR
    isplitl [H1]; · (iapply (Entails.of_eq (owr_pr c arg1 Y1).symm); iexact H1)
    isplitl [H2]; · (iapply (Entails.of_eq (ow_pt c arg2 Y2).symm); iexact H2)
    isplitl [H3]; · (iapply (Entails.of_eq (ow_pt c arg3 Y3).symm); iexact H3)
    isplitl [H4]; · (iapply (Entails.of_eq (ow_pt c arg4 Y4).symm); iexact H4)
    isplitl [H5]; · (iapply (Entails.of_eq (ow_pt c arg5 Y5).symm); iexact H5)
    isplitl [H6]; · (iapply (Entails.of_eq (ow_pt c arg6 Y6).symm); iexact H6)
    isplitl [H7]; · (iapply (Entails.of_eq (ow_pt c arg7 Y7).symm); iexact H7)
    isplitl [H8]; · (iapply (Entails.of_eq (ow_pt c arg8 Y8).symm); iexact H8)
    isplitl [H9]; · (iapply (Entails.of_eq (ow_pt c arg9 Y9).symm); iexact H9)
    isplitl [H10]; · (iexists (arg10.view.read (Elt F) g10); iapply (pt_ow c arg10 g10 _ rfl); iexact H10)
    isplitl [H11]; · (iapply (pt_ow c arg11 _ _ hs); iexact H11)
    isplitl [H12]; · (iapply (pt_ow c arg12 _ _ hr.1); iexact H12)
    isplitl [H13]; · (iapply (pt_ow c arg13 _ _ hr.2.1); iexact H13)
    isplitl [H14]; · (iapply (pt_ow c arg14 _ _ hr.2.2.1); iexact H14)
    isplitl [H15]; · (iapply (pt_ow c arg15 _ _ hr.2.2.2); iexact H15)
    isplitl [H16]; · (iapply (pt_ow c arg16 _ _ hq.1); iexact H16)
    isplitl [H17]; · (iexists (arg17.view.read (Elt F) g17); iapply (pt_ow c arg17 g17 _ rfl); iexact H17)
    isplitl [H18]; · (iapply (pt_ow c arg18 _ _ hq.2); iexact H18)
    isplitl [H19]; · (iexists (arg19.view.read (Elt F) g19); iapply (pt_ow c arg19 g19 _ rfl); iexact H19)
    isplitl [H20]; · (iexists (arg20.view.read (Elt F) g20); iapply (pt_ow c arg20 g20 _ rfl); iexact H20)
    isplitl [H21]; · (iexists (arg21.view.read (Elt F) g21); iapply (pt_ow c arg21 g21 _ rfl); iexact H21)
    isplitl [H22]; · (iexists (arg22.view.read (Elt F) g22); iapply (pt_ow c arg22 g22 _ rfl); iexact H22)
    isplitl [H23]; · (iexists (arg23.view.read (Elt F) g23); iapply (pt_ow c arg23 g23 _ rfl); iexact H23)
    isplitl [H24]; · (iexists (arg24.view.read (Elt F) g24); iapply (pt_ow c arg24 g24 _ rfl); iexact H24)
    · (iexists (arg25.view.read (Elt F) g25); iapply (pt_ow c arg25 g25 _ rfl); iexact H25)

theorem laterOwns (c : Dev nD) (i : grid0.Coords) (h1 : ¬ k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (Y1 : S12.Idx → Elt F .i32) (Y2 : S12x5120.Idx → Elt F .bf16) (Y3 : S96x128.Idx → Elt F .bf16) (Y4 : S96x128.Idx → Elt F .bf16) (Y5 : S128x256.Idx → Elt F .bf16) (Y6 : S1x8x32x8192.Idx → Elt F .i8) (Y7 : S1x8x8192.Idx → Elt F .bf16) (Y8 : S1x8x64x8192.Idx → Elt F .i8) (Y9 : S1x8x4x8192.Idx → Elt F .f32) (Y10 : S12x5120.Idx → Elt F .bf16) (Y11 : S1x40x8192.Idx → Elt F .f32) (Y12 : S96x32.Idx → Elt F .i8) (Y13 : S96x1.Idx → Elt F .bf16) (Y14 : S96x64.Idx → Elt F .i8) (Y15 : S96x4.Idx → Elt F .f32) (Y16 : S768x256.Idx → Elt F .bf16) (Y17 : S768x128.Idx → Elt F .f32) (Y18 : S2x768x128.Idx → Elt F .f32) (Y19 : S768x128.Idx → Elt F .f32) (Y20 : S96x128.Idx → Elt F .f32) (Y21 : S64x8192.Idx → Elt F .f32) (Y22 : S64x128.Idx → Elt F .f32) (Y23 : S64x128.Idx → Elt F .f32) (Y24 : S8x128x16.Idx → Elt F .f32) (Y25 : S768x128.Idx → Elt F .f32)
    (hY : ∀ x, (Y1 x : BitVec 32).toNat ≤ 8192) (R : sProp 𝕄) :
        iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ ow c arg10 Y10 ∗ ow c arg11 Y11 ∗ ow c arg12 Y12 ∗ ow c arg13 Y13 ∗ ow c arg14 Y14 ∗ ow c arg15 Y15 ∗ ow c arg16 Y16 ∗ ow c arg17 Y17 ∗ ow c arg18 Y18 ∗ ow c arg19 Y19 ∗ ow c arg20 Y20 ∗ ow c arg21 Y21 ∗ ow c arg22 Y22 ∗ ow c arg23 Y23 ∗ ow c arg24 Y24 ∗ ow c arg25 Y25)
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ ow c arg11 (scoreBlk i (Y1 (ix1 ⟨(i 0).val, step_lt i⟩)) Y6 Y7 Y16 Y18) ∗ ow c arg12 Y12 ∗ ow c arg13 Y13 ∗ ow c arg14 Y14 ∗ ow c arg15 Y15 ∗ ow c arg16 Y16 ∗ (∃ X, ow c arg17 X) ∗ ow c arg18 Y18 ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X))) := by
    have hw : bodyLater.sl.r (F := F) i arg1 (arg1.view.rep Y1) = Y1 (ix1 ⟨(i 0).val, step_lt i⟩) := by rw [word_read, View.read_rep]
    have hs := later_scores c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY) (by rw [hw]; exact hY _)
    rw [hw] at hs
    simp only [View.read_rep] at hs
    have hb := (bodyLater c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)).2 (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ ow c arg11 (scoreBlk i (Y1 (ix1 ⟨(i 0).val, step_lt i⟩)) Y6 Y7 Y16 Y18) ∗ ow c arg12 Y12 ∗ ow c arg13 Y13 ∗ ow c arg14 Y14 ∗ ow c arg15 Y15 ∗ ow c arg16 Y16 ∗ (∃ X, ow c arg17 X) ∗ ow c arg18 Y18 ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X)))
    refine (show (_ : sProp 𝕄) ⊢ _ from ?_).trans hb
    iintro ⟨HR, H1, H2, H3, H4, H5, H6, H7, H8, H9, H10, H11, H12, H13, H14, H15, H16, H17, H18, H19, H20, H21, H22, H23, H24, H25⟩
    isplitl [H1]; · (iapply (Entails.of_eq (owr_pr c arg1 Y1)); iexact H1)
    isplitl [H2]; · (iapply (Entails.of_eq (ow_pt c arg2 Y2)); iexact H2)
    isplitl [H3]; · (iapply (Entails.of_eq (ow_pt c arg3 Y3)); iexact H3)
    isplitl [H4]; · (iapply (Entails.of_eq (ow_pt c arg4 Y4)); iexact H4)
    isplitl [H5]; · (iapply (Entails.of_eq (ow_pt c arg5 Y5)); iexact H5)
    isplitl [H6]; · (iapply (Entails.of_eq (ow_pt c arg6 Y6)); iexact H6)
    isplitl [H7]; · (iapply (Entails.of_eq (ow_pt c arg7 Y7)); iexact H7)
    isplitl [H8]; · (iapply (Entails.of_eq (ow_pt c arg8 Y8)); iexact H8)
    isplitl [H9]; · (iapply (Entails.of_eq (ow_pt c arg9 Y9)); iexact H9)
    isplitl [H10]; · (iapply (Entails.of_eq (ow_pt c arg10 Y10)); iexact H10)
    isplitl [H11]; · (iapply (Entails.of_eq (ow_pt c arg11 Y11)); iexact H11)
    isplitl [H12]; · (iapply (Entails.of_eq (ow_pt c arg12 Y12)); iexact H12)
    isplitl [H13]; · (iapply (Entails.of_eq (ow_pt c arg13 Y13)); iexact H13)
    isplitl [H14]; · (iapply (Entails.of_eq (ow_pt c arg14 Y14)); iexact H14)
    isplitl [H15]; · (iapply (Entails.of_eq (ow_pt c arg15 Y15)); iexact H15)
    isplitl [H16]; · (iapply (Entails.of_eq (ow_pt c arg16 Y16)); iexact H16)
    isplitl [H17]; · (iapply (Entails.of_eq (ow_pt c arg17 Y17)); iexact H17)
    isplitl [H18]; · (iapply (Entails.of_eq (ow_pt c arg18 Y18)); iexact H18)
    isplitl [H19]; · (iapply (Entails.of_eq (ow_pt c arg19 Y19)); iexact H19)
    isplitl [H20]; · (iapply (Entails.of_eq (ow_pt c arg20 Y20)); iexact H20)
    isplitl [H21]; · (iapply (Entails.of_eq (ow_pt c arg21 Y21)); iexact H21)
    isplitl [H22]; · (iapply (Entails.of_eq (ow_pt c arg22 Y22)); iexact H22)
    isplitl [H23]; · (iapply (Entails.of_eq (ow_pt c arg23 Y23)); iexact H23)
    isplitl [H24]; · (iapply (Entails.of_eq (ow_pt c arg24 Y24)); iexact H24)
    isplitl [H25]; · (iapply (Entails.of_eq (ow_pt c arg25 Y25)); iexact H25)
    iintro ⟨H1, H2, H3, H4, H5, H6, H7, H8, H9, ⟨%g10, H10⟩, H11, H12, H13, H14, H15, H16, ⟨%g17, H17⟩, H18, ⟨%g19, H19⟩, ⟨%g20, H20⟩, ⟨%g21, H21⟩, ⟨%g22, H22⟩, ⟨%g23, H23⟩, ⟨%g24, H24⟩, ⟨%g25, H25⟩⟩
    isplitl [HR]; · iexact HR
    isplitl [H1]; · (iapply (Entails.of_eq (owr_pr c arg1 Y1).symm); iexact H1)
    isplitl [H2]; · (iapply (Entails.of_eq (ow_pt c arg2 Y2).symm); iexact H2)
    isplitl [H3]; · (iapply (Entails.of_eq (ow_pt c arg3 Y3).symm); iexact H3)
    isplitl [H4]; · (iapply (Entails.of_eq (ow_pt c arg4 Y4).symm); iexact H4)
    isplitl [H5]; · (iapply (Entails.of_eq (ow_pt c arg5 Y5).symm); iexact H5)
    isplitl [H6]; · (iapply (Entails.of_eq (ow_pt c arg6 Y6).symm); iexact H6)
    isplitl [H7]; · (iapply (Entails.of_eq (ow_pt c arg7 Y7).symm); iexact H7)
    isplitl [H8]; · (iapply (Entails.of_eq (ow_pt c arg8 Y8).symm); iexact H8)
    isplitl [H9]; · (iapply (Entails.of_eq (ow_pt c arg9 Y9).symm); iexact H9)
    isplitl [H10]; · (iexists (arg10.view.read (Elt F) g10); iapply (pt_ow c arg10 g10 _ rfl); iexact H10)
    isplitl [H11]; · (iapply (pt_ow c arg11 _ _ hs); iexact H11)
    isplitl [H12]; · (iapply (Entails.of_eq (ow_pt c arg12 Y12).symm); iexact H12)
    isplitl [H13]; · (iapply (Entails.of_eq (ow_pt c arg13 Y13).symm); iexact H13)
    isplitl [H14]; · (iapply (Entails.of_eq (ow_pt c arg14 Y14).symm); iexact H14)
    isplitl [H15]; · (iapply (Entails.of_eq (ow_pt c arg15 Y15).symm); iexact H15)
    isplitl [H16]; · (iapply (Entails.of_eq (ow_pt c arg16 Y16).symm); iexact H16)
    isplitl [H17]; · (iexists (arg17.view.read (Elt F) g17); iapply (pt_ow c arg17 g17 _ rfl); iexact H17)
    isplitl [H18]; · (iapply (Entails.of_eq (ow_pt c arg18 Y18).symm); iexact H18)
    isplitl [H19]; · (iexists (arg19.view.read (Elt F) g19); iapply (pt_ow c arg19 g19 _ rfl); iexact H19)
    isplitl [H20]; · (iexists (arg20.view.read (Elt F) g20); iapply (pt_ow c arg20 g20 _ rfl); iexact H20)
    isplitl [H21]; · (iexists (arg21.view.read (Elt F) g21); iapply (pt_ow c arg21 g21 _ rfl); iexact H21)
    isplitl [H22]; · (iexists (arg22.view.read (Elt F) g22); iapply (pt_ow c arg22 g22 _ rfl); iexact H22)
    isplitl [H23]; · (iexists (arg23.view.read (Elt F) g23); iapply (pt_ow c arg23 g23 _ rfl); iexact H23)
    isplitl [H24]; · (iexists (arg24.view.read (Elt F) g24); iapply (pt_ow c arg24 g24 _ rfl); iexact H24)
    · (iexists (arg25.view.read (Elt F) g25); iapply (pt_ow c arg25 g25 _ rfl); iexact H25)

end Cert.KernelIdeal.Own
-- ==== Proof.Entry.lean ====
/-
  The program up to its one region: the buffers there, the table of lengths, the pipeline at that table, and where
  its windows are written back.
-/
module

public import proofs.«01_k».proof.Proof.Gen.KernelIdeal.Launch
public import Idealize.ShloMosaic.Lib.Tactic
public import Idealize.ShloMosaic.Lib.Pipeline.FrameBody
public import Idealize.ShloMosaic.Lib.Pipeline.ArrRel

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The table of lengths when the region is entered (there is one device). -/
def tbl : pre0.Contents (Elt F) := fun j => V m (0 : Dev nD) (pre0.ref j)

theorem V_pre (c : Dev nD) (j : Fin pre0.K) : V m c (pre0.ref j) = tbl m j := by
  obtain rfl : c = 0 := Subsingleton.elim _ _; rfl

/-- No window's block index reads the table, so any table is admissible; the pipeline at this one. -/
abbrev adm : (p : Fin 1) → (pcfgs (F := F) p).Adm := fun _ => ⟨tbl m, trivial⟩
abbrev cfgM : Pipeline.Cfg sig Λ₀ := Pipeline.pin (pcfgs (F := F)) (adm m) 0

/-- Window `w`'s block at point `t` of its array when the region is entered. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The lengths, as the table holds them. -/
def lengths : S12.Idx → Elt F .i32 := tbl m (0 : Fin 1)

/-- The half of the table that the region hands the body, as a memref owned. -/
theorem table_eq (c : Dev nD) : (Pipeline.ΦT pre0 (tbl m) c : sProp 𝕄)
    = owns (c : Thread nD τ) (Memref.whole main_arg8) fullShare.right (lengths m) := by
  refine Eq.trans ?_ (owns_whole (c : Thread nD τ) main_arg8 fullShare.right (lengths m)).symm
  unfold Pipeline.ΦT Pipeline.prefHeld
  rw [show (Finset.univ : Finset (Fin 1)) = {(0 : Fin 1)} from by decide, bigSep_singleton]
  rfl

theorem flush0_10 (t : Fin (cfgM m).N) : ((cfgM m).win 10).flush t = true ↔ t.val % 12 = 11 :=
  (Pipeline.Window.flushOf_const cc0_transform_10 (fun _ _ => rfl) (n := 12) (by decide) rfl t : Pipeline.Window.flushOf grid0 true cc0_transform_10 t = true ↔ t.val % 12 = 11)

theorem flush0_11 (t : Fin (cfgM m).N) : ((cfgM m).win 11).flush t = true ↔ t.val % 12 = 11 :=
  (Pipeline.Window.flushOf_const cc0_transform_11 (fun _ _ => rfl) (n := 12) (by decide) rfl t : Pipeline.Window.flushOf grid0 true cc0_transform_11 t = true ↔ t.val % 12 = 11)

theorem flush0_12 (t : Fin (cfgM m).N) : ((cfgM m).win 12).flush t = true ↔ t.val % 12 = 11 :=
  (Pipeline.Window.flushOf_const cc0_transform_12 (fun _ _ => rfl) (n := 12) (by decide) rfl t : Pipeline.Window.flushOf grid0 true cc0_transform_12 t = true ↔ t.val % 12 = 11)

theorem flush0_13 (t : Fin (cfgM m).N) : ((cfgM m).win 13).flush t = true ↔ t.val % 12 = 11 :=
  (Pipeline.Window.flushOf_const cc0_transform_13 (fun _ _ => rfl) (n := 12) (by decide) rfl t : Pipeline.Window.flushOf grid0 true cc0_transform_13 t = true ↔ t.val % 12 = 11)

end Cert.KernelIdeal.Own
-- ==== Proof.Run.lean ====
/-
  The launch: what each staging buffer may hold at a grid point, the body at every point, and what the run
  leaves in the arrays.
-/
module

public import proofs.«01_k».proof.Proof.Vals
public import proofs.«01_k».proof.Proof.Entry

@[expose] public section

set_option maxRecDepth 16384
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat Cfg Window)

variable (m : (ℓ : Loc nD τ sig) → Buf (Elt F) ℓ)

/-- The first and the last grid point. -/
abbrev p0 : Fin grid0.N := (0 : Fin 12)
abbrev p11 : Fin grid0.N := (11 : Fin 12)
abbrev pb (b : Fin 12) : Fin grid0.N := b

/-- What the first point leaves in the two scratch buffers that the later points read: the permuted queries, -/
def keptQ (c : Dev nD) : S768x256.Idx → Elt F .bf16 := valQ (iblk m c 3 p0) (iblk m c 0 p0)

/-- and the rows' scales and sums. -/
def keptC (c : Dev nD) : S2x768x128.Idx → Elt F .f32 := valC (iblk m c 3 p0) (iblk m c 0 p0)

/-- The block of scores of a point. -/
def blockAt (c : Dev nD) (t : Fin (cfgM m).N) : S1x40x8192.Idx → Elt F .f32 :=
  scoreBlk (grid0.coords t) (lengths m (ix1 ⟨(grid0.coords t 0).val, step_lt _⟩)) (iblk m c 4 t) (iblk m c 5 t) (keptQ m c) (keptC m c)

/-- The scratch buffers after `n` points, each whole: past the first point, two of them hold what is kept. -/
def scr (c : Dev nD) (n : Nat) : sProp 𝕄 :=
  iprop((∃ f : Buf (Elt F) ((c : Thread nD τ).loc cc0_scratch0), ⌜n ≠ 0 → f = keptQ m c⌝ ∗ ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ⌜n ≠ 0 → f = keptC m c⌝ ∗ ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

/-- What the body may leave in a staging buffer: an input is left as found, and each result about the new token
    is written at the first point and kept at the others. The block of scores is written at every point. Nothing
    is said of the other result. -/
def aft (c : Dev nD) : (w : Fin (cfgM m).W) → Fin (cfgM m).N → (Y X : ((cfgM m).win w).block.Idx → Elt F ((cfgM m).win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => X = Y
  | ⟨6, _⟩ => fun t Y X => X = Y
  | ⟨7, _⟩ => fun t Y X => X = Y
  | ⟨8, _⟩ => fun t Y X => True
  | ⟨9, _⟩ => fun t Y X => X = blockAt m c t
  | ⟨10, _⟩ => fun t Y X => (t.val = 0 → X = valKb (iblk m c 1 t) (iblk m c 3 t)) ∧ (t.val ≠ 0 → X = Y)
  | ⟨11, _⟩ => fun t Y X => (t.val = 0 → X = valKn (iblk m c 1 t)) ∧ (t.val ≠ 0 → X = Y)
  | ⟨12, _⟩ => fun t Y X => (t.val = 0 → X = valVc (iblk m c 2 t)) ∧ (t.val ≠ 0 → X = Y)
  | ⟨13, _⟩ => fun t Y X => (t.val = 0 → X = valVs (iblk m c 2 t)) ∧ (t.val ≠ 0 → X = Y)
  | ⟨k + 14, h⟩ => absurd h (by show ¬ (k + 14 < 14); omega)

/-- The proof data of the launch. -/
def rdat (c : Dev nD) : RDat τ (Elt F) Unit ℕ (UR sig nD τ) ℕ (cfgM m) c where
  A := fun w => V m c (Pipeline.arrRef spec0 w)
  after := aft m c
  Φ := fun t => iprop((scr m c t.val ∗ ∃ r, prngReg c r) ∗ Pipeline.ΦT pre0 (tbl m) c)
  q := fun _ => fullShare
  owed := fun _ => 0

/-- The kernel body at point `t`, on the buffers that the pipeline calls it with. -/
abbrev bodyAt0 (t : Fin (cfgM m).N) : Prog (TpuEff nD τ sig (Elt F) Λ₀ .tc) PUnit :=
  cc0__body (grid0.coords t) (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

theorem row (t : Fin (cfgM m).N) : (defs₀ (F := F)) .tc (cfgM m).body ((cfgM m).bodyArgs t ((cfgM m).slots t)) = bodyAt0 m t := by
  unfold defs₀; rw [Defs.onTc_tc]

theorem cond1_iff : ∀ t : Fin grid0.N, k0_cond1 (grid0.coords t) = 1#1 ↔ t.val = 0 := by decide +kernel

theorem found0 (c : Dev nD) (t : Fin (cfgM m).N) (Y) (h : (rdat m c).Finds 0 t Y) : Y = iblk m c 0 t := by
  obtain ⟨d, rfl⟩ := RDat.finds_in_eq_fetched (rdat m c) 0 rfl (fun _ _ _ => rfl) (fun t Y X h => h) t Y h
  unfold RDat.fetched RDat.blockOf iblk; rfl

theorem found1 (c : Dev nD) (t : Fin (cfgM m).N) (Y) (h : (rdat m c).Finds 1 t Y) : Y = iblk m c 1 t := by
  obtain ⟨d, rfl⟩ := RDat.finds_in_eq_fetched (rdat m c) 1 rfl (fun _ _ _ => rfl) (fun t Y X h => h) t Y h
  unfold RDat.fetched RDat.blockOf iblk; rfl

theorem found2 (c : Dev nD) (t : Fin (cfgM m).N) (Y) (h : (rdat m c).Finds 2 t Y) : Y = iblk m c 2 t := by
  obtain ⟨d, rfl⟩ := RDat.finds_in_eq_fetched (rdat m c) 2 rfl (fun _ _ _ => rfl) (fun t Y X h => h) t Y h
  unfold RDat.fetched RDat.blockOf iblk; rfl

theorem found3 (c : Dev nD) (t : Fin (cfgM m).N) (Y) (h : (rdat m c).Finds 3 t Y) : Y = iblk m c 3 t := by
  obtain ⟨d, rfl⟩ := RDat.finds_in_eq_fetched (rdat m c) 3 rfl (fun _ _ _ => rfl) (fun t Y X h => h) t Y h
  unfold RDat.fetched RDat.blockOf iblk; rfl

theorem found4 (c : Dev nD) (t : Fin (cfgM m).N) (Y) (h : (rdat m c).Finds 4 t Y) : Y = iblk m c 4 t := by
  obtain ⟨d, rfl⟩ := RDat.finds_in_eq_fetched (rdat m c) 4 rfl (fun _ _ _ => rfl) (fun t Y X h => h) t Y h
  unfold RDat.fetched RDat.blockOf iblk; rfl

theorem found5 (c : Dev nD) (t : Fin (cfgM m).N) (Y) (h : (rdat m c).Finds 5 t Y) : Y = iblk m c 5 t := by
  obtain ⟨d, rfl⟩ := RDat.finds_in_eq_fetched (rdat m c) 5 rfl (fun _ _ _ => rfl) (fun t Y X h => h) t Y h
  unfold RDat.fetched RDat.blockOf iblk; rfl

/-- The lengths the body reads are the launched ones. -/
theorem lens (hL : ∀ (c : Dev nD) x, (m ((c : Thread nD τ).loc main_arg8) x : BitVec 32).toNat ≤ 8192)
    (x : S12.Idx) : (lengths m x : BitVec 32).toNat ≤ 8192 := by
  have h : ∀ y, (V m 0 main_arg8 y : BitVec 32).toNat ≤ 8192 := by rw [V_main_arg8]; exact hL 0
  exact h _

set_option maxHeartbeats 16000000 in
theorem body_ob (c : Dev nD) (hL : ∀ (c : Dev nD) x, (m ((c : Thread nD τ).loc main_arg8) x : BitVec 32).toNat ≤ 8192) :
    (rdat m c).BodyObligation defs₀ Variants.none () Set.univ := by
  intro t Y hY
  have h1 : Y 1 = iblk m c 1 t := found1 m c t _ (hY 1)
  have h2 : Y 2 = iblk m c 2 t := found2 m c t _ (hY 2)
  have h3 : Y 3 = iblk m c 3 t := found3 m c t _ (hY 3)
  have h0 : Y 0 = iblk m c 0 t := found0 m c t _ (hY 0)
  have h4 : Y 4 = iblk m c 4 t := found4 m c t _ (hY 4)
  have h5 : Y 5 = iblk m c 5 t := found5 m c t _ (hY 5)
  have hx := lens m hL
  rw [row, bigSep_W0, bigSep_W0]
  by_cases ht : t.val = 0
  · have hc := (cond1_iff t).mpr ht
    have e0 : valQ (Y 3) (Y 0) = keptQ m c := by
      have q : t = p0 := Fin.ext ht
      subst q; rw [h3, h0]; rfl
    have e2 : valC (Y 3) (Y 0) = keptC m c := by
      have q : t = p0 := Fin.ext ht
      subst q; rw [h3, h0]; rfl
    have e9 : scoreBlk (grid0.coords t) (lengths m (ix1 ⟨(grid0.coords t 0).val, step_lt _⟩)) (Y 4) (Y 5) (valQ (Y 3) (Y 0)) (valC (Y 3) (Y 0)) = blockAt m c t := by rw [e0, e2, h4, h5]; rfl
    have hT := fun g0 g1 g2 g3 g4 g5 g6 g7 g8 g9 r => triple_restated (Q' := fun _ => iprop((rdat m c).Φ t.succ ∗ (rdat m c).owesAt () t.succ ∗ (∃ X, ⌜(rdat m c).after 0 t (Y 0) X⌝ ∗ owns (c : Thread nD τ) (((cfgM m).win 0).stage ((cfgM m).slots t 0)) fullShare X) ∗ (∃ X, ⌜(rdat m c).after 1 t (Y 1) X⌝ ∗ owns (c : Thread nD τ) (((cfgM m).win 1).stage ((cfgM m).slots t 1)) fullShare X) ∗ (∃ X, ⌜(rdat m c).after 2 t (Y 2) X⌝ ∗ owns (c : Thread nD τ) (((cfgM m).win 2).stage ((cfgM m).slots t 2)) fullShare X) ∗ (∃ X, ⌜(rdat m c).after 3 t (Y 3) X⌝ ∗ owns (c : Thread nD τ) (((cfgM m).win 3).stage ((cfgM m).slots t 3)) fullShare X) ∗ (∃ X, ⌜(rdat m c).after 4 t (Y 4) X⌝ ∗ owns (c : Thread nD τ) (((cfgM m).win 4).stage ((cfgM m).slots t 4)) fullShare X) ∗ (∃ X, ⌜(rdat m c).after 5 t (Y 5) X⌝ ∗ owns (c : Thread nD τ) (((cfgM m).win 5).stage ((cfgM m).slots t 5)) fullShare X) ∗ (∃ X, ⌜(rdat m c).after 6 t (Y 6) X⌝ ∗ owns (c : Thread nD τ) (((cfgM m).win 6).stage ((cfgM m).slots t 6)) fullShare X) ∗ (∃ X, ⌜(rdat m c).after 7 t (Y 7) X⌝ ∗ owns (c : Thread nD τ) (((cfgM m).win 7).stage ((cfgM m).slots t 7)) fullShare X) ∗ (∃ X, ⌜(rdat m c).after 8 t (Y 8) X⌝ ∗ owns (c : Thread nD τ) (((cfgM m).win 8).stage ((cfgM m).slots t 8)) fullShare X) ∗ (∃ X, ⌜(rdat m c).after 9 t (Y 9) X⌝ ∗ owns (c : Thread nD τ) (((cfgM m).win 9).stage ((cfgM m).slots t 9)) fullShare X) ∗ (∃ X, ⌜(rdat m c).after 10 t (Y 10) X⌝ ∗ owns (c : Thread nD τ) (((cfgM m).win 10).stage ((cfgM m).slots t 10)) fullShare X) ∗ (∃ X, ⌜(rdat m c).after 11 t (Y 11) X⌝ ∗ owns (c : Thread nD τ) (((cfgM m).win 11).stage ((cfgM m).slots t 11)) fullShare X) ∗ (∃ X, ⌜(rdat m c).after 12 t (Y 12) X⌝ ∗ owns (c : Thread nD τ) (((cfgM m).win 12).stage ((cfgM m).slots t 12)) fullShare X) ∗ (∃ X, ⌜(rdat m c).after 13 t (Y 13) X⌝ ∗ owns (c : Thread nD τ) (((cfgM m).win 13).stage ((cfgM m).slots t 13)) fullShare X))) (firstOwns c (grid0.coords t) hc (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (lengths m) (Y 0) (Y 1) (Y 2) (Y 3) (Y 4) (Y 5) (Y 6) (Y 7) (Y 8) (Y 9) (Y 10) (Y 11) (Y 12) (Y 13) g0 g1 g2 g3 g4 g5 g6 g7 g8 g9 hx iprop((rdat m c).owesAt () t.castSucc ∗ prngReg c r)) rfl (show (_ : sProp 𝕄) ⊢ _ from .rfl) (by
      intro _
      iintro ⟨⟨Ho, Hr⟩, HT, H0, H1, H2, H3, H4, H5, H6, H7, ⟨%X8, H8⟩, H9, H10, H11, H12, H13, S0, ⟨%Z1, S1⟩, S2, ⟨%Z3, S3⟩, ⟨%Z4, S4⟩, ⟨%Z5, S5⟩, ⟨%Z6, S6⟩, ⟨%Z7, S7⟩, ⟨%Z8, S8⟩, ⟨%Z9, S9⟩⟩
      isplitl [Hr HT S0 S1 S2 S3 S4 S5 S6 S7 S8 S9]
      · iapply (Entails.of_eq (show (rdat m c).Φ t.succ = iprop((scr m c (t.val + 1) ∗ ∃ r, prngReg c r) ∗ Pipeline.ΦT pre0 (tbl m) c) from rfl).symm)
        isplitr [HT]
        · unfold scr
          isplitl [S0 S1 S2 S3 S4 S5 S6 S7 S8 S9]
          · isplitl [S0]; · (iexists _; isplitr; (· (ipureintro; exact fun _ => e0)); iapply (Entails.of_eq (owns_whole _ _ _ _)); iexact S0)
            isplitl [S1]; · (iexists _; iapply (Entails.of_eq (owns_whole _ _ _ _)); iexact S1)
            isplitl [S2]; · (iexists _; isplitr; (· (ipureintro; exact fun _ => e2)); iapply (Entails.of_eq (owns_whole _ _ _ _)); iexact S2)
            isplitl [S3]; · (iexists _; iapply (Entails.of_eq (owns_whole _ _ _ _)); iexact S3)
            isplitl [S4]; · (iexists _; iapply (Entails.of_eq (owns_whole _ _ _ _)); iexact S4)
            isplitl [S5]; · (iexists _; iapply (Entails.of_eq (owns_whole _ _ _ _)); iexact S5)
            isplitl [S6]; · (iexists _; iapply (Entails.of_eq (owns_whole _ _ _ _)); iexact S6)
            isplitl [S7]; · (iexists _; iapply (Entails.of_eq (owns_whole _ _ _ _)); iexact S7)
            isplitl [S8]; · (iexists _; iapply (Entails.of_eq (owns_whole _ _ _ _)); iexact S8)
            (iexists _; iapply (Entails.of_eq (owns_whole _ _ _ _)); iexact S9)
          · iexists r; iexact Hr
        · iapply (Entails.of_eq (table_eq m c).symm); iexact HT
      isplitl [Ho]; · iexact Ho
      isplitl [H0]
      · iexists (Y 0)
        isplitr; · (ipureintro; exact rfl)
        iexact H0
      isplitl [H1]
      · iexists (Y 1)
        isplitr; · (ipureintro; exact rfl)
        iexact H1
      isplitl [H2]
      · iexists (Y 2)
        isplitr; · (ipureintro; exact rfl)
        iexact H2
      isplitl [H3]
      · iexists (Y 3)
        isplitr; · (ipureintro; exact rfl)
        iexact H3
      isplitl [H4]
      · iexists (Y 4)
        isplitr; · (ipureintro; exact rfl)
        iexact H4
      isplitl [H5]
      · iexists (Y 5)
        isplitr; · (ipureintro; exact rfl)
        iexact H5
      isplitl [H6]
      · iexists (Y 6)
        isplitr; · (ipureintro; exact rfl)
        iexact H6
      isplitl [H7]
      · iexists (Y 7)
        isplitr; · (ipureintro; exact rfl)
        iexact H7
      isplitl [H8]
      · iexists X8
        isplitr; · (ipureintro; exact trivial)
        iexact H8
      isplitl [H9]
      · iexists (scoreBlk (grid0.coords t) (lengths m (ix1 ⟨(grid0.coords t 0).val, step_lt _⟩)) (Y 4) (Y 5) (valQ (Y 3) (Y 0)) (valC (Y 3) (Y 0)))
        isplitr; · (ipureintro; exact e9)
        iexact H9
      isplitl [H10]
      · iexists (valKb (Y 1) (Y 3))
        isplitr; · (ipureintro; exact ⟨fun _ => by rw [← h1, ← h3], fun h => absurd ht h⟩)
        iexact H10
      isplitl [H11]
      · iexists (valKn (Y 1))
        isplitr; · (ipureintro; exact ⟨fun _ => by rw [← h1], fun h => absurd ht h⟩)
        iexact H11
      isplitl [H12]
      · iexists (valVc (Y 2))
        isplitr; · (ipureintro; exact ⟨fun _ => by rw [← h2], fun h => absurd ht h⟩)
        iexact H12
      · iexists (valVs (Y 2))
        isplitr; · (ipureintro; exact ⟨fun _ => by rw [← h2], fun h => absurd ht h⟩)
        iexact H13)
    iintro ⟨HΦ, Ho, H0, H1, H2, H3, H4, H5, H6, H7, H8, H9, H10, H11, H12, H13⟩
    ihave HΦ2 := (Entails.of_eq (show (rdat m c).Φ t.castSucc = iprop((scr m c t.val ∗ ∃ r, prngReg c r) ∗ Pipeline.ΦT pre0 (tbl m) c) from rfl)) $$ HΦ
    unfold scr
    icases HΦ2 with ⟨⟨⟨⟨%g0, %k0, G0⟩, ⟨%g1, G1⟩, ⟨%g2, %k2, G2⟩, ⟨%g3, G3⟩, ⟨%g4, G4⟩, ⟨%g5, G5⟩, ⟨%g6, G6⟩, ⟨%g7, G7⟩, ⟨%g8, G8⟩, ⟨%g9, G9⟩⟩, ⟨%r, Hr⟩⟩, HT⟩
    iapply (hT g0 g1 g2 g3 g4 g5 g6 g7 g8 g9 r)
    isplitl [Ho Hr]
    · isplitl [Ho]
      · iexact Ho
      · iexact Hr
    isplitl [HT]; · (iapply (Entails.of_eq (table_eq m c)); iexact HT)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [G0]; · (iapply (Entails.of_eq (owns_whole _ _ _ _).symm); iexact G0)
    isplitl [G1]; · (iapply (Entails.of_eq (owns_whole _ _ _ _).symm); iexact G1)
    isplitl [G2]; · (iapply (Entails.of_eq (owns_whole _ _ _ _).symm); iexact G2)
    isplitl [G3]; · (iapply (Entails.of_eq (owns_whole _ _ _ _).symm); iexact G3)
    isplitl [G4]; · (iapply (Entails.of_eq (owns_whole _ _ _ _).symm); iexact G4)
    isplitl [G5]; · (iapply (Entails.of_eq (owns_whole _ _ _ _).symm); iexact G5)
    isplitl [G6]; · (iapply (Entails.of_eq (owns_whole _ _ _ _).symm); iexact G6)
    isplitl [G7]; · (iapply (Entails.of_eq (owns_whole _ _ _ _).symm); iexact G7)
    isplitl [G8]; · (iapply (Entails.of_eq (owns_whole _ _ _ _).symm); iexact G8)
    (iapply (Entails.of_eq (owns_whole _ _ _ _).symm); iexact G9)
  · have hc : ¬ k0_cond1 (grid0.coords t) = 1#1 := fun h => ht ((cond1_iff t).mp h)
    have e9 : scoreBlk (grid0.coords t) (lengths m (ix1 ⟨(grid0.coords t 0).val, step_lt _⟩)) (Y 4) (Y 5) (keptQ m c) (keptC m c) = blockAt m c t := by rw [h4, h5]; rfl
    have hT := fun g1 g3 g4 g5 g6 g7 g8 g9 r => triple_restated (Q' := fun _ => iprop((rdat m c).Φ t.succ ∗ (rdat m c).owesAt () t.succ ∗ (∃ X, ⌜(rdat m c).after 0 t (Y 0) X⌝ ∗ owns (c : Thread nD τ) (((cfgM m).win 0).stage ((cfgM m).slots t 0)) fullShare X) ∗ (∃ X, ⌜(rdat m c).after 1 t (Y 1) X⌝ ∗ owns (c : Thread nD τ) (((cfgM m).win 1).stage ((cfgM m).slots t 1)) fullShare X) ∗ (∃ X, ⌜(rdat m c).after 2 t (Y 2) X⌝ ∗ owns (c : Thread nD τ) (((cfgM m).win 2).stage ((cfgM m).slots t 2)) fullShare X) ∗ (∃ X, ⌜(rdat m c).after 3 t (Y 3) X⌝ ∗ owns (c : Thread nD τ) (((cfgM m).win 3).stage ((cfgM m).slots t 3)) fullShare X) ∗ (∃ X, ⌜(rdat m c).after 4 t (Y 4) X⌝ ∗ owns (c : Thread nD τ) (((cfgM m).win 4).stage ((cfgM m).slots t 4)) fullShare X) ∗ (∃ X, ⌜(rdat m c).after 5 t (Y 5) X⌝ ∗ owns (c : Thread nD τ) (((cfgM m).win 5).stage ((cfgM m).slots t 5)) fullShare X) ∗ (∃ X, ⌜(rdat m c).after 6 t (Y 6) X⌝ ∗ owns (c : Thread nD τ) (((cfgM m).win 6).stage ((cfgM m).slots t 6)) fullShare X) ∗ (∃ X, ⌜(rdat m c).after 7 t (Y 7) X⌝ ∗ owns (c : Thread nD τ) (((cfgM m).win 7).stage ((cfgM m).slots t 7)) fullShare X) ∗ (∃ X, ⌜(rdat m c).after 8 t (Y 8) X⌝ ∗ owns (c : Thread nD τ) (((cfgM m).win 8).stage ((cfgM m).slots t 8)) fullShare X) ∗ (∃ X, ⌜(rdat m c).after 9 t (Y 9) X⌝ ∗ owns (c : Thread nD τ) (((cfgM m).win 9).stage ((cfgM m).slots t 9)) fullShare X) ∗ (∃ X, ⌜(rdat m c).after 10 t (Y 10) X⌝ ∗ owns (c : Thread nD τ) (((cfgM m).win 10).stage ((cfgM m).slots t 10)) fullShare X) ∗ (∃ X, ⌜(rdat m c).after 11 t (Y 11) X⌝ ∗ owns (c : Thread nD τ) (((cfgM m).win 11).stage ((cfgM m).slots t 11)) fullShare X) ∗ (∃ X, ⌜(rdat m c).after 12 t (Y 12) X⌝ ∗ owns (c : Thread nD τ) (((cfgM m).win 12).stage ((cfgM m).slots t 12)) fullShare X) ∗ (∃ X, ⌜(rdat m c).after 13 t (Y 13) X⌝ ∗ owns (c : Thread nD τ) (((cfgM m).win 13).stage ((cfgM m).slots t 13)) fullShare X))) (laterOwns c (grid0.coords t) hc (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (lengths m) (Y 0) (Y 1) (Y 2) (Y 3) (Y 4) (Y 5) (Y 6) (Y 7) (Y 8) (Y 9) (Y 10) (Y 11) (Y 12) (Y 13) (keptQ m c) g1 (keptC m c) g3 g4 g5 g6 g7 g8 g9 hx iprop((rdat m c).owesAt () t.castSucc ∗ prngReg c r)) rfl (show (_ : sProp 𝕄) ⊢ _ from .rfl) (by
      intro _
      iintro ⟨⟨Ho, Hr⟩, HT, H0, H1, H2, H3, H4, H5, H6, H7, ⟨%X8, H8⟩, H9, H10, H11, H12, H13, S0, ⟨%Z1, S1⟩, S2, ⟨%Z3, S3⟩, ⟨%Z4, S4⟩, ⟨%Z5, S5⟩, ⟨%Z6, S6⟩, ⟨%Z7, S7⟩, ⟨%Z8, S8⟩, ⟨%Z9, S9⟩⟩
      isplitl [Hr HT S0 S1 S2 S3 S4 S5 S6 S7 S8 S9]
      · iapply (Entails.of_eq (show (rdat m c).Φ t.succ = iprop((scr m c (t.val + 1) ∗ ∃ r, prngReg c r) ∗ Pipeline.ΦT pre0 (tbl m) c) from rfl).symm)
        isplitr [HT]
        · unfold scr
          isplitl [S0 S1 S2 S3 S4 S5 S6 S7 S8 S9]
          · isplitl [S0]; · (iexists _; isplitr; (· (ipureintro; exact fun _ => rfl)); iapply (Entails.of_eq (owns_whole _ _ _ _)); iexact S0)
            isplitl [S1]; · (iexists _; iapply (Entails.of_eq (owns_whole _ _ _ _)); iexact S1)
            isplitl [S2]; · (iexists _; isplitr; (· (ipureintro; exact fun _ => rfl)); iapply (Entails.of_eq (owns_whole _ _ _ _)); iexact S2)
            isplitl [S3]; · (iexists _; iapply (Entails.of_eq (owns_whole _ _ _ _)); iexact S3)
            isplitl [S4]; · (iexists _; iapply (Entails.of_eq (owns_whole _ _ _ _)); iexact S4)
            isplitl [S5]; · (iexists _; iapply (Entails.of_eq (owns_whole _ _ _ _)); iexact S5)
            isplitl [S6]; · (iexists _; iapply (Entails.of_eq (owns_whole _ _ _ _)); iexact S6)
            isplitl [S7]; · (iexists _; iapply (Entails.of_eq (owns_whole _ _ _ _)); iexact S7)
            isplitl [S8]; · (iexists _; iapply (Entails.of_eq (owns_whole _ _ _ _)); iexact S8)
            (iexists _; iapply (Entails.of_eq (owns_whole _ _ _ _)); iexact S9)
          · iexists r; iexact Hr
        · iapply (Entails.of_eq (table_eq m c).symm); iexact HT
      isplitl [Ho]; · iexact Ho
      isplitl [H0]
      · iexists (Y 0)
        isplitr; · (ipureintro; exact rfl)
        iexact H0
      isplitl [H1]
      · iexists (Y 1)
        isplitr; · (ipureintro; exact rfl)
        iexact H1
      isplitl [H2]
      · iexists (Y 2)
        isplitr; · (ipureintro; exact rfl)
        iexact H2
      isplitl [H3]
      · iexists (Y 3)
        isplitr; · (ipureintro; exact rfl)
        iexact H3
      isplitl [H4]
      · iexists (Y 4)
        isplitr; · (ipureintro; exact rfl)
        iexact H4
      isplitl [H5]
      · iexists (Y 5)
        isplitr; · (ipureintro; exact rfl)
        iexact H5
      isplitl [H6]
      · iexists (Y 6)
        isplitr; · (ipureintro; exact rfl)
        iexact H6
      isplitl [H7]
      · iexists (Y 7)
        isplitr; · (ipureintro; exact rfl)
        iexact H7
      isplitl [H8]
      · iexists X8
        isplitr; · (ipureintro; exact trivial)
        iexact H8
      isplitl [H9]
      · iexists (scoreBlk (grid0.coords t) (lengths m (ix1 ⟨(grid0.coords t 0).val, step_lt _⟩)) (Y 4) (Y 5) (keptQ m c) (keptC m c))
        isplitr; · (ipureintro; exact e9)
        iexact H9
      isplitl [H10]
      · iexists (Y 10)
        isplitr; · (ipureintro; exact ⟨fun h => absurd h ht, fun _ => rfl⟩)
        iexact H10
      isplitl [H11]
      · iexists (Y 11)
        isplitr; · (ipureintro; exact ⟨fun h => absurd h ht, fun _ => rfl⟩)
        iexact H11
      isplitl [H12]
      · iexists (Y 12)
        isplitr; · (ipureintro; exact ⟨fun h => absurd h ht, fun _ => rfl⟩)
        iexact H12
      · iexists (Y 13)
        isplitr; · (ipureintro; exact ⟨fun h => absurd h ht, fun _ => rfl⟩)
        iexact H13)
    iintro ⟨HΦ, Ho, H0, H1, H2, H3, H4, H5, H6, H7, H8, H9, H10, H11, H12, H13⟩
    ihave HΦ2 := (Entails.of_eq (show (rdat m c).Φ t.castSucc = iprop((scr m c t.val ∗ ∃ r, prngReg c r) ∗ Pipeline.ΦT pre0 (tbl m) c) from rfl)) $$ HΦ
    unfold scr
    icases HΦ2 with ⟨⟨⟨⟨%g0, %k0, G0⟩, ⟨%g1, G1⟩, ⟨%g2, %k2, G2⟩, ⟨%g3, G3⟩, ⟨%g4, G4⟩, ⟨%g5, G5⟩, ⟨%g6, G6⟩, ⟨%g7, G7⟩, ⟨%g8, G8⟩, ⟨%g9, G9⟩⟩, ⟨%r, Hr⟩⟩, HT⟩
    obtain rfl := k0 ht
    obtain rfl := k2 ht
    iapply (hT g1 g3 g4 g5 g6 g7 g8 g9 r)
    isplitl [Ho Hr]
    · isplitl [Ho]
      · iexact Ho
      · iexact Hr
    isplitl [HT]; · (iapply (Entails.of_eq (table_eq m c)); iexact HT)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [G0]; · (iapply (Entails.of_eq (owns_whole _ _ _ _).symm); iexact G0)
    isplitl [G1]; · (iapply (Entails.of_eq (owns_whole _ _ _ _).symm); iexact G1)
    isplitl [G2]; · (iapply (Entails.of_eq (owns_whole _ _ _ _).symm); iexact G2)
    isplitl [G3]; · (iapply (Entails.of_eq (owns_whole _ _ _ _).symm); iexact G3)
    isplitl [G4]; · (iapply (Entails.of_eq (owns_whole _ _ _ _).symm); iexact G4)
    isplitl [G5]; · (iapply (Entails.of_eq (owns_whole _ _ _ _).symm); iexact G5)
    isplitl [G6]; · (iapply (Entails.of_eq (owns_whole _ _ _ _).symm); iexact G6)
    isplitl [G7]; · (iapply (Entails.of_eq (owns_whole _ _ _ _).symm); iexact G7)
    isplitl [G8]; · (iapply (Entails.of_eq (owns_whole _ _ _ _).symm); iexact G8)
    (iapply (Entails.of_eq (owns_whole _ _ _ _).symm); iexact G9)

theorem left10 (c : Dev nD) : ∀ (n : Nat) (t : Fin (cfgM m).N) (ht : t.val = n) (X), (rdat m c).Leaves 10 t X → X = valKb (iblk m c 1 p0) (iblk m c 3 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 10).fetch t = false := rfl
    rcases ((rdat m c).finds_of_pos hf (by omega) Y).mp hY with h1 | h1
    · have h2 := (flush0_10 m _).mp h1
      exfalso
      have h3 : (t.val - 1) % 12 = 11 := h2
      omega
    · exact left10 c n _ (by show t.val - 1 = n; omega) Y h1

theorem whole10 : ((cfgM m).win 10).WholeAt p11 := by
  refine ⟨(flush0_10 m p11).mpr rfl, fun t ht => ?_, fun a => ⟨?_, ?_⟩⟩
  · have h := (flush0_10 m t).mp ht
    have hN : t.val < 12 := t.isLt
    exact Fin.ext (show t.val = 11 by omega)
  · revert a; show ∀ a : Fin 2, cc0_transform_10 (grid0.coords p11) a = 0; decide
  · revert a; show ∀ a : Fin 2, spec0_10.size a = spec0_10.shape.size a; decide

theorem left11 (c : Dev nD) : ∀ (n : Nat) (t : Fin (cfgM m).N) (ht : t.val = n) (X), (rdat m c).Leaves 11 t X → X = valKn (iblk m c 1 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 11).fetch t = false := rfl
    rcases ((rdat m c).finds_of_pos hf (by omega) Y).mp hY with h1 | h1
    · have h2 := (flush0_11 m _).mp h1
      exfalso
      have h3 : (t.val - 1) % 12 = 11 := h2
      omega
    · exact left11 c n _ (by show t.val - 1 = n; omega) Y h1

theorem whole11 : ((cfgM m).win 11).WholeAt p11 := by
  refine ⟨(flush0_11 m p11).mpr rfl, fun t ht => ?_, fun a => ⟨?_, ?_⟩⟩
  · have h := (flush0_11 m t).mp ht
    have hN : t.val < 12 := t.isLt
    exact Fin.ext (show t.val = 11 by omega)
  · revert a; show ∀ a : Fin 2, cc0_transform_11 (grid0.coords p11) a = 0; decide
  · revert a; show ∀ a : Fin 2, spec0_11.size a = spec0_11.shape.size a; decide

theorem left12 (c : Dev nD) : ∀ (n : Nat) (t : Fin (cfgM m).N) (ht : t.val = n) (X), (rdat m c).Leaves 12 t X → X = valVc (iblk m c 2 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 12).fetch t = false := rfl
    rcases ((rdat m c).finds_of_pos hf (by omega) Y).mp hY with h1 | h1
    · have h2 := (flush0_12 m _).mp h1
      exfalso
      have h3 : (t.val - 1) % 12 = 11 := h2
      omega
    · exact left12 c n _ (by show t.val - 1 = n; omega) Y h1

theorem whole12 : ((cfgM m).win 12).WholeAt p11 := by
  refine ⟨(flush0_12 m p11).mpr rfl, fun t ht => ?_, fun a => ⟨?_, ?_⟩⟩
  · have h := (flush0_12 m t).mp ht
    have hN : t.val < 12 := t.isLt
    exact Fin.ext (show t.val = 11 by omega)
  · revert a; show ∀ a : Fin 2, cc0_transform_12 (grid0.coords p11) a = 0; decide
  · revert a; show ∀ a : Fin 2, spec0_12.size a = spec0_12.shape.size a; decide

theorem left13 (c : Dev nD) : ∀ (n : Nat) (t : Fin (cfgM m).N) (ht : t.val = n) (X), (rdat m c).Leaves 13 t X → X = valVs (iblk m c 2 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 13).fetch t = false := rfl
    rcases ((rdat m c).finds_of_pos hf (by omega) Y).mp hY with h1 | h1
    · have h2 := (flush0_13 m _).mp h1
      exfalso
      have h3 : (t.val - 1) % 12 = 11 := h2
      omega
    · exact left13 c n _ (by show t.val - 1 = n; omega) Y h1

theorem whole13 : ((cfgM m).win 13).WholeAt p11 := by
  refine ⟨(flush0_13 m p11).mpr rfl, fun t ht => ?_, fun a => ⟨?_, ?_⟩⟩
  · have h := (flush0_13 m t).mp ht
    have hN : t.val < 12 := t.isLt
    exact Fin.ext (show t.val = 11 by omega)
  · revert a; show ∀ a : Fin 2, cc0_transform_13 (grid0.coords p11) a = 0; decide
  · revert a; show ∀ a : Fin 2, spec0_13.size a = spec0_13.shape.size a; decide

/-- The scratch buffers start at any contents, -/
theorem start (c : Dev nD) : (iprop(Pipeline.ΦA spec0 c ∗ Pipeline.ΦT pre0 (tbl m) c) : sProp 𝕄) ⊢ (rdat m c).Φ 0 := by
  refine (Entails.of_eq (congrArg (fun P => iprop((P ∗ ∃ r, prngReg c r) ∗ Pipeline.ΦT pre0 (tbl m) c)) (scopedRest0_eq c))).trans ?_
  show _ ⊢ iprop((scr m c 0 ∗ ∃ r, prngReg c r) ∗ Pipeline.ΦT pre0 (tbl m) c)
  unfold scr
  iintro ⟨⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩⟩, Hr⟩, HT⟩
  isplitr [HT]
  · isplitl [G0 G1 G2 G3 G4 G5 G6 G7 G8 G9]
    · isplitl [G0]; · (iexists g0; isplitr; (· (ipureintro; exact fun h => absurd rfl h)); iexact G0)
      isplitl [G1]; · (iexists g1; iexact G1)
      isplitl [G2]; · (iexists g2; isplitr; (· (ipureintro; exact fun h => absurd rfl h)); iexact G2)
      isplitl [G3]; · (iexists g3; iexact G3)
      isplitl [G4]; · (iexists g4; iexact G4)
      isplitl [G5]; · (iexists g5; iexact G5)
      isplitl [G6]; · (iexists g6; iexact G6)
      isplitl [G7]; · (iexists g7; iexact G7)
      isplitl [G8]; · (iexists g8; iexact G8)
      iexists g9; iexact G9
    · iexact Hr
  · iexact HT

/-- and end at some. -/
theorem stop (c : Dev nD) : (rdat m c).Φ (Fin.last (cfgM m).N) ⊢ (Pipeline.ΦA spec0 c : sProp 𝕄) := by
  refine (show iprop((scr m c 12 ∗ ∃ r, prngReg c r) ∗ Pipeline.ΦT pre0 (tbl m) c) ⊢ _ from ?_).trans (Entails.of_eq (congrArg (fun P => iprop(P ∗ ∃ r, prngReg c r)) (scopedRest0_eq c)).symm)
  unfold scr
  iintro ⟨⟨⟨⟨%g0, %k0, G0⟩, ⟨%g1, G1⟩, ⟨%g2, %k2, G2⟩, ⟨%g3, G3⟩, ⟨%g4, G4⟩, ⟨%g5, G5⟩, ⟨%g6, G6⟩, ⟨%g7, G7⟩, ⟨%g8, G8⟩, ⟨%g9, G9⟩⟩, Hr⟩, -⟩
  isplitl [G0 G1 G2 G3 G4 G5 G6 G7 G8 G9]
  · isplitl [G0]; · (iexists g0; iexact G0)
    isplitl [G1]; · (iexists g1; iexact G1)
    isplitl [G2]; · (iexists g2; iexact G2)
    isplitl [G3]; · (iexists g3; iexact G3)
    isplitl [G4]; · (iexists g4; iexact G4)
    isplitl [G5]; · (iexists g5; iexact G5)
    isplitl [G6]; · (iexists g6; iexact G6)
    isplitl [G7]; · (iexists g7; iexact G7)
    isplitl [G8]; · (iexists g8; iexact G8)
    iexists g9; iexact G9
  · iexact Hr

/-- Every point's block of scores is written back, -/
theorem flush0_9 : ∀ t : Fin grid0.N, Pipeline.Window.flushOf grid0 true cc0_transform_9 t = true := by decide +kernel

/-- to the point's own place. -/
theorem tr9 : ∀ (t : Fin grid0.N) (a : Fin 3), cc0_transform_9 (grid0.coords t) a = ![t.val, 0, 0] a := by decide +kernel

theorem emb9 (t : Fin (cfgM m).N) (y : S1x40x8192.Idx) (b : Fin 12) (h : Fin 40) (l : Fin 8192)
    (hb : b.val = t.val) (hh : h.val = (y 1).val) (hl : l.val = (y 2).val) :
    (((cfgM m).win 9).blk t).view.emb y = (ix3 b h l : S12x40x8192.Idx) := by
  have h0 : (y 0).val < 1 := (y 0).isLt
  funext a; apply Fin.ext
  match a with
  | ⟨0, _⟩ => show cc0_transform_9 (grid0.coords t) 0 * 1 + 1 * (y 0).val = b.val; rw [tr9 t 0]; show t.val * 1 + _ = _; omega
  | ⟨1, _⟩ => show cc0_transform_9 (grid0.coords t) 1 * 40 + 1 * (y 1).val = h.val; rw [tr9 t 1]; show 0 * 40 + _ = _; omega
  | ⟨2, _⟩ => show cc0_transform_9 (grid0.coords t) 2 * 8192 + 1 * (y 2).val = l.val; rw [tr9 t 2]; show 0 * 8192 + _ = _; omega

theorem cover9 (i : S12x40x8192.Idx) : i ∈ (((cfgM m).win 9).blk (pb (i 0))).view.set :=
  Finset.mem_map.mpr ⟨(ix3 (n0 := 1) (n1 := 40) (n2 := 8192) 0 (i 1) (i 2)), Finset.mem_univ _, (emb9 m (pb (i 0)) _ (i 0) (i 1) (i 2) rfl rfl rfl).trans (by
    funext a; match a with | ⟨0, _⟩ => rfl | ⟨1, _⟩ => rfl | ⟨2, _⟩ => rfl)⟩

/-- The scores of all points. -/
def scoreArr (c : Dev nD) : S12x40x8192.Idx → Elt F .f32 := fun i => blockAt m c (pb (i 0)) (ix3 0 (i 1) (i 2))

/-- The scores' array ends holding each point's block. -/
theorem scores (c : Dev nD) (G) (hG : (rdat m c).ArrAt 9 (cfgM m).N G) (b : Fin 12) (h : Fin 40) (l : Fin 8192) :
    (G : S12x40x8192.Idx → Elt F .f32) (ix3 b h l) = blockAt m c (pb b) (ix3 0 h l) := by
  obtain ⟨X, hX, hA⟩ := RDat.ArrAt.exists_exact hG
  have e := hA (Function.update (fun _ _ _ => Classical.arbitrary _) 9 X) fun u _ _ => by rw [Function.update_self]
  have hx : ∀ t : Fin (cfgM m).N, ((cfgM m).win 9).flush t = true → X t = blockAt m c t := fun t hf => by
    obtain ⟨Y, _, hx⟩ := hX t t.isLt hf
    exact hx
  have e2 := Pipeline.Dat.arrAt_eq_of_emb ((rdat m c).withAfter (Function.update (fun _ _ _ => Classical.arbitrary _) 9 X)) 9
    (scoreArr m c) (fun t hf y => by
      refine Eq.trans ?_ (congrArg (scoreArr m c) (emb9 m t y t (y (1 : Fin 3)) (y (2 : Fin 3)) rfl rfl rfl)).symm
      rw [RDat.withAfter_after, Function.update_self, hx t hf]
      have h0 : (y (0 : Fin 3)).val < 1 := (y (0 : Fin 3)).isLt
      refine congrArg (blockAt m c t) (funext fun a => Fin.ext ?_)
      match a with
      | ⟨0, _⟩ => show (y (0 : Fin 3)).val = 0; omega
      | ⟨1, _⟩ => rfl
      | ⟨2, _⟩ => rfl) (fun i => ⟨pb (i (0 : Fin 3)), flush0_9 _, cover9 m i⟩)
  exact congrFun (e.trans e2) (ix3 b h l)

/-- What the run leaves: the arguments as launched, the cached scores, and the four results about the new token. -/
theorem run (g : Dev nD → PrngReg) (hL : ∀ (c : Dev nD) x, (m ((c : Thread nD τ).loc main_arg8) x : BitVec 32).toNat ≤ 8192) :
    θ_run defs (onTc (τ := τ) (main (F := F))) ⟨m, fun _ => 0, g⟩ (fun r => (∀ c : Dev nD,
      (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8))
      ∧ (∀ (b : Fin 12) (h : Fin 40) (l : Fin 8192), (r.2.mem ((c : Thread nD τ).loc main_v7_1) : S12x40x8192.Idx → Elt F .f32) (ix3 b h l) = blockAt m c (pb b) (ix3 0 h l))
      ∧ r.2.mem ((c : Thread nD τ).loc main_v7_2) = (valKb (iblk m c 1 p0) (iblk m c 3 p0) : S96x32.Idx → Elt F .i8)
      ∧ r.2.mem ((c : Thread nD τ).loc main_v7_3) = (valKn (iblk m c 1 p0) : S96x1.Idx → Elt F .bf16)
      ∧ r.2.mem ((c : Thread nD τ).loc main_v7_4) = (valVc (iblk m c 2 p0) : S96x64.Idx → Elt F .i8)
      ∧ r.2.mem ((c : Thread nD τ).loc main_v7_5) = (valVs (iblk m c 2 p0) : S96x4.Idx → Elt F .f32)) ∧ r.2.sem = fun _ => 0) := by
  refine RDat.θ_run_frameP_track pcfgs (adm m) 0 Gen.launch0 defs₀ Variants.none (rdat m) m g main (fun c => body_ob m c hL)
    (fun c w => by unfold RDat.share; split <;> rfl) (fun _ _ => rfl) (V m) (hmain m) (fun _ _ => rfl) (fun c k => V_pre m c k) (fun c => start m c) (fun c => stop m c) _ ?_
  rintro r ⟨h, hs⟩
  refine ⟨fun c => ⟨⟨((h c).2 main_arg0 (Pipeline.mem_restRefs_of (win := spec0) main_arg0 (by decide) (by decide))).trans (V_main_arg0 m c),
    ((h c).2 main_arg1 (Pipeline.mem_restRefs_of (win := spec0) main_arg1 (by decide) (by decide))).trans (V_main_arg1 m c),
    ((h c).2 main_arg2 (Pipeline.mem_restRefs_of (win := spec0) main_arg2 (by decide) (by decide))).trans (V_main_arg2 m c),
    (RDat.FramePost.arr_in h c 3 rfl).trans (V_main_arg3 m c),
    ((h c).2 main_arg4 (Pipeline.mem_restRefs_of (win := spec0) main_arg4 (by decide) (by decide))).trans (V_main_arg4 m c),
    ((h c).2 main_arg5 (Pipeline.mem_restRefs_of (win := spec0) main_arg5 (by decide) (by decide))).trans (V_main_arg5 m c),
    ((h c).2 main_arg6 (Pipeline.mem_restRefs_of (win := spec0) main_arg6 (by decide) (by decide))).trans (V_main_arg6 m c),
    ((h c).2 main_arg7 (Pipeline.mem_restRefs_of (win := spec0) main_arg7 (by decide) (by decide))).trans (V_main_arg7 m c),
    ((h c).2 main_arg8 (Pipeline.mem_restRefs_of (win := spec0) main_arg8 (by decide) (by decide))).trans (V_main_arg8 m c)⟩, ?_, ?_, ?_, ?_, ?_⟩, hs⟩
  · exact scores m c _ ((h c).1 9)
  · obtain ⟨X, hX, hj⟩ := RDat.ArrAt.emb_eq_of_wholeAt ((h c).1 10) (whole10 m)
    rw [← left10 m c 11 p11 rfl X hX]
    funext j
    exact hj j
  · obtain ⟨X, hX, hj⟩ := RDat.ArrAt.emb_eq_of_wholeAt ((h c).1 11) (whole11 m)
    rw [← left11 m c 11 p11 rfl X hX]
    funext j
    exact hj j
  · obtain ⟨X, hX, hj⟩ := RDat.ArrAt.emb_eq_of_wholeAt ((h c).1 12) (whole12 m)
    rw [← left12 m c 11 p11 rfl X hX]
    funext j
    exact hj j
  · obtain ⟨X, hX, hj⟩ := RDat.ArrAt.emb_eq_of_wholeAt ((h c).1 13) (whole13 m)
    rw [← left13 m c 11 p11 rfl X hX]
    funext j
    exact hj j

end Cert.KernelIdeal.Own
-- ==== Proof.BitsBodyPt.lean ====
/-
  How the kernel body's buffers are held while it runs.
-/
module

public import proofs.«01_k».proof.Proof.Gen.Kernel.Loops
public import proofs.«01_k».proof.Proof.Gen.Kernel.Launch
public import Idealize.ShloMosaic.Lib.Tactic
public import Idealize.ShloMosaic.Lib.Pipeline.FrameBody

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What memref `M`'s buffer holds, and that buffer's elements held whole on core `c` at `f`. -/
abbrev Ct {sp : Space} {S : Shape} {e : EltTy} (M : Memref sig .tc sp S e) : Type := BufTy.Contents (Elt F) M.view.ty
abbrev pt (c : Dev nD) {sp : Space} {S : Shape} {e : EltTy} (M : Memref sig .tc sp S e) (f : Ct (F := F) M) : sProp 𝕄 :=
  M.view.loc (c : Thread nD τ) ↦[M.view.set]{fullShare} f

/-- The same at half the full share: how the table of lengths is held. -/
abbrev pr (c : Dev nD) {sp : Space} {S : Shape} {e : EltTy} (M : Memref sig .tc sp S e) (f : Ct (F := F) M) : sProp 𝕄 :=
  M.view.loc (c : Thread nD τ) ↦[M.view.set]{fullShare.right} f

end Cert.Kernel.Own
-- ==== Proof.BitsBodyFirst.lean ====
/-
  The kernel body at the first grid point, run once: it leaves the operands as they were and the four
  results about the new token at contents the run names.
-/
module

public import proofs.«01_k».proof.Proof.BitsBodyPt

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run at a point where the first conditional is taken. -/
def bodyFirst (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) :
    { W : Ct (F := F) arg12 × Ct (F := F) arg13 × Ct (F := F) arg14 × Ct (F := F) arg15 //
      ∀ (Q : PUnit → sProp 𝕄),
        iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25
          ∗ (iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ pt c arg12 W.1 ∗ pt c arg13 W.2.1 ∗ pt c arg14 W.2.2.1 ∗ pt c arg15 W.2.2.2 ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f)) -∗ Q ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q } := by
  refine ⟨⟨?_, ?_, ?_, ?_⟩, fun Q => ?run⟩
  case run =>
    iintro ⟨H1, H2, H3, H4, H5, H6, H7, H8, H9, H10, H11, H12, H13, H14, H15, H16, H17, H18, H19, H20, H21, H22, H23, H24, H25, Hk⟩
    sl_exec_parts! (disch := first | exact h1 | exact hchk _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.Kernel.Own
-- ==== Proof.BitsBodyLater.lean ====
/-
  The kernel body at a grid point after the first, run once: it leaves the operands and the four results
  about the new token as they were.
-/
module

public import proofs.«01_k».proof.Proof.BitsBodyPt

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run at a point where the first conditional is not taken. -/
theorem bodyLater (c : Dev nD) (i : grid0.Coords) (h1 : ¬ k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x))
    (Q : PUnit → sProp 𝕄) :
        iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25
          ∗ (iprop(pr c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ pt c arg12 f12 ∗ pt c arg13 f13 ∗ pt c arg14 f14 ∗ pt c arg15 f15 ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f)) -∗ Q ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
    iintro ⟨H1, H2, H3, H4, H5, H6, H7, H8, H9, H10, H11, H12, H13, H14, H15, H16, H17, H18, H19, H20, H21, H22, H23, H24, H25, Hk⟩
    sl_exec_parts! (disch := first | exact h1 | exact hchk _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.Kernel.Own
-- ==== Proof.BitsChunks.lean ====
/-
  The side condition the kernel assumes of the length it reads: with a length of at most 8192 every
  chunk loop is well formed, its chunk offsets are multiples of 512, and every load and store of a
  chunk lies inside its block. The trip counts depend on the length through the number of 512-wide
  chunks alone.
-/
module

public import proofs.«01_k».proof.Kernel

@[expose] public section

namespace Cert.Kernel.Own

open Cert.Kernel
open Idealize.ShloMosaic

/-- The number of chunks, as the kernel computes it from the length: a rounding-up division by 512. -/
abbrev chunks (v5 : BitVec 32) : BitVec 32 :=
  let v7 : BitVec 32 := Scalar.subi (Scalar.addi v5 512#32) 1#32
  let v13 : BitVec 32 := Scalar.subi (Scalar.extui (Scalar.cmpi .sgt v7 0#32)) (Scalar.extui (Scalar.cmpi .slt v7 0#32))
  let v18 : BitVec 32 := Scalar.subi (Scalar.extui (Scalar.cmpi .sgt 512#32 0#32)) (Scalar.extui (Scalar.cmpi .slt 512#32 0#32))
  let v22 : BitVec 1 := Scalar.andi (Scalar.cmpi .ne v13 v18) (Scalar.cmpi .ne (Scalar.remsi v7 512#32) 0#32)
  let v8 : BitVec 32 := Scalar.divsi v7 512#32
  Scalar.select v22 (Scalar.subi v8 1#32) v8

set_option maxRecDepth 100000 in
theorem chunks_eq_all : ∀ q : Fin 17, ∀ r : Fin 512, chunks (BitVec.ofNat 32 (512 * q.val + r.val)) = BitVec.ofNat 32 ((512 * q.val + r.val + 511) / 512) := by
  decide +kernel

/-- At a length of at most 8192 the kernel counts `⌈length / 512⌉` chunks. -/
theorem chunks_eq (v5 : BitVec 32) (h : v5.toNat ≤ 8192) : chunks v5 = BitVec.ofNat 32 ((v5.toNat + 511) / 512) := by
  have h1 := chunks_eq_all ⟨v5.toNat / 512, by omega⟩ ⟨v5.toNat % 512, by omega⟩
  have h2 : 512 * (v5.toNat / 512) + v5.toNat % 512 = v5.toNat := by omega
  simp only [h2, BitVec.ofNat_toNat, BitVec.setWidth_eq] at h1
  exact h1

/-- The loop over the chunks before `w`, -/
abbrev L1 (w : BitVec 32) : Scf.Loop 32 := ⟨0#32, Scalar.addi 0#32 (Scalar.muli (Scalar.divsi (Scalar.subi w 0#32) 1#32) 1#32), 1#32⟩
/-- its remainder loop, -/
abbrev L2 (w : BitVec 32) : Scf.Loop 32 := ⟨Scalar.addi 0#32 (Scalar.muli (Scalar.divsi (Scalar.subi w 0#32) 1#32) 1#32), Scalar.addi 0#32 (Scalar.subi w 0#32), 1#32⟩
/-- the loop over the chunks from `w` on, -/
abbrev L3 (w : BitVec 32) : Scf.Loop 32 := ⟨w, Scalar.addi w (Scalar.muli (Scalar.divsi (Scalar.subi 16#32 w) 1#32) 1#32), 1#32⟩
/-- and its remainder loop. -/
abbrev L4 (w : BitVec 32) : Scf.Loop 32 := ⟨Scalar.addi w (Scalar.muli (Scalar.divsi (Scalar.subi 16#32 w) 1#32) 1#32), Scalar.addi w (Scalar.subi 16#32 w), 1#32⟩

theorem loops_all : ∀ n : Fin 17, (L1 (BitVec.ofNat 32 n.val)).OK ∧ (L1 (BitVec.ofNat 32 n.val)).trips = n.val
    ∧ (L2 (BitVec.ofNat 32 n.val)).OK ∧ (L2 (BitVec.ofNat 32 n.val)).trips = 0
    ∧ (L3 (BitVec.ofNat 32 n.val)).OK ∧ (L3 (BitVec.ofNat 32 n.val)).trips = 16 - n.val
    ∧ (L4 (BitVec.ofNat 32 n.val)).OK ∧ (L4 (BitVec.ofNat 32 n.val)).trips = 0 := by
  decide +kernel

/-- The same of the loops the kernel runs at a length of at most 8192. -/
theorem loops (v5 : BitVec 32) (h : v5.toNat ≤ 8192) : (L1 (chunks v5)).OK ∧ (L1 (chunks v5)).trips = (v5.toNat + 511) / 512
    ∧ (L2 (chunks v5)).OK ∧ (L2 (chunks v5)).trips = 0
    ∧ (L3 (chunks v5)).OK ∧ (L3 (chunks v5)).trips = 16 - (v5.toNat + 511) / 512
    ∧ (L4 (chunks v5)).OK ∧ (L4 (chunks v5)).trips = 0 := by
  rw [chunks_eq v5 h]
  exact loops_all ⟨(v5.toNat + 511) / 512, by omega⟩

/-- The first column of a chunk. -/
theorem word_all : ∀ n : Fin 17, ∀ k : Fin 17, (Scalar.muli (Scf.iv (BitVec.ofNat 32 n.val) 1#32 k.val) 512#32).toNat = 512 * (n.val + k.val) := by
  decide +kernel

theorem word1 (k : Nat) (hk : k < 16) : (Scalar.muli (Scf.iv 0#32 1#32 k) 512#32).toNat = 512 * k := by
  have := word_all ⟨0, by omega⟩ ⟨k, by omega⟩
  simpa using this

theorem word3 (v5 : BitVec 32) (h : v5.toNat ≤ 8192) (k : Nat) (hk : k < 16 - (v5.toNat + 511) / 512) :
    (Scalar.muli (Scf.iv (chunks v5) 1#32 k) 512#32).toNat = 512 * ((v5.toNat + 511) / 512 + k) := by
  rw [chunks_eq v5 h]
  exact word_all ⟨(v5.toNat + 511) / 512, by omega⟩ ⟨k, by omega⟩

section Inside

/-- A chunk inside its block, by the rank of the block. -/
theorem in2 {b A B w : Nat} {c : Nat} (hc : c + b ≤ A) (hw : w + 512 ≤ B) :
    ∀ a, (![c, w] : Fin 2 → Nat) a + (![b, 512] : Fin 2 → Nat) a ≤ (![A, B] : Fin 2 → Nat) a := by
  intro a; match a with
  | 0 => exact hc
  | 1 => exact hw

theorem in3 {b b' A A' B w : Nat} {c c' : Nat} (hc : c + b ≤ A) (hc' : c' + b' ≤ A') (hw : w + 512 ≤ B) :
    ∀ a, (![c, c', w] : Fin 3 → Nat) a + (![b, b', 512] : Fin 3 → Nat) a ≤ (![A, A', B] : Fin 3 → Nat) a := by
  intro a; match a with
  | 0 => exact hc
  | 1 => exact hc'
  | 2 => exact hw

theorem in4 {b b' b'' A A' A'' B w : Nat} {c c' c'' : Nat} (hc : c + b ≤ A) (hc' : c' + b' ≤ A') (hc'' : c'' + b'' ≤ A'') (hw : w + 512 ≤ B) :
    ∀ a, (![c, c', c'', w] : Fin 4 → Nat) a + (![b, b', b'', 512] : Fin 4 → Nat) a ≤ (![A, A', A'', B] : Fin 4 → Nat) a := by
  intro a; match a with
  | 0 => exact hc
  | 1 => exact hc'
  | 2 => exact hc''
  | 3 => exact hw

end Inside

variable (v5 : BitVec 32) (h : v5.toNat ≤ 8192)
include h

theorem trips1 (k : Fin (L1 (chunks v5)).trips) : (Scalar.muli (Scf.iv 0#32 1#32 k.val) 512#32).toNat + 512 ≤ 8192 := by
  have := (loops v5 h).2.1
  have hk := k.isLt
  rw [word1 k.val (by omega)]; omega

theorem trips3 (k : Fin (L3 (chunks v5)).trips) : (Scalar.muli (Scf.iv (chunks v5) 1#32 k.val) 512#32).toNat + 512 ≤ 8192 := by
  have := (loops v5 h).2.2.2.2.2.1
  have hk := k.isLt
  rw [word3 v5 h k.val (by omega)]; omega

theorem dvd1 (k : Fin (L1 (chunks v5)).trips) : 512 ∣ (Scalar.muli (Scf.iv 0#32 1#32 k.val) 512#32).toNat := by
  have := (loops v5 h).2.1
  have hk := k.isLt
  rw [word1 k.val (by omega)]; exact ⟨_, rfl⟩

theorem dvd3 (k : Fin (L3 (chunks v5)).trips) : 512 ∣ (Scalar.muli (Scf.iv (chunks v5) 1#32 k.val) 512#32).toNat := by
  have := (loops v5 h).2.2.2.2.2.1
  have hk := k.isLt
  rw [word3 v5 h k.val (by omega)]; exact ⟨_, rfl⟩

theorem none2 (k : Fin (L2 (chunks v5)).trips) : False := by
  have := (loops v5 h).2.2.2.1
  have hk := k.isLt
  omega

theorem none4 (k : Fin (L4 (chunks v5)).trips) : False := by
  have := (loops v5 h).2.2.2.2.2.2.2
  have hk := k.isLt
  omega

theorem chk1_0 : k0_chk1_0 v5 :=
  ⟨(loops v5 h).1,
   dvd1 v5 h,
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k),
   fun k => in3 (by decide) (by decide) (trips1 v5 h k),
   fun k => in2 (by decide) (trips1 v5 h k),
   fun k => in4 (by decide) (by decide) (by decide) (trips1 v5 h k),
   fun k => in3 (by decide) (by decide) (trips1 v5 h k)⟩

theorem chk1_1 : k0_chk1_1 v5 :=
  ⟨fun k => in3 (by decide) (by decide) (trips1 v5 h k),
   fun k => in2 (by decide) (trips1 v5 h k),
   (loops v5 h).2.2.1,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim⟩

theorem chk1_2 : k0_chk1_2 v5 :=
  ⟨fun k => (none2 v5 h k).elim,
   fun k => (none2 v5 h k).elim,
   fun k => (none2 v5 h k).elim,
   fun k => (none2 v5 h k).elim,
   (loops v5 h).2.2.2.2.1,
   dvd3 v5 h,
   fun k => in3 (by decide) (by decide) (trips3 v5 h k),
   (loops v5 h).2.2.2.2.2.2.1,
   fun k => (none4 v5 h k).elim,
   fun k => (none4 v5 h k).elim,
   (loops v5 h).1,
   dvd1 v5 h,
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in2 (by decide) (trips1 v5 h k),
   fun k => in4 (by decide) (by decide) (by decide) (trips1 v5 h k),
   fun k => in4 (by decide) (by decide) (by decide) (trips1 v5 h k),
   fun k => in4 (by decide) (by decide) (by decide) (trips1 v5 h k),
   fun k => in4 (by decide) (by decide) (by decide) (trips1 v5 h k)⟩

theorem chk1_3 : k0_chk1_3 v5 :=
  ⟨(loops v5 h).2.2.1,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim,
   fun k => (none2 v5 h k).elim⟩

/-- The whole side condition, at any length of at most 8192. -/
theorem chk1 : k0_chk1 v5 := ⟨chk1_0 v5 h, chk1_1 v5 h, chk1_2 v5 h, chk1_3 v5 h⟩

end Cert.Kernel.Own
-- ==== Proof.BitsVals.lean ====
/-
  What the first grid point leaves in the four results about the new token, as functions of the blocks it
  reads; and the two body runs stated over what the blocks hold.
-/
module

public import proofs.«01_k».proof.Proof.BitsBodyFirst
public import proofs.«01_k».proof.Proof.BitsBodyLater
public import proofs.«01_k».proof.Proof.BitsChunks
public import Idealize.ShloMosaic.Lib.WritesUnit
public import Idealize.ShloMosaic.Lib.Pipeline.TableIdle

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem readAt_full {sig : RefSig} {κ : Kind} {sp : Space} {s : Shape} {e : EltTy} {Val : EltTy → Type} (v : View sig κ sp s e)
    (off : Fin s.rank → Nat) (h0 : ∀ a, off a = 0) (inb : ∀ a, off a + s.size a ≤ s.size a) (f : v.ty.Contents Val) :
    v.readAt Val (Rect.unit off s.size inb).toLoadRect f = v.read Val f := by
  funext x
  show v.read Val f ((Rect.unit off s.size inb).emb x) = v.read Val f x
  congr 1
  funext a; apply Fin.ext
  show off a + 1 * (x a).val = (x a).val
  rw [h0 a]; omega

theorem read_full {sig : RefSig} {κ : Kind} {sp : Space} {s : Shape} {e : EltTy} {Val : EltTy → Type} (v : View sig κ sp s e)
    (off : Fin s.rank → Nat) (h0 : ∀ a, off a = 0) (inb : ∀ a, off a + s.size a ≤ s.size a) (f : v.ty.Contents Val)
    (w : s.Idx → Val e) :
    v.read Val (v.writes Val f [(⟨Rect.unit off s.size inb, w⟩ : View.Piece Val s e)]) = w := by
  funext y
  exact View.read_writes_cons_unit_of_mem v f inb w [] y y rfl (fun a => by rw [h0 a]; omega)

theorem zeros2 : ∀ a : Fin 2, (![0, 0] : Fin 2 → Nat) a = 0 := by decide

/-- The packed sketch bits of the new keys, from the keys and the projection; -/
def valKb (K : Vec F S96x128 .bf16) (Pj : Vec F S128x256 .bf16) : Vec F S96x32 .i8 :=
  k0_pay12 (k0_pay6 Pj K) k0_pay7 k0_pay8 (iota Kind.tc S256x32 32 [0] iota_S256x32_d0_w32) 32#32 k0_pay9 k0_pay10 k0_pay11
/-- the new keys' norms; -/
def valKn (K : Vec F S96x128 .bf16) : Vec F S96x1 .bf16 := k0_pay13 (k0_pay4 K)
/-- the packed value codes; -/
def valVc (V : Vec F S96x128 .bf16) : Vec F S96x64 .i8 :=
  k0_pay26 (k0_pay14 V) (k0_pay23 (k0_pay14 V) (k0_pay17 (iota Kind.tc S96x128 32 [1] iota_S96x128_d1_w32) 32#32 k0_pay15 k0_pay16 1#32 0#32)
    (k0_pay19 (k0_pay14 V) (iota Kind.tc S96x128 32 [1] iota_S96x128_d1_w32) 32#32 k0_pay15 k0_pay16 1#32 0#32)
    (k0_pay20 (k0_pay14 V) (iota Kind.tc S96x128 32 [1] iota_S96x128_d1_w32) 32#32 k0_pay15 k0_pay16 1#32 0#32) 1#32)
/-- the value scales. -/
def valVs (V : Vec F S96x128 .bf16) : Vec F S96x4 .f32 :=
  k0_pay24 (k0_pay14 V) (k0_pay17 (iota Kind.tc S96x128 32 [1] iota_S96x128_d1_w32) 32#32 k0_pay15 k0_pay16 1#32 0#32)
    (k0_pay18 (k0_pay14 V) (iota Kind.tc S96x128 32 [1] iota_S96x128_d1_w32) 32#32 k0_pay15 k0_pay16 1#32 0#32)
    (k0_pay20 (k0_pay14 V) (iota Kind.tc S96x128 32 [1] iota_S96x128_d1_w32) 32#32 k0_pay15 k0_pay16 1#32 0#32)

theorem bodyFirst_reads (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (f1 : Ct (F := F) arg1) (f2 : Ct (F := F) arg2) (f3 : Ct (F := F) arg3) (f4 : Ct (F := F) arg4) (f5 : Ct (F := F) arg5) (f6 : Ct (F := F) arg6) (f7 : Ct (F := F) arg7) (f8 : Ct (F := F) arg8) (f9 : Ct (F := F) arg9) (f10 : Ct (F := F) arg10) (f11 : Ct (F := F) arg11) (f12 : Ct (F := F) arg12) (f13 : Ct (F := F) arg13) (f14 : Ct (F := F) arg14) (f15 : Ct (F := F) arg15) (f16 : Ct (F := F) arg16) (f17 : Ct (F := F) arg17) (f18 : Ct (F := F) arg18) (f19 : Ct (F := F) arg19) (f20 : Ct (F := F) arg20) (f21 : Ct (F := F) arg21) (f22 : Ct (F := F) arg22) (f23 : Ct (F := F) arg23) (f24 : Ct (F := F) arg24) (f25 : Ct (F := F) arg25)
    (hchk : ∀ (r : LoadRect S12) (x : r.shape.Idx), k0_chk1 (View.readAt (Elt F) arg1.view r f1 x)) :
    arg12.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.1 = valKb (arg3.view.read (Elt F) f3) (arg5.view.read (Elt F) f5)
    ∧ arg13.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.1 = valKn (arg3.view.read (Elt F) f3)
    ∧ arg14.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.1 = valVc (arg4.view.read (Elt F) f4)
    ∧ arg15.view.read (Elt F) (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 hchk).1.2.2.2 = valVs (arg4.view.read (Elt F) f4) := by
  have e3 := readAt_full (Val := Elt F) arg3.view ![0, 0] zeros2 inb_S96x128_S96x128_0_0 f3
  have e4 := readAt_full (Val := Elt F) arg4.view ![0, 0] zeros2 inb_S96x128_S96x128_0_0 f4
  have e5 := readAt_full (Val := Elt F) arg5.view ![0, 0] zeros2 inb_S128x256_S128x256_0_0 f5
  rw [← e3, ← e4, ← e5]
  refine ⟨?_, ?_, ?_, ?_⟩
  · exact read_full arg12.view ![0, 0] zeros2 inb_S96x32_S96x32_0_0 _ _
  · exact read_full arg13.view ![0, 0] zeros2 inb_S96x1_S96x1_0_0 _ _
  · exact read_full arg14.view ![0, 0] zeros2 inb_S96x64_S96x64_0_0 _ _
  · exact read_full arg15.view ![0, 0] zeros2 inb_S96x4_S96x4_0_0 _ _

/-- A memref held on core `c` with contents that read as `X`. -/
abbrev ow (c : Dev nD) {sp : Space} {S : Shape} {e : EltTy} (M : Memref sig .tc sp S e) (X : S.Idx → Elt F e) : sProp 𝕄 :=
  owns (c : Thread nD τ) M fullShare X

theorem ow_pt (c : Dev nD) {sp : Space} {S : Shape} {e : EltTy} (M : Memref sig .tc sp S e) (X : S.Idx → Elt F e) :
    ow (F := F) c M X = pt c M (M.view.rep X) := owns_eq_rep _ _ _ _

/-- The same at half the full share. -/
abbrev owr (c : Dev nD) {sp : Space} {S : Shape} {e : EltTy} (M : Memref sig .tc sp S e) (X : S.Idx → Elt F e) : sProp 𝕄 :=
  owns (c : Thread nD τ) M fullShare.right X

theorem owr_pr (c : Dev nD) {sp : Space} {S : Shape} {e : EltTy} (M : Memref sig .tc sp S e) (X : S.Idx → Elt F e) :
    owr (F := F) c M X = pr c M (M.view.rep X) := owns_eq_rep _ _ _ _

theorem pt_ow (c : Dev nD) {sp : Space} {S : Shape} {e : EltTy} (M : Memref sig .tc sp S e) (f : Ct (F := F) M) (X : S.Idx → Elt F e)
    (h : M.view.read (Elt F) f = X) : pt c M f ⊢ ow (F := F) c M X := by
  subst h; exact owns_intro _ _ _ _

theorem chk_rep {M : Memref sig .tc .smem S12 .i32} (Y : S12.Idx → Elt F .i32) (h : ∀ x, (Y x : BitVec 32).toNat ≤ 8192)
    (r : LoadRect S12) (x : r.shape.Idx) : k0_chk1 (View.readAt (Elt F) M.view r (M.view.rep Y) x) := by
  rw [View.readAt_apply, View.read_rep]; exact chk1 _ (h _)

theorem firstOwns (c : Dev nD) (i : grid0.Coords) (h1 : k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (Y1 : S12.Idx → Elt F .i32) (Y2 : S12x5120.Idx → Elt F .bf16) (Y3 : S96x128.Idx → Elt F .bf16) (Y4 : S96x128.Idx → Elt F .bf16) (Y5 : S128x256.Idx → Elt F .bf16) (Y6 : S1x8x32x8192.Idx → Elt F .i8) (Y7 : S1x8x8192.Idx → Elt F .bf16) (Y8 : S1x8x64x8192.Idx → Elt F .i8) (Y9 : S1x8x4x8192.Idx → Elt F .f32) (Y10 : S12x5120.Idx → Elt F .bf16) (Y11 : S1x40x8192.Idx → Elt F .f32) (Y12 : S96x32.Idx → Elt F .i8) (Y13 : S96x1.Idx → Elt F .bf16) (Y14 : S96x64.Idx → Elt F .i8) (Y15 : S96x4.Idx → Elt F .f32) (Y16 : S768x256.Idx → Elt F .bf16) (Y17 : S768x128.Idx → Elt F .f32) (Y18 : S2x768x128.Idx → Elt F .f32) (Y19 : S768x128.Idx → Elt F .f32) (Y20 : S96x128.Idx → Elt F .f32) (Y21 : S64x8192.Idx → Elt F .f32) (Y22 : S64x128.Idx → Elt F .f32) (Y23 : S64x128.Idx → Elt F .f32) (Y24 : S8x128x16.Idx → Elt F .f32) (Y25 : S768x128.Idx → Elt F .f32)
    (hY : ∀ x, (Y1 x : BitVec 32).toNat ≤ 8192) (R : sProp 𝕄) :
        iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ ow c arg10 Y10 ∗ ow c arg11 Y11 ∗ ow c arg12 Y12 ∗ ow c arg13 Y13 ∗ ow c arg14 Y14 ∗ ow c arg15 Y15 ∗ ow c arg16 Y16 ∗ ow c arg17 Y17 ∗ ow c arg18 Y18 ∗ ow c arg19 Y19 ∗ ow c arg20 Y20 ∗ ow c arg21 Y21 ∗ ow c arg22 Y22 ∗ ow c arg23 Y23 ∗ ow c arg24 Y24 ∗ ow c arg25 Y25)
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ (∃ X, ow c arg11 X) ∗ ow c arg12 (valKb Y3 Y5) ∗ ow c arg13 (valKn Y3) ∗ ow c arg14 (valVc Y4) ∗ ow c arg15 (valVs Y4) ∗ (∃ X, ow c arg16 X) ∗ (∃ X, ow c arg17 X) ∗ (∃ X, ow c arg18 X) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X))) := by
    have hr := bodyFirst_reads c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)
    simp only [View.read_rep] at hr
    have hb := (bodyFirst c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY)).2 (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ (∃ X, ow c arg11 X) ∗ ow c arg12 (valKb Y3 Y5) ∗ ow c arg13 (valKn Y3) ∗ ow c arg14 (valVc Y4) ∗ ow c arg15 (valVs Y4) ∗ (∃ X, ow c arg16 X) ∗ (∃ X, ow c arg17 X) ∗ (∃ X, ow c arg18 X) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X)))
    refine (show (_ : sProp 𝕄) ⊢ _ from ?_).trans hb
    iintro ⟨HR, H1, H2, H3, H4, H5, H6, H7, H8, H9, H10, H11, H12, H13, H14, H15, H16, H17, H18, H19, H20, H21, H22, H23, H24, H25⟩
    isplitl [H1]; · (iapply (Entails.of_eq (owr_pr c arg1 Y1)); iexact H1)
    isplitl [H2]; · (iapply (Entails.of_eq (ow_pt c arg2 Y2)); iexact H2)
    isplitl [H3]; · (iapply (Entails.of_eq (ow_pt c arg3 Y3)); iexact H3)
    isplitl [H4]; · (iapply (Entails.of_eq (ow_pt c arg4 Y4)); iexact H4)
    isplitl [H5]; · (iapply (Entails.of_eq (ow_pt c arg5 Y5)); iexact H5)
    isplitl [H6]; · (iapply (Entails.of_eq (ow_pt c arg6 Y6)); iexact H6)
    isplitl [H7]; · (iapply (Entails.of_eq (ow_pt c arg7 Y7)); iexact H7)
    isplitl [H8]; · (iapply (Entails.of_eq (ow_pt c arg8 Y8)); iexact H8)
    isplitl [H9]; · (iapply (Entails.of_eq (ow_pt c arg9 Y9)); iexact H9)
    isplitl [H10]; · (iapply (Entails.of_eq (ow_pt c arg10 Y10)); iexact H10)
    isplitl [H11]; · (iapply (Entails.of_eq (ow_pt c arg11 Y11)); iexact H11)
    isplitl [H12]; · (iapply (Entails.of_eq (ow_pt c arg12 Y12)); iexact H12)
    isplitl [H13]; · (iapply (Entails.of_eq (ow_pt c arg13 Y13)); iexact H13)
    isplitl [H14]; · (iapply (Entails.of_eq (ow_pt c arg14 Y14)); iexact H14)
    isplitl [H15]; · (iapply (Entails.of_eq (ow_pt c arg15 Y15)); iexact H15)
    isplitl [H16]; · (iapply (Entails.of_eq (ow_pt c arg16 Y16)); iexact H16)
    isplitl [H17]; · (iapply (Entails.of_eq (ow_pt c arg17 Y17)); iexact H17)
    isplitl [H18]; · (iapply (Entails.of_eq (ow_pt c arg18 Y18)); iexact H18)
    isplitl [H19]; · (iapply (Entails.of_eq (ow_pt c arg19 Y19)); iexact H19)
    isplitl [H20]; · (iapply (Entails.of_eq (ow_pt c arg20 Y20)); iexact H20)
    isplitl [H21]; · (iapply (Entails.of_eq (ow_pt c arg21 Y21)); iexact H21)
    isplitl [H22]; · (iapply (Entails.of_eq (ow_pt c arg22 Y22)); iexact H22)
    isplitl [H23]; · (iapply (Entails.of_eq (ow_pt c arg23 Y23)); iexact H23)
    isplitl [H24]; · (iapply (Entails.of_eq (ow_pt c arg24 Y24)); iexact H24)
    isplitl [H25]; · (iapply (Entails.of_eq (ow_pt c arg25 Y25)); iexact H25)
    iintro ⟨H1, H2, H3, H4, H5, H6, H7, H8, H9, ⟨%g10, H10⟩, ⟨%g11, H11⟩, H12, H13, H14, H15, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩⟩
    isplitl [HR]; · iexact HR
    isplitl [H1]; · (iapply (Entails.of_eq (owr_pr c arg1 Y1).symm); iexact H1)
    isplitl [H2]; · (iapply (Entails.of_eq (ow_pt c arg2 Y2).symm); iexact H2)
    isplitl [H3]; · (iapply (Entails.of_eq (ow_pt c arg3 Y3).symm); iexact H3)
    isplitl [H4]; · (iapply (Entails.of_eq (ow_pt c arg4 Y4).symm); iexact H4)
    isplitl [H5]; · (iapply (Entails.of_eq (ow_pt c arg5 Y5).symm); iexact H5)
    isplitl [H6]; · (iapply (Entails.of_eq (ow_pt c arg6 Y6).symm); iexact H6)
    isplitl [H7]; · (iapply (Entails.of_eq (ow_pt c arg7 Y7).symm); iexact H7)
    isplitl [H8]; · (iapply (Entails.of_eq (ow_pt c arg8 Y8).symm); iexact H8)
    isplitl [H9]; · (iapply (Entails.of_eq (ow_pt c arg9 Y9).symm); iexact H9)
    isplitl [H10]; · (iexists (arg10.view.read (Elt F) g10); iapply (pt_ow c arg10 g10 _ rfl); iexact H10)
    isplitl [H11]; · (iexists (arg11.view.read (Elt F) g11); iapply (pt_ow c arg11 g11 _ rfl); iexact H11)
    isplitl [H12]; · (iapply (pt_ow c arg12 _ _ hr.1); iexact H12)
    isplitl [H13]; · (iapply (pt_ow c arg13 _ _ hr.2.1); iexact H13)
    isplitl [H14]; · (iapply (pt_ow c arg14 _ _ hr.2.2.1); iexact H14)
    isplitl [H15]; · (iapply (pt_ow c arg15 _ _ hr.2.2.2); iexact H15)
    isplitl [H16]; · (iexists (arg16.view.read (Elt F) g16); iapply (pt_ow c arg16 g16 _ rfl); iexact H16)
    isplitl [H17]; · (iexists (arg17.view.read (Elt F) g17); iapply (pt_ow c arg17 g17 _ rfl); iexact H17)
    isplitl [H18]; · (iexists (arg18.view.read (Elt F) g18); iapply (pt_ow c arg18 g18 _ rfl); iexact H18)
    isplitl [H19]; · (iexists (arg19.view.read (Elt F) g19); iapply (pt_ow c arg19 g19 _ rfl); iexact H19)
    isplitl [H20]; · (iexists (arg20.view.read (Elt F) g20); iapply (pt_ow c arg20 g20 _ rfl); iexact H20)
    isplitl [H21]; · (iexists (arg21.view.read (Elt F) g21); iapply (pt_ow c arg21 g21 _ rfl); iexact H21)
    isplitl [H22]; · (iexists (arg22.view.read (Elt F) g22); iapply (pt_ow c arg22 g22 _ rfl); iexact H22)
    isplitl [H23]; · (iexists (arg23.view.read (Elt F) g23); iapply (pt_ow c arg23 g23 _ rfl); iexact H23)
    isplitl [H24]; · (iexists (arg24.view.read (Elt F) g24); iapply (pt_ow c arg24 g24 _ rfl); iexact H24)
    · (iexists (arg25.view.read (Elt F) g25); iapply (pt_ow c arg25 g25 _ rfl); iexact H25)

theorem laterOwns (c : Dev nD) (i : grid0.Coords) (h1 : ¬ k0_cond1 i = 1#1)
    (arg1 : Memref sig .tc .smem S12 .i32) (harg1 : arg1.IsWhole) (arg2 : Memref sig .tc .vmem S12x5120 .bf16) (harg2 : arg2.IsWhole) (arg3 : Memref sig .tc .vmem S96x128 .bf16) (harg3 : arg3.IsWhole) (arg4 : Memref sig .tc .vmem S96x128 .bf16) (harg4 : arg4.IsWhole) (arg5 : Memref sig .tc .vmem S128x256 .bf16) (harg5 : arg5.IsWhole) (arg6 : Memref sig .tc .vmem S1x8x32x8192 .i8) (harg6 : arg6.IsWhole) (arg7 : Memref sig .tc .vmem S1x8x8192 .bf16) (harg7 : arg7.IsWhole) (arg8 : Memref sig .tc .vmem S1x8x64x8192 .i8) (harg8 : arg8.IsWhole) (arg9 : Memref sig .tc .vmem S1x8x4x8192 .f32) (harg9 : arg9.IsWhole) (arg10 : Memref sig .tc .vmem S12x5120 .bf16) (harg10 : arg10.IsWhole) (arg11 : Memref sig .tc .vmem S1x40x8192 .f32) (harg11 : arg11.IsWhole) (arg12 : Memref sig .tc .vmem S96x32 .i8) (harg12 : arg12.IsWhole) (arg13 : Memref sig .tc .vmem S96x1 .bf16) (harg13 : arg13.IsWhole) (arg14 : Memref sig .tc .vmem S96x64 .i8) (harg14 : arg14.IsWhole) (arg15 : Memref sig .tc .vmem S96x4 .f32) (harg15 : arg15.IsWhole) (arg16 : Memref sig .tc .vmem S768x256 .bf16) (harg16 : arg16.IsWhole) (arg17 : Memref sig .tc .vmem S768x128 .f32) (harg17 : arg17.IsWhole) (arg18 : Memref sig .tc .vmem S2x768x128 .f32) (harg18 : arg18.IsWhole) (arg19 : Memref sig .tc .vmem S768x128 .f32) (harg19 : arg19.IsWhole) (arg20 : Memref sig .tc .vmem S96x128 .f32) (harg20 : arg20.IsWhole) (arg21 : Memref sig .tc .vmem S64x8192 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S8x128x16 .f32) (harg24 : arg24.IsWhole) (arg25 : Memref sig .tc .vmem S768x128 .f32) (harg25 : arg25.IsWhole)
    (Y1 : S12.Idx → Elt F .i32) (Y2 : S12x5120.Idx → Elt F .bf16) (Y3 : S96x128.Idx → Elt F .bf16) (Y4 : S96x128.Idx → Elt F .bf16) (Y5 : S128x256.Idx → Elt F .bf16) (Y6 : S1x8x32x8192.Idx → Elt F .i8) (Y7 : S1x8x8192.Idx → Elt F .bf16) (Y8 : S1x8x64x8192.Idx → Elt F .i8) (Y9 : S1x8x4x8192.Idx → Elt F .f32) (Y10 : S12x5120.Idx → Elt F .bf16) (Y11 : S1x40x8192.Idx → Elt F .f32) (Y12 : S96x32.Idx → Elt F .i8) (Y13 : S96x1.Idx → Elt F .bf16) (Y14 : S96x64.Idx → Elt F .i8) (Y15 : S96x4.Idx → Elt F .f32) (Y16 : S768x256.Idx → Elt F .bf16) (Y17 : S768x128.Idx → Elt F .f32) (Y18 : S2x768x128.Idx → Elt F .f32) (Y19 : S768x128.Idx → Elt F .f32) (Y20 : S96x128.Idx → Elt F .f32) (Y21 : S64x8192.Idx → Elt F .f32) (Y22 : S64x128.Idx → Elt F .f32) (Y23 : S64x128.Idx → Elt F .f32) (Y24 : S8x128x16.Idx → Elt F .f32) (Y25 : S768x128.Idx → Elt F .f32)
    (hY : ∀ x, (Y1 x : BitVec 32).toNat ≤ 8192) (R : sProp 𝕄) :
        iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ ow c arg10 Y10 ∗ ow c arg11 Y11 ∗ ow c arg12 Y12 ∗ ow c arg13 Y13 ∗ ow c arg14 Y14 ∗ ow c arg15 Y15 ∗ ow c arg16 Y16 ∗ ow c arg17 Y17 ∗ ow c arg18 Y18 ∗ ow c arg19 Y19 ∗ ow c arg20 Y20 ∗ ow c arg21 Y21 ∗ ow c arg22 Y22 ∗ ow c arg23 Y23 ∗ ow c arg24 Y24 ∗ ow c arg25 Y25)
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ (∃ X, ow c arg11 X) ∗ ow c arg12 Y12 ∗ ow c arg13 Y13 ∗ ow c arg14 Y14 ∗ ow c arg15 Y15 ∗ (∃ X, ow c arg16 X) ∗ (∃ X, ow c arg17 X) ∗ (∃ X, ow c arg18 X) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X))) := by
    have hb := bodyLater c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (arg1.view.rep Y1) (arg2.view.rep Y2) (arg3.view.rep Y3) (arg4.view.rep Y4) (arg5.view.rep Y5) (arg6.view.rep Y6) (arg7.view.rep Y7) (arg8.view.rep Y8) (arg9.view.rep Y9) (arg10.view.rep Y10) (arg11.view.rep Y11) (arg12.view.rep Y12) (arg13.view.rep Y13) (arg14.view.rep Y14) (arg15.view.rep Y15) (arg16.view.rep Y16) (arg17.view.rep Y17) (arg18.view.rep Y18) (arg19.view.rep Y19) (arg20.view.rep Y20) (arg21.view.rep Y21) (arg22.view.rep Y22) (arg23.view.rep Y23) (arg24.view.rep Y24) (arg25.view.rep Y25) (chk_rep Y1 hY) (fun _ => iprop(R ∗ owr c arg1 Y1 ∗ ow c arg2 Y2 ∗ ow c arg3 Y3 ∗ ow c arg4 Y4 ∗ ow c arg5 Y5 ∗ ow c arg6 Y6 ∗ ow c arg7 Y7 ∗ ow c arg8 Y8 ∗ ow c arg9 Y9 ∗ (∃ X, ow c arg10 X) ∗ (∃ X, ow c arg11 X) ∗ ow c arg12 Y12 ∗ ow c arg13 Y13 ∗ ow c arg14 Y14 ∗ ow c arg15 Y15 ∗ (∃ X, ow c arg16 X) ∗ (∃ X, ow c arg17 X) ∗ (∃ X, ow c arg18 X) ∗ (∃ X, ow c arg19 X) ∗ (∃ X, ow c arg20 X) ∗ (∃ X, ow c arg21 X) ∗ (∃ X, ow c arg22 X) ∗ (∃ X, ow c arg23 X) ∗ (∃ X, ow c arg24 X) ∗ (∃ X, ow c arg25 X)))
    refine (show (_ : sProp 𝕄) ⊢ _ from ?_).trans hb
    iintro ⟨HR, H1, H2, H3, H4, H5, H6, H7, H8, H9, H10, H11, H12, H13, H14, H15, H16, H17, H18, H19, H20, H21, H22, H23, H24, H25⟩
    isplitl [H1]; · (iapply (Entails.of_eq (owr_pr c arg1 Y1)); iexact H1)
    isplitl [H2]; · (iapply (Entails.of_eq (ow_pt c arg2 Y2)); iexact H2)
    isplitl [H3]; · (iapply (Entails.of_eq (ow_pt c arg3 Y3)); iexact H3)
    isplitl [H4]; · (iapply (Entails.of_eq (ow_pt c arg4 Y4)); iexact H4)
    isplitl [H5]; · (iapply (Entails.of_eq (ow_pt c arg5 Y5)); iexact H5)
    isplitl [H6]; · (iapply (Entails.of_eq (ow_pt c arg6 Y6)); iexact H6)
    isplitl [H7]; · (iapply (Entails.of_eq (ow_pt c arg7 Y7)); iexact H7)
    isplitl [H8]; · (iapply (Entails.of_eq (ow_pt c arg8 Y8)); iexact H8)
    isplitl [H9]; · (iapply (Entails.of_eq (ow_pt c arg9 Y9)); iexact H9)
    isplitl [H10]; · (iapply (Entails.of_eq (ow_pt c arg10 Y10)); iexact H10)
    isplitl [H11]; · (iapply (Entails.of_eq (ow_pt c arg11 Y11)); iexact H11)
    isplitl [H12]; · (iapply (Entails.of_eq (ow_pt c arg12 Y12)); iexact H12)
    isplitl [H13]; · (iapply (Entails.of_eq (ow_pt c arg13 Y13)); iexact H13)
    isplitl [H14]; · (iapply (Entails.of_eq (ow_pt c arg14 Y14)); iexact H14)
    isplitl [H15]; · (iapply (Entails.of_eq (ow_pt c arg15 Y15)); iexact H15)
    isplitl [H16]; · (iapply (Entails.of_eq (ow_pt c arg16 Y16)); iexact H16)
    isplitl [H17]; · (iapply (Entails.of_eq (ow_pt c arg17 Y17)); iexact H17)
    isplitl [H18]; · (iapply (Entails.of_eq (ow_pt c arg18 Y18)); iexact H18)
    isplitl [H19]; · (iapply (Entails.of_eq (ow_pt c arg19 Y19)); iexact H19)
    isplitl [H20]; · (iapply (Entails.of_eq (ow_pt c arg20 Y20)); iexact H20)
    isplitl [H21]; · (iapply (Entails.of_eq (ow_pt c arg21 Y21)); iexact H21)
    isplitl [H22]; · (iapply (Entails.of_eq (ow_pt c arg22 Y22)); iexact H22)
    isplitl [H23]; · (iapply (Entails.of_eq (ow_pt c arg23 Y23)); iexact H23)
    isplitl [H24]; · (iapply (Entails.of_eq (ow_pt c arg24 Y24)); iexact H24)
    isplitl [H25]; · (iapply (Entails.of_eq (ow_pt c arg25 Y25)); iexact H25)
    iintro ⟨H1, H2, H3, H4, H5, H6, H7, H8, H9, ⟨%g10, H10⟩, ⟨%g11, H11⟩, H12, H13, H14, H15, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩⟩
    isplitl [HR]; · iexact HR
    isplitl [H1]; · (iapply (Entails.of_eq (owr_pr c arg1 Y1).symm); iexact H1)
    isplitl [H2]; · (iapply (Entails.of_eq (ow_pt c arg2 Y2).symm); iexact H2)
    isplitl [H3]; · (iapply (Entails.of_eq (ow_pt c arg3 Y3).symm); iexact H3)
    isplitl [H4]; · (iapply (Entails.of_eq (ow_pt c arg4 Y4).symm); iexact H4)
    isplitl [H5]; · (iapply (Entails.of_eq (ow_pt c arg5 Y5).symm); iexact H5)
    isplitl [H6]; · (iapply (Entails.of_eq (ow_pt c arg6 Y6).symm); iexact H6)
    isplitl [H7]; · (iapply (Entails.of_eq (ow_pt c arg7 Y7).symm); iexact H7)
    isplitl [H8]; · (iapply (Entails.of_eq (ow_pt c arg8 Y8).symm); iexact H8)
    isplitl [H9]; · (iapply (Entails.of_eq (ow_pt c arg9 Y9).symm); iexact H9)
    isplitl [H10]; · (iexists (arg10.view.read (Elt F) g10); iapply (pt_ow c arg10 g10 _ rfl); iexact H10)
    isplitl [H11]; · (iexists (arg11.view.read (Elt F) g11); iapply (pt_ow c arg11 g11 _ rfl); iexact H11)
    isplitl [H12]; · (iapply (Entails.of_eq (ow_pt c arg12 Y12).symm); iexact H12)
    isplitl [H13]; · (iapply (Entails.of_eq (ow_pt c arg13 Y13).symm); iexact H13)
    isplitl [H14]; · (iapply (Entails.of_eq (ow_pt c arg14 Y14).symm); iexact H14)
    isplitl [H15]; · (iapply (Entails.of_eq (ow_pt c arg15 Y15).symm); iexact H15)
    isplitl [H16]; · (iexists (arg16.view.read (Elt F) g16); iapply (pt_ow c arg16 g16 _ rfl); iexact H16)
    isplitl [H17]; · (iexists (arg17.view.read (Elt F) g17); iapply (pt_ow c arg17 g17 _ rfl); iexact H17)
    isplitl [H18]; · (iexists (arg18.view.read (Elt F) g18); iapply (pt_ow c arg18 g18 _ rfl); iexact H18)
    isplitl [H19]; · (iexists (arg19.view.read (Elt F) g19); iapply (pt_ow c arg19 g19 _ rfl); iexact H19)
    isplitl [H20]; · (iexists (arg20.view.read (Elt F) g20); iapply (pt_ow c arg20 g20 _ rfl); iexact H20)
    isplitl [H21]; · (iexists (arg21.view.read (Elt F) g21); iapply (pt_ow c arg21 g21 _ rfl); iexact H21)
    isplitl [H22]; · (iexists (arg22.view.read (Elt F) g22); iapply (pt_ow c arg22 g22 _ rfl); iexact H22)
    isplitl [H23]; · (iexists (arg23.view.read (Elt F) g23); iapply (pt_ow c arg23 g23 _ rfl); iexact H23)
    isplitl [H24]; · (iexists (arg24.view.read (Elt F) g24); iapply (pt_ow c arg24 g24 _ rfl); iexact H24)
    · (iexists (arg25.view.read (Elt F) g25); iapply (pt_ow c arg25 g25 _ rfl); iexact H25)

end Cert.Kernel.Own
-- ==== Proof.BitsEntry.lean ====
/-
  The program up to its one region: the buffers there, the table of lengths, the pipeline at that table, and where
  its windows are written back.
-/
module

public import proofs.«01_k».proof.Proof.Gen.Kernel.Launch
public import Idealize.ShloMosaic.Lib.Tactic
public import Idealize.ShloMosaic.Lib.Pipeline.FrameBody
public import Idealize.ShloMosaic.Lib.Pipeline.ArrRel

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The table of lengths when the region is entered (there is one device). -/
def tbl : pre0.Contents (Elt F) := fun j => V m (0 : Dev nD) (pre0.ref j)

theorem V_pre (c : Dev nD) (j : Fin pre0.K) : V m c (pre0.ref j) = tbl m j := by
  obtain rfl : c = 0 := Subsingleton.elim _ _; rfl

/-- No window's block index reads the table, so any table is admissible; the pipeline at this one. -/
abbrev adm : (p : Fin 1) → (pcfgs (F := F) p).Adm := fun _ => ⟨tbl m, trivial⟩
abbrev cfgM : Pipeline.Cfg sig Λ₀ := Pipeline.pin (pcfgs (F := F)) (adm m) 0

/-- Window `w`'s block at point `t` of its array when the region is entered. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The lengths, as the table holds them. -/
def lengths : S12.Idx → Elt F .i32 := tbl m (0 : Fin 1)

/-- The half of the table that the region hands the body, as a memref owned. -/
theorem table_eq (c : Dev nD) : (Pipeline.ΦT pre0 (tbl m) c : sProp 𝕄)
    = owns (c : Thread nD τ) (Memref.whole main_arg8) fullShare.right (lengths m) := by
  refine Eq.trans ?_ (owns_whole (c : Thread nD τ) main_arg8 fullShare.right (lengths m)).symm
  unfold Pipeline.ΦT Pipeline.prefHeld
  rw [show (Finset.univ : Finset (Fin 1)) = {(0 : Fin 1)} from by decide, bigSep_singleton]
  rfl

theorem flush0_10 (t : Fin (cfgM m).N) : ((cfgM m).win 10).flush t = true ↔ t.val % 12 = 11 :=
  (Pipeline.Window.flushOf_const cc0_transform_10 (fun _ _ => rfl) (n := 12) (by decide) rfl t : Pipeline.Window.flushOf grid0 true cc0_transform_10 t = true ↔ t.val % 12 = 11)

theorem flush0_11 (t : Fin (cfgM m).N) : ((cfgM m).win 11).flush t = true ↔ t.val % 12 = 11 :=
  (Pipeline.Window.flushOf_const cc0_transform_11 (fun _ _ => rfl) (n := 12) (by decide) rfl t : Pipeline.Window.flushOf grid0 true cc0_transform_11 t = true ↔ t.val % 12 = 11)

theorem flush0_12 (t : Fin (cfgM m).N) : ((cfgM m).win 12).flush t = true ↔ t.val % 12 = 11 :=
  (Pipeline.Window.flushOf_const cc0_transform_12 (fun _ _ => rfl) (n := 12) (by decide) rfl t : Pipeline.Window.flushOf grid0 true cc0_transform_12 t = true ↔ t.val % 12 = 11)

theorem flush0_13 (t : Fin (cfgM m).N) : ((cfgM m).win 13).flush t = true ↔ t.val % 12 = 11 :=
  (Pipeline.Window.flushOf_const cc0_transform_13 (fun _ _ => rfl) (n := 12) (by decide) rfl t : Pipeline.Window.flushOf grid0 true cc0_transform_13 t = true ↔ t.val % 12 = 11)

end Cert.Kernel.Own
-- ==== Proof.BitsRun.lean ====
/-
  The launch: what each staging buffer may hold at a grid point, the body at every point, and what the run
  leaves in the arrays.
-/
module

public import proofs.«01_k».proof.Proof.BitsVals
public import proofs.«01_k».proof.Proof.BitsEntry

@[expose] public section

set_option maxRecDepth 16384
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat Cfg Window)

variable (m : (ℓ : Loc nD τ sig) → Buf (Elt F) ℓ)

/-- What the body may leave in a staging buffer: an input is left as found, and each result about the new token
    is written at the first point and kept at the others. Nothing is said of the other two results. -/
def aft (c : Dev nD) : (w : Fin (cfgM m).W) → Fin (cfgM m).N → (Y X : ((cfgM m).win w).block.Idx → Elt F ((cfgM m).win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => X = Y
  | ⟨6, _⟩ => fun t Y X => X = Y
  | ⟨7, _⟩ => fun t Y X => X = Y
  | ⟨8, _⟩ => fun t Y X => True
  | ⟨9, _⟩ => fun t Y X => True
  | ⟨10, _⟩ => fun t Y X => (t.val = 0 → X = valKb (iblk m c 1 t) (iblk m c 3 t)) ∧ (t.val ≠ 0 → X = Y)
  | ⟨11, _⟩ => fun t Y X => (t.val = 0 → X = valKn (iblk m c 1 t)) ∧ (t.val ≠ 0 → X = Y)
  | ⟨12, _⟩ => fun t Y X => (t.val = 0 → X = valVc (iblk m c 2 t)) ∧ (t.val ≠ 0 → X = Y)
  | ⟨13, _⟩ => fun t Y X => (t.val = 0 → X = valVs (iblk m c 2 t)) ∧ (t.val ≠ 0 → X = Y)
  | ⟨k + 14, h⟩ => absurd h (by show ¬ (k + 14 < 14); omega)

/-- The first and the last grid point. -/
abbrev p0 : Fin grid0.N := (0 : Fin 12)
abbrev p11 : Fin grid0.N := (11 : Fin 12)

/-- The proof data of the launch. -/
def rdat (c : Dev nD) : RDat τ (Elt F) Unit ℕ (UR sig nD τ) ℕ (cfgM m) c where
  A := fun w => V m c (Pipeline.arrRef spec0 w)
  after := aft m c
  Φ := fun _ => iprop(Pipeline.ΦA spec0 c ∗ Pipeline.ΦT pre0 (tbl m) c)
  q := fun _ => fullShare
  owed := fun _ => 0

/-- The kernel body at point `t`, on the buffers that the pipeline calls it with. -/
abbrev bodyAt0 (t : Fin (cfgM m).N) : Prog (TpuEff nD τ sig (Elt F) Λ₀ .tc) PUnit :=
  cc0__body (grid0.coords t) (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

theorem row (t : Fin (cfgM m).N) : (defs₀ (F := F)) .tc (cfgM m).body ((cfgM m).bodyArgs t ((cfgM m).slots t)) = bodyAt0 m t := by
  unfold defs₀; rw [Defs.onTc_tc]

theorem cond1_iff : ∀ t : Fin grid0.N, k0_cond1 (grid0.coords t) = 1#1 ↔ t.val = 0 := by decide +kernel

theorem found1 (c : Dev nD) (t : Fin (cfgM m).N) (Y) (h : (rdat m c).Finds 1 t Y) : Y = iblk m c 1 t := by
  obtain ⟨d, rfl⟩ := RDat.finds_in_eq_fetched (rdat m c) 1 rfl (fun _ _ _ => rfl) (fun t Y X h => h) t Y h
  unfold RDat.fetched RDat.blockOf iblk; rfl

theorem found2 (c : Dev nD) (t : Fin (cfgM m).N) (Y) (h : (rdat m c).Finds 2 t Y) : Y = iblk m c 2 t := by
  obtain ⟨d, rfl⟩ := RDat.finds_in_eq_fetched (rdat m c) 2 rfl (fun _ _ _ => rfl) (fun t Y X h => h) t Y h
  unfold RDat.fetched RDat.blockOf iblk; rfl

theorem found3 (c : Dev nD) (t : Fin (cfgM m).N) (Y) (h : (rdat m c).Finds 3 t Y) : Y = iblk m c 3 t := by
  obtain ⟨d, rfl⟩ := RDat.finds_in_eq_fetched (rdat m c) 3 rfl (fun _ _ _ => rfl) (fun t Y X h => h) t Y h
  unfold RDat.fetched RDat.blockOf iblk; rfl

/-- The lengths the body reads are the launched ones. -/
theorem lens (hL : ∀ (c : Dev nD) x, (m ((c : Thread nD τ).loc main_arg8) x : BitVec 32).toNat ≤ 8192)
    (x : S12.Idx) : (lengths m x : BitVec 32).toNat ≤ 8192 := by
  have h : ∀ y, (V m 0 main_arg8 y : BitVec 32).toNat ≤ 8192 := by rw [V_main_arg8]; exact hL 0
  exact h _

set_option maxHeartbeats 16000000 in
theorem body_ob (c : Dev nD) (hL : ∀ (c : Dev nD) x, (m ((c : Thread nD τ).loc main_arg8) x : BitVec 32).toNat ≤ 8192) :
    (rdat m c).BodyObligation defs₀ Variants.none () Set.univ := by
  intro t Y hY
  have h1 : Y 1 = iblk m c 1 t := found1 m c t _ (hY 1)
  have h2 : Y 2 = iblk m c 2 t := found2 m c t _ (hY 2)
  have h3 : Y 3 = iblk m c 3 t := found3 m c t _ (hY 3)
  have hx := lens m hL
  rw [row, bigSep_W0, bigSep_W0]
  by_cases ht : t.val = 0
  · have hc := (cond1_iff t).mpr ht
    have hT := fun g0 g1 g2 g3 g4 g5 g6 g7 g8 g9 r => triple_restated (Q' := fun _ => iprop((rdat m c).Φ t.succ ∗ (rdat m c).owesAt () t.succ ∗ (∃ X, ⌜(rdat m c).after 0 t (Y 0) X⌝ ∗ owns (c : Thread nD τ) (((cfgM m).win 0).stage ((cfgM m).slots t 0)) fullShare X) ∗ (∃ X, ⌜(rdat m c).after 1 t (Y 1) X⌝ ∗ owns (c : Thread nD τ) (((cfgM m).win 1).stage ((cfgM m).slots t 1)) fullShare X) ∗ (∃ X, ⌜(rdat m c).after 2 t (Y 2) X⌝ ∗ owns (c : Thread nD τ) (((cfgM m).win 2).stage ((cfgM m).slots t 2)) fullShare X) ∗ (∃ X, ⌜(rdat m c).after 3 t (Y 3) X⌝ ∗ owns (c : Thread nD τ) (((cfgM m).win 3).stage ((cfgM m).slots t 3)) fullShare X) ∗ (∃ X, ⌜(rdat m c).after 4 t (Y 4) X⌝ ∗ owns (c : Thread nD τ) (((cfgM m).win 4).stage ((cfgM m).slots t 4)) fullShare X) ∗ (∃ X, ⌜(rdat m c).after 5 t (Y 5) X⌝ ∗ owns (c : Thread nD τ) (((cfgM m).win 5).stage ((cfgM m).slots t 5)) fullShare X) ∗ (∃ X, ⌜(rdat m c).after 6 t (Y 6) X⌝ ∗ owns (c : Thread nD τ) (((cfgM m).win 6).stage ((cfgM m).slots t 6)) fullShare X) ∗ (∃ X, ⌜(rdat m c).after 7 t (Y 7) X⌝ ∗ owns (c : Thread nD τ) (((cfgM m).win 7).stage ((cfgM m).slots t 7)) fullShare X) ∗ (∃ X, ⌜(rdat m c).after 8 t (Y 8) X⌝ ∗ owns (c : Thread nD τ) (((cfgM m).win 8).stage ((cfgM m).slots t 8)) fullShare X) ∗ (∃ X, ⌜(rdat m c).after 9 t (Y 9) X⌝ ∗ owns (c : Thread nD τ) (((cfgM m).win 9).stage ((cfgM m).slots t 9)) fullShare X) ∗ (∃ X, ⌜(rdat m c).after 10 t (Y 10) X⌝ ∗ owns (c : Thread nD τ) (((cfgM m).win 10).stage ((cfgM m).slots t 10)) fullShare X) ∗ (∃ X, ⌜(rdat m c).after 11 t (Y 11) X⌝ ∗ owns (c : Thread nD τ) (((cfgM m).win 11).stage ((cfgM m).slots t 11)) fullShare X) ∗ (∃ X, ⌜(rdat m c).after 12 t (Y 12) X⌝ ∗ owns (c : Thread nD τ) (((cfgM m).win 12).stage ((cfgM m).slots t 12)) fullShare X) ∗ (∃ X, ⌜(rdat m c).after 13 t (Y 13) X⌝ ∗ owns (c : Thread nD τ) (((cfgM m).win 13).stage ((cfgM m).slots t 13)) fullShare X))) (firstOwns c (grid0.coords t) hc (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (lengths m) (Y 0) (Y 1) (Y 2) (Y 3) (Y 4) (Y 5) (Y 6) (Y 7) (Y 8) (Y 9) (Y 10) (Y 11) (Y 12) (Y 13) g0 g1 g2 g3 g4 g5 g6 g7 g8 g9 hx iprop((rdat m c).owesAt () t.castSucc ∗ prngReg c r)) rfl (show (_ : sProp 𝕄) ⊢ _ from .rfl) (by
      intro _
      iintro ⟨⟨Ho, Hr⟩, HT, H0, H1, H2, H3, H4, H5, H6, H7, ⟨%X8, H8⟩, ⟨%X9, H9⟩, H10, H11, H12, H13, ⟨%Z0, S0⟩, ⟨%Z1, S1⟩, ⟨%Z2, S2⟩, ⟨%Z3, S3⟩, ⟨%Z4, S4⟩, ⟨%Z5, S5⟩, ⟨%Z6, S6⟩, ⟨%Z7, S7⟩, ⟨%Z8, S8⟩, ⟨%Z9, S9⟩⟩
      isplitl [Hr HT S0 S1 S2 S3 S4 S5 S6 S7 S8 S9]
      · iapply (Entails.of_eq (show (rdat m c).Φ t.succ = _ from (congrArg (fun P => iprop((P ∗ ∃ r, prngReg c r) ∗ Pipeline.ΦT pre0 (tbl m) c)) (scopedRest0_eq c))).symm)
        isplitr [HT]
        · isplitl [S0 S1 S2 S3 S4 S5 S6 S7 S8 S9]
          · isplitl [S0]; · (iexists _; iapply (Entails.of_eq (owns_whole _ _ _ _)); iexact S0)
            isplitl [S1]; · (iexists _; iapply (Entails.of_eq (owns_whole _ _ _ _)); iexact S1)
            isplitl [S2]; · (iexists _; iapply (Entails.of_eq (owns_whole _ _ _ _)); iexact S2)
            isplitl [S3]; · (iexists _; iapply (Entails.of_eq (owns_whole _ _ _ _)); iexact S3)
            isplitl [S4]; · (iexists _; iapply (Entails.of_eq (owns_whole _ _ _ _)); iexact S4)
            isplitl [S5]; · (iexists _; iapply (Entails.of_eq (owns_whole _ _ _ _)); iexact S5)
            isplitl [S6]; · (iexists _; iapply (Entails.of_eq (owns_whole _ _ _ _)); iexact S6)
            isplitl [S7]; · (iexists _; iapply (Entails.of_eq (owns_whole _ _ _ _)); iexact S7)
            isplitl [S8]; · (iexists _; iapply (Entails.of_eq (owns_whole _ _ _ _)); iexact S8)
            (iexists _; iapply (Entails.of_eq (owns_whole _ _ _ _)); iexact S9)
          · iexists r; iexact Hr
        · iapply (Entails.of_eq (table_eq m c).symm); iexact HT
      isplitl [Ho]; · iexact Ho
      isplitl [H0]
      · iexists (Y 0)
        isplitr; · (ipureintro; exact rfl)
        iexact H0
      isplitl [H1]
      · iexists (Y 1)
        isplitr; · (ipureintro; exact rfl)
        iexact H1
      isplitl [H2]
      · iexists (Y 2)
        isplitr; · (ipureintro; exact rfl)
        iexact H2
      isplitl [H3]
      · iexists (Y 3)
        isplitr; · (ipureintro; exact rfl)
        iexact H3
      isplitl [H4]
      · iexists (Y 4)
        isplitr; · (ipureintro; exact rfl)
        iexact H4
      isplitl [H5]
      · iexists (Y 5)
        isplitr; · (ipureintro; exact rfl)
        iexact H5
      isplitl [H6]
      · iexists (Y 6)
        isplitr; · (ipureintro; exact rfl)
        iexact H6
      isplitl [H7]
      · iexists (Y 7)
        isplitr; · (ipureintro; exact rfl)
        iexact H7
      isplitl [H8]
      · iexists X8
        isplitr; · (ipureintro; exact trivial)
        iexact H8
      isplitl [H9]
      · iexists X9
        isplitr; · (ipureintro; exact trivial)
        iexact H9
      isplitl [H10]
      · iexists (valKb (Y 1) (Y 3))
        isplitr; · (ipureintro; exact ⟨fun _ => by rw [← h1, ← h3], fun h => absurd ht h⟩)
        iexact H10
      isplitl [H11]
      · iexists (valKn (Y 1))
        isplitr; · (ipureintro; exact ⟨fun _ => by rw [← h1], fun h => absurd ht h⟩)
        iexact H11
      isplitl [H12]
      · iexists (valVc (Y 2))
        isplitr; · (ipureintro; exact ⟨fun _ => by rw [← h2], fun h => absurd ht h⟩)
        iexact H12
      · iexists (valVs (Y 2))
        isplitr; · (ipureintro; exact ⟨fun _ => by rw [← h2], fun h => absurd ht h⟩)
        iexact H13)
    iintro ⟨HΦ, Ho, H0, H1, H2, H3, H4, H5, H6, H7, H8, H9, H10, H11, H12, H13⟩
    ihave HΦ2 := (Entails.of_eq (show (rdat m c).Φ t.castSucc = _ from (congrArg (fun P => iprop((P ∗ ∃ r, prngReg c r) ∗ Pipeline.ΦT pre0 (tbl m) c)) (scopedRest0_eq c)))) $$ HΦ
    icases HΦ2 with ⟨⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩⟩, ⟨%r, Hr⟩⟩, HT⟩
    iapply (hT g0 g1 g2 g3 g4 g5 g6 g7 g8 g9 r)
    isplitl [Ho Hr]
    · isplitl [Ho]
      · iexact Ho
      · iexact Hr
    isplitl [HT]; · (iapply (Entails.of_eq (table_eq m c)); iexact HT)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [G0]; · (iapply (Entails.of_eq (owns_whole _ _ _ _).symm); iexact G0)
    isplitl [G1]; · (iapply (Entails.of_eq (owns_whole _ _ _ _).symm); iexact G1)
    isplitl [G2]; · (iapply (Entails.of_eq (owns_whole _ _ _ _).symm); iexact G2)
    isplitl [G3]; · (iapply (Entails.of_eq (owns_whole _ _ _ _).symm); iexact G3)
    isplitl [G4]; · (iapply (Entails.of_eq (owns_whole _ _ _ _).symm); iexact G4)
    isplitl [G5]; · (iapply (Entails.of_eq (owns_whole _ _ _ _).symm); iexact G5)
    isplitl [G6]; · (iapply (Entails.of_eq (owns_whole _ _ _ _).symm); iexact G6)
    isplitl [G7]; · (iapply (Entails.of_eq (owns_whole _ _ _ _).symm); iexact G7)
    isplitl [G8]; · (iapply (Entails.of_eq (owns_whole _ _ _ _).symm); iexact G8)
    (iapply (Entails.of_eq (owns_whole _ _ _ _).symm); iexact G9)
  · have hc : ¬ k0_cond1 (grid0.coords t) = 1#1 := fun h => ht ((cond1_iff t).mp h)
    have hT := fun g0 g1 g2 g3 g4 g5 g6 g7 g8 g9 r => triple_restated (Q' := fun _ => iprop((rdat m c).Φ t.succ ∗ (rdat m c).owesAt () t.succ ∗ (∃ X, ⌜(rdat m c).after 0 t (Y 0) X⌝ ∗ owns (c : Thread nD τ) (((cfgM m).win 0).stage ((cfgM m).slots t 0)) fullShare X) ∗ (∃ X, ⌜(rdat m c).after 1 t (Y 1) X⌝ ∗ owns (c : Thread nD τ) (((cfgM m).win 1).stage ((cfgM m).slots t 1)) fullShare X) ∗ (∃ X, ⌜(rdat m c).after 2 t (Y 2) X⌝ ∗ owns (c : Thread nD τ) (((cfgM m).win 2).stage ((cfgM m).slots t 2)) fullShare X) ∗ (∃ X, ⌜(rdat m c).after 3 t (Y 3) X⌝ ∗ owns (c : Thread nD τ) (((cfgM m).win 3).stage ((cfgM m).slots t 3)) fullShare X) ∗ (∃ X, ⌜(rdat m c).after 4 t (Y 4) X⌝ ∗ owns (c : Thread nD τ) (((cfgM m).win 4).stage ((cfgM m).slots t 4)) fullShare X) ∗ (∃ X, ⌜(rdat m c).after 5 t (Y 5) X⌝ ∗ owns (c : Thread nD τ) (((cfgM m).win 5).stage ((cfgM m).slots t 5)) fullShare X) ∗ (∃ X, ⌜(rdat m c).after 6 t (Y 6) X⌝ ∗ owns (c : Thread nD τ) (((cfgM m).win 6).stage ((cfgM m).slots t 6)) fullShare X) ∗ (∃ X, ⌜(rdat m c).after 7 t (Y 7) X⌝ ∗ owns (c : Thread nD τ) (((cfgM m).win 7).stage ((cfgM m).slots t 7)) fullShare X) ∗ (∃ X, ⌜(rdat m c).after 8 t (Y 8) X⌝ ∗ owns (c : Thread nD τ) (((cfgM m).win 8).stage ((cfgM m).slots t 8)) fullShare X) ∗ (∃ X, ⌜(rdat m c).after 9 t (Y 9) X⌝ ∗ owns (c : Thread nD τ) (((cfgM m).win 9).stage ((cfgM m).slots t 9)) fullShare X) ∗ (∃ X, ⌜(rdat m c).after 10 t (Y 10) X⌝ ∗ owns (c : Thread nD τ) (((cfgM m).win 10).stage ((cfgM m).slots t 10)) fullShare X) ∗ (∃ X, ⌜(rdat m c).after 11 t (Y 11) X⌝ ∗ owns (c : Thread nD τ) (((cfgM m).win 11).stage ((cfgM m).slots t 11)) fullShare X) ∗ (∃ X, ⌜(rdat m c).after 12 t (Y 12) X⌝ ∗ owns (c : Thread nD τ) (((cfgM m).win 12).stage ((cfgM m).slots t 12)) fullShare X) ∗ (∃ X, ⌜(rdat m c).after 13 t (Y 13) X⌝ ∗ owns (c : Thread nD τ) (((cfgM m).win 13).stage ((cfgM m).slots t 13)) fullShare X))) (laterOwns c (grid0.coords t) hc (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (lengths m) (Y 0) (Y 1) (Y 2) (Y 3) (Y 4) (Y 5) (Y 6) (Y 7) (Y 8) (Y 9) (Y 10) (Y 11) (Y 12) (Y 13) g0 g1 g2 g3 g4 g5 g6 g7 g8 g9 hx iprop((rdat m c).owesAt () t.castSucc ∗ prngReg c r)) rfl (show (_ : sProp 𝕄) ⊢ _ from .rfl) (by
      intro _
      iintro ⟨⟨Ho, Hr⟩, HT, H0, H1, H2, H3, H4, H5, H6, H7, ⟨%X8, H8⟩, ⟨%X9, H9⟩, H10, H11, H12, H13, ⟨%Z0, S0⟩, ⟨%Z1, S1⟩, ⟨%Z2, S2⟩, ⟨%Z3, S3⟩, ⟨%Z4, S4⟩, ⟨%Z5, S5⟩, ⟨%Z6, S6⟩, ⟨%Z7, S7⟩, ⟨%Z8, S8⟩, ⟨%Z9, S9⟩⟩
      isplitl [Hr HT S0 S1 S2 S3 S4 S5 S6 S7 S8 S9]
      · iapply (Entails.of_eq (show (rdat m c).Φ t.succ = _ from (congrArg (fun P => iprop((P ∗ ∃ r, prngReg c r) ∗ Pipeline.ΦT pre0 (tbl m) c)) (scopedRest0_eq c))).symm)
        isplitr [HT]
        · isplitl [S0 S1 S2 S3 S4 S5 S6 S7 S8 S9]
          · isplitl [S0]; · (iexists _; iapply (Entails.of_eq (owns_whole _ _ _ _)); iexact S0)
            isplitl [S1]; · (iexists _; iapply (Entails.of_eq (owns_whole _ _ _ _)); iexact S1)
            isplitl [S2]; · (iexists _; iapply (Entails.of_eq (owns_whole _ _ _ _)); iexact S2)
            isplitl [S3]; · (iexists _; iapply (Entails.of_eq (owns_whole _ _ _ _)); iexact S3)
            isplitl [S4]; · (iexists _; iapply (Entails.of_eq (owns_whole _ _ _ _)); iexact S4)
            isplitl [S5]; · (iexists _; iapply (Entails.of_eq (owns_whole _ _ _ _)); iexact S5)
            isplitl [S6]; · (iexists _; iapply (Entails.of_eq (owns_whole _ _ _ _)); iexact S6)
            isplitl [S7]; · (iexists _; iapply (Entails.of_eq (owns_whole _ _ _ _)); iexact S7)
            isplitl [S8]; · (iexists _; iapply (Entails.of_eq (owns_whole _ _ _ _)); iexact S8)
            (iexists _; iapply (Entails.of_eq (owns_whole _ _ _ _)); iexact S9)
          · iexists r; iexact Hr
        · iapply (Entails.of_eq (table_eq m c).symm); iexact HT
      isplitl [Ho]; · iexact Ho
      isplitl [H0]
      · iexists (Y 0)
        isplitr; · (ipureintro; exact rfl)
        iexact H0
      isplitl [H1]
      · iexists (Y 1)
        isplitr; · (ipureintro; exact rfl)
        iexact H1
      isplitl [H2]
      · iexists (Y 2)
        isplitr; · (ipureintro; exact rfl)
        iexact H2
      isplitl [H3]
      · iexists (Y 3)
        isplitr; · (ipureintro; exact rfl)
        iexact H3
      isplitl [H4]
      · iexists (Y 4)
        isplitr; · (ipureintro; exact rfl)
        iexact H4
      isplitl [H5]
      · iexists (Y 5)
        isplitr; · (ipureintro; exact rfl)
        iexact H5
      isplitl [H6]
      · iexists (Y 6)
        isplitr; · (ipureintro; exact rfl)
        iexact H6
      isplitl [H7]
      · iexists (Y 7)
        isplitr; · (ipureintro; exact rfl)
        iexact H7
      isplitl [H8]
      · iexists X8
        isplitr; · (ipureintro; exact trivial)
        iexact H8
      isplitl [H9]
      · iexists X9
        isplitr; · (ipureintro; exact trivial)
        iexact H9
      isplitl [H10]
      · iexists (Y 10)
        isplitr; · (ipureintro; exact ⟨fun h => absurd h ht, fun _ => rfl⟩)
        iexact H10
      isplitl [H11]
      · iexists (Y 11)
        isplitr; · (ipureintro; exact ⟨fun h => absurd h ht, fun _ => rfl⟩)
        iexact H11
      isplitl [H12]
      · iexists (Y 12)
        isplitr; · (ipureintro; exact ⟨fun h => absurd h ht, fun _ => rfl⟩)
        iexact H12
      · iexists (Y 13)
        isplitr; · (ipureintro; exact ⟨fun h => absurd h ht, fun _ => rfl⟩)
        iexact H13)
    iintro ⟨HΦ, Ho, H0, H1, H2, H3, H4, H5, H6, H7, H8, H9, H10, H11, H12, H13⟩
    ihave HΦ2 := (Entails.of_eq (show (rdat m c).Φ t.castSucc = _ from (congrArg (fun P => iprop((P ∗ ∃ r, prngReg c r) ∗ Pipeline.ΦT pre0 (tbl m) c)) (scopedRest0_eq c)))) $$ HΦ
    icases HΦ2 with ⟨⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩⟩, ⟨%r, Hr⟩⟩, HT⟩
    iapply (hT g0 g1 g2 g3 g4 g5 g6 g7 g8 g9 r)
    isplitl [Ho Hr]
    · isplitl [Ho]
      · iexact Ho
      · iexact Hr
    isplitl [HT]; · (iapply (Entails.of_eq (table_eq m c)); iexact HT)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [G0]; · (iapply (Entails.of_eq (owns_whole _ _ _ _).symm); iexact G0)
    isplitl [G1]; · (iapply (Entails.of_eq (owns_whole _ _ _ _).symm); iexact G1)
    isplitl [G2]; · (iapply (Entails.of_eq (owns_whole _ _ _ _).symm); iexact G2)
    isplitl [G3]; · (iapply (Entails.of_eq (owns_whole _ _ _ _).symm); iexact G3)
    isplitl [G4]; · (iapply (Entails.of_eq (owns_whole _ _ _ _).symm); iexact G4)
    isplitl [G5]; · (iapply (Entails.of_eq (owns_whole _ _ _ _).symm); iexact G5)
    isplitl [G6]; · (iapply (Entails.of_eq (owns_whole _ _ _ _).symm); iexact G6)
    isplitl [G7]; · (iapply (Entails.of_eq (owns_whole _ _ _ _).symm); iexact G7)
    isplitl [G8]; · (iapply (Entails.of_eq (owns_whole _ _ _ _).symm); iexact G8)
    (iapply (Entails.of_eq (owns_whole _ _ _ _).symm); iexact G9)

theorem left10 (c : Dev nD) : ∀ (n : Nat) (t : Fin (cfgM m).N) (ht : t.val = n) (X), (rdat m c).Leaves 10 t X → X = valKb (iblk m c 1 p0) (iblk m c 3 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 10).fetch t = false := rfl
    rcases ((rdat m c).finds_of_pos hf (by omega) Y).mp hY with h1 | h1
    · have h2 := (flush0_10 m _).mp h1
      exfalso
      have h3 : (t.val - 1) % 12 = 11 := h2
      omega
    · exact left10 c n _ (by show t.val - 1 = n; omega) Y h1

theorem whole10 : ((cfgM m).win 10).WholeAt p11 := by
  refine ⟨(flush0_10 m p11).mpr rfl, fun t ht => ?_, fun a => ⟨?_, ?_⟩⟩
  · have h := (flush0_10 m t).mp ht
    have hN : t.val < 12 := t.isLt
    exact Fin.ext (show t.val = 11 by omega)
  · revert a; show ∀ a : Fin 2, cc0_transform_10 (grid0.coords p11) a = 0; decide
  · revert a; show ∀ a : Fin 2, spec0_10.size a = spec0_10.shape.size a; decide

theorem left11 (c : Dev nD) : ∀ (n : Nat) (t : Fin (cfgM m).N) (ht : t.val = n) (X), (rdat m c).Leaves 11 t X → X = valKn (iblk m c 1 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 11).fetch t = false := rfl
    rcases ((rdat m c).finds_of_pos hf (by omega) Y).mp hY with h1 | h1
    · have h2 := (flush0_11 m _).mp h1
      exfalso
      have h3 : (t.val - 1) % 12 = 11 := h2
      omega
    · exact left11 c n _ (by show t.val - 1 = n; omega) Y h1

theorem whole11 : ((cfgM m).win 11).WholeAt p11 := by
  refine ⟨(flush0_11 m p11).mpr rfl, fun t ht => ?_, fun a => ⟨?_, ?_⟩⟩
  · have h := (flush0_11 m t).mp ht
    have hN : t.val < 12 := t.isLt
    exact Fin.ext (show t.val = 11 by omega)
  · revert a; show ∀ a : Fin 2, cc0_transform_11 (grid0.coords p11) a = 0; decide
  · revert a; show ∀ a : Fin 2, spec0_11.size a = spec0_11.shape.size a; decide

theorem left12 (c : Dev nD) : ∀ (n : Nat) (t : Fin (cfgM m).N) (ht : t.val = n) (X), (rdat m c).Leaves 12 t X → X = valVc (iblk m c 2 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 12).fetch t = false := rfl
    rcases ((rdat m c).finds_of_pos hf (by omega) Y).mp hY with h1 | h1
    · have h2 := (flush0_12 m _).mp h1
      exfalso
      have h3 : (t.val - 1) % 12 = 11 := h2
      omega
    · exact left12 c n _ (by show t.val - 1 = n; omega) Y h1

theorem whole12 : ((cfgM m).win 12).WholeAt p11 := by
  refine ⟨(flush0_12 m p11).mpr rfl, fun t ht => ?_, fun a => ⟨?_, ?_⟩⟩
  · have h := (flush0_12 m t).mp ht
    have hN : t.val < 12 := t.isLt
    exact Fin.ext (show t.val = 11 by omega)
  · revert a; show ∀ a : Fin 2, cc0_transform_12 (grid0.coords p11) a = 0; decide
  · revert a; show ∀ a : Fin 2, spec0_12.size a = spec0_12.shape.size a; decide

theorem left13 (c : Dev nD) : ∀ (n : Nat) (t : Fin (cfgM m).N) (ht : t.val = n) (X), (rdat m c).Leaves 13 t X → X = valVs (iblk m c 2 p0)
  | 0, t, ht, X, ⟨Y, _, h⟩ => by
    obtain rfl : t = p0 := Fin.ext ht
    exact h.1 rfl
  | n + 1, t, ht, X, ⟨Y, hY, h⟩ => by
    have hN : t.val < 12 := t.isLt
    have e : X = Y := h.2 (by omega)
    rw [e]
    have hf : ((cfgM m).win 13).fetch t = false := rfl
    rcases ((rdat m c).finds_of_pos hf (by omega) Y).mp hY with h1 | h1
    · have h2 := (flush0_13 m _).mp h1
      exfalso
      have h3 : (t.val - 1) % 12 = 11 := h2
      omega
    · exact left13 c n _ (by show t.val - 1 = n; omega) Y h1

theorem whole13 : ((cfgM m).win 13).WholeAt p11 := by
  refine ⟨(flush0_13 m p11).mpr rfl, fun t ht => ?_, fun a => ⟨?_, ?_⟩⟩
  · have h := (flush0_13 m t).mp ht
    have hN : t.val < 12 := t.isLt
    exact Fin.ext (show t.val = 11 by omega)
  · revert a; show ∀ a : Fin 2, cc0_transform_13 (grid0.coords p11) a = 0; decide
  · revert a; show ∀ a : Fin 2, spec0_13.size a = spec0_13.shape.size a; decide

/-- What the run leaves: the arguments as launched and the four results about the new token. -/
theorem run (g : Dev nD → PrngReg) (hL : ∀ (c : Dev nD) x, (m ((c : Thread nD τ).loc main_arg8) x : BitVec 32).toNat ≤ 8192) :
    θ_run defs (onTc (τ := τ) (main (F := F))) ⟨m, fun _ => 0, g⟩ (fun r => (∀ c : Dev nD,
      (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8))
      ∧ r.2.mem ((c : Thread nD τ).loc main_v7_2) = (valKb (iblk m c 1 p0) (iblk m c 3 p0) : S96x32.Idx → Elt F .i8)
      ∧ r.2.mem ((c : Thread nD τ).loc main_v7_3) = (valKn (iblk m c 1 p0) : S96x1.Idx → Elt F .bf16)
      ∧ r.2.mem ((c : Thread nD τ).loc main_v7_4) = (valVc (iblk m c 2 p0) : S96x64.Idx → Elt F .i8)
      ∧ r.2.mem ((c : Thread nD τ).loc main_v7_5) = (valVs (iblk m c 2 p0) : S96x4.Idx → Elt F .f32)) ∧ r.2.sem = fun _ => 0) := by
  refine RDat.θ_run_frameP pcfgs (adm m) 0 Gen.launch0 defs₀ Variants.none (rdat m) m g main (fun c => body_ob m c hL)
    (fun c w => by unfold RDat.share; split <;> rfl) (fun _ _ => rfl) (V m) (hmain m) (fun _ _ => rfl) (fun c k => V_pre m c k) (fun _ _ => rfl) _ ?_
  rintro r ⟨h, hs⟩
  refine ⟨fun c => ⟨⟨((h c).2 main_arg0 (Pipeline.mem_restRefs_of (win := spec0) main_arg0 (by decide) (by decide))).trans (V_main_arg0 m c),
    ((h c).2 main_arg1 (Pipeline.mem_restRefs_of (win := spec0) main_arg1 (by decide) (by decide))).trans (V_main_arg1 m c),
    ((h c).2 main_arg2 (Pipeline.mem_restRefs_of (win := spec0) main_arg2 (by decide) (by decide))).trans (V_main_arg2 m c),
    (RDat.FramePost.arr_in h c 3 rfl).trans (V_main_arg3 m c),
    ((h c).2 main_arg4 (Pipeline.mem_restRefs_of (win := spec0) main_arg4 (by decide) (by decide))).trans (V_main_arg4 m c),
    ((h c).2 main_arg5 (Pipeline.mem_restRefs_of (win := spec0) main_arg5 (by decide) (by decide))).trans (V_main_arg5 m c),
    ((h c).2 main_arg6 (Pipeline.mem_restRefs_of (win := spec0) main_arg6 (by decide) (by decide))).trans (V_main_arg6 m c),
    ((h c).2 main_arg7 (Pipeline.mem_restRefs_of (win := spec0) main_arg7 (by decide) (by decide))).trans (V_main_arg7 m c),
    ((h c).2 main_arg8 (Pipeline.mem_restRefs_of (win := spec0) main_arg8 (by decide) (by decide))).trans (V_main_arg8 m c)⟩, ?_, ?_, ?_, ?_⟩, hs⟩
  · obtain ⟨X, hX, hj⟩ := RDat.ArrAt.emb_eq_of_wholeAt ((h c).1 10) (whole10 m)
    rw [← left10 m c 11 p11 rfl X hX]
    funext j
    exact hj j
  · obtain ⟨X, hX, hj⟩ := RDat.ArrAt.emb_eq_of_wholeAt ((h c).1 11) (whole11 m)
    rw [← left11 m c 11 p11 rfl X hX]
    funext j
    exact hj j
  · obtain ⟨X, hX, hj⟩ := RDat.ArrAt.emb_eq_of_wholeAt ((h c).1 12) (whole12 m)
    rw [← left12 m c 11 p11 rfl X hX]
    funext j
    exact hj j
  · obtain ⟨X, hX, hj⟩ := RDat.ArrAt.emb_eq_of_wholeAt ((h c).1 13) (whole13 m)
    rw [← left13 m c 11 p11 rfl X hX]
    funext j
    exact hj j

end Cert.Kernel.Own
-- ==== Proof.Blocks.lean ====
/-
  The blocks the kernel's first grid point reads of the new keys, the new values and the projection, and what the
  precondition says of the lengths.
-/
module

public import proofs.«01_k».proof.Proof.Run
public import proofs.«01_k».proof.Proof.Gen.Pre_in_cache
public import Idealize.ShloMosaic.Lib.ReduceAll
public import Idealize.ShloMosaic.Lib.StableHlo.Run

@[expose] public section

set_option maxRecDepth 16384

noncomputable section

open Idealize.ShloMosaic in
/-- The precondition bounds every length. -/
theorem Cert.Proof.lengths_le (x : (⟨1, ![12]⟩ : Shape).Idx → BitVec 32)
    (h : Host.reduce IntOp.andi (andi (cmpi .sge x (broadcastInDim Cert.Pre_in_cache.S12 ![] Cert.Pre_in_cache.Gen.facts.bcast_S_S12 (constantI Cert.Pre_in_cache.S_ 32 0#32)))
        (cmpi .sle x (broadcastInDim Cert.Pre_in_cache.S12 ![] Cert.Pre_in_cache.Gen.facts.bcast_S_S12 (constantI Cert.Pre_in_cache.S_ 32 8192#32)))) (constantI Cert.Pre_in_cache.S_ 1 1#1)
        Cert.Pre_in_cache.Gen.facts.reducesTo_S12_S_d0 Cert.Pre_in_cache.Gen.facts.h_S_ = fun _ => 1#1) (i : (⟨1, ![12]⟩ : Shape).Idx) : (x i).toNat ≤ 8192 := by
  haveI : Subsingleton Cert.Pre_in_cache.S_.Idx := ⟨fun a b => funext fun k => k.elim0⟩
  have e := Host.reduce_andi_all _ _ _ _ (Shape.Idx.first (by decide)) (congrFun h _) i
  have e' : IntOp.andi (IntOp.cmpi .sge (x i) 0#32) (IntOp.cmpi .sle (x i) 8192#32) = 1#1 := e
  generalize x i = y at e'
  unfold IntOp.andi IntOp.cmpi at e'
  have key : ∀ (a b : Bool), BitVec.ofBool a &&& BitVec.ofBool b = 1#1 → a = true ∧ b = true := by decide
  obtain ⟨h1, h2⟩ := key _ _ e'
  simp only [BitVec.sle, decide_eq_true_eq] at h1 h2
  have h3 : (0#32 : BitVec 32).toInt = 0 := rfl
  have h4 : (8192#32 : BitVec 32).toInt = 8192 := rfl
  rw [h3] at h1
  rw [h4] at h2
  have := y.isLt
  rw [BitVec.toInt_eq_toNat_cond] at h1 h2
  split at h1 <;> omega

namespace Cert.KernelIdeal.Own

open Cert.KernelIdeal Cert.KernelIdeal.Gen
open Idealize.ShloMosaic Idealize.ShloMosaic.TcCoe

variable {F : FTy → Type} [FloatOps F]
variable (m : (ℓ : Loc nD τ sig) → Buf (Elt F) ℓ)

/-- The keys arrive reshaped to rows. -/
theorem V_main_v1 (c : Dev nD) : V m c main_v1 = (shapeCast S96x128 (m ((c : Thread nD τ).loc main_arg1) : S12x1x8x128.Idx → Elt F .bf16) shapeCasts_S12x1x8x128_S96x128 : S96x128.Idx → Elt F .bf16) := by
  show StableHlo.after hostOps0 _ _ = _
  unfold hostOps0
  after_results_simp
  rfl

/-- The values too. -/
theorem V_main_v2 (c : Dev nD) : V m c main_v2 = (shapeCast S96x128 (m ((c : Thread nD τ).loc main_arg2) : S12x1x8x128.Idx → Elt F .bf16) shapeCasts_S12x1x8x128_S96x128 : S96x128.Idx → Elt F .bf16) := by
  show StableHlo.after hostOps0 _ _ = _
  unfold hostOps0
  after_results_simp
  rfl

theorem iblk_keys (c : Dev nD) : (iblk m c 1 p0 : S96x128.Idx → Elt F .bf16) = shapeCast S96x128 (m ((c : Thread nD τ).loc main_arg1) : S12x1x8x128.Idx → Elt F .bf16) shapeCasts_S12x1x8x128_S96x128 := by
  refine Eq.trans ?_ (V_main_v1 m c)
  funext j
  show V m c main_v1 ((((cfgM m).win 1).rect p0).emb j) = V m c main_v1 j
  congr 1
  funext a
  apply Fin.ext
  exact ((cfgM m).win 1).rect_emb_val_of_index_zero p0 a (by revert a; show ∀ a : Fin 2, cc0_transform_1 (grid0.coords p0) a = 0; decide) j

theorem iblk_values (c : Dev nD) : (iblk m c 2 p0 : S96x128.Idx → Elt F .bf16) = shapeCast S96x128 (m ((c : Thread nD τ).loc main_arg2) : S12x1x8x128.Idx → Elt F .bf16) shapeCasts_S12x1x8x128_S96x128 := by
  refine Eq.trans ?_ (V_main_v2 m c)
  funext j
  show V m c main_v2 ((((cfgM m).win 2).rect p0).emb j) = V m c main_v2 j
  congr 1
  funext a
  apply Fin.ext
  exact ((cfgM m).win 2).rect_emb_val_of_index_zero p0 a (by revert a; show ∀ a : Fin 2, cc0_transform_2 (grid0.coords p0) a = 0; decide) j

theorem iblk_proj (c : Dev nD) : (iblk m c 3 p0 : S128x256.Idx → Elt F .bf16) = (m ((c : Thread nD τ).loc main_arg3) : S128x256.Idx → Elt F .bf16) := by
  refine Eq.trans ?_ (V_main_arg3 m c)
  funext j
  show V m c main_arg3 ((((cfgM m).win 3).rect p0).emb j) = V m c main_arg3 j
  congr 1
  funext a
  apply Fin.ext
  exact ((cfgM m).win 3).rect_emb_val_of_index_zero p0 a (by revert a; show ∀ a : Fin 2, cc0_transform_3 (grid0.coords p0) a = 0; decide) j

end Cert.KernelIdeal.Own
-- ==== Proof.Norm.lean ====
/-
  The new keys' norms: what the kernel stores is the reference's row of norms.
-/
module

public import proofs.«01_k».proof.Proof.Vals
public import proofs.«01_k».proof.Proof.Gen.ReferenceIdeal.Run
public import Idealize.ShloMosaic.Lib.Pointwise
public import Idealize.ShloMosaic.Lib.KernelVsHost

@[expose] public section

set_option maxRecDepth 16384

noncomputable section

namespace Cert.KernelIdeal.Own

open Cert.KernelIdeal Cert.KernelIdeal.Gen
open Idealize.ShloMosaic Idealize.ShloMosaic.TcCoe

/-- The norms of the new keys, row by row. -/
theorem valKn_eq (x : S12x1x8x128.Idx → Elt Ideal .bf16) :
    valKn (F := Ideal) (shapeCast S96x128 x shapeCasts_S12x1x8x128_S96x128)
      = shapeCast Cert.ReferenceIdeal.S96x1 (truncf (F := Ideal) .bf16 (Host.sqrt (Host.reduceAdd (mulf (extf .f32 x Cert.ReferenceIdeal.Gen.facts.bitsLt_bf16_f32) (extf .f32 x Cert.ReferenceIdeal.Gen.facts.bitsLt_bf16_f32)) (constant Cert.ReferenceIdeal.S_ .f32 0x00000000#32) Cert.ReferenceIdeal.Gen.facts.reducesTo_S12x1x8x128_S12x1x8_d3 Cert.ReferenceIdeal.Gen.facts.h_S_)) Cert.ReferenceIdeal.Gen.facts.bitsLt_bf16_f32) Cert.ReferenceIdeal.Gen.facts.shapeCasts_S12x1x8_S96x1 := by
  funext j
  pointwise [valKn, k0_pay13, k0_pay4]

end Cert.KernelIdeal.Own
-- ==== Proof.Group.lean ====
/-
  The group a lane of the values belongs to, and the masks of the sketch's packing, read at an index.
-/
module

public import proofs.«01_k».proof.Proof.Vals
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

/-- The kernel's group mask: lane `l` is in group `l / 32`. -/
abbrev grp : IVec S96x128 32 := k0_pay17 (iota Kind.tc S96x128 32 [1] iota_S96x128_d1_w32) 32#32 k0_pay15 k0_pay16 1#32 0#32

theorem grp_apply (j : S96x128.Idx) : grp j = BitVec.ofNat 32 ((j 1).val / 32) := by
  have h : ∀ l : Fin 128, grp (ix2 0 l) = BitVec.ofNat 32 (l.val / 32) := by
    decide +kernel
  exact h (j 1)

/-- The integer weights that pack the sketch's bits: plane `c / 32` goes to its bit of byte `c % 32`. -/
abbrev wts : IVec S256x32 32 :=
  select k0_pay7 (shli k0_pay8 (select (andi (cmpi .ne k0_pay10 k0_pay11) (cmpi .ne (remsi (iota Kind.tc S256x32 32 [0] iota_S256x32_d0_w32) (broadcast S256x32 32#32)) (broadcast S256x32 0#32)))
    (subi k0_pay9 (broadcast S256x32 1#32)) k0_pay9)) (broadcast S256x32 0#32)

theorem wts_apply (c : Fin 256) (j : Fin 32) : wts (ix2 c j) = if c.val % 32 = j.val then BitVec.ofNat 32 (2 ^ (c.val / 32)) else 0#32 := by
  have h : ∀ (c : Fin 256) (j : Fin 32), wts (ix2 c j) = if c.val % 32 = j.val then BitVec.ofNat 32 (2 ^ (c.val / 32)) else 0#32 := by
    decide +kernel
  exact h c j

end Cert.KernelIdeal.Own
-- ==== Proof.Scale.lean ====
/-
  The new values' scales: one per token, head and group of 32 lanes.
-/
module

public import proofs.«01_k».proof.Proof.Vals
public import proofs.«01_k».proof.Proof.Group
public import proofs.«01_k».proof.Proof.Gen.ReferenceIdeal.Run
public import Idealize.ShloMosaic.Lib.Pointwise
public import Idealize.ShloMosaic.Lib.KernelVsHost

@[expose] public section

set_option maxRecDepth 16384

noncomputable section

namespace Cert.KernelIdeal.Own

open Cert.KernelIdeal Cert.KernelIdeal.Gen
open Idealize.ShloMosaic Idealize.ShloMosaic.TcCoe

/-- The largest of the nonnegative entries of one group, whether the other lanes are masked to zero or left out. -/
theorem fold_group (b : EReal) (f : Fin 128 → EReal) (hf : ∀ k, 0 ≤ f k) (g : Nat) (hg : g < 4) :
    (Finset.univ : Finset (Fin 128)).fold max b (fun k => if k.val / 32 = g then f k else 0)
      = (Finset.univ : Finset (Fin 32)).fold max b (fun k => f ⟨g * 32 + k.val, by omega⟩) := by
  apply le_antisymm
  · rw [Finset.fold_max_le]
    refine ⟨(Finset.le_fold_max _).2 (Or.inl le_rfl), fun k _ => ?_⟩
    split
    · rename_i h
      refine (Finset.le_fold_max _).2 (Or.inr ⟨⟨k.val % 32, by omega⟩, Finset.mem_univ _, le_of_eq ?_⟩)
      congr 1; apply Fin.ext; show k.val = g * 32 + k.val % 32; omega
    · exact (Finset.le_fold_max _).2 (Or.inr ⟨⟨0, by omega⟩, Finset.mem_univ _, hf _⟩)
  · rw [Finset.fold_max_le]
    refine ⟨(Finset.le_fold_max _).2 (Or.inl le_rfl), fun k _ => ?_⟩
    refine (Finset.le_fold_max _).2 (Or.inr ⟨⟨g * 32 + k.val, by omega⟩, Finset.mem_univ _, ?_⟩)
    rw [if_pos (by show (g * 32 + k.val) / 32 = g; omega)]

/-- The reference's scale, of the values as they came. -/
abbrev refScale (x : S12x1x8x128.Idx → Elt Ideal .bf16) : Cert.ReferenceIdeal.S12x1x8x4.Idx → Elt Ideal .f32 :=
  select (cmpf .oeq (Host.reduce FloatOps.maximumf (Host.absf (shapeCast Cert.ReferenceIdeal.S12x1x8x4x32 (extf .f32 x Cert.ReferenceIdeal.Gen.facts.bitsLt_bf16_f32) Cert.ReferenceIdeal.Gen.facts.shapeCasts_S12x1x8x128_S12x1x8x4x32)) (constant (F := Ideal) Cert.ReferenceIdeal.S_ .f32 0xFF800000#32) Cert.ReferenceIdeal.Gen.facts.reducesTo_S12x1x8x4x32_S12x1x8x4_d4 Cert.ReferenceIdeal.Gen.facts.h_S_) (broadcastInDim Cert.ReferenceIdeal.S12x1x8x4 ![] Cert.ReferenceIdeal.Gen.facts.bcast_S_S12x1x8x4 (constant Cert.ReferenceIdeal.S_ .f32 0x00000000#32))) (broadcastInDim Cert.ReferenceIdeal.S12x1x8x4 ![] Cert.ReferenceIdeal.Gen.facts.bcast_S_S12x1x8x4 (id (constant (F := Ideal) Cert.ReferenceIdeal.S_ .f32 0x3F800000#32))) (Host.divf (Host.reduce FloatOps.maximumf (Host.absf (shapeCast Cert.ReferenceIdeal.S12x1x8x4x32 (extf .f32 x Cert.ReferenceIdeal.Gen.facts.bitsLt_bf16_f32) Cert.ReferenceIdeal.Gen.facts.shapeCasts_S12x1x8x128_S12x1x8x4x32)) (constant (F := Ideal) Cert.ReferenceIdeal.S_ .f32 0xFF800000#32) Cert.ReferenceIdeal.Gen.facts.reducesTo_S12x1x8x4x32_S12x1x8x4_d4 Cert.ReferenceIdeal.Gen.facts.h_S_) (broadcastInDim Cert.ReferenceIdeal.S12x1x8x4 ![] Cert.ReferenceIdeal.Gen.facts.bcast_S_S12x1x8x4 (constant Cert.ReferenceIdeal.S_ .f32 0x40E00000#32)))

/-- The scale made of a group's largest magnitude. -/
def mkScale (a : EReal) : EReal := if a = 0 then 1 else Ideal.div a (Ideal.ofBits .f32 0x40E00000#32)

/-- The largest magnitude of a group of 32 entries. -/
def maxMag (f : Fin 32 → EReal) : EReal :=
  (Finset.univ : Finset (Fin 32)).fold max (Ideal.ofBits .f32 0xFF800000#32) (fun k => max (f k) (-(f k)))

theorem refScale_apply (x : S12x1x8x128.Idx → Elt Ideal .bf16) (b : Fin 12) (h : Fin 8) (g : Fin 4) :
    refScale x (ix4 b 0 h g) = mkScale (maxMag fun k => x (ix4 b 0 h ⟨g.val * 32 + k.val, by omega⟩)) := by
  pointwise [refScale, mkScale, maxMag, id]
  rfl

theorem mag_nonneg (a : EReal) : 0 ≤ max a (-a) := by
  rcases le_total 0 a with h | h
  · exact le_max_of_le_left h
  · exact le_max_of_le_right (EReal.neg_nonneg.2 h)

theorem cmp_group (k : Fin 128) (g : Nat) (hg : g < 4) (a : EReal) :
    (Scalar.select (IntOp.cmpi .eq (BitVec.ofNat 32 (k.val / 32)) (BitVec.ofNat 32 g)) a 0 : EReal) = if k.val / 32 = g then a else 0 := by
  have h : (BitVec.ofNat 32 (k.val / 32) = BitVec.ofNat 32 g) ↔ k.val / 32 = g := by
    constructor
    · intro e
      have := congrArg BitVec.toNat e
      simp only [BitVec.toNat_ofNat] at this
      omega
    · intro e; rw [e]
  unfold Scalar.select IntOp.cmpi
  by_cases e : k.val / 32 = g
  · rw [if_pos e, e]; simp
  · have h' : (BitVec.ofNat 32 (k.val / 32) == BitVec.ofNat 32 g) = false := by rw [beq_eq_false_iff_ne]; exact fun q => e (h.1 q)
    rw [if_neg e, h']; rfl

/-- A masked row's largest magnitude is its group's. -/
theorem fold_mask (v : FVec Ideal S96x128 .f32) (r : Fin 96) (g : Nat) (hg : g < 4) :
    (Finset.univ : Finset (Fin 128)).fold max (Ideal.ofBits .f32 0xFF800000#32)
      (fun k => (Scalar.select (IntOp.cmpi .eq (BitVec.ofNat 32 (k.val / 32)) (BitVec.ofNat 32 g)) (FloatOps.absf (v (ix2 r k))) 0 : EReal))
      = maxMag fun k => v (ix2 r ⟨g * 32 + k.val, by omega⟩) := by
  refine Eq.trans ?_ (fold_group _ (fun k => max (v (ix2 r k)) (- v (ix2 r k))) (fun k => mag_nonneg _) g hg)
  congr 1
  funext k
  exact cmp_group k g hg _

theorem pay18_apply (v : FVec Ideal S96x128 .f32) (r : Fin 96) :
    k0_pay18 v (iota Kind.tc S96x128 32 [1] iota_S96x128_d1_w32) 32#32 k0_pay15 k0_pay16 1#32 0#32 (ix2 r 0)
      = mkScale (maxMag fun k => v (ix2 r ⟨0 * 32 + k.val, by omega⟩)) := by
  rw [← fold_mask v r 0 (by omega)]
  unfold k0_pay18
  rw [show k0_pay17 (iota Kind.tc S96x128 32 [1] iota_S96x128_d1_w32) 32#32 k0_pay15 k0_pay16 1#32 0#32 = _ from funext grp_apply]
  pointwise [mkScale]

theorem pay20_apply (v : FVec Ideal S96x128 .f32) (r : Fin 96) :
    k0_pay20 v (iota Kind.tc S96x128 32 [1] iota_S96x128_d1_w32) 32#32 k0_pay15 k0_pay16 1#32 0#32 (ix2 r 0)
      = mkScale (maxMag fun k => v (ix2 r ⟨1 * 32 + k.val, by omega⟩)) := by
  rw [← fold_mask v r 1 (by omega)]
  unfold k0_pay20
  rw [show k0_pay17 (iota Kind.tc S96x128 32 [1] iota_S96x128_d1_w32) 32#32 k0_pay15 k0_pay16 1#32 0#32 = _ from funext grp_apply]
  pointwise [mkScale]

theorem pay21_apply (v : FVec Ideal S96x128 .f32) (r : Fin 96) :
    k0_pay21 v grp (ix2 r 0)
      = mkScale (maxMag fun k => v (ix2 r ⟨2 * 32 + k.val, by omega⟩)) := by
  rw [← fold_mask v r 2 (by omega)]
  unfold k0_pay21
  rw [show grp = _ from funext grp_apply]
  pointwise [mkScale]

theorem pay22_apply (v : FVec Ideal S96x128 .f32) (r : Fin 96) :
    k0_pay22 v grp (ix2 r 0)
      = mkScale (maxMag fun k => v (ix2 r ⟨3 * 32 + k.val, by omega⟩)) := by
  rw [← fold_mask v r 3 (by omega)]
  unfold k0_pay22
  rw [show grp = _ from funext grp_apply]
  pointwise [mkScale]

/-- The values as the kernel reads them: row `8b + h` is head `h` of token `b`. -/
theorem pay14_apply (x : S12x1x8x128.Idx → Elt Ideal .bf16) (r : Fin 96) (l : Fin 128) :
    k0_pay14 (F := Ideal) (shapeCast S96x128 x shapeCasts_S12x1x8x128_S96x128) (ix2 r l)
      = x (ix4 ⟨r.val / 8, by omega⟩ 0 ⟨r.val % 8, by omega⟩ l) := by
  unfold k0_pay14
  pointwise

/-- The four columns of scales. -/
theorem cols_apply (v : FVec Ideal S96x128 .f32) (r : Fin 96) (g : Fin 4) :
    k0_pay24 v grp (k0_pay18 v (iota Kind.tc S96x128 32 [1] iota_S96x128_d1_w32) 32#32 k0_pay15 k0_pay16 1#32 0#32) (k0_pay20 v (iota Kind.tc S96x128 32 [1] iota_S96x128_d1_w32) 32#32 k0_pay15 k0_pay16 1#32 0#32) (ix2 r g)
      = mkScale (maxMag fun k => v (ix2 r ⟨g.val * 32 + k.val, by omega⟩)) := by
  have a0 := pay18_apply v r
  have a1 := pay20_apply v r
  have a2 := pay21_apply v r
  have a3 := pay22_apply v r
  generalize hf : (fun g : Fin 4 => mkScale (maxMag fun k => v (ix2 r ⟨g.val * 32 + k.val, by omega⟩))) = f
  have b0 := a0.trans (congrFun hf 0)
  have b1 := a1.trans (congrFun hf 1)
  have b2 := a2.trans (congrFun hf 2)
  have b3 := a3.trans (congrFun hf 3)
  refine Eq.trans ?_ (congrFun hf g).symm
  clear hf a0 a1 a2 a3
  unfold k0_pay24
  generalize k0_pay18 v (iota Kind.tc S96x128 32 [1] iota_S96x128_d1_w32) 32#32 k0_pay15 k0_pay16 1#32 0#32 = p0 at *
  generalize k0_pay20 v (iota Kind.tc S96x128 32 [1] iota_S96x128_d1_w32) 32#32 k0_pay15 k0_pay16 1#32 0#32 = p1 at *
  generalize k0_pay21 v grp = p2 at *
  generalize k0_pay22 v grp = p3 at *
  match g with
  | ⟨0, _⟩ => exact Eq.trans (by pointwise) b0
  | ⟨1, _⟩ => exact Eq.trans (by pointwise) b1
  | ⟨2, _⟩ => exact Eq.trans (by pointwise) b2
  | ⟨3, _⟩ => exact Eq.trans (by pointwise) b3

/-- The scales as the kernel stores them: one column per group. -/
theorem valVs_eq (x : S12x1x8x128.Idx → Elt Ideal .bf16) :
    valVs (F := Ideal) (shapeCast S96x128 x shapeCasts_S12x1x8x128_S96x128)
      = shapeCast Cert.ReferenceIdeal.S96x4 (refScale x) Cert.ReferenceIdeal.Gen.facts.shapeCasts_S12x1x8x4_S96x4 := by
  funext j
  obtain ⟨r, g, rfl⟩ : ∃ (r : Fin 96) (g : Fin 4), j = ix2 r g := ⟨j 0, j 1, by pointwise⟩
  refine Eq.trans (cols_apply _ r g) (Eq.trans (congrArg mkScale (congrArg maxMag (funext fun k => pay14_apply x r _)))
    (Eq.trans (refScale_apply x ⟨r.val / 8, by omega⟩ ⟨r.val % 8, by omega⟩ g).symm ?_))
  generalize refScale x = y
  pointwise

/-- The scale each lane of the new values is divided by. -/
theorem row_apply (v : FVec Ideal S96x128 .f32) (r : Fin 96) (l : Fin 128) :
    k0_pay23 v grp (k0_pay19 v (iota Kind.tc S96x128 32 [1] iota_S96x128_d1_w32) 32#32 k0_pay15 k0_pay16 1#32 0#32) (k0_pay20 v (iota Kind.tc S96x128 32 [1] iota_S96x128_d1_w32) 32#32 k0_pay15 k0_pay16 1#32 0#32) 1#32 (ix2 r l)
      = mkScale (maxMag fun k => v (ix2 r ⟨(l.val / 32) * 32 + k.val, by omega⟩)) := by
  have hg : grp (ix2 r l) = BitVec.ofNat 32 (l.val / 32) := grp_apply (ix2 r l)
  have a0 := pay18_apply v r
  have a1 := pay20_apply v r
  have a2 := pay21_apply v r
  have a3 := pay22_apply v r
  generalize hf : (fun g : Fin 4 => mkScale (maxMag fun k => v (ix2 r ⟨g.val * 32 + k.val, by omega⟩))) = f
  have b0 := a0.trans (congrFun hf 0)
  have b1 := a1.trans (congrFun hf 1)
  have b2 := a2.trans (congrFun hf 2)
  have b3 := a3.trans (congrFun hf 3)
  refine Eq.trans ?_ (congrFun hf ⟨l.val / 32, by omega⟩).symm
  clear hf a0 a1 a2 a3
  unfold k0_pay23 k0_pay19
  generalize k0_pay18 v (iota Kind.tc S96x128 32 [1] iota_S96x128_d1_w32) 32#32 k0_pay15 k0_pay16 1#32 0#32 = p0 at *
  generalize k0_pay20 v (iota Kind.tc S96x128 32 [1] iota_S96x128_d1_w32) 32#32 k0_pay15 k0_pay16 1#32 0#32 = p1 at *
  generalize k0_pay21 v grp = p2 at *
  generalize k0_pay22 v grp = p3 at *
  pointwise
  rw [show k0_pay17 (iota Kind.tc S96x128 32 [1] iota_S96x128_d1_w32) 32#32 k0_pay15 k0_pay16 1#32 0#32 (ix2 r l) = _ from hg, hg, b0, b1, b2, b3]
  have hl : l.val / 32 < 4 := by omega
  generalize hq : (⟨l.val / 32, hl⟩ : Fin 4) = q
  have hv : l.val / 32 = q.val := by rw [← hq]
  rw [hv]
  match q with
  | ⟨0, _⟩ => rfl
  | ⟨1, _⟩ => rfl
  | ⟨2, _⟩ => rfl
  | ⟨3, _⟩ => rfl

end Cert.KernelIdeal.Own
-- ==== Proof.Codes.lean ====
/-
  The new values' four-bit codes, two to a byte.
-/
module

public import proofs.«01_k».proof.Proof.Scale

@[expose] public section

set_option maxRecDepth 16384

noncomputable section

namespace Cert.KernelIdeal.Own

open Cert.KernelIdeal Cert.KernelIdeal.Gen
open Idealize.ShloMosaic Idealize.ShloMosaic.TcCoe

/-- One value's code, given its group's scale. -/
def mkCode (a s : EReal) : BitVec 32 :=
  FloatOps.fptosi (F := Ideal) (φ := .f32) 32 (min (Ideal.ofBits .f32 0x40E00000#32) (max (Ideal.ofBits .f32 0xC0E00000#32) (Ideal.liftRound Ideal.roundHalfEven (Ideal.div a s))))

/-- The reference's codes, one word each. -/
abbrev refCodes (x : S12x1x8x128.Idx → Elt Ideal .bf16) : Cert.ReferenceIdeal.S12x1x8x128.Idx → BitVec 32 :=
  shapeCast _ (fptosi 32 (minimumf (broadcastInDim Cert.ReferenceIdeal.S12x1x8x4x32 ![] Cert.ReferenceIdeal.Gen.facts.bcast_S_S12x1x8x4x32 (id (constant (F := Ideal) Cert.ReferenceIdeal.S_ .f32 0x40E00000#32))) (maximumf (broadcastInDim Cert.ReferenceIdeal.S12x1x8x4x32 ![] Cert.ReferenceIdeal.Gen.facts.bcast_S_S12x1x8x4x32 (id (constant (F := Ideal) Cert.ReferenceIdeal.S_ .f32 0xC0E00000#32))) (Host.roundeven (Host.divf (shapeCast Cert.ReferenceIdeal.S12x1x8x4x32 (extf .f32 x Cert.ReferenceIdeal.Gen.facts.bitsLt_bf16_f32) Cert.ReferenceIdeal.Gen.facts.shapeCasts_S12x1x8x128_S12x1x8x4x32) (broadcastInDim Cert.ReferenceIdeal.S12x1x8x4x32 ![0, 1, 2, 3, 4] Cert.ReferenceIdeal.Gen.facts.bcast_S12x1x8x4x1_S12x1x8x4x32_0_1_2_3_4 (broadcastInDim Cert.ReferenceIdeal.S12x1x8x4x1 ![0, 1, 2, 3] Cert.ReferenceIdeal.Gen.facts.bcast_S12x1x8x4_S12x1x8x4x1_0_1_2_3 (refScale x)))))))) Cert.ReferenceIdeal.Gen.facts.shapeCasts_S12x1x8x4x32_S12x1x8x128

theorem refCodes_apply (x : S12x1x8x128.Idx → Elt Ideal .bf16) (b : Fin 12) (h : Fin 8) (l : Fin 128) :
    refCodes x (ix4 b 0 h l) = mkCode (x (ix4 b 0 h l)) (refScale x (ix4 b 0 h ⟨l.val / 32, by omega⟩)) := by
  unfold refCodes
  generalize refScale x = y
  pointwise [mkCode, id]

/-- The packed codes as the kernel stores them. -/
theorem valVc_eq (x : S12x1x8x128.Idx → Elt Ideal .bf16) :
    valVc (F := Ideal) (shapeCast S96x128 x shapeCasts_S12x1x8x128_S96x128)
      = shapeCast Cert.ReferenceIdeal.S96x64 (trunci 8 (ori (andi (extractStridedSlice Cert.ReferenceIdeal.S12x1x8x64 ![0, 0, 0, 0] (refCodes x) Cert.ReferenceIdeal.Gen.facts.slices_S12x1x8x128_S12x1x8x64_0_0_0_0) (broadcastInDim Cert.ReferenceIdeal.S12x1x8x64 ![] Cert.ReferenceIdeal.Gen.facts.bcast_S_S12x1x8x64 (constantI Cert.ReferenceIdeal.S_ 32 15#32))) (Host.shli (andi (extractStridedSlice Cert.ReferenceIdeal.S12x1x8x64 ![0, 0, 0, 64] (refCodes x) Cert.ReferenceIdeal.Gen.facts.slices_S12x1x8x128_S12x1x8x64_0_0_0_64) (broadcastInDim Cert.ReferenceIdeal.S12x1x8x64 ![] Cert.ReferenceIdeal.Gen.facts.bcast_S_S12x1x8x64 (constantI Cert.ReferenceIdeal.S_ 32 15#32))) (broadcastInDim Cert.ReferenceIdeal.S12x1x8x64 ![] Cert.ReferenceIdeal.Gen.facts.bcast_S_S12x1x8x64 (constantI Cert.ReferenceIdeal.S_ 32 4#32)))) Cert.ReferenceIdeal.Gen.facts.natLt_8_32)
          Cert.ReferenceIdeal.Gen.facts.shapeCasts_S12x1x8x64_S96x64 := by
  funext j
  obtain ⟨r, l, rfl⟩ : ∃ (r : Fin 96) (l : Fin 64), j = ix2 r l := ⟨j 0, j 1, by pointwise⟩
  have hrow := row_apply (k0_pay14 (F := Ideal) (shapeCast S96x128 x shapeCasts_S12x1x8x128_S96x128)) r
  have hv := pay14_apply x r
  have hr : ∀ l : Fin 128, refCodes x (ix4 ⟨r.val / 8, by omega⟩ 0 ⟨r.val % 8, by omega⟩ l) =
    mkCode (x (ix4 ⟨r.val / 8, by omega⟩ 0 ⟨r.val % 8, by omega⟩ l)) (mkScale (maxMag fun k => x (ix4 ⟨r.val / 8, by omega⟩ 0 ⟨r.val % 8, by omega⟩ ⟨l.val / 32 * 32 + k.val, by omega⟩))) :=
    fun l => (refCodes_apply x _ _ l).trans (congrArg (mkCode _) (refScale_apply x _ _ _))
  generalize refCodes x = y at hr ⊢
  unfold valVc k0_pay26 k0_pay25
  generalize k0_pay14 (F := Ideal) (shapeCast S96x128 x shapeCasts_S12x1x8x128_S96x128) = v at *
  have hs := fun l => (hrow l).trans (congrArg mkScale (congrArg maxMag (funext fun k => hv _)))
  generalize k0_pay23 v _ _ _ _ = s at *
  pointwise
  rw [hs, hs, hv, hv, hr, hr]
  rfl

end Cert.KernelIdeal.Own
-- ==== Proof.Sketch.lean ====
/-
  The new keys' one-bit sketch: eight bits to a byte, one from each plane of 32 projections.
-/
module

public import proofs.«01_k».proof.Proof.Vals
public import proofs.«01_k».proof.Proof.Group
public import proofs.«01_k».proof.Proof.Gen.ReferenceIdeal.Run
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

/-- The reference's bits, one word each. -/
abbrev refBits (x : S12x1x8x128.Idx → Elt Ideal .bf16) (P : S128x256.Idx → Elt Ideal .bf16) : Cert.ReferenceIdeal.S12x1x8x8x32.Idx → BitVec 32 :=
  shapeCast _ (extui 32 (cmpf .oge (Host.dotGeneral (F := Ideal) (φ₁ := .bf16) (φ₂ := .bf16) Cert.ReferenceIdeal.dot_S12x1x8x128_S128x256_S12x1x8x256_3_0_012_1_n_n none x P) (broadcastInDim Cert.ReferenceIdeal.S12x1x8x256 ![] Cert.ReferenceIdeal.Gen.facts.bcast_S_S12x1x8x256 (constant Cert.ReferenceIdeal.S_ .f32 0x00000000#32))) Cert.ReferenceIdeal.Gen.facts.natLt_1_32) Cert.ReferenceIdeal.Gen.facts.shapeCasts_S12x1x8x256_S12x1x8x8x32

/-- One bit of the sketch: whether a projection is at least zero. -/
def mkBit (K P : Fin 128 → EReal) : BitVec 1 := Ideal.cmp .oge (∑ k, K k * P k) 0

theorem refBits_apply (x : S12x1x8x128.Idx → Elt Ideal .bf16) (P : S128x256.Idx → Elt Ideal .bf16) (b : Fin 12) (h : Fin 8) (p : Fin 8) (j : Fin 32) :
    refBits x P (ix5 b 0 h p j) = (mkBit (fun k => x (ix4 b 0 h k)) (fun k => P (ix2 k ⟨p.val * 32 + j.val, by omega⟩))).setWidth 32 := by
  pointwise [refBits, mkBit]

theorem bits_apply (x : S12x1x8x128.Idx → Elt Ideal .bf16) (P : S128x256.Idx → Elt Ideal .bf16) (r : Fin 96) (c : Fin 256) :
    k0_pay6 (F := Ideal) P (shapeCast S96x128 x shapeCasts_S12x1x8x128_S96x128) (ix2 r c)
      = (((((mkBit (fun k => x (ix4 ⟨r.val / 8, by omega⟩ 0 ⟨r.val % 8, by omega⟩ k)) (fun k => P (ix2 k c))).setWidth 32).toInt : ℝ)) : EReal) := by
  unfold k0_pay6 k0_pay5 k0_pay4
  pointwise [mkBit]
  rfl

/-- Eight bits weighed by powers of two are the eight bits set one by one. -/
theorem pack_eight : ∀ b0 b1 b2 b3 b4 b5 b6 b7 : BitVec 1,
    BitVec.setWidth 8 (BitVec.ofNat 32 (b0.toNat * 1 + b1.toNat * 2 + b2.toNat * 4 + b3.toNat * 8 + b4.toNat * 16 + b5.toNat * 32 + b6.toNat * 64 + b7.toNat * 128))
      = BitVec.setWidth 8 (IntOp.addi (IntOp.addi (IntOp.addi (IntOp.addi (IntOp.addi (IntOp.addi (IntOp.addi (b0.setWidth 32) (IntOp.shli .host (b1.setWidth 32) 1#32))
          (IntOp.shli .host (b2.setWidth 32) 2#32)) (IntOp.shli .host (b3.setWidth 32) 3#32)) (IntOp.shli .host (b4.setWidth 32) 4#32)) (IntOp.shli .host (b5.setWidth 32) 5#32))
          (IntOp.shli .host (b6.setWidth 32) 6#32)) (IntOp.shli .host (b7.setWidth 32) 7#32)) := by
  decide +kernel

/-- A small whole number converts to its word. -/
theorem fptosi_nat (n : Nat) (h : n < 2 ^ 31) : Ideal.fptosi 32 (((n : ℝ)) : EReal) = BitVec.ofNat 32 n := by
  unfold Ideal.fptosi
  rw [Ideal.toIntClamped_coe, if_pos (Nat.cast_nonneg n), Int.floor_natCast]
  rw [min_eq_right (by norm_num; omega), max_eq_right (by norm_num)]
  simp

/-- The weighted sum of 256 bits, of which column `l` keeps eight. -/
theorem sum_planes (β : Fin 256 → BitVec 1) (l : Fin 32) :
    (∑ c : Fin 256, (β c).toNat * (if c.val % 32 = l.val then 2 ^ (c.val / 32) else 0))
      = ∑ p : Fin 8, (β ⟨p.val * 32 + l.val, by omega⟩).toNat * 2 ^ p.val := by
  rw [← (finProdFinEquiv (m := 8) (n := 32)).sum_comp, Fintype.sum_prod_type]
  refine Finset.sum_congr rfl fun p _ => ?_
  rw [Finset.sum_eq_single l]
  · have e : (finProdFinEquiv (m := 8) (n := 32)) (p, l) = ⟨p.val * 32 + l.val, by omega⟩ := Fin.ext (by show l.val + 32 * p.val = p.val * 32 + l.val; omega)
    rw [e]
    dsimp only
    rw [if_pos (by omega), show (p.val * 32 + l.val) / 32 = p.val by omega]
  · intro k _ hk
    have e : ((finProdFinEquiv (m := 8) (n := 32)) (p, k)).val = p.val * 32 + k.val := by show k.val + 32 * p.val = p.val * 32 + k.val; omega
    rw [e, if_neg (by intro q; apply hk; apply Fin.ext; omega), mul_zero]
  · intro h; exact absurd (Finset.mem_univ _) h

theorem toInt_bit (b : BitVec 1) : (b.setWidth 32).toInt = (b.toNat : Int) := by
  revert b; decide

/-- One column's weighted sum, as the kernel forms it. -/
theorem sum_wts (β : Fin 256 → BitVec 1) (l : Fin 32) (w : S256x32.Idx → BitVec 32)
    (hw : ∀ (c : Fin 256) (j : Fin 32), w (ix2 c j) = if c.val % 32 = j.val then BitVec.ofNat 32 (2 ^ (c.val / 32)) else 0#32) :
    (∑ c : Fin 256, ((((((β c).setWidth 32).toInt : ℝ)) : EReal) * ((((w (ix2 c l)).toInt : ℝ)) : EReal)))
      = (((∑ c : Fin 256, (β c).toNat * (if c.val % 32 = l.val then 2 ^ (c.val / 32) else 0) : Nat) : ℝ) : EReal) := by
  have h : ∀ c : Fin 256, ((((((β c).setWidth 32).toInt : ℝ)) : EReal) * ((((w (ix2 c l)).toInt : ℝ)) : EReal))
      = ((((β c).toNat * (if c.val % 32 = l.val then 2 ^ (c.val / 32) else 0) : Nat) : ℝ) : EReal) := by
    intro c
    have e : (w (ix2 c l)).toInt = ((if c.val % 32 = l.val then 2 ^ (c.val / 32) else 0 : Nat) : Int) := by
      rw [hw]
      have hp : ∀ q : Fin 8, (BitVec.ofNat 32 (2 ^ q.val)).toInt = ((2 ^ q.val : Nat) : Int) := by decide
      split
      · exact hp ⟨c.val / 32, by omega⟩
      · rfl
    rw [toInt_bit, e, ← EReal.coe_mul]
    push_cast
    rfl
  rw [Finset.sum_congr rfl fun c _ => h c]
  push_cast
  rfl

/-- A column's eight bits, converted and cut to a byte. -/
theorem pack_col (γ : Fin 8 → BitVec 1) :
    BitVec.setWidth 8 (Ideal.fptosi 32 (((∑ p : Fin 8, (γ p).toNat * 2 ^ p.val : Nat) : ℝ) : EReal))
      = BitVec.setWidth 8 (IntOp.addi (IntOp.addi (IntOp.addi (IntOp.addi (IntOp.addi (IntOp.addi (IntOp.addi ((γ 0).setWidth 32) (IntOp.shli .host ((γ 1).setWidth 32) 1#32))
          (IntOp.shli .host ((γ 2).setWidth 32) 2#32)) (IntOp.shli .host ((γ 3).setWidth 32) 3#32)) (IntOp.shli .host ((γ 4).setWidth 32) 4#32)) (IntOp.shli .host ((γ 5).setWidth 32) 5#32))
          (IntOp.shli .host ((γ 6).setWidth 32) 6#32)) (IntOp.shli .host ((γ 7).setWidth 32) 7#32)) := by
  have e : (∑ p : Fin 8, (γ p).toNat * 2 ^ p.val : Nat) = (γ 0).toNat * 1 + (γ 1).toNat * 2 + (γ 2).toNat * 4 + (γ 3).toNat * 8 + (γ 4).toNat * 16 + (γ 5).toNat * 32 + (γ 6).toNat * 64 + (γ 7).toNat * 128 := by
    rw [Fin.sum_univ_eight]; rfl
  have hb : ∀ p, (γ p).toNat ≤ 1 := fun p => by have := (γ p).isLt; omega
  rw [e, fptosi_nat _ (by have := hb 0; have := hb 1; have := hb 2; have := hb 3; have := hb 4; have := hb 5; have := hb 6; have := hb 7; omega)]
  exact pack_eight _ _ _ _ _ _ _ _

/-- The packed sketch as the kernel stores it. -/
theorem valKb_eq (x : S12x1x8x128.Idx → Elt Ideal .bf16) (P : S128x256.Idx → Elt Ideal .bf16) :
    valKb (F := Ideal) (shapeCast S96x128 x shapeCasts_S12x1x8x128_S96x128) P
      = shapeCast Cert.ReferenceIdeal.S96x32 (trunci 8 (addi (addi (addi (addi (addi (addi (addi (shapeCast _ (extractStridedSlice Cert.ReferenceIdeal.S12x1x8x1x32 ![0, 0, 0, 0, 0] (refBits x P) Cert.ReferenceIdeal.Gen.facts.slices_S12x1x8x8x32_S12x1x8x1x32_0_0_0_0_0) Cert.ReferenceIdeal.Gen.facts.shapeCasts_S12x1x8x1x32_S12x1x8x32) (Host.shli (shapeCast _ (extractStridedSlice Cert.ReferenceIdeal.S12x1x8x1x32 ![0, 0, 0, 1, 0] (refBits x P) Cert.ReferenceIdeal.Gen.facts.slices_S12x1x8x8x32_S12x1x8x1x32_0_0_0_1_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 1#32)))) (Host.shli (shapeCast _ (extractStridedSlice Cert.ReferenceIdeal.S12x1x8x1x32 ![0, 0, 0, 2, 0] (refBits x P) Cert.ReferenceIdeal.Gen.facts.slices_S12x1x8x8x32_S12x1x8x1x32_0_0_0_2_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 2#32)))) (Host.shli (shapeCast _ (extractStridedSlice Cert.ReferenceIdeal.S12x1x8x1x32 ![0, 0, 0, 3, 0] (refBits x P) Cert.ReferenceIdeal.Gen.facts.slices_S12x1x8x8x32_S12x1x8x1x32_0_0_0_3_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 3#32)))) (Host.shli (shapeCast _ (extractStridedSlice Cert.ReferenceIdeal.S12x1x8x1x32 ![0, 0, 0, 4, 0] (refBits x P) Cert.ReferenceIdeal.Gen.facts.slices_S12x1x8x8x32_S12x1x8x1x32_0_0_0_4_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 4#32)))) (Host.shli (shapeCast _ (extractStridedSlice Cert.ReferenceIdeal.S12x1x8x1x32 ![0, 0, 0, 5, 0] (refBits x P) Cert.ReferenceIdeal.Gen.facts.slices_S12x1x8x8x32_S12x1x8x1x32_0_0_0_5_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 5#32)))) (Host.shli (shapeCast _ (extractStridedSlice Cert.ReferenceIdeal.S12x1x8x1x32 ![0, 0, 0, 6, 0] (refBits x P) Cert.ReferenceIdeal.Gen.facts.slices_S12x1x8x8x32_S12x1x8x1x32_0_0_0_6_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 6#32)))) (Host.shli (shapeCast _ (extractStridedSlice Cert.ReferenceIdeal.S12x1x8x1x32 ![0, 0, 0, 7, 0] (refBits x P) Cert.ReferenceIdeal.Gen.facts.slices_S12x1x8x8x32_S12x1x8x1x32_0_0_0_7_0) Cert.ReferenceIdeal.Gen.facts.shapeCasts_S12x1x8x1x32_S12x1x8x32) (broadcastInDim Cert.ReferenceIdeal.S12x1x8x32 ![] Cert.ReferenceIdeal.Gen.facts.bcast_S_S12x1x8x32 (constantI Cert.ReferenceIdeal.S_ 32 7#32)))) Cert.ReferenceIdeal.Gen.facts.natLt_8_32) Cert.ReferenceIdeal.Gen.facts.shapeCasts_S12x1x8x32_S96x32 := by
  funext j
  obtain ⟨r, l, rfl⟩ : ∃ (r : Fin 96) (l : Fin 32), j = ix2 r l := ⟨j 0, j 1, by pointwise⟩
  have hb := bits_apply x P r
  have hr := refBits_apply x P ⟨r.val / 8, by omega⟩ ⟨r.val % 8, by omega⟩
  have hw := wts_apply
  generalize refBits x P = y at hr ⊢
  unfold valKb
  generalize k0_pay6 (F := Ideal) P (shapeCast S96x128 x shapeCasts_S12x1x8x128_S96x128) = u at *
  unfold k0_pay12
  unfold wts at hw
  generalize select k0_pay7 _ _ = w at *
  pointwise
  rw [hr, hr, hr, hr, hr, hr, hr, hr]
  have hsum : (∑ c, u (ix2 r c) * FloatOps.sitofp (F := Ideal) FTy.f32 (w (ix2 c l)) : EReal) = _ :=
    (Finset.sum_congr rfl fun c _ => congrArg (fun z : EReal => z * ((((w (ix2 c l)).toInt : ℝ)) : EReal)) (hb c)).trans (sum_wts (fun c => mkBit (fun k => x (ix4 ⟨r.val / 8, by omega⟩ 0 ⟨r.val % 8, by omega⟩ k)) (fun k => P (ix2 k c))) l w hw)
  refine Eq.trans (congrArg (fun z => BitVec.setWidth 8 (Ideal.fptosi 32 z)) hsum) ?_
  rw [sum_planes]
  exact pack_col (fun p => mkBit (fun k => x (ix4 ⟨r.val / 8, by omega⟩ 0 ⟨r.val % 8, by omega⟩ k)) (fun k => P (ix2 k ⟨p.val * 32 + l.val, by omega⟩)))

end Cert.KernelIdeal.Own
-- ==== Proof.Undo.lean ====
/-
  The scale of a row of projected queries and its inverse: powers of two, built up by the same comparisons, whose
  product is one.
-/
module

public import proofs.«01_k».proof.Proof.Query

@[expose] public section

set_option maxRecDepth 16384

noncomputable section

namespace Cert.KernelIdeal.Own

open Cert.KernelIdeal Cert.KernelIdeal.Gen
open Idealize.ShloMosaic Idealize.ShloMosaic.TcCoe

/-- A number and its inverse. -/
def Undo (u d : EReal) : Prop := ∃ r : ℝ, r ≠ 0 ∧ u = (r : EReal) ∧ d = ((r⁻¹ : ℝ) : EReal)

theorem Undo.mul {u d a b : EReal} : Undo u d → Undo a b → Undo (u * a) (d * b) := by
  rintro ⟨r, hr, rfl, rfl⟩ ⟨s, hs, rfl, rfl⟩
  refine ⟨r * s, mul_ne_zero hr hs, (EReal.coe_mul _ _).symm, ?_⟩
  rw [← EReal.coe_mul, mul_inv]

/-- The word of a power of two. -/
theorem ofBits_pow (n : Fin 256) (h0 : n.val ≠ 0) (h1 : n.val ≠ 255) :
    Ideal.ofBits .f32 (BitVec.ofNat 32 (n.val * 2 ^ 23)) = (((2 : ℝ) ^ ((n.val : Int) - 127) : ℝ) : EReal) := by
  have e1 : ∀ n : Fin 256, (BitVec.ofNat 32 (n.val * 2 ^ 23)).extractLsb' (8 + 23) 1 = 0#1 := by decide +kernel
  have e2 : ∀ n : Fin 256, ((BitVec.ofNat 32 (n.val * 2 ^ 23)).extractLsb' 23 8).toNat = n.val := by decide +kernel
  have e3 : ∀ n : Fin 256, ((BitVec.ofNat 32 (n.val * 2 ^ 23)).extractLsb' 0 23).toNat = 0 := by decide +kernel
  show Ideal.ieee 8 23 _ = _
  unfold Ideal.ieee
  rw [e1 n, e2 n, e3 n]
  dsimp only
  rw [if_neg (by omega), if_neg h0]
  congr 1
  have e : ((n.val : Int) - (2 ^ (8 - 1) - 1) - (23 : Nat)) = ((n.val : Int) - 127) + (-23) := by norm_num; ring
  rw [e, zpow_add₀ (by norm_num)]
  norm_num
  ring

theorem undo_words (n k : Fin 256) (a b : BitVec 32) (ha : a = BitVec.ofNat 32 (n.val * 2 ^ 23)) (hb : b = BitVec.ofNat 32 (k.val * 2 ^ 23))
    (h0 : n.val ≠ 0) (h : n.val + k.val = 254) (hk : k.val ≠ 0) :
    Undo (Ideal.ofBits .f32 a) (Ideal.ofBits .f32 b) := by
  rw [ha, hb, ofBits_pow n h0 (by omega), ofBits_pow k hk (by omega)]
  refine ⟨_, zpow_ne_zero _ (by norm_num), rfl, ?_⟩
  rw [← zpow_neg]
  congr 2
  omega

/-- Two columns, inverse row by row. -/
def Undoes (u d : FVec Ideal S768x1 .f32) : Prop := ∀ x, Undo (u x) (d x)

theorem Undoes.step {u d : FVec Ideal S768x1 .f32} (h : Undoes u d) (c : IVec S768x1 1) (a b : Ideal .f32) (k : Undo a b) :
    Undoes (select c (mulf u (broadcast S768x1 a)) u) (select c (mulf d (broadcast S768x1 b)) d) := by
  intro x
  show Undo (if c x = 1#1 then u x * a else u x) (if c x = 1#1 then d x * b else d x)
  split
  · exact (h x).mul k
  · exact h x

/-- The scale that the kernel divides by. -/
def valDown (P : Vec Ideal S128x256 .bf16) (X : S12x5120.Idx → Elt Ideal .bf16) : FVec Ideal S768x1 .f32 :=
  have v852 : FVec Ideal S768x1 .f32 := k0_pay101 (F := Ideal) (mid22 P X) (mid24 P X) (mid25 P X) bodyFirst.sl.cst_326
  have v854 : IVec S768x1 1 := mid29 P X
  have v863 : FVec Ideal S768x1 .f32 := select v854 (mulf v852 (broadcast S768x1 (Scalar.ofBits .f32 0x43800000#32 : Ideal .f32))) v852
  have v874 : FVec Ideal S768x1 .f32 := select (k0_pay104 (mid26 P X) v854 bodyFirst.sl.cst_342) (mulf v863 (broadcast S768x1 (Scalar.ofBits .f32 0x41800000#32 : Ideal .f32))) v863
  have v885 : FVec Ideal S768x1 .f32 := select (k0_pay106 (mid26 P X) v854 bodyFirst.sl.cst_342) (mulf v874 (broadcast S768x1 (Scalar.ofBits .f32 0x40800000#32 : Ideal .f32))) v874
  select (k0_pay107 (mid26 P X) v854 bodyFirst.sl.cst_342) (mulf v885 (broadcast S768x1 (Scalar.ofBits .f32 0x40000000#32 : Ideal .f32))) v885

theorem valN_eq (P : Vec Ideal S128x256 .bf16) (X : S12x5120.Idx → Elt Ideal .bf16) :
    valN P X = truncf .bf16 (mulf (valP P X) (broadcastTo S768x256 (valDown P X) broadcasts_S768x1_S768x256)) bitsLt_bf16_f32 := rfl

theorem undo_first (P : Vec Ideal S128x256 .bf16) (x : Vec Ideal S768x128 .f32) : Undoes (k0_pay80 (F := Ideal) P x) (k0_pay81 P x) := by
  have one : Undoes (broadcast S768x1 (Scalar.ofBits .f32 0x3F800000#32 : Ideal .f32)) (broadcast S768x1 (Scalar.ofBits .f32 0x3F800000#32 : Ideal .f32)) := fun _ => (undo_words 127 127 0x3F800000#32 0x3F800000#32 (by decide) (by decide) (by decide) (by decide) (by decide))
  unfold k0_pay80 k0_pay81
  exact (one.step _ _ _ (undo_words 191 63 _ _ (by decide) (by decide) (by decide) (by decide) (by decide))).step _ _ _ (undo_words 159 95 _ _ (by decide) (by decide) (by decide) (by decide) (by decide))

theorem undo_second (P : Vec Ideal S128x256 .bf16) (X : S12x5120.Idx → Elt Ideal .bf16) : Undoes (mid23 P X) (mid24 P X) := by
  unfold mid23 mid24 k0_pay90 k0_pay91
  exact ((((undo_first P (valX X)).step _ _ _ (undo_words 143 111 _ _ (by decide) (by decide) (by decide) (by decide) (by decide))).step _ _ _ (undo_words 135 119 _ _ (by decide) (by decide) (by decide) (by decide) (by decide))).step _ _ _ (undo_words 131 123 _ _ (by decide) (by decide) (by decide) (by decide) (by decide))).step _ _ _ (undo_words 129 125 _ _ (by decide) (by decide) (by decide) (by decide) (by decide))

theorem undo_third (P : Vec Ideal S128x256 .bf16) (X : S12x5120.Idx → Elt Ideal .bf16) :
    Undoes (k0_pay100 (mid22 P X) (mid23 P X) (mid25 P X) bodyFirst.sl.cst_326) (k0_pay101 (F := Ideal) (mid22 P X) (mid24 P X) (mid25 P X) bodyFirst.sl.cst_326) := by
  unfold k0_pay100 k0_pay101
  exact ((((undo_second P X).step _ _ _ (undo_words 128 126 _ _ (by decide) (by decide) (by decide) (by decide) (by decide))).step _ _ _ (undo_words 63 191 _ _ (by decide) (by decide) (by decide) (by decide) (by decide))).step _ _ _ (undo_words 95 159 _ _ (by decide) (by decide) (by decide) (by decide) (by decide))).step _ _ _ (undo_words 111 143 _ _ (by decide) (by decide) (by decide) (by decide) (by decide))

/-- The two scales are inverse in every row. -/
theorem undo_scales (P : Vec Ideal S128x256 .bf16) (X : S12x5120.Idx → Elt Ideal .bf16) : Undoes (valUp P X) (valDown P X) := by
  unfold valUp valDown k0_pay108
  exact ((((undo_third P X).step _ _ _ (undo_words 119 135 _ _ (by decide) (by decide) (by decide) (by decide) (by decide))).step _ _ _ (undo_words 123 131 _ _ (by decide) (by decide) (by decide) (by decide) (by decide))).step _ _ _ (undo_words 125 129 _ _ (by decide) (by decide) (by decide) (by decide) (by decide))).step _ _ _ (undo_words 126 128 _ _ (by decide) (by decide) (by decide) (by decide) (by decide))

end Cert.KernelIdeal.Own
-- ==== Proof.Planes.lean ====
/-
  The tile of bits that the scores are multiplied with: one bit of the sketch in each cell, as a power of two that
  depends only on the bit's place in its byte.
-/
module

public import proofs.«01_k».proof.Proof.Undo
public import Idealize.ShloMosaic.Lib.BitcastFour
public import Idealize.ShloMosaic.Lib.BitcastPair
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

/-- A bit as it stands in the tile. -/
def bitAt (e : Fin 8) (b : Bool) : EReal := if b then (((2 : ℝ) ^ ((2 ^ e.val : Int) - 127) : ℝ) : EReal) else 0

theorem words_bit (kb : Vec Ideal S1x1x32x512 .i8) (a : Fin 8) (l : Fin 512) (q : Nat) (hq : q < 32) (p : Fin 32) (hp : p.val = 4 * a.val + q / 8) :
    (words kb (ix2 a l)).getLsbD q = (kb (ix4 0 0 p l) : BitVec 8).getLsbD (q % 8) := by
  refine (bitcast_8_32_getLsbD_ix2 (R := 32) (r := 8) (n := 512) _ bitcasts_S32x512_w8_S8x512_w32 a l q hq p hp).trans ?_
  congr 1
  show shapeCast S32x512 kb shapeCasts_S1x1x32x512_S32x512 (ix2 p l) = _
  pointwise

theorem mask_bit : ∀ (e : Fin 8) (r : Fin 2) (q : Fin 16), (BitVec.ofNat 32 (128 * 2 ^ e.val * 65537)).getLsbD (16 * r.val + q.val) = decide (q.val = 7 + e.val) := by
  decide +kernel

theorem one_bit : ∀ (e : Fin 8) (q : Fin 16), (BitVec.ofNat 16 (2 ^ (7 + e.val))).getLsbD q.val = decide (q.val = 7 + e.val) := by
  decide +kernel

theorem masked_half (e : Fin 8) (r : Fin 2) (W : BitVec 32) :
    (W &&& BitVec.ofNat 32 (128 * 2 ^ e.val * 65537)).extractLsb' (16 * r.val) 16
      = if W.getLsbD (16 * r.val + (7 + e.val)) then BitVec.ofNat 16 (2 ^ (7 + e.val)) else 0#16 := by
  apply BitVec.eq_of_getLsbD_eq
  intro q hq
  rw [BitVec.getLsbD_extractLsb', BitVec.getLsbD_and, mask_bit e r ⟨q, hq⟩]
  by_cases h : q = 7 + e.val
  · subst h
    by_cases hb : W.getLsbD (16 * r.val + (7 + e.val)) = true
    · rw [if_pos hb, one_bit e ⟨_, hq⟩, hb]; simp [hq]
    · rw [if_neg hb]; simp [hb]
  · by_cases hb : W.getLsbD (16 * r.val + (7 + e.val)) = true
    · rw [if_pos hb, one_bit e ⟨_, hq⟩]; simp [h]
    · rw [if_neg hb]; simp [h]

theorem ofBits_half (e : Fin 8) (b : Bool) :
    Ideal.ofBits .bf16 (if b then BitVec.ofNat 16 (2 ^ (7 + e.val)) else 0#16) = bitAt e b := by
  unfold bitAt
  cases b with
  | false => simp [Ideal.ofBits, Ideal.ieee]
  | true =>
    have e1 : ∀ e : Fin 8, (BitVec.ofNat 16 (2 ^ (7 + e.val))).extractLsb' (8 + 7) 1 = 0#1 := by decide +kernel
    have e2 : ∀ e : Fin 8, ((BitVec.ofNat 16 (2 ^ (7 + e.val))).extractLsb' 7 8).toNat = 2 ^ e.val := by decide +kernel
    have e3 : ∀ e : Fin 8, ((BitVec.ofNat 16 (2 ^ (7 + e.val))).extractLsb' 0 7).toNat = 0 := by decide +kernel
    have e4 : ∀ e : Fin 8, 2 ^ e.val ≠ 2 ^ 8 - 1 ∧ 2 ^ e.val ≠ 0 := by decide +kernel
    rw [if_pos rfl, if_pos rfl]
    show Ideal.ieee 8 7 _ = _
    unfold Ideal.ieee
    rw [e1 e, e2 e, e3 e]
    dsimp only
    rw [if_neg (e4 e).1, if_neg (e4 e).2]
    congr 1
    have e : (((2 ^ e.val : Nat) : Int) - (2 ^ (8 - 1) - 1) - (7 : Nat)) = ((2 ^ e.val : Int) - 127) + (-7) := by push_cast; ring
    rw [e, zpow_add₀ (by norm_num)]
    norm_num
    ring

theorem plane_apply (w : IVec S8x512 32) (e : Fin 8) (mask : BitVec 32) (hm : mask = BitVec.ofNat 32 (128 * 2 ^ e.val * 65537)) (i : Fin 16) (l : Fin 512) :
    plane (F := Ideal) w mask (ix2 i l) = bitAt e ((w (ix2 ⟨i.val / 2, by omega⟩ l)).getLsbD (16 * (i.val % 2) + (7 + e.val))) := by
  subst hm
  show Ideal.ofBits .bf16 (bitcast S16x512 16 (andi w (broadcast S8x512 (BitVec.ofNat 32 (128 * 2 ^ e.val * 65537)))) bitcasts_S8x512_w32_S16x512_w16 (ix2 i l)) = _
  rw [bitcast_32_16]
  have er : S16x512.row (ix2 i l) = i.val := rfl
  have hi : ∀ hp, bitcasts_S8x512_w32_S16x512_w16.srcIdx (ix2 i l) (S16x512.row (ix2 i l) / 2) hp = ix2 ⟨i.val / 2, by omega⟩ l := by
    intro hp
    funext c
    match c with
    | ⟨0, _⟩ => exact Fin.ext (bitcasts_S8x512_w32_S16x512_w16.srcIdx_row _ _ _ ⟨0, Nat.zero_lt_two⟩ rfl)
    | ⟨1, _⟩ => exact Fin.ext (bitcasts_S8x512_w32_S16x512_w16.srcIdx_other _ _ _ ⟨1, Nat.one_lt_two⟩ (by show ¬ 1 + 2 = 2; omega))
  rw [hi]
  show Ideal.ofBits .bf16 (((w (ix2 ⟨i.val / 2, _⟩ l)) &&& BitVec.ofNat 32 (128 * 2 ^ e.val * 65537)).extractLsb' (16 * (i.val % 2)) 16) = _
  rw [masked_half e ⟨i.val % 2, Nat.mod_lt _ (by omega)⟩]
  exact ofBits_half e _

/-- Which byte, and which of its bits, a row of the tile holds. -/
def byteOf (k : Fin 256) : Fin 32 := ⟨2 * (k.val % 16) + k.val / 16 % 2, by omega⟩
def placeOf (k : Fin 256) : Fin 8 := ⟨k.val / 32, by omega⟩

theorem even_apply (kb : Vec Ideal S1x1x32x512 .i8) (e : Fin 8) (mask : BitVec 32) (hm : mask = BitVec.ofNat 32 (128 * 2 ^ e.val * 65537)) (i : Fin 16) (l : Fin 512) :
    plane (F := Ideal) (evenWords kb) mask (ix2 i l) = bitAt e ((kb (ix4 0 0 ⟨2 * i.val, by omega⟩ l) : BitVec 8).getLsbD e.val) := by
  rw [plane_apply _ e mask hm]
  congr 1
  have hi : i.val < 16 := i.isLt
  have he : e.val < 8 := e.isLt
  have step : (evenWords kb (ix2 ⟨i.val / 2, by omega⟩ l)).getLsbD (16 * (i.val % 2) + (7 + e.val)) = (words kb (ix2 ⟨i.val / 2, by omega⟩ l)).getLsbD (16 * (i.val % 2) + e.val) := by
    show ((words kb (ix2 ⟨i.val / 2, by omega⟩ l)) <<< 7#32).getLsbD _ = _
    rw [BitVec.shiftLeft_eq', BitVec.getLsbD_shiftLeft]
    have e1 : 16 * (i.val % 2) + (7 + e.val) < 32 := by omega
    have e2 : ¬ 16 * (i.val % 2) + (7 + e.val) < 7 := by omega
    have e3 : 16 * (i.val % 2) + (7 + e.val) - (7#32).toNat = 16 * (i.val % 2) + e.val := by show _ - 7 = _; omega
    rw [e3]
    simp [e1, e2]
  rw [step, words_bit kb _ l _ (by omega) ⟨2 * i.val, by omega⟩ (by show 2 * i.val = 4 * (i.val / 2) + _ / 8; omega)]
  congr 1
  omega

theorem odd_apply (kb : Vec Ideal S1x1x32x512 .i8) (e : Fin 8) (mask : BitVec 32) (hm : mask = BitVec.ofNat 32 (128 * 2 ^ e.val * 65537)) (i : Fin 16) (l : Fin 512) :
    plane (F := Ideal) (oddWords kb) mask (ix2 i l) = bitAt e ((kb (ix4 0 0 ⟨2 * i.val + 1, by omega⟩ l) : BitVec 8).getLsbD e.val) := by
  rw [plane_apply _ e mask hm]
  congr 1
  have hi : i.val < 16 := i.isLt
  have he : e.val < 8 := e.isLt
  have step : (oddWords kb (ix2 ⟨i.val / 2, by omega⟩ l)).getLsbD (16 * (i.val % 2) + (7 + e.val)) = (words kb (ix2 ⟨i.val / 2, by omega⟩ l)).getLsbD (16 * (i.val % 2) + (8 + e.val)) := by
    show ((words kb (ix2 ⟨i.val / 2, by omega⟩ l)) >>> 1#32).getLsbD _ = _
    rw [BitVec.ushiftRight_eq', BitVec.getLsbD_ushiftRight]
    congr 1
    show 1 + _ = _
    omega
  rw [step, words_bit kb _ l _ (by omega) ⟨2 * i.val + 1, by omega⟩ (by show 2 * i.val + 1 = 4 * (i.val / 2) + _ / 8; omega)]
  congr 1
  omega

/-- The tiles that the tile of bits is made of. -/
def piece (kb : Vec Ideal S1x1x32x512 .i8) (n : Fin 16) : FVec Ideal S16x512 .bf16 :=
  plane (if n.val % 2 = 0 then evenWords kb else oddWords kb) (BitVec.ofNat 32 (128 * 2 ^ (n.val / 2) * 65537))

theorem piece_apply (kb : Vec Ideal S1x1x32x512 .i8) (n : Fin 16) (i : Fin 16) (l : Fin 512) :
    piece kb n (ix2 i l) = bitAt ⟨n.val / 2, by omega⟩ ((kb (ix4 0 0 ⟨2 * i.val + n.val % 2, by omega⟩ l) : BitVec 8).getLsbD (n.val / 2)) := by
  unfold piece
  by_cases h : n.val % 2 = 0
  · rw [if_pos h, even_apply kb ⟨n.val / 2, by omega⟩ _ rfl]
    have e : ∀ p q : Fin 32, p = q → (kb (ix4 0 0 p l) : BitVec 8).getLsbD (n.val / 2) = (kb (ix4 0 0 q l) : BitVec 8).getLsbD (n.val / 2) := by rintro p _ rfl; rfl
    exact congrArg _ (e _ _ (Fin.ext (by show _ = 2 * i.val + n.val % 2; dsimp only; omega)))
  · rw [if_neg h, odd_apply kb ⟨n.val / 2, by omega⟩ _ rfl]
    have e : ∀ p q : Fin 32, p = q → (kb (ix4 0 0 p l) : BitVec 8).getLsbD (n.val / 2) = (kb (ix4 0 0 q l) : BitVec 8).getLsbD (n.val / 2) := by rintro p _ rfl; rfl
    exact congrArg _ (e _ _ (Fin.ext (by show _ = 2 * i.val + n.val % 2; dsimp only; omega)))

theorem tile_apply (kb : Vec Ideal S1x1x32x512 .i8) (k : Fin 256) (l : Fin 512) :
    signTile (F := Ideal) kb (ix2 k l) = bitAt (placeOf k) ((kb (ix4 0 0 (byteOf k) l) : BitVec 8).getLsbD (placeOf k).val) := by
  have hk : k.val < 256 := k.isLt
  refine (concatenate_ofFn_apply (t := S256x512) (s₁ := S16x512) 0 (piece kb)
    concatenates_S16x512_S16x512_S16x512_S16x512_S16x512_S16x512_S16x512_S16x512_S16x512_S16x512_S16x512_S16x512_S16x512_S16x512_S16x512_S16x512_S256x512_d0
    rfl 16 rfl (ix2 k l) ⟨k.val / 16, by omega⟩ rfl (ix2 ⟨k.val % 16, by omega⟩ l) rfl (fun b hb => by
      match b with
      | ⟨0, _⟩ => exact absurd rfl hb
      | ⟨1, _⟩ => rfl)).trans ?_
  rw [piece_apply]
  have e : (⟨k.val / 16 / 2, by omega⟩ : Fin 8) = placeOf k := Fin.ext (by show k.val / 16 / 2 = k.val / 32; omega)
  have e' : k.val / 16 / 2 = (placeOf k).val := congrArg Fin.val e
  show bitAt ⟨k.val / 16 / 2, _⟩ (BitVec.getLsbD _ (k.val / 16 / 2)) = _
  rw [e, e']
  rfl

end Cert.KernelIdeal.Own
-- ==== Proof.Perm.lean ====
/-
  The matrix that permutes the sketch coordinates of the queries, and the sum over a row of the permuted queries times
  the tile of bits: each coordinate twice where its bit is set, and not at all where it is not.
-/
module

public import proofs.«01_k».proof.Proof.Planes

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

/-- The sketch coordinate that a row of the tile stands for. -/
def srcOf (k : Fin 256) : Fin 256 := ⟨32 * (k.val / 32) + (2 * (k.val % 16) + k.val / 16 % 2), by omega⟩

theorem srcOf_bij : Function.Bijective srcOf := by
  rw [Fintype.bijective_iff_injective_and_card]
  refine ⟨fun a b h => Fin.ext ?_, rfl⟩
  have := congrArg Fin.val h
  change 32 * (a.val / 32) + (2 * (a.val % 16) + a.val / 16 % 2) = 32 * (b.val / 32) + (2 * (b.val % 16) + b.val / 16 % 2) at this
  omega

theorem src_place (k : Fin 256) : (srcOf k).val / 32 = (placeOf k).val := by
  show (32 * (k.val / 32) + (2 * (k.val % 16) + k.val / 16 % 2)) / 32 = k.val / 32
  omega

theorem src_byte (k : Fin 256) : (srcOf k).val % 32 = (byteOf k).val := by
  show (32 * (k.val / 32) + (2 * (k.val % 16) + k.val / 16 % 2)) % 32 = 2 * (k.val % 16) + k.val / 16 % 2
  omega

theorem perm_col (c k : Fin 256) : addi bodyFirst.sl.v1026 bodyFirst.sl.v962 (ix2 c k) = BitVec.ofNat 32 (srcOf k).val := by
  have h : ∀ k : Fin 256, addi bodyFirst.sl.v1026 bodyFirst.sl.v962 (ix2 0 k) = BitVec.ofNat 32 (32 * (k.val / 32) + (2 * (k.val % 16) + k.val / 16 % 2)) := by
    decide +kernel
  exact h k

theorem perm_word (c k : Fin 256) : shli bodyFirst.sl.v1031 bodyFirst.sl.v1033 (ix2 c k) = BitVec.ofNat 32 ((255 - 2 ^ (placeOf k).val) * 2 ^ 23) := by
  have h : ∀ k : Fin 256, shli bodyFirst.sl.v1031 bodyFirst.sl.v1033 (ix2 0 k) = BitVec.ofNat 32 ((255 - 2 ^ (k.val / 32)) * 2 ^ 23) := by
    decide +kernel
  exact h k

/-- What a coordinate is multiplied with on its way. -/
def wordOf (k : Fin 256) : EReal := (((2 : ℝ) ^ ((128 : Int) - 2 ^ (placeOf k).val) : ℝ) : EReal)

theorem perm_apply (c k : Fin 256) :
    bitcastToFloat (F := Ideal) .f32 (select bodyFirst.sl.v1032 (shli bodyFirst.sl.v1031 bodyFirst.sl.v1033) bodyFirst.sl.v901) (ix2 c k)
      = if c = srcOf k then wordOf k else 0 := by
  have ec : bodyFirst.sl.v897 (ix2 c k) = BitVec.ofNat 32 c.val := by
    have h : ∀ c : Fin 256, bodyFirst.sl.v897 (ix2 c 0) = BitVec.ofNat 32 c.val := by decide +kernel
    exact h c
  show Ideal.ofBits .f32 (if IntOp.cmpi .eq (bodyFirst.sl.v897 (ix2 c k)) (addi bodyFirst.sl.v1026 bodyFirst.sl.v962 (ix2 c k)) = 1#1
    then shli bodyFirst.sl.v1031 bodyFirst.sl.v1033 (ix2 c k) else bodyFirst.sl.v901 (ix2 c k)) = _
  rw [perm_col, perm_word, ec, show bodyFirst.sl.v901 (ix2 c k) = 0#32 from rfl]
  have hp : ∀ e : Fin 8, 255 - 2 ^ e.val < 256 ∧ 255 - 2 ^ e.val ≠ 0 ∧ 255 - 2 ^ e.val ≠ 255 ∧ ((255 - 2 ^ e.val : Nat) : Int) = 255 - 2 ^ e.val := by decide
  by_cases h : c = srcOf k
  · have hc : IntOp.cmpi .eq (BitVec.ofNat 32 c.val) (BitVec.ofNat 32 (srcOf k).val) = 1#1 := by subst h; simp [IntOp.cmpi]
    rw [if_pos hc, if_pos h]
    obtain ⟨h1, h2, h3, h4⟩ := hp (placeOf k)
    refine (ofBits_pow ⟨255 - 2 ^ (placeOf k).val, h1⟩ h2 h3).trans ?_
    unfold wordOf
    congr 2
    show ((255 - 2 ^ (placeOf k).val : Nat) : Int) - 127 = _
    rw [h4]; ring
  · have hc : ¬ IntOp.cmpi .eq (BitVec.ofNat 32 c.val) (BitVec.ofNat 32 (srcOf k).val) = 1#1 := by
      intro hc
      apply h
      have e : BitVec.ofNat 32 c.val = BitVec.ofNat 32 (srcOf k).val := by
        by_contra hne
        have hc2 : BitVec.ofBool (BitVec.ofNat 32 c.val == BitVec.ofNat 32 (srcOf k).val) = 1#1 := hc
        rw [beq_eq_false_iff_ne.mpr hne] at hc2
        exact absurd hc2 (by decide)
      have e2 := congrArg BitVec.toNat e
      rw [BitVec.toNat_ofNat, BitVec.toNat_ofNat] at e2
      have := c.isLt; have := (srcOf k).isLt
      exact Fin.ext (by omega)
    rw [if_neg hc, if_neg h]
    simp [Ideal.ofBits, Ideal.ieee]

theorem valQ_apply (P : Vec Ideal S128x256 .bf16) (X : S12x5120.Idx → Elt Ideal .bf16) (r : Fin 768) (k : Fin 256) :
    (valQ P X (ix2 r k) : EReal) = (valN P X (ix2 r (srcOf k)) : EReal) * wordOf k := by
  have e : (valQ P X (ix2 r k) : EReal) = ∑ c : Fin 256, (valN P X (ix2 r c) : EReal) * (bitcastToFloat (F := Ideal) .f32 (select bodyFirst.sl.v1032 (shli bodyFirst.sl.v1031 bodyFirst.sl.v1033) bodyFirst.sl.v901) (ix2 c k) : EReal) := by
    unfold valQ k0_pay124
    generalize select bodyFirst.sl.v1032 (shli bodyFirst.sl.v1031 bodyFirst.sl.v1033) bodyFirst.sl.v901 = w
    generalize valN P X = n
    pointwise
  rw [e, Finset.sum_eq_single (srcOf k)]
  · rw [perm_apply, if_pos rfl]
  · intro c _ hc
    rw [perm_apply, if_neg hc, mul_zero]
  · intro h; exact absurd (Finset.mem_univ _) h

theorem word_bit (k : Fin 256) (b : Bool) : wordOf k * bitAt (placeOf k) b = if b then ((2 : ℝ) : EReal) else 0 := by
  unfold wordOf bitAt
  cases b with
  | false => simp
  | true =>
    rw [if_pos rfl, if_pos rfl, ← EReal.coe_mul, ← zpow_add₀ (by norm_num)]
    congr 1
    have e : (128 : Int) - 2 ^ (placeOf k).val + (2 ^ (placeOf k).val - 127) = 1 := by ring
    rw [e]; norm_num

/-- The product of a permuted row and a column of bits. -/
theorem row_sum (P : Vec Ideal S128x256 .bf16) (X : S12x5120.Idx → Elt Ideal .bf16) (r : Fin 768) (K : Fin 32 → BitVec 8) :
    ∑ k : Fin 256, (valQ P X (ix2 r k) : EReal) * bitAt (placeOf k) ((K (byteOf k)).getLsbD (placeOf k).val)
      = ∑ c : Fin 256, (valN P X (ix2 r c) : EReal) * (if (K ⟨c.val % 32, by omega⟩).getLsbD (c.val / 32) then ((2 : ℝ) : EReal) else 0) := by
  refine Eq.trans ?_ (Function.Bijective.sum_comp srcOf_bij fun c : Fin 256 => (valN P X (ix2 r c) : EReal) * (if (K ⟨c.val % 32, by omega⟩).getLsbD (c.val / 32) then ((2 : ℝ) : EReal) else 0))
  refine Finset.sum_congr rfl fun k _ => ?_
  rw [valQ_apply, mul_assoc, word_bit, src_place]
  have e : (⟨(srcOf k).val % 32, by omega⟩ : Fin 32) = byteOf k := Fin.ext (src_byte k)
  rw [e]

end Cert.KernelIdeal.Own
-- ==== Proof.Scores.lean ====
/-
  A score as the kernel computes it, cell by cell, is the projected query summed with the signs that the sketch's bits
  stand for, times the weight of the position; and zero from the length on.
-/
module

public import proofs.«01_k».proof.Proof.Perm
public import proofs.«01_k».proof.Proof.Chunks

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

/-- The sign that a bit stands for. -/
def sgn (b : Bool) : EReal := if b then ((1 : ℝ) : EReal) else ((-1 : ℝ) : EReal)

theorem four_apply (u : FVec Ideal S8x128 .f32) (v : EReal) (a : Fin 8) (hu : ∀ j, u (ix2 a j) = v) (l : Fin 512) :
    concatenate S8x512 1 [⟨S8x128, u⟩, ⟨S8x128, u⟩, ⟨S8x128, u⟩, ⟨S8x128, u⟩] concatenates_S8x128_S8x128_S8x128_S8x128_S8x512_d1 (ix2 a l) = v := by
  have hl : l.val < 512 := l.isLt
  refine (concatenate_ofFn_apply (t := S8x512) (s₁ := S8x128) 1 (fun _ : Fin 4 => u) concatenates_S8x128_S8x128_S8x128_S8x128_S8x512_d1
    rfl 128 rfl (ix2 a l) ⟨l.val / 128, by omega⟩ rfl (ix2 a ⟨l.val % 128, by omega⟩) rfl (fun b hb => by
      match b with
      | ⟨0, _⟩ => rfl
      | ⟨1, _⟩ => exact absurd rfl hb)).trans (hu _)

theorem raw_apply (q : Vec Ideal S8x256 .bf16) (kb : Vec Ideal S1x1x32x512 .i8) (nm : Vec Ideal S1x1x512 .bf16) (up qs : Vec Ideal S1x8x128 .f32)
    (a : Fin 8) (l : Fin 512) (u s : EReal) (hu : ∀ j, up (ix3 0 a j) = u) (hs : ∀ j, qs (ix3 0 a j) = s) :
    rawScore q kb nm up qs (ix2 a l) = ((∑ k : Fin 256, (q (ix2 a k) : EReal) * bitAt (placeOf k) ((kb (ix4 0 0 (byteOf k) l) : BitVec 8).getLsbD (placeOf k).val)) * u - s)
      * ((nm (ix3 0 0 l) : EReal) * Ideal.ofBits .f32 0x39E2DFC5#32) := by
  have e1 : matmul (F := Ideal) (φ₁ := .bf16) (φ₂ := .bf16) dot_S8x256_S256x512_S8x512_1_0_0_1_n_n none q (signTile kb) (constant S8x512 .f32 0x00000000#32) (ix2 a l)
      = ∑ k : Fin 256, (q (ix2 a k) : EReal) * (signTile (F := Ideal) kb (ix2 k l) : EReal) := by
    generalize signTile (F := Ideal) kb = t
    pointwise
  have e2 := four_apply (shapeCast S8x128 up shapeCasts_S1x8x128_S8x128) u a (fun j => by rw [← hu j]; pointwise) l
  have e3 := four_apply (shapeCast S8x128 qs shapeCasts_S1x8x128_S8x128) s a (fun j => by rw [← hs j]; pointwise) l
  have e4 : broadcastTo S8x512 (mulf (extf .f32 (shapeCast S1x512 nm shapeCasts_S1x1x512_S1x512) bitsLt_bf16_f32) (broadcast S1x512 (Scalar.ofBits .f32 0x39E2DFC5#32 : Ideal .f32))) broadcasts_S1x512_S8x512 (ix2 a l)
      = (nm (ix3 0 0 l) : EReal) * Ideal.ofBits .f32 0x39E2DFC5#32 := by
    pointwise
  show ((_ : EReal) * (_ : EReal) - (_ : EReal)) * (_ : EReal) = _
  rw [e1, e2, e3, e4]
  simp only [tile_apply]

theorem tile_score (v5 : BitVec 32) (hv : v5.toNat ≤ 8192) (k : Nat) (hk : k < 16) (q : Vec Ideal S8x256 .bf16) (kb : Vec Ideal S1x1x32x512 .i8) (nm : Vec Ideal S1x1x512 .bf16) (up qs : Vec Ideal S1x8x128 .f32)
    (a : Fin 5) (l : Fin 512) :
    tileScore v5 k q kb nm up qs (ix3 0 a l) = if 512 * k + l.val < v5.toNat then rawScore q kb nm up qs (ix2 ⟨a.val, by omega⟩ l) else 0 := by
  have hl : l.val < 512 := l.isLt
  have hw := word1 k hk
  unfold tileScore
  generalize rawScore q kb nm up qs = w
  generalize Scalar.muli (Scf.iv 0#32 1#32 k) 512#32 = o at hw
  have e : shapeCast S1x5x512 (extractStridedSlice S5x512 ![0, 0]
    (select (cmpi .slt (addi (iota .tc S8x512 32 [1] iota_S8x512_d1_w32) (broadcast S8x512 o)) (broadcast S8x512 v5)) w (broadcast S8x512 (Scalar.ofBits .f32 0x00000000#32 : Ideal .f32)))
    slices_S8x512_o0_0_S5x512) shapeCasts_S5x512_S1x5x512 (ix3 0 a l)
      = (select (cmpi .slt (addi (iota .tc S8x512 32 [1] iota_S8x512_d1_w32) (broadcast S8x512 o)) (broadcast S8x512 v5)) w (broadcast S8x512 (Scalar.ofBits .f32 0x00000000#32 : Ideal .f32))) (ix2 ⟨a.val, by omega⟩ l) := by
    generalize (select (cmpi .slt (addi (iota .tc S8x512 32 [1] iota_S8x512_d1_w32) (broadcast S8x512 o)) (broadcast S8x512 v5)) w (broadcast S8x512 (Scalar.ofBits .f32 0x00000000#32 : Ideal .f32))) = z
    pointwise
  rw [e]
  have ei : iota .tc S8x512 32 [1] iota_S8x512_d1_w32 (ix2 ⟨a.val, by omega⟩ l) = BitVec.ofNat 32 l.val := by
    have h : ∀ l : Fin 512, iota .tc S8x512 32 [1] iota_S8x512_d1_w32 (ix2 0 l) = BitVec.ofNat 32 l.val := by decide +kernel
    exact h l
  show (if IntOp.cmpi .slt (iota .tc S8x512 32 [1] iota_S8x512_d1_w32 (ix2 ⟨a.val, by omega⟩ l) + o) v5 = 1#1 then w (ix2 ⟨a.val, by omega⟩ l) else Ideal.ofBits .f32 0x00000000#32) = _
  rw [ei]
  have hc : IntOp.cmpi .slt (BitVec.ofNat 32 l.val + o) v5 = 1#1 ↔ 512 * k + l.val < v5.toNat := by
    have hn : (BitVec.ofNat 32 l.val + o).toNat = 512 * k + l.val := by
      rw [BitVec.toNat_add, BitVec.toNat_ofNat, hw]; omega
    have h1 : BitVec.slt (BitVec.ofNat 32 l.val + o) v5 = decide (512 * k + l.val < v5.toNat) := by
      rw [BitVec.slt, BitVec.toInt_eq_toNat_of_lt (by omega), BitVec.toInt_eq_toNat_of_lt (by omega), hn]
      simp only [Nat.cast_lt]
    show BitVec.ofBool (BitVec.slt (BitVec.ofNat 32 l.val + o) v5) = 1#1 ↔ _
    rw [h1]
    by_cases h : 512 * k + l.val < v5.toNat <;> simp [h]
  by_cases h : 512 * k + l.val < v5.toNat
  · rw [if_pos (hc.mpr h), if_pos h]
  · rw [if_neg (fun x => h (hc.mp x)), if_neg h]
    simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scaled sum of doubled coordinates less the sum of all is the sum with signs. -/
theorem signed_sum (q : Fin 256 → ℝ) (β : Fin 256 → Bool) (u d : EReal) (h : Undo u d) :
    (∑ c, ((q c : EReal) * d) * (if β c then ((2 : ℝ) : EReal) else 0)) * u - ∑ c, (q c : EReal) = ∑ c, (q c : EReal) * sgn (β c) := by
  obtain ⟨r, hr, rfl, rfl⟩ := h
  have e1 : ∀ c, ((q c : EReal) * ((r⁻¹ : ℝ) : EReal)) * (if β c then ((2 : ℝ) : EReal) else 0) = ((q c * r⁻¹ * (if β c then 2 else 0) : ℝ) : EReal) := fun c => by
    cases β c <;> simp [EReal.coe_mul]
  have e2 : ∀ c, (q c : EReal) * sgn (β c) = ((q c * (if β c then 1 else -1) : ℝ) : EReal) := fun c => by
    unfold sgn
    cases β c <;> simp [EReal.coe_mul]
  simp only [e1, e2]
  rw [← coe_sum, ← coe_sum, ← coe_sum, ← EReal.coe_mul, ← EReal.coe_sub]
  congr 1
  rw [Finset.sum_mul, ← Finset.sum_sub_distrib]
  refine Finset.sum_congr rfl fun c _ => ?_
  cases β c
  · simp
  · simp only [if_true]
    field_simp
    ring

theorem valP_apply (P : Vec Ideal S128x256 .bf16) (X : S12x5120.Idx → Elt Ideal .bf16) (r : Fin 768) (c : Fin 256) :
    (valP P X (ix2 r c) : EReal) = ∑ d : Fin 128, (valX (F := Ideal) X (ix2 r d) : EReal) * (P (ix2 d c) : EReal) := by
  unfold valP k0_pay74
  generalize valX (F := Ideal) X = w
  pointwise

theorem valN_apply (P : Vec Ideal S128x256 .bf16) (X : S12x5120.Idx → Elt Ideal .bf16) (r : Fin 768) (c : Fin 256) :
    (valN P X (ix2 r c) : EReal) = (valP P X (ix2 r c) : EReal) * (valDown P X (ix2 r 0) : EReal) := by
  rw [valN_eq]
  generalize valDown P X = w
  generalize valP P X = v
  pointwise

theorem valC_zero (P : Vec Ideal S128x256 .bf16) (X : S12x5120.Idx → Elt Ideal .bf16) (r : Fin 768) (j : Fin 128) :
    (valC P X (ix3 0 r j) : EReal) = (valUp P X (ix2 r 0) : EReal) := by
  refine Eq.trans (if_pos rfl : valC P X (ix3 0 r j) = k0_pay125 (valUp P X) (ix3 0 r j)) ?_
  unfold k0_pay125
  generalize valUp P X = w
  pointwise

theorem valC_one (P : Vec Ideal S128x256 .bf16) (X : S12x5120.Idx → Elt Ideal .bf16) (r : Fin 768) (j : Fin 128) :
    (valC P X (ix3 1 r j) : EReal) = ∑ c : Fin 256, (valP P X (ix2 r c) : EReal) := by
  refine Eq.trans (if_neg (show ¬ (1 : Nat) = 0 by decide) : valC P X (ix3 1 r j) = k0_pay126 (valP P X) (ix3 0 r j)) ?_
  unfold k0_pay126
  generalize valP P X = w
  pointwise

theorem block_apply (P : Vec Ideal S128x256 .bf16) (X : S12x5120.Idx → Elt Ideal .bf16) (i : grid0.Coords) (len : BitVec 32) (hlen : len.toNat ≤ 8192)
    (KB : S1x8x32x8192.Idx → Elt Ideal .i8) (NM : S1x8x8192.Idx → Elt Ideal .bf16) (h : Fin 8) (g : Fin 5) (l : Fin 8192)
    (r : Fin 768) (hr : r.val = 64 * (i 0).val + 8 * h.val + g.val) (q : Fin 256 → ℝ) (hq : ∀ c, (valP P X (ix2 r c) : EReal) = (q c : EReal))
    (n : Fin 40) (hn : n.val = 5 * h.val + g.val) :
    scoreBlk i len KB NM (valQ P X) (valC P X) (ix3 0 n l)
      = if l.val < len.toNat then (∑ c : Fin 256, (q c : EReal) * sgn ((KB (ix4 0 h ⟨c.val % 32, by omega⟩ l) : BitVec 8).getLsbD (c.val / 32)))
          * ((NM (ix3 0 h l) : EReal) * Ideal.ofBits .f32 0x39E2DFC5#32) else 0 := by
  have hl : l.val < 8192 := l.isLt
  have hg : g.val < 5 := g.isLt
  have hi := step_lt i
  have hh : h.val < 8 := h.isLt
  show (if l.val / 512 < (len.toNat + 511) / 512 then
    scoreAt i len KB NM (valQ P X) (valC P X) ⟨n.val / 5, by omega⟩ ⟨l.val / 512, by omega⟩ (ix3 0 ⟨n.val % 5, by omega⟩ ⟨l.val % 512, by omega⟩) else Ideal.ofBits .f32 0x00000000#32) = _
  by_cases h1 : l.val / 512 < (len.toNat + 511) / 512
  · rw [if_pos h1]
    have eh : (⟨n.val / 5, by omega⟩ : Fin 8) = h := Fin.ext (by show n.val / 5 = h.val; omega)
    have eg : (⟨n.val % 5, by omega⟩ : Fin 5) = g := Fin.ext (by show n.val % 5 = g.val; omega)
    rw [eh, eg]
    unfold scoreAt
    rw [tile_score len hlen _ (by omega)]
    have hc : 512 * (l.val / 512) + l.val % 512 = l.val := by omega
    show (if 512 * (l.val / 512) + l.val % 512 < len.toNat then _ else _) = _
    rw [hc]
    by_cases h2 : l.val < len.toNat
    · rw [if_pos h2, if_pos h2]
      have er : (⟨64 * (i 0).val + 8 * h.val + g.val, by omega⟩ : Fin 768) = r := Fin.ext hr.symm
      have el : (⟨512 * (l.val / 512) + l.val % 512, by omega⟩ : Fin 8192) = l := Fin.ext hc
      refine (raw_apply _ _ _ _ _ _ _ (valUp P X (ix2 r 0)) (∑ c : Fin 256, (valP P X (ix2 r c) : EReal)) (fun j => ?_) (fun j => ?_)).trans ?_
      · show (valC P X (ix3 0 ⟨64 * (i 0).val + 8 * h.val + g.val, by omega⟩ j) : EReal) = _
        rw [er, valC_zero]
      · show (valC P X (ix3 1 ⟨64 * (i 0).val + 8 * h.val + g.val, by omega⟩ j) : EReal) = _
        rw [er, valC_one]
      · show ((∑ k : Fin 256, (valQ P X (ix2 ⟨64 * (i 0).val + 8 * h.val + g.val, by omega⟩ k) : EReal) * bitAt (placeOf k) ((KB (ix4 0 h (byteOf k) ⟨512 * (l.val / 512) + l.val % 512, by omega⟩) : BitVec 8).getLsbD (placeOf k).val)) * _ - _)
          * ((NM (ix3 0 h ⟨512 * (l.val / 512) + l.val % 512, by omega⟩) : EReal) * _) = _
        rw [er, el]
        congr 1
        rw [row_sum P X r fun p => KB (ix4 0 h p l)]
        simp only [valN_apply, hq]
        exact signed_sum q (fun c => (KB (ix4 0 h ⟨c.val % 32, by omega⟩ l) : BitVec 8).getLsbD (c.val / 32)) _ _ (undo_scales P X _)
    · rw [if_neg h2, if_neg h2]
  · rw [if_neg h1, if_neg (by omega)]
    simp [Ideal.ofBits, Ideal.ieee]

end Cert.KernelIdeal.Own
-- ==== Proof.RefScores.lean ====
/-
  The reference's scores, cell by cell.
-/
module

public import proofs.«01_k».proof.Proof.Gen.ReferenceIdeal
public import proofs.«01_k».proof.Proof.Gen.ReferenceIdeal.Run
public import proofs.«01_k».proof.Proof.Scores

@[expose] public section

set_option maxRecDepth 16384

noncomputable section

namespace Cert.ReferenceIdeal.Own

open Cert.ReferenceIdeal Cert.ReferenceIdeal.Gen Cert.ReferenceIdeal.Value
open Cert.ReferenceIdeal.Facts
open Idealize.ShloMosaic Idealize.ShloMosaic.TcCoe Idealize.ShloMosaic.Pointwise
open Cert.KernelIdeal.Own (sgn)

/-- The signs of one plane of bits, -/
abbrev signs (B : S12x8192x8x32.Idx → Elt Ideal .i8) (p : BitVec 32) : FVec Ideal S12x8192x8x32 .bf16 :=
  truncf .bf16 (select (cmpi .eq (andi (Host.shrsi (extui 32 B natLt_8_32) (broadcastInDim S12x8192x8x32 ![] bcast_S_S12x8192x8x32 (constantI S_ 32 p))) (broadcastInDim S12x8192x8x32 ![] bcast_S_S12x8192x8x32 (constantI S_ 32 1#32))) (broadcastInDim S12x8192x8x32 ![] bcast_S_S12x8192x8x32 (constantI S_ 32 1#32))) (broadcastInDim S12x8192x8x32 ![] bcast_S_S12x8192x8x32 (constant S_ .f32 0x3F800000#32)) (broadcastInDim S12x8192x8x32 ![] bcast_S_S12x8192x8x32 (constant S_ .f32 0xBF800000#32))) bitsLt_bf16_f32

/-- and the part of the queries' products that one plane makes. -/
abbrev part (A : S12x8x5x256.Idx → Elt Ideal .bf16) (B : S12x8192x8x32.Idx → Elt Ideal .i8) (off : Nat) (hs : S12x8x5x256.Slices ![0, 0, 0, off] S12x8x5x32) (p : BitVec 32) : FVec Ideal S12x8x5x8192 .f32 :=
  Host.dotGeneral (F := Ideal) (φ₁ := .bf16) (φ₂ := .bf16) dot_S12x8x5x32_S12x8192x8x32_S12x8x5x8192_3_3_2_1_01_02 none (extractStridedSlice S12x8x5x32 ![0, 0, 0, off] A hs) (signs B p)

theorem sign_word : ∀ (x : BitVec 8) (e : Fin 8), IntOp.cmpi .eq (IntOp.andi (IntOp.shrsi .host (x.setWidth 32) (BitVec.ofNat 32 e.val)) 1#32) 1#32 = BitVec.ofBool (x.getLsbD e.val) := by
  decide +kernel

theorem ofBits_one : Ideal.ofBits .f32 0x3F800000#32 = ((1 : ℝ) : EReal) := by
  simp [Ideal.ofBits, Ideal.ieee]
  rw [← EReal.coe_mul]
  norm_num

theorem ofBits_neg_one : Ideal.ofBits .f32 0xBF800000#32 = ((-1 : ℝ) : EReal) := by
  simp [Ideal.ofBits, Ideal.ieee]
  rw [← EReal.coe_mul]
  norm_num

theorem signs_apply (B : S12x8192x8x32.Idx → Elt Ideal .i8) (e : Fin 8) (j : S12x8192x8x32.Idx) :
    signs B (BitVec.ofNat 32 e.val) j = sgn ((B j : BitVec 8).getLsbD e.val) := by
  show (if IntOp.cmpi .eq (IntOp.andi (IntOp.shrsi .host ((B j : BitVec 8).setWidth 32) (BitVec.ofNat 32 e.val)) 1#32) 1#32 = 1#1 then Ideal.ofBits .f32 0x3F800000#32 else Ideal.ofBits .f32 0xBF800000#32) = _
  rw [sign_word, ofBits_one, ofBits_neg_one]
  unfold sgn
  cases (B j : BitVec 8).getLsbD e.val <;> simp

theorem part_apply (A : S12x8x5x256.Idx → Elt Ideal .bf16) (B : S12x8192x8x32.Idx → Elt Ideal .i8) (e : Fin 8) (off : Nat) (ho : off = 32 * e.val)
    (hs : S12x8x5x256.Slices ![0, 0, 0, off] S12x8x5x32) (b : Fin 12) (h : Fin 8) (g : Fin 5) (l : Fin 8192) :
    part A B off hs (BitVec.ofNat 32 e.val) (ix4 b h g l)
      = ∑ c : Fin 32, (A (ix4 b h g ⟨32 * e.val + c.val, by omega⟩) : EReal) * sgn ((B (ix4 b l h c) : BitVec 8).getLsbD e.val) := by
  subst ho
  have e1 : part A B (32 * e.val) hs (BitVec.ofNat 32 e.val) (ix4 b h g l)
      = ∑ c : Fin 32, (extractStridedSlice S12x8x5x32 ![0, 0, 0, 32 * e.val] A hs (ix4 b h g c) : EReal) * (signs B (BitVec.ofNat 32 e.val) (ix4 b l h c) : EReal) := by
    unfold part
    generalize signs B (BitVec.ofNat 32 e.val) = w
    generalize extractStridedSlice S12x8x5x32 ![0, 0, 0, 32 * e.val] A hs = v
    pointwise
  rw [e1]
  refine Finset.sum_congr rfl fun c _ => ?_
  rw [signs_apply]
  congr 1
  refine congrArg A (funext fun a => Fin.ext ?_)
  match a with
  | ⟨0, _⟩ => exact Nat.zero_add _
  | ⟨1, _⟩ => exact Nat.zero_add _
  | ⟨2, _⟩ => exact Nat.zero_add _
  | ⟨3, _⟩ => rfl

/-- All the parts. -/
theorem parts (f : Fin 256 → EReal) (G : Fin 8 → EReal) (hG : ∀ e, G e = ∑ c : Fin 32, f ⟨32 * e.val + c.val, by omega⟩) :
    G 0 + G 1 + G 2 + G 3 + G 4 + G 5 + G 6 + G 7 = ∑ c : Fin 256, f c := by
  have e1 : ∑ c : Fin 256, f c = ∑ e : Fin 8, ∑ c : Fin 32, f ⟨32 * e.val + c.val, by omega⟩ := by
    rw [← Fintype.sum_prod_type' (f := fun (e : Fin 8) (c : Fin 32) => f ⟨32 * e.val + c.val, by omega⟩)]
    refine (Fintype.sum_equiv (finProdFinEquiv (m := 8) (n := 32)) _ _ fun x => ?_).symm
    refine congrArg f (Fin.ext ?_)
    show 32 * x.1.val + x.2.val = x.2.val + 32 * x.1.val
    omega
  rw [e1, Fin.sum_univ_eight]
  simp only [hG]

theorem score_apply (V : Valuation τ sig (Elt Ideal)) (A : S12x8x5x256.Idx → Elt Ideal .bf16) (hA : res_main_v77 V = A)
    (B : S12x8192x8x32.Idx → Elt Ideal .i8) (hB : V (Proc.devRef .tc main_arg4) = B) (N : S12x8192x8.Idx → Elt Ideal .bf16) (hN : V (Proc.devRef .tc main_arg5) = N)
    (b : Fin 12) (h : Fin 8) (g : Fin 5) (l : Fin 8192) :
    (res_main_v179 V : S12x8x5x8192.Idx → EReal) (ix4 b h g l)
      = (∑ c : Fin 256, (A (ix4 b h g c) : EReal) * sgn ((B (ix4 b l h ⟨c.val % 32, by omega⟩) : BitVec 8).getLsbD (c.val / 32)))
        * ((N (ix3 b l h) : EReal) * Ideal.ofBits .f32 0x39E2DFC5#32) := by
  have e0 : (res_main_v179 V : S12x8x5x8192.Idx → EReal) = mulf (addf (addf (addf (addf (addf (addf (addf
      (part A B 0 slices_S12x8x5x256_S12x8x5x32_0_0_0_0 0#32)
      (part A B 32 slices_S12x8x5x256_S12x8x5x32_0_0_0_32 1#32))
      (part A B 64 slices_S12x8x5x256_S12x8x5x32_0_0_0_64 2#32))
      (part A B 96 slices_S12x8x5x256_S12x8x5x32_0_0_0_96 3#32))
      (part A B 128 slices_S12x8x5x256_S12x8x5x32_0_0_0_128 4#32))
      (part A B 160 slices_S12x8x5x256_S12x8x5x32_0_0_0_160 5#32))
      (part A B 192 slices_S12x8x5x256_S12x8x5x32_0_0_0_192 6#32))
      (part A B 224 slices_S12x8x5x256_S12x8x5x32_0_0_0_224 7#32))
      (broadcastInDim S12x8x5x8192 ![0, 1, 2, 3] bcast_S12x8x1x8192_S12x8x5x8192_0_1_2_3 (broadcastInDim S12x8x1x8192 ![0, 1, 3] bcast_S12x8x8192_S12x8x1x8192_0_1_3 (transpose S12x8x8192 [0, 2, 1] (mulf (extf .f32 N bitsLt_bf16_f32) (broadcastInDim S12x8192x8 ![] bcast_S_S12x8192x8 (constant (F := Ideal) S_ .f32 0x39E2DFC5#32))) transposes_S12x8192x8_S12x8x8192_0_2_1))) := by
    unfold res_main_v179 res_main_v148
    rw [hA, hB, hN]
  rw [e0]
  have e1 := fun (e : Fin 8) (off : Nat) (ho : off = 32 * e.val) (hs) => part_apply A B e off ho hs b h g l
  have e2 : (broadcastInDim S12x8x5x8192 ![0, 1, 2, 3] bcast_S12x8x1x8192_S12x8x5x8192_0_1_2_3 (broadcastInDim S12x8x1x8192 ![0, 1, 3] bcast_S12x8x8192_S12x8x1x8192_0_1_3 (transpose S12x8x8192 [0, 2, 1] (mulf (extf .f32 N bitsLt_bf16_f32) (broadcastInDim S12x8192x8 ![] bcast_S_S12x8192x8 (constant (F := Ideal) S_ .f32 0x39E2DFC5#32))) transposes_S12x8192x8_S12x8x8192_0_2_1))) (ix4 b h g l)
      = (N (ix3 b l h) : EReal) * Ideal.ofBits .f32 0x39E2DFC5#32 := by
    pointwise
  refine congrArg₂ (fun x y : EReal => x * y) ?_ e2
  refine Eq.trans ?_ (parts (fun c => (A (ix4 b h g c) : EReal) * sgn ((B (ix4 b l h ⟨c.val % 32, by omega⟩) : BitVec 8).getLsbD (c.val / 32)))
    (fun e => ∑ c : Fin 32, (A (ix4 b h g ⟨32 * e.val + c.val, by omega⟩) : EReal) * sgn ((B (ix4 b l h c) : BitVec 8).getLsbD e.val)) fun e => Finset.sum_congr rfl fun c _ => by
      have ec : ∀ p, (⟨(32 * e.val + c.val) % 32, p⟩ : Fin 32) = c := fun p => Fin.ext (by show (32 * e.val + c.val) % 32 = c.val; omega)
      have ee : (32 * e.val + c.val) / 32 = e.val := by omega
      dsimp only
      rw [ec, ee])
  have q0 := e1 0 0 rfl slices_S12x8x5x256_S12x8x5x32_0_0_0_0
  have q1 := e1 1 32 rfl slices_S12x8x5x256_S12x8x5x32_0_0_0_32
  have q2 := e1 2 64 rfl slices_S12x8x5x256_S12x8x5x32_0_0_0_64
  have q3 := e1 3 96 rfl slices_S12x8x5x256_S12x8x5x32_0_0_0_96
  have q4 := e1 4 128 rfl slices_S12x8x5x256_S12x8x5x32_0_0_0_128
  have q5 := e1 5 160 rfl slices_S12x8x5x256_S12x8x5x32_0_0_0_160
  have q6 := e1 6 192 rfl slices_S12x8x5x256_S12x8x5x32_0_0_0_192
  have q7 := e1 7 224 rfl slices_S12x8x5x256_S12x8x5x32_0_0_0_224
  exact congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y) q0 q1) q2) q3) q4) q5) q6) q7

theorem query_apply (V : Valuation τ sig (Elt Ideal)) (X : S12x1x5120.Idx → Elt Ideal .bf16) (hX : V (Proc.devRef .tc main_arg0) = X)
    (P : S128x256.Idx → Elt Ideal .bf16) (hP : V (Proc.devRef .tc main_arg3) = P) (b : Fin 12) (h : Fin 8) (g : Fin 5) (c : Fin 256) :
    ((res_main_v77 V : S12x8x5x256.Idx → EReal) (ix4 b h g c) : EReal)
      = (∑ d : Fin 128, (X (ix3 b 0 ⟨(5 * h.val + g.val) * 128 + d.val, by omega⟩) : EReal) * (P (ix2 d c) : EReal) : EReal) := by
  unfold res_main_v77
  rw [hX, hP]
  pointwise
  have e : ∀ (d : Fin 128) (p), (⟨(h.val * 5 + g.val) * 128 + d.val, p⟩ : Fin 5120) = ⟨(5 * h.val + g.val) * 128 + d.val, by omega⟩ :=
    fun d p => Fin.ext (by show (h.val * 5 + g.val) * 128 + d.val = (5 * h.val + g.val) * 128 + d.val; omega)
  simp only [e]

/-- The reference's second result. -/
theorem result_apply (V : Valuation τ sig (Elt Ideal)) (L : S12.Idx → BitVec 32) (hL : V (Proc.devRef .tc main_arg8) = L)
    (hl : ∀ x, (L x).toNat ≤ 8192) (b : Fin 12) (h : Fin 8) (g : Fin 5) (n : Fin 40) (hn : n.val = 5 * h.val + g.val) (l : Fin 8192) :
    (shapeCast _ (select (broadcastInDim S12x8x5x8192 ![0, 1, 2, 3] bcast_S12x1x1x8192_S12x8x5x8192_0_1_2_3 (res_main_v288 V)) (broadcastInDim S12x8x5x8192 ![] bcast_S_S12x8x5x8192 (id (constant (F := Ideal) S_ .f32 0x00000000#32))) (res_main_v179 V)) shapeCasts_S12x8x5x8192_S12x40x8192 : S12x40x8192.Idx → EReal) (ix3 b n l)
      = if l.val < (L (ix1 b)).toNat then ((res_main_v179 V : S12x8x5x8192.Idx → EReal) (ix4 b h g l) : EReal) else (0 : EReal) := by
  have e1 : (shapeCast S12x40x8192 (select (broadcastInDim S12x8x5x8192 ![0, 1, 2, 3] bcast_S12x1x1x8192_S12x8x5x8192_0_1_2_3 (res_main_v288 V)) (broadcastInDim S12x8x5x8192 ![] bcast_S_S12x8x5x8192 (id (constant (F := Ideal) S_ .f32 0x00000000#32))) (res_main_v179 V)) shapeCasts_S12x8x5x8192_S12x40x8192 : S12x40x8192.Idx → EReal) (ix3 b n l)
      = (select (broadcastInDim S12x8x5x8192 ![0, 1, 2, 3] bcast_S12x1x1x8192_S12x8x5x8192_0_1_2_3 (res_main_v288 V)) (broadcastInDim S12x8x5x8192 ![] bcast_S_S12x8x5x8192 (id (constant (F := Ideal) S_ .f32 0x00000000#32))) (res_main_v179 V) : S12x8x5x8192.Idx → EReal) (ix4 b h g l) := by
    generalize (select (broadcastInDim S12x8x5x8192 ![0, 1, 2, 3] bcast_S12x1x1x8192_S12x8x5x8192_0_1_2_3 (res_main_v288 V)) (broadcastInDim S12x8x5x8192 ![] bcast_S_S12x8x5x8192 (id (constant (F := Ideal) S_ .f32 0x00000000#32))) (res_main_v179 V) : S12x8x5x8192.Idx → EReal) = z
    pointwise
    have e5 : ∀ p, (⟨n.val / 5, p⟩ : Fin 8) = h := fun p => Fin.ext (by show n.val / 5 = h.val; omega)
    have e6 : ∀ p, (⟨n.val % 5, p⟩ : Fin 5) = g := fun p => Fin.ext (by show n.val % 5 = g.val; omega)
    rw [e5, e6]
  have e2 : (broadcastInDim S12x8x5x8192 ![0, 1, 2, 3] bcast_S12x1x1x8192_S12x8x5x8192_0_1_2_3 (res_main_v288 V)) (ix4 b h g l) = IntOp.cmpi .sge (BitVec.ofNat 32 l.val) (L (ix1 b)) := by
    unfold res_main_v288
    rw [hL]
    pointwise
  rw [e1]
  show (if (broadcastInDim S12x8x5x8192 ![0, 1, 2, 3] bcast_S12x1x1x8192_S12x8x5x8192_0_1_2_3 (res_main_v288 V)) (ix4 b h g l) = 1#1 then Ideal.ofBits .f32 0x00000000#32 else (res_main_v179 V : S12x8x5x8192.Idx → EReal) (ix4 b h g l)) = _
  rw [e2]
  have hb := hl (ix1 b)
  have hl' : l.val < 8192 := l.isLt
  have hc : IntOp.cmpi .sge (BitVec.ofNat 32 l.val) (L (ix1 b)) = 1#1 ↔ ¬ l.val < (L (ix1 b)).toNat := by
    have hn : (BitVec.ofNat 32 l.val).toNat = l.val := by rw [BitVec.toNat_ofNat]; omega
    have h1 : BitVec.sle (L (ix1 b)) (BitVec.ofNat 32 l.val) = decide ((L (ix1 b)).toNat ≤ l.val) := by
      rw [BitVec.sle, BitVec.toInt_eq_toNat_of_lt (by omega), BitVec.toInt_eq_toNat_of_lt (by omega), hn]
      simp only [Nat.cast_le]
    show BitVec.ofBool (BitVec.sle (L (ix1 b)) (BitVec.ofNat 32 l.val)) = 1#1 ↔ _
    rw [h1]
    by_cases h : (L (ix1 b)).toNat ≤ l.val
    · simp [h]
    · simp [h]
  by_cases h : l.val < (L (ix1 b)).toNat
  · rw [if_neg (fun x => (hc.mp x) h), if_pos h]
  · rw [if_pos (hc.mpr h), if_neg h]
    simp [Ideal.ofBits, Ideal.ieee]

end Cert.ReferenceIdeal.Own
-- ==== Proof.Inputs.lean ====
/-
  What the blocks of the query, of the sketches and of their norms hold of the arguments; and what the mask of the
  claim says of the query and the projection.
-/
module

public import proofs.«01_k».proof.Proof.Blocks
public import proofs.«01_k».proof.Proof.Scores
public import proofs.«01_k».proof.Proof.RefScores
public import proofs.«01_k».proof.Proof.Gen.On_claimed

@[expose] public section

set_option maxRecDepth 16384

noncomputable section

namespace Cert.KernelIdeal.Own

open Cert.KernelIdeal Cert.KernelIdeal.Gen
open Idealize.ShloMosaic Idealize.ShloMosaic.TcCoe

section Blocks

variable {F : FTy → Type} [FloatOps F]
variable (m : (ℓ : Loc nD τ sig) → Buf (Elt F) ℓ)

/-- The query arrives reshaped to one row a batch element. -/
theorem V_main_v0 (c : Dev nD) : V m c main_v0 = (shapeCast S12x5120 (m ((c : Thread nD τ).loc main_arg0) : S12x1x5120.Idx → Elt F .bf16) shapeCasts_S12x1x5120_S12x5120 : S12x5120.Idx → Elt F .bf16) := by
  show StableHlo.after hostOps0 _ _ = _
  unfold hostOps0
  after_results_simp
  rfl

/-- The sketches arrive with the positions last. -/
theorem V_main_v3 (c : Dev nD) : V m c main_v3 = (transpose S12x8x32x8192 [0, 2, 3, 1] (m ((c : Thread nD τ).loc main_arg4) : S12x8192x8x32.Idx → Elt F .i8) transposes_S12x8192x8x32_S12x8x32x8192_0_2_3_1 : S12x8x32x8192.Idx → Elt F .i8) := by
  show StableHlo.after hostOps0 _ _ = _
  unfold hostOps0
  after_results_simp

/-- The norms too. -/
theorem V_main_v4 (c : Dev nD) : V m c main_v4 = (transpose S12x8x8192 [0, 2, 1] (m ((c : Thread nD τ).loc main_arg5) : S12x8192x8.Idx → Elt F .bf16) transposes_S12x8192x8_S12x8x8192_0_2_1 : S12x8x8192.Idx → Elt F .bf16) := by
  show StableHlo.after hostOps0 _ _ = _
  unfold hostOps0
  after_results_simp

theorem iblk_query (c : Dev nD) : (iblk m c 0 p0 : S12x5120.Idx → Elt F .bf16) = shapeCast S12x5120 (m ((c : Thread nD τ).loc main_arg0) : S12x1x5120.Idx → Elt F .bf16) shapeCasts_S12x1x5120_S12x5120 := by
  refine Eq.trans ?_ (V_main_v0 m c)
  funext j
  show V m c main_v0 ((((cfgM m).win 0).rect p0).emb j) = V m c main_v0 j
  congr 1
  funext a
  apply Fin.ext
  exact ((cfgM m).win 0).rect_emb_val_of_index_zero p0 a (by revert a; show ∀ a : Fin 2, cc0_transform_0 (grid0.coords p0) a = 0; decide) j

theorem tr4 : ∀ (t : Fin grid0.N) (a : Fin 4), cc0_transform_4 (grid0.coords t) a = ![t.val, 0, 0, 0] a := by decide +kernel

theorem tr5 : ∀ (t : Fin grid0.N) (a : Fin 3), cc0_transform_5 (grid0.coords t) a = ![t.val, 0, 0] a := by decide +kernel

theorem coords_val : ∀ t : Fin grid0.N, (grid0.coords t 0).val = t.val := by decide +kernel

theorem iblk_bits (c : Dev nD) (b : Fin 12) (h : Fin 8) (p : Fin 32) (l : Fin 8192) :
    (iblk m c 4 (pb b) : S1x8x32x8192.Idx → Elt F .i8) (ix4 0 h p l) = (m ((c : Thread nD τ).loc main_arg4) : S12x8192x8x32.Idx → Elt F .i8) (ix4 b l h p) := by
  have e : ((((cfgM m).win 4).blk (pb b)).view.emb (ix4 (n0 := 1) (n1 := 8) (n2 := 32) (n3 := 8192) 0 h p l)) = (ix4 b h p l : S12x8x32x8192.Idx) := by
    funext a; apply Fin.ext
    match a with
    | ⟨0, _⟩ => show cc0_transform_4 (grid0.coords (pb b)) 0 * 1 + 1 * 0 = b.val; rw [tr4 (pb b) 0]; show b.val * 1 + _ = _; omega
    | ⟨1, _⟩ => show cc0_transform_4 (grid0.coords (pb b)) 1 * 8 + 1 * h.val = h.val; rw [tr4 (pb b) 1]; show 0 * 8 + _ = _; omega
    | ⟨2, _⟩ => show cc0_transform_4 (grid0.coords (pb b)) 2 * 32 + 1 * p.val = p.val; rw [tr4 (pb b) 2]; show 0 * 32 + _ = _; omega
    | ⟨3, _⟩ => show cc0_transform_4 (grid0.coords (pb b)) 3 * 8192 + 1 * l.val = l.val; rw [tr4 (pb b) 3]; show 0 * 8192 + _ = _; omega
  refine (congrArg (V m c main_v3) e).trans ?_
  rw [V_main_v3]
  generalize (m ((c : Thread nD τ).loc main_arg4) : S12x8192x8x32.Idx → Elt F .i8) = x
  pointwise

theorem iblk_norms (c : Dev nD) (b : Fin 12) (h : Fin 8) (l : Fin 8192) :
    (iblk m c 5 (pb b) : S1x8x8192.Idx → Elt F .bf16) (ix3 0 h l) = (m ((c : Thread nD τ).loc main_arg5) : S12x8192x8.Idx → Elt F .bf16) (ix3 b l h) := by
  have e : ((((cfgM m).win 5).blk (pb b)).view.emb (ix3 (n0 := 1) (n1 := 8) (n2 := 8192) 0 h l)) = (ix3 b h l : S12x8x8192.Idx) := by
    funext a; apply Fin.ext
    match a with
    | ⟨0, _⟩ => show cc0_transform_5 (grid0.coords (pb b)) 0 * 1 + 1 * 0 = b.val; rw [tr5 (pb b) 0]; show b.val * 1 + _ = _; omega
    | ⟨1, _⟩ => show cc0_transform_5 (grid0.coords (pb b)) 1 * 8 + 1 * h.val = h.val; rw [tr5 (pb b) 1]; show 0 * 8 + _ = _; omega
    | ⟨2, _⟩ => show cc0_transform_5 (grid0.coords (pb b)) 2 * 8192 + 1 * l.val = l.val; rw [tr5 (pb b) 2]; show 0 * 8192 + _ = _; omega
  refine (congrArg (V m c main_v4) e).trans ?_
  rw [V_main_v4]
  generalize (m ((c : Thread nD τ).loc main_arg5) : S12x8192x8.Idx → Elt F .bf16) = x
  pointwise

theorem lengths_eq (c : Dev nD) : lengths m = (m ((c : Thread nD τ).loc main_arg8) : S12.Idx → Elt F .i32) := by
  obtain rfl : c = 0 := Subsingleton.elim _ _
  exact V_main_arg8 m 0

end Blocks

/-- A number whose absolute value is below infinity is real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  induction x with
  | bot => exact absurd h (by simp [Ideal.cmp])
  | top => exact absurd h (by simp [Ideal.cmp])
  | coe r => exact ⟨r, rfl⟩

/-- Where the mask of the scores holds, the head's query and the projection are real. -/
theorem finite_of_mask (a0 : S12x1x5120.Idx → Elt Ideal .bf16) (a1 a2 : S12x1x8x128.Idx → Elt Ideal .bf16) (a3 : S128x256.Idx → Elt Ideal .bf16)
    (a4 : S12x8192x8x32.Idx → Elt Ideal .i8) (a5 : S12x8192x8.Idx → Elt Ideal .bf16) (a6 : S12x8192x8x64.Idx → Elt Ideal .i8) (a7 : S12x8192x8x4.Idx → Elt Ideal .f32) (a8 : S12.Idx → Elt Ideal .i32)
    (b : Fin 12) (n : Fin 40) (l : Fin 8192)
    (hm : (@Cert.On_claimed.fn Cert.On_claimed.Gen.facts Ideal _ a0 a1 a2 a3 a4 a5 a6 a7 a8).2.1 (ix3 b n l) = 1#1) :
    (∀ d : Fin 128, ∃ r : ℝ, (a0 (ix3 b 0 ⟨n.val * 128 + d.val, by omega⟩) : EReal) = (r : EReal)) ∧ (∀ (d : Fin 128) (c : Fin 256), ∃ r : ℝ, (a3 (ix2 d c) : EReal) = (r : EReal)) := by
  have e : ∀ z : IVec Cert.On_claimed.S12x40 1, broadcastInDim Cert.On_claimed.S12x40x8192 ![0, 1, 2] Cert.On_claimed.Gen.facts.bcast_S12x40x1_S12x40x8192_0_1_2
      (broadcastInDim Cert.On_claimed.S12x40x1 ![0, 1] Cert.On_claimed.Gen.facts.bcast_S12x40_S12x40x1_0_1 z) (ix3 b n l) = z (ix2 b n) := by
    intro z; pointwise
  have ez := (e (andi
      (Host.reduce IntOp.andi (cmpf .olt (Host.absf (shapeCast Cert.On_claimed.S12x40x128 (extf .f32 (show FVec Ideal Cert.On_claimed.S12x1x5120 .bf16 from a0) Cert.On_claimed.Gen.facts.bitsLt_bf16_f32) Cert.On_claimed.Gen.facts.shapeCasts_S12x1x5120_S12x40x128))
        (broadcastInDim Cert.On_claimed.S12x40x128 ![] Cert.On_claimed.Gen.facts.bcast_S_S12x40x128 (constant (F := Ideal) Cert.On_claimed.S_ .f32 0x7F800000#32))) (constantI Cert.On_claimed.S_ 1 1#1) Cert.On_claimed.Gen.facts.reducesTo_S12x40x128_S12x40_d2 Cert.On_claimed.Gen.facts.h_S_)
      (broadcastInDim Cert.On_claimed.S12x40 ![] Cert.On_claimed.Gen.facts.bcast_S_S12x40 (Host.reduce IntOp.andi (cmpf .olt (Host.absf (extf .f32 (show FVec Ideal Cert.On_claimed.S128x256 .bf16 from a3) Cert.On_claimed.Gen.facts.bitsLt_bf16_f32))
        (broadcastInDim Cert.On_claimed.S128x256 ![] Cert.On_claimed.Gen.facts.bcast_S_S128x256 (constant (F := Ideal) Cert.On_claimed.S_ .f32 0x7F800000#32))) (constantI Cert.On_claimed.S_ 1 1#1) Cert.On_claimed.Gen.facts.reducesTo_S128x256_S_d0_1 Cert.On_claimed.Gen.facts.h_S_)))).symm.trans hm
  obtain ⟨h1, h2⟩ := IntOp.andi_eq_one.1 ez
  refine ⟨fun d => ?_, fun d c => ?_⟩
  · have h3 := Host.reduce_andi_eq_one _ _ _ _ _ h1 (ix3 b n d) (by funext a; match a with | ⟨0, _⟩ => rfl | ⟨1, _⟩ => rfl)
    refine real_of_lt _ (Eq.trans (congrArg (fun x : EReal => Ideal.cmp .olt (max x (-x)) (Ideal.ofBits .f32 0x7F800000#32)) ?_) h3)
    show _ = (shapeCast Cert.On_claimed.S12x40x128 (extf .f32 (show FVec Ideal Cert.On_claimed.S12x1x5120 .bf16 from a0) Cert.On_claimed.Gen.facts.bitsLt_bf16_f32) Cert.On_claimed.Gen.facts.shapeCasts_S12x1x5120_S12x40x128 : Cert.On_claimed.S12x40x128.Idx → EReal) (ix3 b n d)
    pointwise
  · haveI : Subsingleton Cert.On_claimed.S_.Idx := ⟨fun a b => funext fun k => k.elim0⟩
    exact real_of_lt _ (Host.reduce_andi_all _ _ _ _ _ h2 (ix2 d c))

/-- So is every sum of the head's row against a column of the projection. -/
theorem sum_real (f g : Fin 128 → EReal) (hf : ∀ d, ∃ r : ℝ, f d = (r : EReal)) (hg : ∀ d, ∃ r : ℝ, g d = (r : EReal)) :
    ∃ r : ℝ, ∑ d, f d * g d = (r : EReal) := by
  choose u hu using hf
  choose v hv using hg
  refine ⟨∑ d, u d * v d, ?_⟩
  simp only [hu, hv]
  rw [coe_sum]
  exact Finset.sum_congr rfl fun d _ => (EReal.coe_mul _ _).symm

/-- A column of the projected row of head `5 h + g` of batch element `b`. -/
theorem valP_row (a0 : S12x1x5120.Idx → Elt Ideal .bf16) (P : Vec Ideal S128x256 .bf16) (b : Fin 12) (h : Fin 8) (g : Fin 5) (r : Fin 768) (hr : r.val = 64 * b.val + 8 * h.val + g.val) (c : Fin 256) :
    (valP P (shapeCast S12x5120 a0 shapeCasts_S12x1x5120_S12x5120) (ix2 r c) : EReal)
      = ∑ d : Fin 128, (a0 (ix3 b 0 ⟨(5 * h.val + g.val) * 128 + d.val, by omega⟩) : EReal) * (P (ix2 d c) : EReal) := by
  rw [valP_apply]
  refine Finset.sum_congr rfl fun d _ => congrArg (fun x : EReal => x * (P (ix2 d c) : EReal)) ?_
  have hb : b.val < 12 := b.isLt
  have hh : h.val < 8 := h.isLt
  have hg : g.val < 5 := g.isLt
  unfold valX
  refine (dif_pos (show r.val % 8 < 5 by omega)).trans ?_
  show (shapeCast S12x5120 a0 shapeCasts_S12x1x5120_S12x5120 : S12x5120.Idx → EReal) (ix2 ⟨r.val / 64, by omega⟩ ⟨(r.val % 64 / 8 * 5 + r.val % 8) * 128 + d.val, by omega⟩) = _
  have e1 : ∀ p, (⟨r.val / 64, p⟩ : Fin 12) = b := fun p => Fin.ext (by show r.val / 64 = b.val; omega)
  have e2 : ∀ p, (⟨(r.val % 64 / 8 * 5 + r.val % 8) * 128 + d.val, p⟩ : Fin 5120) = ⟨(5 * h.val + g.val) * 128 + d.val, by omega⟩ := fun p => Fin.ext (by show (r.val % 64 / 8 * 5 + r.val % 8) * 128 + d.val = (5 * h.val + g.val) * 128 + d.val; omega)
  rw [e1, e2]
  pointwise

end Cert.KernelIdeal.Own
-- ==== Proof.Agree.lean ====
/-
  The kernel's scores are the reference's, wherever the head's query and the projection are real.
-/
module

public import proofs.«01_k».proof.Proof.Inputs

@[expose] public section

set_option maxRecDepth 16384

noncomputable section

namespace Cert.KernelIdeal.Own

open Cert.KernelIdeal Cert.KernelIdeal.Gen
open Idealize.ShloMosaic Idealize.ShloMosaic.TcCoe

theorem scores_agree (m : (ℓ : Loc nD τ sig) → Buf (Elt Ideal) ℓ) (c : Dev nD)
    (V : Valuation Cert.ReferenceIdeal.τ Cert.ReferenceIdeal.sig (Elt Ideal))
    (A0 : S12x1x5120.Idx → Elt Ideal .bf16) (A3 : S128x256.Idx → Elt Ideal .bf16) (A4 : S12x8192x8x32.Idx → Elt Ideal .i8) (A5 : S12x8192x8.Idx → Elt Ideal .bf16) (A8 : S12.Idx → BitVec 32)
    (k0 : m ((c : Thread nD τ).loc main_arg0) = A0) (k3 : m ((c : Thread nD τ).loc main_arg3) = A3) (k4 : m ((c : Thread nD τ).loc main_arg4) = A4)
    (k5 : m ((c : Thread nD τ).loc main_arg5) = A5) (k8 : m ((c : Thread nD τ).loc main_arg8) = A8)
    (r0 : V (Proc.devRef .tc Cert.ReferenceIdeal.main_arg0) = A0) (r3 : V (Proc.devRef .tc Cert.ReferenceIdeal.main_arg3) = A3) (r4 : V (Proc.devRef .tc Cert.ReferenceIdeal.main_arg4) = A4)
    (r5 : V (Proc.devRef .tc Cert.ReferenceIdeal.main_arg5) = A5) (r8 : V (Proc.devRef .tc Cert.ReferenceIdeal.main_arg8) = A8)
    (hl : ∀ x, (A8 x).toNat ≤ 8192) (b : Fin 12) (n : Fin 40) (l : Fin 8192)
    (hf : ∀ d : Fin 128, ∃ r : ℝ, (A0 (ix3 b 0 ⟨n.val * 128 + d.val, by omega⟩) : EReal) = (r : EReal)) (hp : ∀ (d : Fin 128) (c : Fin 256), ∃ r : ℝ, (A3 (ix2 d c) : EReal) = (r : EReal)) :
    (shapeCast _ (select (broadcastInDim Cert.ReferenceIdeal.S12x8x5x8192 ![0, 1, 2, 3] Cert.ReferenceIdeal.Gen.facts.bcast_S12x1x1x8192_S12x8x5x8192_0_1_2_3 (Cert.ReferenceIdeal.Value.res_main_v288 V)) (broadcastInDim Cert.ReferenceIdeal.S12x8x5x8192 ![] Cert.ReferenceIdeal.Gen.facts.bcast_S_S12x8x5x8192 (id (constant (F := Ideal) Cert.ReferenceIdeal.S_ .f32 0x00000000#32))) (Cert.ReferenceIdeal.Value.res_main_v179 V)) Cert.ReferenceIdeal.Gen.facts.shapeCasts_S12x8x5x8192_S12x40x8192 : S12x40x8192.Idx → EReal) (ix3 b n l)
      = scoreArr m c (ix3 b n l) := by
  have hb : b.val < 12 := b.isLt
  have hn : n.val < 40 := n.isLt
  obtain ⟨h, g, hn'⟩ : ∃ (h : Fin 8) (g : Fin 5), n.val = 5 * h.val + g.val := ⟨⟨n.val / 5, by omega⟩, ⟨n.val % 5, by omega⟩, by show n.val = 5 * (n.val / 5) + n.val % 5; omega⟩
  have hh : h.val < 8 := h.isLt
  have hg : g.val < 5 := g.isLt
  have r0' : 64 * b.val + 8 * h.val + g.val < 768 := by omega
  have hf' : ∀ d : Fin 128, ∃ r : ℝ, (A0 (ix3 b 0 ⟨(5 * h.val + g.val) * 128 + d.val, by omega⟩) : EReal) = (r : EReal) := fun d => by
    obtain ⟨r, hr⟩ := hf d
    exact ⟨r, by rw [← hr]; congr 3; simp only [hn']⟩
  have hq := fun k : Fin 256 => sum_real (fun d => (A0 (ix3 b 0 ⟨(5 * h.val + g.val) * 128 + d.val, by omega⟩) : EReal)) (fun d => (A3 (ix2 d k) : EReal)) hf' (fun d => hp d k)
  choose q hq using hq
  refine (Cert.ReferenceIdeal.Own.result_apply V A8 r8 hl b h g n hn' l).trans ?_
  have eS := Cert.ReferenceIdeal.Own.score_apply V _ rfl A4 r4 A5 r5 b h g l
  have eQ := fun k => (Cert.ReferenceIdeal.Own.query_apply V A0 r0 A3 r3 b h g k).trans (hq k)
  have e0 : (iblk m c 0 p0 : S12x5120.Idx → Elt Ideal .bf16) = shapeCast S12x5120 A0 shapeCasts_S12x1x5120_S12x5120 := by rw [← k0]; exact iblk_query m c
  have e3 : (iblk m c 3 p0 : S128x256.Idx → Elt Ideal .bf16) = A3 := (iblk_proj m c).trans k3
  have e8 : lengths m = A8 := (lengths_eq m c).trans k8
  have eK := block_apply (iblk m c 3 p0) (iblk m c 0 p0) (grid0.coords (pb b)) (lengths m (ix1 ⟨(grid0.coords (pb b) 0).val, step_lt _⟩)) (by rw [e8]; exact hl _)
    (iblk m c 4 (pb b)) (iblk m c 5 (pb b)) h g l ⟨64 * b.val + 8 * h.val + g.val, r0'⟩ (by rw [coords_val]) q
    (fun k => by rw [e0, e3]; exact (valP_row A0 A3 b h g _ rfl k).trans (hq k)) n hn'
  refine Eq.trans ?_ eK.symm
  have eL : lengths m (ix1 ⟨(grid0.coords (pb b) 0).val, step_lt _⟩) = A8 (ix1 b) := by
    rw [e8]
    exact congrArg (fun x : Fin 12 => A8 (ix1 x)) (Fin.ext (coords_val (pb b)))
  rw [eL]
  refine if_congr Iff.rfl (eS.trans ?_) rfl
  refine congrArg₂ (fun x y : EReal => x * y) (Finset.sum_congr rfl fun k _ => congrArg₂ (fun (x : EReal) (y : BitVec 8) => x * sgn (y.getLsbD (k.val / 32))) (eQ k) ?_) (congrArg (fun x : EReal => x * _) ?_)
  · rw [← k4]; exact (iblk_bits m c b h _ l).symm
  · rw [← k5]; exact (iblk_norms m c b h l).symm

end Cert.KernelIdeal.Own
-- ==== Proof.lean ====
/-
  The proof of `Cert.Claim`: the kernel, printed and idealized, runs to its end from any memory whose lengths fit the
  cache, leaves its arguments as they were and every counter at zero; and over the extended reals the four results
  about the new token are the reference's, and so are the scores of the cache where the head's query and the
  projection are finite.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_cache
public import proofs.«01_k».proof.Proof.Gen.On_claimed
public import proofs.«01_k».proof.Proof.Run
public import proofs.«01_k».proof.Proof.BitsRun
public import proofs.«01_k».proof.Proof.Blocks
public import proofs.«01_k».proof.Proof.Norm
public import proofs.«01_k».proof.Proof.Scale
public import proofs.«01_k».proof.Proof.Codes
public import proofs.«01_k».proof.Proof.Sketch
public import proofs.«01_k».proof.Proof.Agree
public import Idealize.ShloMosaic.Adequacy
public import Idealize.ShloMosaic.Init

@[expose] public section

noncomputable section

set_option maxRecDepth 16384

namespace Cert.Proof

open Idealize.ShloMosaic Idealize.SL.Sem

/-- The printed kernel runs and keeps its arguments. -/
theorem frame_kernel : Cert.quiescent_Kernel (hKernel := Cert.Kernel.Gen.facts) (hPre_in_cache := Cert.Pre_in_cache.Gen.facts) := fun m g hP =>
  (θ_run Cert.Kernel.defs _ _).mono (fun _ h => ⟨fun c => (h.1 c).1, h.2⟩)
    (Cert.Kernel.Own.run m g fun c x => lengths_le _ (hP c) x)

/-- So does its idealization. -/
theorem frame_kernelIdeal : Cert.quiescent_KernelIdeal (hKernelIdeal := Cert.KernelIdeal.Gen.facts) (hPre_in_cache := Cert.Pre_in_cache.Gen.facts) := fun m g hP =>
  (θ_run Cert.KernelIdeal.defs _ _).mono (fun _ h => ⟨fun c => (h.1 c).1, h.2⟩)
    (Cert.KernelIdeal.Own.run m g fun c x => lengths_le _ (hP c) x)

/-- The reference's run, read at its arguments; it declares no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2.2.2.2, sem_eq_zero_of_no_sems (by decide) r.2⟩)
    (Cert.ReferenceIdeal.Value.run m g)

theorem frame_reference_pre : Cert.quiescent_ReferenceIdeal_pre_in_cache (hReferenceIdeal := Cert.ReferenceIdeal.Gen.facts) (hPre_in_cache := Cert.Pre_in_cache.Gen.facts) := fun m g _ =>
  frame_reference m g trivial

/-- An index of the scores is its three coordinates. -/
theorem eta3 (i : (⟨3, ![12, 40, 8192]⟩ : Shape).Idx) : ∃ (b : Fin 12) (n : Fin 40) (l : Fin 8192), i = ix3 b n l :=
  ⟨i 0, i 1, i 2, by funext a; match a with | ⟨0, _⟩ => rfl | ⟨1, _⟩ => rfl | ⟨2, _⟩ => rfl⟩

open Cert.KernelIdeal.Own in
/-- The scores of the cache and the four results about the new token. -/
theorem values : Cert.algebraic_KernelIdeal_ReferenceIdeal_on_claimed (hKernelIdeal := Cert.KernelIdeal.Gen.facts) (hReferenceIdeal := Cert.ReferenceIdeal.Gen.facts)
    (hPre_in_cache := Cert.Pre_in_cache.Gen.facts) (hOn_claimed := Cert.On_claimed.Gen.facts) := by
  intro m g m' g' hP hA
  refine ⟨fun c => m ((c.tc : Thread Cert.KernelIdeal.nD Cert.KernelIdeal.τ).loc Cert.KernelIdeal.main_v7_0),
    fun c => Cert.KernelIdeal.Own.scoreArr m c,
    fun c => valKb (Cert.KernelIdeal.Own.iblk m c 1 p0) (Cert.KernelIdeal.Own.iblk m c 3 p0),
    fun c => valKn (Cert.KernelIdeal.Own.iblk m c 1 p0),
    fun c => valVc (Cert.KernelIdeal.Own.iblk m c 2 p0),
    fun c => valVs (Cert.KernelIdeal.Own.iblk m c 2 p0), ?_, ?_⟩
  · refine (θ_run Cert.KernelIdeal.defs _ _).mono (fun r h c => ?_) (Cert.KernelIdeal.Own.run m g fun c x => lengths_le _ (hP c) x)
    obtain ⟨ha, hs, h2, h3, h4, h5⟩ := h.1 c
    exact ⟨fun i hi => absurd (show (0#1 : BitVec 1) = 1#1 from hi) (by decide), fun i _ => by
        obtain ⟨b, n, l, rfl⟩ := eta3 i
        exact hs b n l,
      fun i _ => congrFun h2 i, fun i _ => congrFun h3 i, fun i _ => congrFun h4 i, fun i _ => congrFun h5 i, ha⟩
  · refine (θ_run Cert.ReferenceIdeal.defs _ _).mono (fun r h c => ?_) (Cert.ReferenceIdeal.Value.run m' g')
    obtain ⟨-, h1, h2, h3, h4, h5, ha⟩ := h c
    obtain ⟨a0, a1, a2, a3, a4, a5, -, -, a8⟩ := hA c
    have ek := (iblk_keys m c).trans (congrArg (fun x => shapeCast Cert.KernelIdeal.S96x128 x Cert.KernelIdeal.Gen.shapeCasts_S12x1x8x128_S96x128) a1.symm)
    have ev := (iblk_values m c).trans (congrArg (fun x => shapeCast Cert.KernelIdeal.S96x128 x Cert.KernelIdeal.Gen.shapeCasts_S12x1x8x128_S96x128) a2.symm)
    have e2 := (congrArg₂ valKb ek ((iblk_proj m c).trans a3.symm)).trans (valKb_eq _ _)
    have e3 := (congrArg valKn ek).trans (valKn_eq _)
    have e4 := (congrArg valVc ev).trans (valVc_eq _)
    have e5 := (congrArg valVs ev).trans (valVs_eq _)
    exact ⟨fun i hi => absurd (show (0#1 : BitVec 1) = 1#1 from hi) (by decide), fun i hi => by
        obtain ⟨b, n, l, rfl⟩ := eta3 i
        obtain ⟨hf, hp⟩ := finite_of_mask _ _ _ _ _ _ _ _ _ b n l hi
        exact (congrFun h1 _).trans (scores_agree m c (StableHlo.launchContents m' c) _ _ _ _ _ rfl rfl rfl rfl rfl a0 a3 a4 a5 a8 (fun x => lengths_le _ (hP c) x) b n l hf hp),
      fun i _ => congrFun (h2.trans e2.symm) i, fun i _ => congrFun (h3.trans e3.symm) i, fun i _ => congrFun (h4.trans e4.symm) i, fun i _ => congrFun (h5.trans e5.symm) i, ha⟩

theorem claim : Cert.Claim := ⟨Cert.Kernel.Gen.facts, Cert.KernelIdeal.Gen.facts, Cert.ReferenceIdeal.Gen.facts, Cert.Pre_in_cache.Gen.facts, Cert.On_claimed.Gen.facts,
  frame_kernel, frame_kernelIdeal, frame_reference, frame_reference_pre, trivial, values⟩

end Cert.Proof

end
